-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_ok [hPre_edges_ok : Cert.Pre_edges_ok.Facts] (m : (ℓ : Loc Cert.KernelIdeal.nD Cert.KernelIdeal.τ Cert.KernelIdeal.sig) → Buf (Elt Ideal) ℓ) : Prop :=
  ∀ c : Dev Cert.KernelIdeal.nD,
    (Cert.Pre_edges_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_ok [hPre_edges_ok : Cert.Pre_edges_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Select (m : (ℓ : Loc Cert.Select.nD Cert.Select.τ Cert.Select.sig) → Buf (Elt Bits) ℓ) : Prop :=
  True

def Pre_Select_keys_ok [hPre_keys_ok : Cert.Pre_keys_ok.Facts] (m : (ℓ : Loc Cert.Select.nD Cert.Select.τ Cert.Select.sig) → Buf (Elt Bits) ℓ) : Prop :=
  ∀ c : Dev Cert.Select.nD,
    (Cert.Pre_keys_ok.fn (F := Bits) (m ((c.tc : Thread Cert.Select.nD Cert.Select.τ).loc Cert.Select.main_arg0)) (m ((c.tc : Thread Cert.Select.nD Cert.Select.τ).loc Cert.Select.main_arg1))) = (fun _ => 1#1)

def Pre_SelectIdeal (m : (ℓ : Loc Cert.SelectIdeal.nD Cert.SelectIdeal.τ Cert.SelectIdeal.sig) → Buf (Elt Ideal) ℓ) : Prop :=
  True

def Pre_SelectIdeal_keys_ok [hPre_keys_ok : Cert.Pre_keys_ok.Facts] (m : (ℓ : Loc Cert.SelectIdeal.nD Cert.SelectIdeal.τ Cert.SelectIdeal.sig) → Buf (Elt Ideal) ℓ) : Prop :=
  ∀ c : Dev Cert.SelectIdeal.nD,
    (Cert.Pre_keys_ok.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_keys_ok [hPre_keys_ok : Cert.Pre_keys_ok.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_keys_ok.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1))) = (fun _ => 1#1)

def Pre_SelectReference [hPre_keys_ok : Cert.Pre_keys_ok.Facts] (m : (ℓ : Loc Cert.SelectReference.nD Cert.SelectReference.τ Cert.SelectReference.sig) → Buf (Elt Bits) ℓ) : Prop :=
  ∀ c : Dev Cert.SelectReference.nD,
    (Cert.Pre_keys_ok.fn (F := Bits) (m ((c.tc : Thread Cert.SelectReference.nD Cert.SelectReference.τ).loc Cert.SelectReference.main_arg0)) (m ((c.tc : Thread Cert.SelectReference.nD Cert.SelectReference.τ).loc Cert.SelectReference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_edges_ok [hKernelIdeal : Cert.KernelIdeal.Facts] [hPre_edges_ok : Cert.Pre_edges_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_edges_ok [hReferenceIdeal : Cert.ReferenceIdeal.Facts] [hPre_edges_ok : Cert.Pre_edges_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (Cert.Select.threads (F := Bits)) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1))
      ∧ r.2.sem = fun _ => 0)

def quiescent_Select_pre_keys_ok [hSelect : Cert.Select.Facts] [hPre_keys_ok : Cert.Pre_keys_ok.Facts] : Prop :=
  ∀ (m : (ℓ : Loc Cert.Select.nD Cert.Select.τ Cert.Select.sig) → Buf (Elt Bits) ℓ) (g : Dev Cert.Select.nD → PrngReg), Pre_Select_keys_ok m →
    θ_run (Cert.Select.defs (F := Bits)) (Cert.Select.threads (F := Bits)) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (Cert.SelectIdeal.threads (F := Ideal)) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectIdeal_pre_keys_ok [hSelectIdeal : Cert.SelectIdeal.Facts] [hPre_keys_ok : Cert.Pre_keys_ok.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_keys_ok m →
    θ_run (Cert.SelectIdeal.defs (F := Ideal)) (Cert.SelectIdeal.threads (F := Ideal)) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1))
      ∧ r.2.sem = fun _ => 0)

def quiescent_SelectReferenceIdeal_pre_keys_ok [hSelectReferenceIdeal : Cert.SelectReferenceIdeal.Facts] [hPre_keys_ok : Cert.Pre_keys_ok.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_keys_ok m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1))
      ∧ r.2.sem = fun _ => 0)

def quiescent_SelectReference [hSelectReference : Cert.SelectReference.Facts] [hPre_keys_ok : Cert.Pre_keys_ok.Facts] : Prop :=
  ∀ (m : (ℓ : Loc Cert.SelectReference.nD Cert.SelectReference.τ Cert.SelectReference.sig) → Buf (Elt Bits) ℓ) (g : Dev Cert.SelectReference.nD → PrngReg), Pre_SelectReference m →
    θ_run (Cert.SelectReference.defs (F := Bits)) (onTc (τ := Cert.SelectReference.τ) (Cert.SelectReference.main (F := Bits))) ⟨m, fun _ => 0, g⟩ (fun r => (∀ c : Dev Cert.SelectReference.nD,
      r.2.mem ((c.tc : Thread Cert.SelectReference.nD Cert.SelectReference.τ).loc Cert.SelectReference.main_arg0) = m ((c.tc : Thread Cert.SelectReference.nD Cert.SelectReference.τ).loc Cert.SelectReference.main_arg0)
      ∧ r.2.mem ((c.tc : Thread Cert.SelectReference.nD Cert.SelectReference.τ).loc Cert.SelectReference.main_arg1) = m ((c.tc : Thread Cert.SelectReference.nD Cert.SelectReference.τ).loc Cert.SelectReference.main_arg1))
      ∧ r.2.sem = fun _ => 0)

def preserves_Kernel_KernelIdeal : Prop :=
  True

def algebraic_KernelIdeal_ReferenceIdeal_pre_edges_ok [hKernelIdeal : Cert.KernelIdeal.Facts] [hReferenceIdeal : Cert.ReferenceIdeal.Facts] [hPre_edges_ok : Cert.Pre_edges_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Select_SelectIdeal : Prop :=
  True

def algebraic_SelectIdeal_SelectReferenceIdeal_pre_keys_ok [hSelectIdeal : Cert.SelectIdeal.Facts] [hSelectReferenceIdeal : Cert.SelectReferenceIdeal.Facts] [hPre_keys_ok : Cert.Pre_keys_ok.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_keys_ok m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)) →
    ∃ (v0 : (c : Dev Cert.SelectIdeal.nD) → Buf (Elt Ideal) ((c.tc : Thread Cert.SelectIdeal.nD Cert.SelectIdeal.τ).loc Cert.SelectIdeal.main_v60)),
      θ_run (Cert.SelectIdeal.defs (F := Ideal)) (Cert.SelectIdeal.threads (F := Ideal)) ⟨m, fun _ => 0, g⟩ (fun r => ∀ c : Dev Cert.SelectIdeal.nD,
          r.2.mem ((c.tc : Thread Cert.SelectIdeal.nD Cert.SelectIdeal.τ).loc Cert.SelectIdeal.main_v60) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v5) = v0 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1))

def bitexact_Select_SelectReference_pre_keys_ok [hSelect : Cert.Select.Facts] [hSelectReference : Cert.SelectReference.Facts] [hPre_keys_ok : Cert.Pre_keys_ok.Facts] : Prop :=
  ∀ (m : (ℓ : Loc Cert.Select.nD Cert.Select.τ Cert.Select.sig) → Buf (Elt Bits) ℓ) (g : Dev Cert.Select.nD → PrngReg)
    (m' : (ℓ : Loc Cert.SelectReference.nD Cert.SelectReference.τ Cert.SelectReference.sig) → Buf (Elt Bits) ℓ) (g' : Dev Cert.SelectReference.nD → PrngReg), Pre_Select_keys_ok m →
    (∀ c : Dev Cert.Select.nD,
      m' ((c.tc : Thread Cert.SelectReference.nD Cert.SelectReference.τ).loc Cert.SelectReference.main_arg0) = m ((c.tc : Thread Cert.Select.nD Cert.Select.τ).loc Cert.Select.main_arg0)
      ∧ m' ((c.tc : Thread Cert.SelectReference.nD Cert.SelectReference.τ).loc Cert.SelectReference.main_arg1) = m ((c.tc : Thread Cert.Select.nD Cert.Select.τ).loc Cert.Select.main_arg1)) →
    ∃ (v0 : (c : Dev Cert.Select.nD) → Buf (Elt Bits) ((c.tc : Thread Cert.Select.nD Cert.Select.τ).loc Cert.Select.main_v60)),
      θ_run (Cert.Select.defs (F := Bits)) (Cert.Select.threads (F := Bits)) ⟨m, fun _ => 0, g⟩ (fun r => ∀ c : Dev Cert.Select.nD,
          r.2.mem ((c.tc : Thread Cert.Select.nD Cert.Select.τ).loc Cert.Select.main_v60) = v0 c
          ∧ r.2.mem ((c.tc : Thread Cert.Select.nD Cert.Select.τ).loc Cert.Select.main_arg0) = m ((c.tc : Thread Cert.Select.nD Cert.Select.τ).loc Cert.Select.main_arg0)
          ∧ r.2.mem ((c.tc : Thread Cert.Select.nD Cert.Select.τ).loc Cert.Select.main_arg1) = m ((c.tc : Thread Cert.Select.nD Cert.Select.τ).loc Cert.Select.main_arg1))
      ∧ θ_run (Cert.SelectReference.defs (F := Bits)) (onTc (τ := Cert.SelectReference.τ) (Cert.SelectReference.main (F := Bits))) ⟨m', fun _ => 0, g'⟩ (fun r => ∀ c : Dev Cert.SelectReference.nD,
          r.2.mem ((c.tc : Thread Cert.SelectReference.nD Cert.SelectReference.τ).loc Cert.SelectReference.main_v5) = v0 c
          ∧ r.2.mem ((c.tc : Thread Cert.SelectReference.nD Cert.SelectReference.τ).loc Cert.SelectReference.main_arg0) = m' ((c.tc : Thread Cert.SelectReference.nD Cert.SelectReference.τ).loc Cert.SelectReference.main_arg0)
          ∧ r.2.mem ((c.tc : Thread Cert.SelectReference.nD Cert.SelectReference.τ).loc Cert.SelectReference.main_arg1) = m' ((c.tc : Thread Cert.SelectReference.nD Cert.SelectReference.τ).loc Cert.SelectReference.main_arg1))

def Claim : Prop :=
  ∃ (hKernel : Cert.Kernel.Facts) (hKernelIdeal : Cert.KernelIdeal.Facts) (hReferenceIdeal : Cert.ReferenceIdeal.Facts) (hSelect : Cert.Select.Facts) (hSelectIdeal : Cert.SelectIdeal.Facts) (hSelectReferenceIdeal : Cert.SelectReferenceIdeal.Facts) (hSelectReference : Cert.SelectReference.Facts) (hPre_edges_ok : Cert.Pre_edges_ok.Facts) (hPre_keys_ok : Cert.Pre_keys_ok.Facts),
    quiescent_Kernel (hKernel := hKernel)
    ∧ quiescent_KernelIdeal (hKernelIdeal := hKernelIdeal)
    ∧ quiescent_KernelIdeal_pre_edges_ok (hKernelIdeal := hKernelIdeal) (hPre_edges_ok := hPre_edges_ok)
    ∧ quiescent_ReferenceIdeal (hReferenceIdeal := hReferenceIdeal)
    ∧ quiescent_ReferenceIdeal_pre_edges_ok (hReferenceIdeal := hReferenceIdeal) (hPre_edges_ok := hPre_edges_ok)
    ∧ quiescent_Select (hSelect := hSelect)
    ∧ quiescent_Select_pre_keys_ok (hSelect := hSelect) (hPre_keys_ok := hPre_keys_ok)
    ∧ quiescent_SelectIdeal (hSelectIdeal := hSelectIdeal)
    ∧ quiescent_SelectIdeal_pre_keys_ok (hSelectIdeal := hSelectIdeal) (hPre_keys_ok := hPre_keys_ok)
    ∧ quiescent_SelectReferenceIdeal (hSelectReferenceIdeal := hSelectReferenceIdeal)
    ∧ quiescent_SelectReferenceIdeal_pre_keys_ok (hSelectReferenceIdeal := hSelectReferenceIdeal) (hPre_keys_ok := hPre_keys_ok)
    ∧ quiescent_SelectReference (hSelectReference := hSelectReference) (hPre_keys_ok := hPre_keys_ok)
    ∧ preserves_Kernel_KernelIdeal
    ∧ algebraic_KernelIdeal_ReferenceIdeal_pre_edges_ok (hKernelIdeal := hKernelIdeal) (hReferenceIdeal := hReferenceIdeal) (hPre_edges_ok := hPre_edges_ok)
    ∧ preserves_Select_SelectIdeal
    ∧ algebraic_SelectIdeal_SelectReferenceIdeal_pre_keys_ok (hSelectIdeal := hSelectIdeal) (hSelectReferenceIdeal := hSelectReferenceIdeal) (hPre_keys_ok := hPre_keys_ok)
    ∧ bitexact_Select_SelectReference_pre_keys_ok (hSelect := hSelect) (hSelectReference := hSelectReference) (hPre_keys_ok := hPre_keys_ok)
-- ==== Pre_edges_ok.lean ====
abbrev S1000000x10 : Shape := ⟨2, ![1000000, 10]⟩
abbrev S1000000 : Shape := ⟨1, ![1000000]⟩
abbrev S10x16 : Shape := ⟨2, ![10, 16]⟩
abbrev S10x15 : Shape := ⟨2, ![10, 15]⟩
abbrev S_ : Shape := ⟨0, ![]⟩
abbrev S10x1 : Shape := ⟨2, ![10, 1]⟩
abbrev S10 : Shape := ⟨1, ![10]⟩

class Facts : Prop where
  slices_S10x16_S10x15_0_0 : S10x16.Slices ![0, 0] S10x15
  slices_S10x16_S10x15_0_1 : S10x16.Slices ![0, 1] S10x15
  reducesTo_S10x15_S_d0_1 : S10x15.ReducesTo [0, 1] S_
  h_S_ : 0 < S_.numel
  slices_S10x16_S10x1_0_15 : S10x16.Slices ![0, 15] S10x1
  shapeCasts_S10x1_S10 : S10x1.ShapeCasts S10
  bcast_S_S10 : S_.BroadcastsInDim S10 (![] : Fin 0 → Fin S10.rank)
  reducesTo_S10_S_d0 : S10.ReducesTo [0] S_

variable [Facts]

def fn {F : FTy → Type} [FloatOps F] (main_arg0 : FVec F S1000000x10 .f32) (main_arg1 : IVec S1000000 32) (main_arg2 : FVec F S10x16 .f32) : IVec S_ 1 :=
  let main_v0 : FVec F S10x15 .f32 := (extractStridedSlice S10x15 ![0, 0] · slices_S10x16_S10x15_0_0) main_arg2
  let main_v1 : FVec F S10x15 .f32 := (extractStridedSlice S10x15 ![0, 1] · slices_S10x16_S10x15_0_1) main_arg2
  let main_v2 : IVec S10x15 1 := cmpf .ole main_v0 main_v1
  let main_c : IVec S_ 1 := constantI S_ 1 1#1
  let main_v3 : IVec S_ 1 := (fun x v => Host.reduce IntOp.andi x v reducesTo_S10x15_S_d0_1 h_S_) main_v2 main_c
  let main_v4 : FVec F S10x1 .f32 := (extractStridedSlice S10x1 ![0, 15] · slices_S10x16_S10x1_0_15) main_arg2
  let main_v5 : FVec F S10 .f32 := shapeCast S10 main_v4 shapeCasts_S10x1_S10
  let main_cst : FVec F S_ .f32 := constant S_ .f32 0x3FFC0000#32
  let main_v6 : FVec F S10 .f32 := broadcastInDim S10 ![] bcast_S_S10 main_cst
  let main_v7 : IVec S10 1 := cmpf .olt main_v5 main_v6
  let main_c_0 : IVec S_ 1 := constantI S_ 1 1#1
  let main_v8 : IVec S_ 1 := (fun x v => Host.reduce IntOp.andi x v reducesTo_S10_S_d0 h_S_) main_v7 main_c_0
  let main_v9 : IVec S_ 1 := andi main_v3 main_v8
  main_v9
-- ==== Pre_keys_ok.lean ====
abbrev S10x1007616 : Shape := ⟨2, ![10, 1007616]⟩
abbrev S30 : Shape := ⟨1, ![30]⟩
abbrev S_ : Shape := ⟨0, ![]⟩

class Facts : Prop where
  bcast_S_S10x1007616 : S_.BroadcastsInDim S10x1007616 (![] : Fin 0 → Fin S10x1007616.rank)
  reducesTo_S10x1007616_S_d0_1 : S10x1007616.ReducesTo [0, 1] S_
  h_S_ : 0 < S_.numel
  bcast_S_S30 : S_.BroadcastsInDim S30 (![] : Fin 0 → Fin S30.rank)
  reducesTo_S30_S_d0 : S30.ReducesTo [0] S_

variable [Facts]

def fn {F : FTy → Type} [FloatOps F] (main_arg0 : IVec S10x1007616 32) (main_arg1 : IVec S30 32) : IVec S_ 1 :=
  let main_c : IVec S_ 32 := constantI S_ 32 0#32
  let main_v0 : IVec S10x1007616 32 := broadcastInDim S10x1007616 ![] bcast_S_S10x1007616 main_c
  let main_v1 : IVec S10x1007616 1 := cmpi .sge main_arg0 main_v0
  let main_c_0 : IVec S_ 1 := constantI S_ 1 1#1
  let main_v2 : IVec S_ 1 := (fun x v => Host.reduce IntOp.andi x v reducesTo_S10x1007616_S_d0_1 h_S_) main_v1 main_c_0
  let main_c_1 : IVec S_ 32 := constantI S_ 32 1073741824#32
  let main_v3 : IVec S10x1007616 32 := broadcastInDim S10x1007616 ![] bcast_S_S10x1007616 main_c_1
  let main_v4 : IVec S10x1007616 1 := cmpi .slt main_arg0 main_v3
  let main_c_2 : IVec S_ 1 := constantI S_ 1 1#1
  let main_v5 : IVec S_ 1 := (fun x v => Host.reduce IntOp.andi x v reducesTo_S10x1007616_S_d0_1 h_S_) main_v4 main_c_2
  let main_v6 : IVec S_ 1 := andi main_v2 main_v5
  let main_c_3 : IVec S_ 32 := constantI S_ 32 0#32
  let main_v7 : IVec S30 32 := broadcastInDim S30 ![] bcast_S_S30 main_c_3
  let main_v8 : IVec S30 1 := cmpi .sge main_arg1 main_v7
  let main_c_4 : IVec S_ 1 := constantI S_ 1 1#1
  let main_v9 : IVec S_ 1 := (fun x v => Host.reduce IntOp.andi x v reducesTo_S30_S_d0 h_S_) main_v8 main_c_4
  let main_v10 : IVec S_ 1 := andi main_v6 main_v9
  let main_c_5 : IVec S_ 32 := constantI S_ 32 1007616#32
  let main_v11 : IVec S30 32 := broadcastInDim S30 ![] bcast_S_S30 main_c_5
  let main_v12 : IVec S30 1 := cmpi .slt main_arg1 main_v11
  let main_c_6 : IVec S_ 1 := constantI S_ 1 1#1
  let main_v13 : IVec S_ 1 := (fun x v => Host.reduce IntOp.andi x v reducesTo_S30_S_d0 h_S_) main_v12 main_c_6
  let main_v14 : IVec S_ 1 := andi main_v10 main_v13
  main_v14
-- ==== Kernel.lean ====
abbrev S1000000x10 : Shape := ⟨2, ![1000000, 10]⟩
abbrev S1000000 : Shape := ⟨1, ![1000000]⟩
abbrev S10x16 : Shape := ⟨2, ![10, 16]⟩
abbrev S_ : Shape := ⟨0, ![]⟩
abbrev S1007616x10 : Shape := ⟨2, ![1007616, 10]⟩
abbrev S10x1007616 : Shape := ⟨2, ![10, 1007616]⟩
abbrev S2048x10 : Shape := ⟨2, ![2048, 10]⟩
abbrev S10x2048 : Shape := ⟨2, ![10, 2048]⟩
abbrev S2048 : Shape := ⟨1, ![2048]⟩
abbrev S2048x1 : Shape := ⟨2, ![2048, 1]⟩
abbrev S1007616 : Shape := ⟨1, ![1007616]⟩
abbrev S30x1536 : Shape := ⟨2, ![30, 1536]⟩
abbrev S8192 : Shape := ⟨1, ![8192]⟩
abbrev S16 : Shape := ⟨1, ![16]⟩
abbrev S1536 : Shape := ⟨1, ![1536]⟩
abbrev S1x16 : Shape := ⟨2, ![1, 16]⟩
abbrev S1x8192 : Shape := ⟨2, ![1, 8192]⟩
abbrev S1x1536 : Shape := ⟨2, ![1, 1536]⟩
abbrev S10x3x16x2x3x16 : Shape := ⟨6, ![10, 3, 16, 2, 3, 16]⟩
abbrev S10x16x2x3 : Shape := ⟨4, ![10, 16, 2, 3]⟩
abbrev S10x15x2x3 : Shape := ⟨4, ![10, 15, 2, 3]⟩
abbrev S10x15x1x1 : Shape := ⟨4, ![10, 15, 1, 1]⟩
abbrev S10x15 : Shape := ⟨2, ![10, 15]⟩
abbrev S10 : Shape := ⟨1, ![10]⟩

abbrev nBuf : Table → Nat
  | .hbm => 68
  | .local .tc .vmem => 4
  | .local .scVector .vmem => 4
  | _ => 0

abbrev bufTy : (tb : Table) → Fin (nBuf tb) → BufTy
  | .hbm, ⟨0, _⟩ => ⟨S1000000x10, .f32⟩
  | .hbm, ⟨1, _⟩ => ⟨S1000000, .i32⟩
  | .hbm, ⟨2, _⟩ => ⟨S10x16, .f32⟩
  | .hbm, ⟨3, _⟩ => ⟨S_, .i32⟩
  | .hbm, ⟨4, _⟩ => ⟨S_, .f32⟩
  | .hbm, ⟨5, _⟩ => ⟨S1007616x10, .f32⟩
  | .hbm, ⟨6, _⟩ => ⟨S10x1007616, .f32⟩
  | .hbm, ⟨7, _⟩ => ⟨S_, .i32⟩
  | .hbm, ⟨8, _⟩ => ⟨S_, .i32⟩
  | .hbm, ⟨9, _⟩ => ⟨S1007616, .i32⟩
  | .hbm, ⟨10, _⟩ => ⟨S30x1536, .f32⟩
  | .hbm, ⟨11, _⟩ => ⟨S10x3x16x2x3x16, .f32⟩
  | .hbm, ⟨12, _⟩ => ⟨S_, .f32⟩
  | .hbm, ⟨13, _⟩ => ⟨S10x16x2x3, .f32⟩
  | .hbm, ⟨14, _⟩ => ⟨S10x15x2x3, .f32⟩
  | .hbm, ⟨15, _⟩ => ⟨S10x15x1x1, .f32⟩
  | .hbm, ⟨16, _⟩ => ⟨S10x15, .f32⟩
  | .hbm, ⟨17, _⟩ => ⟨S10x15x1x1, .f32⟩
  | .hbm, ⟨18, _⟩ => ⟨S10x15, .f32⟩
  | .hbm, ⟨19, _⟩ => ⟨S10x15x1x1, .f32⟩
  | .hbm, ⟨20, _⟩ => ⟨S10x15, .f32⟩
  | .hbm, ⟨21, _⟩ => ⟨S10x15x1x1, .f32⟩
  | .hbm, ⟨22, _⟩ => ⟨S10x15, .f32⟩
  | .hbm, ⟨23, _⟩ => ⟨S10x15x1x1, .f32⟩
  | .hbm, ⟨24, _⟩ => ⟨S10x15, .f32⟩
  | .hbm, ⟨25, _⟩ => ⟨S10x15x1x1, .f32⟩
  | .hbm, ⟨26, _⟩ => ⟨S10x15, .f32⟩
  | .hbm, ⟨27, _⟩ => ⟨S10x15, .f32⟩
  | .hbm, ⟨28, _⟩ => ⟨S10x15, .f32⟩
  | .hbm, ⟨29, _⟩ => ⟨S_, .f32⟩
  | .hbm, ⟨30, _⟩ => ⟨S10x15, .f32⟩
  | .hbm, ⟨31, _⟩ => ⟨S10x15, .f32⟩
  | .hbm, ⟨32, _⟩ => ⟨S_, .f32⟩
  | .hbm, ⟨33, _⟩ => ⟨S10x15, .f32⟩
  | .hbm, ⟨34, _⟩ => ⟨S10x15, .f32⟩
  | .hbm, ⟨35, _⟩ => ⟨S10x15, .f32⟩
  | .hbm, ⟨36, _⟩ => ⟨S_, .f32⟩
  | .hbm, ⟨37, _⟩ => ⟨S10x15, .f32⟩
  | .hbm, ⟨38, _⟩ => ⟨S10x15, .f32⟩
  | .hbm, ⟨39, _⟩ => ⟨S10x15, .f32⟩
  | .hbm, ⟨40, _⟩ => ⟨S10x15, .f32⟩
  | .hbm, ⟨41, _⟩ => ⟨S10x15, .f32⟩
  | .hbm, ⟨42, _⟩ => ⟨S10x15, .f32⟩
  | .hbm, ⟨43, _⟩ => ⟨S_, .f32⟩
  | .hbm, ⟨44, _⟩ => ⟨S10x15, .f32⟩
  | .hbm, ⟨45, _⟩ => ⟨S10x15, .f32⟩
  | .hbm, ⟨46, _⟩ => ⟨S10x15, .f32⟩
  | .hbm, ⟨47, _⟩ => ⟨S10x15, .f32⟩
  | .hbm, ⟨48, _⟩ => ⟨S10x15, .f32⟩
  | .hbm, ⟨49, _⟩ => ⟨S10x15, .f32⟩
  | .hbm, ⟨50, _⟩ => ⟨S10x15, .f32⟩
  | .hbm, ⟨51, _⟩ => ⟨S10x15, .f32⟩
  | .hbm, ⟨52, _⟩ => ⟨S10x15, .f32⟩
  | .hbm, ⟨53, _⟩ => ⟨S_, .f32⟩
  | .hbm, ⟨54, _⟩ => ⟨S10x15, .f32⟩
  | .hbm, ⟨55, _⟩ => ⟨S10x15, .i1⟩
  | .hbm, ⟨56, _⟩ => ⟨S_, .f32⟩
  | .hbm, ⟨57, _⟩ => ⟨S_, .f32⟩
  | .hbm, ⟨58, _⟩ => ⟨S10x15, .f32⟩
  | .hbm, ⟨59, _⟩ => ⟨S10x15, .f32⟩
  | .hbm, ⟨60, _⟩ => ⟨S_, .f32⟩
  | .hbm, ⟨61, _⟩ => ⟨S10, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .local .tc .vmem, ⟨0, _⟩ => ⟨S2048x10, .f32⟩
  | .local .tc .vmem, ⟨1, _⟩ => ⟨S2048x10, .f32⟩
  | .local .tc .vmem, ⟨2, _⟩ => ⟨S10x2048, .f32⟩
  | .local .tc .vmem, ⟨3, _⟩ => ⟨S10x2048, .f32⟩
  | .local .scVector .vmem, ⟨0, _⟩ => ⟨S8192, .f32⟩
  | .local .scVector .vmem, ⟨1, _⟩ => ⟨S8192, .i32⟩
  | .local .scVector .vmem, ⟨2, _⟩ => ⟨S16, .f32⟩
  | .local .scVector .vmem, ⟨3, _⟩ => ⟨S1536, .f32⟩
  | _, _ => ⟨S1000000x10, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_call2_v0 : Ref sig .tc := ⟨.hbm, 57, rfl⟩
abbrev main_call2_v1 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v1_scv : Ref sig .scVector := ⟨.hbm, 6, rfl⟩
abbrev main_v2_scv : Ref sig .scVector := ⟨.hbm, 9, rfl⟩
abbrev main_arg2_scv : Ref sig .scVector := ⟨.hbm, 2, rfl⟩
abbrev main_v3_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![492], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let v2 : BitVec 1 := Scalar.cmpi .slt v1 c30_i32
  let v3 : BitVec 32 := Scalar.extui v2
  let c0_i32 : BitVec 32 := 0#32
  let v4 : BitVec 1 := Scalar.cmpi .ne v3 c0_i32
  v4

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let c0_i32_20_r0 : BitVec 32 := 0#32
  ![v21.toNat, 0]

def k1_chk1 (i : grid1.Coords) (v35 : IVec S16 32) : Prop :=
  (∀ (k1_h1 : k1_cond1 i = 1#1), ∀ a x, ((![v35] : Fin 1 → IVec S16 32) a x).toNat < S16.size a)
theorem k1_idx1_inb : ∀ (i : grid1.Coords) (v35 : IVec S16 32) (k1_hw1 : k1_chk1 i v35), ∀ (k1_h1 : k1_cond1 i = 1#1), ∀ a x, ((![v35] : Fin 1 → IVec S16 32) a x).toNat < S16.size a := fun i v35 k1_hw1 k1_h1 => k1_hw1 k1_h1
@[reducible] def k1_t1_loop : Scf.Loop 32 :=
  let c0_i32_13 : BitVec 32 := 0#32
  let c96_i32 : BitVec 32 := 96#32
  let v40 : BitVec 32 := Scalar.addi c0_i32_13 c96_i32
  let c1_i32_14 : BitVec 32 := 1#32
  ⟨c0_i32_13, v40, c1_i32_14⟩
def k1_off2 (k1_t1 : Fin k1_t1_loop.trips) : Fin 1 → Nat :=
  let c0_i32_13 : BitVec 32 := 0#32
  let c1_i32_14 : BitVec 32 := 1#32
  let arg10 : BitVec 32 := Scf.iv c0_i32_13 c1_i32_14 k1_t1
  let c16_i32 : BitVec 32 := 16#32
  let v45 : BitVec 32 := Scalar.muli arg10 c16_i32
  let v46 : Index := Scalar.indexCast v45
  ![v46.toNat]
@[reducible] def k1_t2_loop : Scf.Loop 32 :=
  let c0_i32_17 : BitVec 32 := 0#32
  let c41_i32 : BitVec 32 := 41#32
  let v42 : BitVec 32 := Scalar.addi c0_i32_17 c41_i32
  let c1_i32_18 : BitVec 32 := 1#32
  ⟨c0_i32_17, v42, c1_i32_18⟩
def k1_off3 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let c3_i32_5 : BitVec 32 := 3#32
  let c0_i32_6 : BitVec 32 := 0#32
  let v22 : BitVec 1 := Scalar.cmpi .eq c3_i32_5 c0_i32_6
  let c1_i32_7 : BitVec 32 := 1#32
  let v23 : BitVec 32 := Scalar.select v22 c1_i32_7 c3_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c335872_i32 : BitVec 32 := 335872#32
  let v32 : BitVec 32 := Scalar.muli v31 c335872_i32
  let c0_i32_17 : BitVec 32 := 0#32
  let c1_i32_18 : BitVec 32 := 1#32
  let arg10 : BitVec 32 := Scf.iv c0_i32_17 c1_i32_18 k1_t2
  let c8192_i32 : BitVec 32 := 8192#32
  let v44 : BitVec 32 := Scalar.muli arg10 c8192_i32
  let v45 : BitVec 32 := Scalar.addi v32 v44
  ![v21.toNat, v45.toNat]
def k1_off4 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_5 : BitVec 32 := 3#32
  let c0_i32_6 : BitVec 32 := 0#32
  let v22 : BitVec 1 := Scalar.cmpi .eq c3_i32_5 c0_i32_6
  let c1_i32_7 : BitVec 32 := 1#32
  let v23 : BitVec 32 := Scalar.select v22 c1_i32_7 c3_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c335872_i32 : BitVec 32 := 335872#32
  let v32 : BitVec 32 := Scalar.muli v31 c335872_i32
  let c0_i32_17 : BitVec 32 := 0#32
  let c1_i32_18 : BitVec 32 := 1#32
  let arg10 : BitVec 32 := Scf.iv c0_i32_17 c1_i32_18 k1_t2
  let c8192_i32_20 : BitVec 32 := 8192#32
  let v46 : BitVec 32 := Scalar.muli arg10 c8192_i32_20
  let v47 : BitVec 32 := Scalar.addi v32 v46
  ![v47.toNat]
@[reducible] def k1_t3_loop : Scf.Loop 32 :=
  let c0_i32_22 : BitVec 32 := 0#32
  let c512_i32 : BitVec 32 := 512#32
  let v48 : BitVec 32 := Scalar.addi c0_i32_22 c512_i32
  let c1_i32_23 : BitVec 32 := 1#32
  ⟨c0_i32_22, v48, c1_i32_23⟩
def k1_off5 (k1_t3 : Fin k1_t3_loop.trips) : Fin 1 → Nat :=
  let c0_i32_22 : BitVec 32 := 0#32
  let c1_i32_23 : BitVec 32 := 1#32
  let arg12 : BitVec 32 := Scf.iv c0_i32_22 c1_i32_23 k1_t3
  let c16_i32 : BitVec 32 := 16#32
  let v50 : BitVec 32 := Scalar.muli arg12 c16_i32
  let v51 : Index := Scalar.indexCast v50
  ![v51.toNat]

def k1_chk2 (i : grid1.Coords) (v60 : IVec S16 32) : Prop :=
  (∀ (k1_h1 : k1_cond1 i = 1#1), ∀ a x, ((![v60] : Fin 1 → IVec S16 32) a x).toNat < S16.size a)
theorem k1_idx2_inb : ∀ (i : grid1.Coords) (v60 : IVec S16 32) (k1_hw2 : k1_chk2 i v60), ∀ (k1_h1 : k1_cond1 i = 1#1), ∀ a x, ((![v60] : Fin 1 → IVec S16 32) a x).toNat < S16.size a := fun i v60 k1_hw2 k1_h1 => k1_hw2 k1_h1

def k1_chk3 (i : grid1.Coords) (v67 : IVec S16 32) : Prop :=
  (∀ (k1_h1 : k1_cond1 i = 1#1), ∀ a x, ((![v67] : Fin 1 → IVec S16 32) a x).toNat < S16.size a)
theorem k1_idx3_inb : ∀ (i : grid1.Coords) (v67 : IVec S16 32) (k1_hw3 : k1_chk3 i v67), ∀ (k1_h1 : k1_cond1 i = 1#1), ∀ a x, ((![v67] : Fin 1 → IVec S16 32) a x).toNat < S16.size a := fun i v67 k1_hw3 k1_h1 => k1_hw3 k1_h1

def k1_chk4 (i : grid1.Coords) (v74 : IVec S16 32) : Prop :=
  (∀ (k1_h1 : k1_cond1 i = 1#1), ∀ a x, ((![v74] : Fin 1 → IVec S16 32) a x).toNat < S16.size a)
theorem k1_idx4_inb : ∀ (i : grid1.Coords) (v74 : IVec S16 32) (k1_hw4 : k1_chk4 i v74), ∀ (k1_h1 : k1_cond1 i = 1#1), ∀ a x, ((![v74] : Fin 1 → IVec S16 32) a x).toNat < S16.size a := fun i v74 k1_hw4 k1_h1 => k1_hw4 k1_h1

def k1_chk5 (i : grid1.Coords) (v81 : IVec S16 32) : Prop :=
  (∀ (k1_h1 : k1_cond1 i = 1#1), ∀ a x, ((![v81] : Fin 1 → IVec S16 32) a x).toNat < S16.size a)
theorem k1_idx5_inb : ∀ (i : grid1.Coords) (v81 : IVec S16 32) (k1_hw5 : k1_chk5 i v81), ∀ (k1_h1 : k1_cond1 i = 1#1), ∀ a x, ((![v81] : Fin 1 → IVec S16 32) a x).toNat < S16.size a := fun i v81 k1_hw5 k1_h1 => k1_hw5 k1_h1

def k1_chk6 (i : grid1.Coords) (v94 : IVec S16 32) : Prop :=
  (∀ (k1_h1 : k1_cond1 i = 1#1), ∀ a x, ((![v94] : Fin 1 → IVec S16 32) a x).toNat < S1536.size a)
theorem k1_idx6_inb : ∀ (i : grid1.Coords) (v94 : IVec S16 32) (k1_hw6 : k1_chk6 i v94), ∀ (k1_h1 : k1_cond1 i = 1#1), ∀ a x, ((![v94] : Fin 1 → IVec S16 32) a x).toNat < S1536.size a := fun i v94 k1_hw6 k1_h1 => k1_hw6 k1_h1

def k1_chk7 (i : grid1.Coords) (v97 : IVec S16 32) : Prop :=
  (∀ (k1_h1 : k1_cond1 i = 1#1), ∀ a x, ((![v97] : Fin 1 → IVec S16 32) a x).toNat < S1536.size a)
theorem k1_idx7_inb : ∀ (i : grid1.Coords) (v97 : IVec S16 32) (k1_hw7 : k1_chk7 i v97), ∀ (k1_h1 : k1_cond1 i = 1#1), ∀ a x, ((![v97] : Fin 1 → IVec S16 32) a x).toNat < S1536.size a := fun i v97 k1_hw7 k1_h1 => k1_hw7 k1_h1

def k1_chk8 (i : grid1.Coords) (v99 : IVec S16 32) : Prop :=
  (∀ (k1_h1 : k1_cond1 i = 1#1), ∀ a x, ((![v99] : Fin 1 → IVec S16 32) a x).toNat < S1536.size a)
theorem k1_idx8_inb : ∀ (i : grid1.Coords) (v99 : IVec S16 32) (k1_hw8 : k1_chk8 i v99), ∀ (k1_h1 : k1_cond1 i = 1#1), ∀ a x, ((![v99] : Fin 1 → IVec S16 32) a x).toNat < S1536.size a := fun i v99 k1_hw8 k1_h1 => k1_hw8 k1_h1
def k1_off6 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20_r3 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x10 : Shape := ⟨2, ![1000000, 10]⟩
abbrev S1000000 : Shape := ⟨1, ![1000000]⟩
abbrev S10x16 : Shape := ⟨2, ![10, 16]⟩
abbrev S_ : Shape := ⟨0, ![]⟩
abbrev S1000000x1 : Shape := ⟨2, ![1000000, 1]⟩
abbrev S10x1000000 : Shape := ⟨2, ![10, 1000000]⟩
abbrev S1x1000000 : Shape := ⟨2, ![1, 1000000]⟩
abbrev S10 : Shape := ⟨1, ![10]⟩
abbrev S10x1 : Shape := ⟨2, ![10, 1]⟩
abbrev S10x15 : Shape := ⟨2, ![10, 15]⟩
abbrev S10x1x1000000 : Shape := ⟨3, ![10, 1, 1000000]⟩
abbrev S10x15x1 : Shape := ⟨3, ![10, 15, 1]⟩
abbrev S10x15x1000000 : Shape := ⟨3, ![10, 15, 1000000]⟩

abbrev nBuf : Space → Nat
  | .hbm => 91
  | .vmem => 0
  | .smem => 0
  | _ => 0

abbrev bufTy : (tb : Table) → Fin (tcTables nBuf tb) → BufTy
  | .hbm, ⟨0, _⟩ => ⟨S1000000x10, .f32⟩
  | .hbm, ⟨1, _⟩ => ⟨S1000000, .i32⟩
  | .hbm, ⟨2, _⟩ => ⟨S10x16, .f32⟩
  | .hbm, ⟨3, _⟩ => ⟨S_, .f32⟩
  | .hbm, ⟨4, _⟩ => ⟨S1000000, .f32⟩
  | .hbm, ⟨5, _⟩ => ⟨S_, .f32⟩
  | .hbm, ⟨6, _⟩ => ⟨S1000000, .f32⟩
  | .hbm, ⟨7, _⟩ => ⟨S1000000, .f32⟩
  | .hbm, ⟨8, _⟩ => ⟨S1000000x1, .f32⟩
  | .hbm, ⟨9, _⟩ => ⟨S1000000x10, .f32⟩
  | .hbm, ⟨10, _⟩ => ⟨S1000000x10, .f32⟩
  | .hbm, ⟨11, _⟩ => ⟨S1000000x10, .f32⟩
  | .hbm, ⟨12, _⟩ => ⟨S_, .f32⟩
  | .hbm, ⟨13, _⟩ => ⟨S1000000, .f32⟩
  | .hbm, ⟨14, _⟩ => ⟨S1000000x1, .f32⟩
  | .hbm, ⟨15, _⟩ => ⟨S1000000x10, .f32⟩
  | .hbm, ⟨16, _⟩ => ⟨S1000000x10, .f32⟩
  | .hbm, ⟨17, _⟩ => ⟨S10x1000000, .f32⟩
  | .hbm, ⟨18, _⟩ => ⟨S1x1000000, .i32⟩
  | .hbm, ⟨19, _⟩ => ⟨S10, .i32⟩
  | .hbm, ⟨20, _⟩ => ⟨S10x1, .i32⟩
  | .hbm, ⟨21, _⟩ => ⟨S10x1000000, .i32⟩
  | .hbm, ⟨22, _⟩ => ⟨S10x1000000, .i32⟩
  | .hbm, ⟨23, _⟩ => ⟨S10x1000000, .i1⟩
  | .hbm, ⟨24, _⟩ => ⟨S10x1000000, .f32⟩
  | .hbm, ⟨25, _⟩ => ⟨S10x15, .f32⟩
  | .hbm, ⟨26, _⟩ => ⟨S10x15, .f32⟩
  | .hbm, ⟨27, _⟩ => ⟨S10x1x1000000, .f32⟩
  | .hbm, ⟨28, _⟩ => ⟨S10x15x1, .f32⟩
  | .hbm, ⟨29, _⟩ => ⟨S10x15x1000000, .f32⟩
  | .hbm, ⟨30, _⟩ => ⟨S10x15x1000000, .f32⟩
  | .hbm, ⟨31, _⟩ => ⟨S10x15x1000000, .i1⟩
  | .hbm, ⟨32, _⟩ => ⟨S10x1x1000000, .f32⟩
  | .hbm, ⟨33, _⟩ => ⟨S10x15x1, .f32⟩
  | .hbm, ⟨34, _⟩ => ⟨S10x15x1000000, .f32⟩
  | .hbm, ⟨35, _⟩ => ⟨S10x15x1000000, .f32⟩
  | .hbm, ⟨36, _⟩ => ⟨S10x15x1000000, .i1⟩
  | .hbm, ⟨37, _⟩ => ⟨S10x15x1000000, .i1⟩
  | .hbm, ⟨38, _⟩ => ⟨S10x15x1000000, .i32⟩
  | .hbm, ⟨39, _⟩ => ⟨S_, .i32⟩
  | .hbm, ⟨40, _⟩ => ⟨S10x15, .i32⟩
  | .hbm, ⟨41, _⟩ => ⟨S10x1x1000000, .f32⟩
  | .hbm, ⟨42, _⟩ => ⟨S_, .f32⟩
  | .hbm, ⟨43, _⟩ => ⟨S_, .f32⟩
  | .hbm, ⟨44, _⟩ => ⟨S10x15x1000000, .f32⟩
  | .hbm, ⟨45, _⟩ => ⟨S10x15x1000000, .f32⟩
  | .hbm, ⟨46, _⟩ => ⟨S10x15x1000000, .f32⟩
  | .hbm, ⟨47, _⟩ => ⟨S_, .f32⟩
  | .hbm, ⟨48, _⟩ => ⟨S10x15, .f32⟩
  | .hbm, ⟨49, _⟩ => ⟨S_, .i32⟩
  | .hbm, ⟨50, _⟩ => ⟨S10x15, .i32⟩
  | .hbm, ⟨51, _⟩ => ⟨S10x15, .i32⟩
  | .hbm, ⟨52, _⟩ => ⟨S_, .i32⟩
  | .hbm, ⟨53, _⟩ => ⟨S10x15, .i32⟩
  | .hbm, ⟨54, _⟩ => ⟨S10x15, .i32⟩
  | .hbm, ⟨55, _⟩ => ⟨S10x15, .f32⟩
  | .hbm, ⟨56, _⟩ => ⟨S10x15x1, .f32⟩
  | .hbm, ⟨57, _⟩ => ⟨S10x1x1000000, .f32⟩
  | .hbm, ⟨58, _⟩ => ⟨S10x15x1000000, .f32⟩
  | .hbm, ⟨59, _⟩ => ⟨S10x15x1000000, .f32⟩
  | .hbm, ⟨60, _⟩ => ⟨S10x15x1000000, .f32⟩
  | .hbm, ⟨61, _⟩ => ⟨S10x15x1, .f32⟩
  | .hbm, ⟨62, _⟩ => ⟨S10x15x1000000, .f32⟩
  | .hbm, ⟨63, _⟩ => ⟨S10x15x1000000, .f32⟩
  | .hbm, ⟨64, _⟩ => ⟨S10x1x1000000, .f32⟩
  | .hbm, ⟨65, _⟩ => ⟨S10x15x1000000, .f32⟩
  | .hbm, ⟨66, _⟩ => ⟨S10x15x1000000, .f32⟩
  | .hbm, ⟨67, _⟩ => ⟨S10x15x1000000, .f32⟩
  | .hbm, ⟨68, _⟩ => ⟨S10x15x1000000, .f32⟩
  | .hbm, ⟨69, _⟩ => ⟨S_, .f32⟩
  | .hbm, ⟨70, _⟩ => ⟨S_, .f32⟩
  | .hbm, ⟨71, _⟩ => ⟨S10x15x1000000, .f32⟩
  | .hbm, ⟨72, _⟩ => ⟨S10x15x1000000, .f32⟩
  | .hbm, ⟨73, _⟩ => ⟨S_, .i32⟩
  | .hbm, ⟨74, _⟩ => ⟨S10x15, .i32⟩
  | .hbm, ⟨75, _⟩ => ⟨S10x15, .i1⟩
  | .hbm, ⟨76, _⟩ => ⟨S_, .f32⟩
  | .hbm, ⟨77, _⟩ => ⟨S10x15, .f32⟩
  | .hbm, ⟨78, _⟩ => ⟨S_, .f32⟩
  | .hbm, ⟨79, _⟩ => ⟨S_, .f32⟩
  | .hbm, ⟨80, _⟩ => ⟨S10x15, .f32⟩
  | .hbm, ⟨81, _⟩ => ⟨S10x15, .f32⟩
  | .hbm, ⟨82, _⟩ => ⟨S_, .f32⟩
  | .hbm, ⟨83, _⟩ => ⟨S10, .f32⟩
  | .hbm, ⟨84, _⟩ => ⟨S_, .f32⟩
  | .hbm, ⟨85, _⟩ => ⟨S10, .f32⟩
  | .hbm, ⟨86, _⟩ => ⟨S10, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S1000000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_c_4 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_call1_v0 : Ref sig .tc := ⟨.hbm, 70, rfl⟩
abbrev main_call1_v1 : Ref sig .tc := ⟨.hbm, 71, rfl⟩
abbrev main_v55 : Ref sig .tc := ⟨.hbm, 72, rfl⟩
abbrev main_c_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_cst_9 : Ref sig .tc := ⟨.hbm, 78, rfl⟩
abbrev main_call2_v0 : Ref sig .tc := ⟨.hbm, 79, rfl⟩
abbrev main_call2_v1 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Select.lean ====
abbrev S10x1007616 : Shape := ⟨2, ![10, 1007616]⟩
abbrev S30 : Shape := ⟨1, ![30]⟩
abbrev S30x65536 : Shape := ⟨2, ![30, 65536]⟩
abbrev S8192 : Shape := ⟨1, ![8192]⟩
abbrev S65536 : Shape := ⟨1, ![65536]⟩
abbrev S16 : Shape := ⟨1, ![16]⟩
abbrev S_ : Shape := ⟨0, ![]⟩
abbrev S1x8192 : Shape := ⟨2, ![1, 8192]⟩
abbrev S1x65536 : Shape := ⟨2, ![1, 65536]⟩
abbrev S10x3x4096x16 : Shape := ⟨4, ![10, 3, 4096, 16]⟩
abbrev S10x4096 : Shape := ⟨2, ![10, 4096]⟩
abbrev S10x30 : Shape := ⟨2, ![10, 30]⟩
abbrev S10x1x4096 : Shape := ⟨3, ![10, 1, 4096]⟩
abbrev S10x30x1 : Shape := ⟨3, ![10, 30, 1]⟩
abbrev S10x30x4096 : Shape := ⟨3, ![10, 30, 4096]⟩
abbrev S10x1x30 : Shape := ⟨3, ![10, 1, 30]⟩
abbrev S10x30x30 : Shape := ⟨3, ![10, 30, 30]⟩
abbrev S1x1x30 : Shape := ⟨3, ![1, 1, 30]⟩
abbrev S4096 : Shape := ⟨1, ![4096]⟩
abbrev S1x1x4096 : Shape := ⟨3, ![1, 1, 4096]⟩
abbrev S1x30x1 : Shape := ⟨3, ![1, 30, 1]⟩
abbrev S30x61440 : Shape := ⟨2, ![30, 61440]⟩
abbrev S61440 : Shape := ⟨1, ![61440]⟩
abbrev S1x4096 : Shape := ⟨2, ![1, 4096]⟩
abbrev S1x61440 : Shape := ⟨2, ![1, 61440]⟩
abbrev S10x3x30x2048 : Shape := ⟨4, ![10, 3, 30, 2048]⟩
abbrev S10x30x2048 : Shape := ⟨3, ![10, 30, 2048]⟩
abbrev S1 : Shape := ⟨1, ![1]⟩
abbrev S1x1x1 : Shape := ⟨3, ![1, 1, 1]⟩
abbrev S10x30x1x2048 : Shape := ⟨4, ![10, 30, 1, 2048]⟩
abbrev S10x30x1x1 : Shape := ⟨4, ![10, 30, 1, 1]⟩

abbrev nBuf : Table → Nat
  | .hbm => 106
  | .local .scVector .vmem => 5
  | _ => 0

abbrev bufTy : (tb : Table) → Fin (nBuf tb) → BufTy
  | .hbm, ⟨0, _⟩ => ⟨S10x1007616, .i32⟩
  | .hbm, ⟨1, _⟩ => ⟨S30, .i32⟩
  | .hbm, ⟨2, _⟩ => ⟨S30x65536, .i32⟩
  | .hbm, ⟨3, _⟩ => ⟨S10x3x4096x16, .i32⟩
  | .hbm, ⟨4, _⟩ => ⟨S_, .i32⟩
  | .hbm, ⟨5, _⟩ => ⟨S10x4096, .i32⟩
  | .hbm, ⟨6, _⟩ => ⟨S10x30, .i32⟩
  | .hbm, ⟨7, _⟩ => ⟨S_, .i32⟩
  | .hbm, ⟨8, _⟩ => ⟨S_, .i32⟩
  | .hbm, ⟨9, _⟩ => ⟨S10x4096, .i32⟩
  | .hbm, ⟨10, _⟩ => ⟨S10x1x4096, .i32⟩
  | .hbm, ⟨11, _⟩ => ⟨S10x30x1, .i32⟩
  | .hbm, ⟨12, _⟩ => ⟨S10x30x4096, .i32⟩
  | .hbm, ⟨13, _⟩ => ⟨S10x30x4096, .i32⟩
  | .hbm, ⟨14, _⟩ => ⟨S10x30x4096, .i1⟩
  | .hbm, ⟨15, _⟩ => ⟨S10x30x4096, .i32⟩
  | .hbm, ⟨16, _⟩ => ⟨S_, .i32⟩
  | .hbm, ⟨17, _⟩ => ⟨S10x30, .i32⟩
  | .hbm, ⟨18, _⟩ => ⟨S10x1x4096, .i32⟩
  | .hbm, ⟨19, _⟩ => ⟨S10x30x4096, .i32⟩
  | .hbm, ⟨20, _⟩ => ⟨S10x30x4096, .i32⟩
  | .hbm, ⟨21, _⟩ => ⟨S10x30x4096, .i32⟩
  | .hbm, ⟨22, _⟩ => ⟨S_, .i32⟩
  | .hbm, ⟨23, _⟩ => ⟨S10x30, .i32⟩
  | .hbm, ⟨24, _⟩ => ⟨S10x30, .i32⟩
  | .hbm, ⟨25, _⟩ => ⟨S30, .i32⟩
  | .hbm, ⟨26, _⟩ => ⟨S10x1x30, .i32⟩
  | .hbm, ⟨27, _⟩ => ⟨S10x30x1, .i32⟩
  | .hbm, ⟨28, _⟩ => ⟨S10x30x30, .i32⟩
  | .hbm, ⟨29, _⟩ => ⟨S10x30x30, .i32⟩
  | .hbm, ⟨30, _⟩ => ⟨S10x30x30, .i1⟩
  | .hbm, ⟨31, _⟩ => ⟨S1x1x30, .i32⟩
  | .hbm, ⟨32, _⟩ => ⟨S_, .i32⟩
  | .hbm, ⟨33, _⟩ => ⟨S_, .i32⟩
  | .hbm, ⟨34, _⟩ => ⟨S10x30x30, .i32⟩
  | .hbm, ⟨35, _⟩ => ⟨S10x30x30, .i32⟩
  | .hbm, ⟨36, _⟩ => ⟨S10x30x30, .i32⟩
  | .hbm, ⟨37, _⟩ => ⟨S_, .i32⟩
  | .hbm, ⟨38, _⟩ => ⟨S10x30, .i32⟩
  | .hbm, ⟨39, _⟩ => ⟨S4096, .i32⟩
  | .hbm, ⟨40, _⟩ => ⟨S10x30x1, .i32⟩
  | .hbm, ⟨41, _⟩ => ⟨S1x1x4096, .i32⟩
  | .hbm, ⟨42, _⟩ => ⟨S10x30x4096, .i32⟩
  | .hbm, ⟨43, _⟩ => ⟨S10x30x4096, .i32⟩
  | .hbm, ⟨44, _⟩ => ⟨S10x30x4096, .i1⟩
  | .hbm, ⟨45, _⟩ => ⟨S1x30x1, .i32⟩
  | .hbm, ⟨46, _⟩ => ⟨S_, .i32⟩
  | .hbm, ⟨47, _⟩ => ⟨S_, .i32⟩
  | .hbm, ⟨48, _⟩ => ⟨S10x30x4096, .i32⟩
  | .hbm, ⟨49, _⟩ => ⟨S10x30x4096, .i32⟩
  | .hbm, ⟨50, _⟩ => ⟨S10x30x4096, .i32⟩
  | .hbm, ⟨51, _⟩ => ⟨S_, .i32⟩
  | .hbm, ⟨52, _⟩ => ⟨S10x4096, .i32⟩
  | .hbm, ⟨53, _⟩ => ⟨S30x61440, .i32⟩
  | .hbm, ⟨54, _⟩ => ⟨S10x3x30x2048, .i32⟩
  | .hbm, ⟨55, _⟩ => ⟨S_, .i32⟩
  | .hbm, ⟨56, _⟩ => ⟨S10x30x2048, .i32⟩
  | .hbm, ⟨57, _⟩ => ⟨S10x30x1, .i32⟩
  | .hbm, ⟨58, _⟩ => ⟨S_, .i32⟩
  | .hbm, ⟨59, _⟩ => ⟨S10x30x1, .i32⟩
  | .hbm, ⟨60, _⟩ => ⟨S10x30x1, .i1⟩
  | .hbm, ⟨61, _⟩ => ⟨S_, .i32⟩
  | .hbm, ⟨62, _⟩ => ⟨S10x30x1, .i32⟩
  | .hbm, ⟨63, _⟩ => ⟨S10x30x1, .i32⟩
  | .hbm, ⟨64, _⟩ => ⟨S10x30x1, .i32⟩
  | .hbm, ⟨65, _⟩ => ⟨S1, .i32⟩
  | .hbm, ⟨66, _⟩ => ⟨S_, .i32⟩
  | .hbm, ⟨67, _⟩ => ⟨S10x30x1, .i32⟩
  | .hbm, ⟨68, _⟩ => ⟨S10x30x1, .i1⟩
  | .hbm, ⟨69, _⟩ => ⟨S1x1x1, .i32⟩
  | .hbm, ⟨70, _⟩ => ⟨S10x30x1, .i32⟩
  | .hbm, ⟨71, _⟩ => ⟨S10x30x1, .i1⟩
  | .hbm, ⟨72, _⟩ => ⟨S10x30x1, .i1⟩
  | .hbm, ⟨73, _⟩ => ⟨S_, .i1⟩
  | .hbm, ⟨74, _⟩ => ⟨S10x30, .i1⟩
  | .hbm, ⟨75, _⟩ => ⟨S10x30x2048, .i32⟩
  | .hbm, ⟨76, _⟩ => ⟨S10x30x2048, .i1⟩
  | .hbm, ⟨77, _⟩ => ⟨S_, .i32⟩
  | .hbm, ⟨78, _⟩ => ⟨S10x30x2048, .i32⟩
  | .hbm, ⟨79, _⟩ => ⟨S10x30x2048, .i32⟩
  | .hbm, ⟨80, _⟩ => ⟨S10x30x1, .i32⟩
  | .hbm, ⟨81, _⟩ => ⟨S_, .i32⟩
  | .hbm, ⟨82, _⟩ => ⟨S_, .i32⟩
  | .hbm, ⟨83, _⟩ => ⟨S10x30x2048, .i32⟩
  | .hbm, ⟨84, _⟩ => ⟨S10x30x1x2048, .i32⟩
  | .hbm, ⟨85, _⟩ => ⟨S10x30x1x1, .i32⟩
  | .hbm, ⟨86, _⟩ => ⟨S10x30x1x2048, .i32⟩
  | .hbm, ⟨87, _⟩ => ⟨S10x30x1x2048, .i1⟩
  | .hbm, ⟨88, _⟩ => ⟨S10x30x1x2048, .i32⟩
  | .hbm, ⟨89, _⟩ => ⟨S_, .i32⟩
  | .hbm, ⟨90, _⟩ => ⟨S10x30x1, .i32⟩
  | .hbm, ⟨91, _⟩ => ⟨S10x30x1x2048, .i32⟩
  | .hbm, ⟨92, _⟩ => ⟨S10x30x1x2048, .i32⟩
  | .hbm, ⟨93, _⟩ => ⟨S10x30x1x2048, .i32⟩
  | .hbm, ⟨94, _⟩ => ⟨S_, .i32⟩
  | .hbm, ⟨95, _⟩ => ⟨S10x30x1, .i32⟩
  | .hbm, ⟨96, _⟩ => ⟨S10x30x1, .i32⟩
  | .hbm, ⟨97, _⟩ => ⟨S10x30, .i32⟩
  | .hbm, ⟨98, _⟩ => ⟨S10x30, .i32⟩
  | .hbm, ⟨99, _⟩ => ⟨S_, .i32⟩
  | .hbm, ⟨100, _⟩ => ⟨S10x30, .i32⟩
  | .hbm, ⟨101, _⟩ => ⟨S10x30, .i32⟩
  | .hbm, ⟨102, _⟩ => ⟨S_, .i32⟩
  | .hbm, ⟨103, _⟩ => ⟨S10x30, .i32⟩
  | .hbm, ⟨104, _⟩ => ⟨S10x30, .i32⟩
  | .hbm, ⟨105, _⟩ => ⟨S10x30, .i32⟩
  | .local .scVector .vmem, ⟨0, _⟩ => ⟨S8192, .i32⟩
  | .local .scVector .vmem, ⟨1, _⟩ => ⟨S65536, .i32⟩
  | .local .scVector .vmem, ⟨2, _⟩ => ⟨S8192, .i32⟩
  | .local .scVector .vmem, ⟨3, _⟩ => ⟨S4096, .i32⟩
  | .local .scVector .vmem, ⟨4, _⟩ => ⟨S61440, .i32⟩
  | _, _ => ⟨S10x1007616, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_call0_call0_c : Ref sig .tc := ⟨.hbm, 7, rfl⟩
abbrev main_call0_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_c_1 : Ref sig .tc := ⟨.hbm, 65, rfl⟩
abbrev main_call3_c_2 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_c_3 : Ref sig .tc := ⟨.hbm, 73, rfl⟩
abbrev main_call3_v11 : Ref sig .tc := ⟨.hbm, 74, rfl⟩
abbrev main_call3_v12 : Ref sig .tc := ⟨.hbm, 75, rfl⟩
abbrev main_call3_v13 : Ref sig .tc := ⟨.hbm, 76, rfl⟩
abbrev main_call3_c_4 : Ref sig .tc := ⟨.hbm, 77, rfl⟩
abbrev main_call3_v14 : Ref sig .tc := ⟨.hbm, 78, rfl⟩
abbrev main_v40 : Ref sig .tc := ⟨.hbm, 79, rfl⟩
abbrev main_v41 : Ref sig .tc := ⟨.hbm, 80, rfl⟩
abbrev main_call4_call0_c : Ref sig .tc := ⟨.hbm, 81, rfl⟩
abbrev main_call4_call0_v0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c_7 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_c_8 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_c_9 : Ref sig .tc := ⟨.hbm, 99, rfl⟩
abbrev main_v56 : Ref sig .tc := ⟨.hbm, 100, rfl⟩
abbrev main_v57 : Ref sig .tc := ⟨.hbm, 101, rfl⟩
abbrev main_c_10 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_arg0_scv : Ref sig .scVector := ⟨.hbm, 0, rfl⟩
abbrev main_v0_scv : Ref sig .scVector := ⟨.hbm, 2, rfl⟩
abbrev main_v35_scv : Ref sig .scVector := ⟨.hbm, 52, rfl⟩
abbrev main_v36_scv : Ref sig .scVector := ⟨.hbm, 53, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let v2 : BitVec 1 := Scalar.cmpi .slt v1 c30_i32
  let v3 : BitVec 32 := Scalar.extui v2
  let c0_i32 : BitVec 32 := 0#32
  let v4 : BitVec 1 := Scalar.cmpi .ne v3 c0_i32
  v4

@[reducible] def k0_t1_loop : Scf.Loop 32 :=
  let c0_i32_13 : BitVec 32 := 0#32
  let c4096_i32 : BitVec 32 := 4096#32
  let v35 : BitVec 32 := Scalar.addi c0_i32_13 c4096_i32
  let c1_i32_14 : BitVec 32 := 1#32
  ⟨c0_i32_13, v35, c1_i32_14⟩
def k0_off1 (k0_t1 : Fin k0_t1_loop.trips) : Fin 1 → Nat :=
  let c0_i32_13 : BitVec 32 := 0#32
  let c1_i32_14 : BitVec 32 := 1#32
  let arg6 : BitVec 32 := Scf.iv c0_i32_13 c1_i32_14 k0_t1
  let c16_i32 : BitVec 32 := 16#32
  let v40 : BitVec 32 := Scalar.muli arg6 c16_i32
  let v41 : Index := Scalar.indexCast v40
  ![v41.toNat]
@[reducible] def k0_t2_loop : Scf.Loop 32 :=
  let c0_i32_17 : BitVec 32 := 0#32
  let c41_i32 : BitVec 32 := 41#32
  let v37 : BitVec 32 := Scalar.addi c0_i32_17 c41_i32
  let c1_i32_18 : BitVec 32 := 1#32
  ⟨c0_i32_17, v37, c1_i32_18⟩
def k0_off2 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let c3_i32_5 : BitVec 32 := 3#32
  let c0_i32_6 : BitVec 32 := 0#32
  let v22 : BitVec 1 := Scalar.cmpi .eq c3_i32_5 c0_i32_6
  let c1_i32_7 : BitVec 32 := 1#32
  let v23 : BitVec 32 := Scalar.select v22 c1_i32_7 c3_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c335872_i32 : BitVec 32 := 335872#32
  let v32 : BitVec 32 := Scalar.muli v31 c335872_i32
  let c0_i32_17 : BitVec 32 := 0#32
  let c1_i32_18 : BitVec 32 := 1#32
  let arg6 : BitVec 32 := Scf.iv c0_i32_17 c1_i32_18 k0_t2
  let c8192_i32 : BitVec 32 := 8192#32
  let v39 : BitVec 32 := Scalar.muli arg6 c8192_i32
  let v40 : BitVec 32 := Scalar.addi v32 v39
  ![v21.toNat, v40.toNat]
@[reducible] def k0_t3_loop : Scf.Loop 32 :=
  let c0_i32_21 : BitVec 32 := 0#32
  let c512_i32 : BitVec 32 := 512#32
  let v41 : BitVec 32 := Scalar.addi c0_i32_21 c512_i32
  let c1_i32_22 : BitVec 32 := 1#32
  ⟨c0_i32_21, v41, c1_i32_22⟩
def k0_off3 (k0_t3 : Fin k0_t3_loop.trips) : Fin 1 → Nat :=
  let c0_i32_21 : BitVec 32 := 0#32
  let c1_i32_22 : BitVec 32 := 1#32
  let arg8 : BitVec 32 := Scf.iv c0_i32_21 c1_i32_22 k0_t3
  let c16_i32 : BitVec 32 := 16#32
  let v43 : BitVec 32 := Scalar.muli arg8 c16_i32
  let v44 : Index := Scalar.indexCast v43
  ![v44.toNat]

def k0_chk1 (i : grid0.Coords) (v52 : IVec S16 32) : Prop :=
  (∀ (k0_h1 : k0_cond1 i = 1#1), ∀ a x, ((![v52] : Fin 1 → IVec S16 32) a x).toNat < S65536.size a)
theorem k0_idx1_inb : ∀ (i : grid0.Coords) (v52 : IVec S16 32) (k0_hw1 : k0_chk1 i v52), ∀ (k0_h1 : k0_cond1 i = 1#1), ∀ a x, ((![v52] : Fin 1 → IVec S16 32) a x).toNat < S65536.size a := fun i v52 k0_hw1 k0_h1 => k0_hw1 k0_h1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20_r1 : BitVec 32 := 0#32
  ![v1.toNat, 0]
abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c30_i32 : BitVec 32 := 30#32
  let v2 : BitVec 1 := Scalar.cmpi .slt v1 c30_i32
  let v3 : BitVec 32 := Scalar.extui v2
  let c0_i32 : BitVec 32 := 0#32
  let v4 : BitVec 1 := Scalar.cmpi .ne v3 c0_i32
  v4

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let c0_i32_20_r0 : BitVec 32 := 0#32
  ![v21.toNat, 0]
@[reducible] def k1_t1_loop : Scf.Loop 32 :=
  let c0_i32_13 : BitVec 32 := 0#32
  let c3840_i32 : BitVec 32 := 3840#32
  let v34 : BitVec 32 := Scalar.addi c0_i32_13 c3840_i32
  let c1_i32_14 : BitVec 32 := 1#32
  ⟨c0_i32_13, v34, c1_i32_14⟩
def k1_off2 (k1_t1 : Fin k1_t1_loop.trips) : Fin 1 → Nat :=
  let c0_i32_13 : BitVec 32 := 0#32
  let c1_i32_14 : BitVec 32 := 1#32
  let arg8 : BitVec 32 := Scf.iv c0_i32_13 c1_i32_14 k1_t1
  let c16_i32 : BitVec 32 := 16#32
  let v39 : BitVec 32 := Scalar.muli arg8 c16_i32
  let v40 : Index := Scalar.indexCast v39
  ![v40.toNat]
@[reducible] def k1_t2_loop : Scf.Loop 32 :=
  let c0_i32_17 : BitVec 32 := 0#32
  let c41_i32 : BitVec 32 := 41#32
  let v36 : BitVec 32 := Scalar.addi c0_i32_17 c41_i32
  let c1_i32_18 : BitVec 32 := 1#32
  ⟨c0_i32_17, v36, c1_i32_18⟩
def k1_off3 (i : grid1.Coords) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let v6 : BitVec 1 := Scalar.cmpi .sgt v1 c0_i32_0
  let v7 : BitVec 32 := Scalar.extui v6
  let c0_i32_1 : BitVec 32 := 0#32
  let v8 : BitVec 1 := Scalar.cmpi .slt v1 c0_i32_1
  let v9 : BitVec 32 := Scalar.extui v8
  let v10 : BitVec 32 := Scalar.subi v7 v9
  let c3_i32 : BitVec 32 := 3#32
  let c0_i32_2 : BitVec 32 := 0#32
  let v11 : BitVec 1 := Scalar.cmpi .sgt c3_i32 c0_i32_2
  let v12 : BitVec 32 := Scalar.extui v11
  let c0_i32_3 : BitVec 32 := 0#32
  let v13 : BitVec 1 := Scalar.cmpi .slt c3_i32 c0_i32_3
  let v14 : BitVec 32 := Scalar.extui v13
  let v15 : BitVec 32 := Scalar.subi v12 v14
  let v16 : BitVec 1 := Scalar.cmpi .ne v10 v15
  let v17 : BitVec 32 := Scalar.remsi v1 c3_i32
  let c0_i32_4 : BitVec 32 := 0#32
  let v18 : BitVec 1 := Scalar.cmpi .ne v17 c0_i32_4
  let v19 : BitVec 1 := Scalar.andi v16 v18
  let v5 : BitVec 32 := Scalar.divsi v1 c3_i32
  let c1_i32 : BitVec 32 := 1#32
  let v20 : BitVec 32 := Scalar.subi v5 c1_i32
  let v21 : BitVec 32 := Scalar.select v19 v20 v5
  let c3_i32_5 : BitVec 32 := 3#32
  let c0_i32_6 : BitVec 32 := 0#32
  let v22 : BitVec 1 := Scalar.cmpi .eq c3_i32_5 c0_i32_6
  let c1_i32_7 : BitVec 32 := 1#32
  let v23 : BitVec 32 := Scalar.select v22 c1_i32_7 c3_i32_5
  let v24 : BitVec 32 := Scalar.remsi v1 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c335872_i32 : BitVec 32 := 335872#32
  let v32 : BitVec 32 := Scalar.muli v31 c335872_i32
  let c0_i32_17 : BitVec 32 := 0#32
  let c1_i32_18 : BitVec 32 := 1#32
  let arg8 : BitVec 32 := Scf.iv c0_i32_17 c1_i32_18 k1_t2
  let c8192_i32 : BitVec 32 := 8192#32
  let v38 : BitVec 32 := Scalar.muli arg8 c8192_i32
  let v39 : BitVec 32 := Scalar.addi v32 v38
  ![v21.toNat, v39.toNat]
@[reducible] def k1_t3_loop : Scf.Loop 32 :=
  let c0_i32_21 : BitVec 32 := 0#32
  let c512_i32 : BitVec 32 := 512#32
  let v40 : BitVec 32 := Scalar.addi c0_i32_21 c512_i32
  let c1_i32_22 : BitVec 32 := 1#32
  ⟨c0_i32_21, v40, c1_i32_22⟩
def k1_off4 (k1_t3 : Fin k1_t3_loop.trips) : Fin 1 → Nat :=
  let c0_i32_21 : BitVec 32 := 0#32
  let c1_i32_22 : BitVec 32 := 1#32
  let arg10 : BitVec 32 := Scf.iv c0_i32_21 c1_i32_22 k1_t3
  let c16_i32 : BitVec 32 := 16#32
  let v42 : BitVec 32 := Scalar.muli arg10 c16_i32
  let v43 : Index := Scalar.indexCast v42
  ![v43.toNat]

def k1_chk1 (i : grid1.Coords) (v48 : IVec S16 32) : Prop :=
  (∀ (k1_h1 : k1_cond1 i = 1#1), ∀ a x, ((![v48] : Fin 1 → IVec S16 32) a x).toNat < S4096.size a)
theorem k1_idx1_inb : ∀ (i : grid1.Coords) (v48 : IVec S16 32) (k1_hw1 : k1_chk1 i v48), ∀ (k1_h1 : k1_cond1 i = 1#1), ∀ a x, ((![v48] : Fin 1 → IVec S16 32) a x).toNat < S4096.size a := fun i v48 k1_hw1 k1_h1 => k1_hw1 k1_h1

def k1_chk2 (i : grid1.Coords) (v60 : IVec S16 32) : Prop :=
  (∀ (k1_h1 : k1_cond1 i = 1#1), ∀ a x, ((![v60] : Fin 1 → IVec S16 32) a x).toNat < S61440.size a)
theorem k1_idx2_inb : ∀ (i : grid1.Coords) (v60 : IVec S16 32) (k1_hw2 : k1_chk2 i v60), ∀ (k1_h1 : k1_cond1 i = 1#1), ∀ a x, ((![v60] : Fin 1 → IVec S16 32) a x).toNat < S61440.size a := fun i v60 k1_hw2 k1_h1 => k1_hw2 k1_h1
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20_r2 : BitVec 32 := 0#32
  ![v1.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== SelectReference.lean ====
abbrev S10x1007616 : Shape := ⟨2, ![10, 1007616]⟩
abbrev S30 : Shape := ⟨1, ![30]⟩
abbrev S30x1 : Shape := ⟨2, ![30, 1]⟩
abbrev S10x30 : Shape := ⟨2, ![10, 30]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S10x1007616, .i32⟩
  | .hbm, ⟨1, _⟩ => ⟨S30, .i32⟩
  | .hbm, ⟨2, _⟩ => ⟨S10x1007616, .i32⟩
  | .hbm, ⟨3, _⟩ => ⟨S30x1, .i32⟩
  | .hbm, ⟨4, _⟩ => ⟨S10x30, .i32⟩
  | .hbm, ⟨5, _⟩ => ⟨S_, .i32⟩
  | .hbm, ⟨6, _⟩ => ⟨S10x30, .i32⟩
  | .hbm, ⟨7, _⟩ => ⟨S10x30, .i32⟩
  | .hbm, ⟨8, _⟩ => ⟨S_, .i32⟩
  | .hbm, ⟨9, _⟩ => ⟨S10x30, .i32⟩
  | .hbm, ⟨10, _⟩ => ⟨S10x30, .i32⟩
  | _, _ => ⟨S10x1007616, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call1_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.Step.lean ====
/-
  What one task of the SparseCore kernel computes, as plain functions of the buffers it reads.

  A vector of sixteen probabilities is placed among the class's bin edges by a four-step search (four gathers from
  the edges), giving per lane the base position `96·m + 48·hit + lane` of its counter: `m` edges lie strictly below
  the probability, `hit` says whether the row's label is the class. Three masked scatter-adds then add 1, the
  probability and its square at that position and 16 and 32 further on. `scatterTrip` is that step on the
  accumulator, `scatterTrips` the trips over one staged chunk, `scatterChunks` the chunks over one task's third of
  the rows. The positions are always inside the 16-word edges buffer and the 1536-word accumulator (`chk…`): this is
  why the frame claims need no precondition.
-/
module

public import proofs.«01_k».proof.Defs
public import Idealize.ShloMosaic.Lib.SparseCore.Ops
public import Idealize.ShloMosaic.Lib.Tactic
public import proofs.«01_k».proof.Proof.Gen.KernelIdeal
public import proofs.«01_k».proof.Proof.Gen.KernelIdeal.Skeleton

@[expose] public section

noncomputable section

namespace Cert.Proof.Bins

open Cert.KernelIdeal Cert.KernelIdeal.Gen
open Idealize.ShloMosaic

variable {F : FTy → Type} [FloatOps F]

/-! ## The positions are in range -/

/-- A property of one index vector over a rank-one shape, from each lane. -/
theorem one_vec (v : IVec S16 32) (h : ∀ x, (v x).toNat < 16) (a : Fin 1) (x : S16.Idx) :
    ((![v] : Fin 1 → IVec S16 32) a x).toNat < S16.size a := by
  rw [Fin.eq_zero a]; exact h x

theorem one_vec' (v : IVec S16 32) (h : ∀ x, (v x).toNat < 1536) (a : Fin 1) (x : S16.Idx) :
    ((![v] : Fin 1 → IVec S16 32) a x).toNat < S1536.size a := by
  rw [Fin.eq_zero a]; exact h x

theorem pay10_lt (x : S16.Idx) : (k1_pay10 x).toNat < 16 := by
  simp only [k1_pay10, k1_pay9, k1_pay8, subi, addi, broadcast]; decide

theorem pay13_lt (c g1 : Vec F S16 .f32) (x : S16.Idx) : (k1_pay13 c g1 x).toNat < 16 := by
  simp only [k1_pay13, k1_pay12, k1_pay11, k1_pay9, k1_pay8, subi, addi, broadcast, select]
  generalize (cmpf CmpFPredicate.olt g1 c x) = b1
  decide +revert

theorem pay16_lt (c g1 g2 : Vec F S16 .f32) (x : S16.Idx) : (k1_pay16 c g1 g2 x).toNat < 16 := by
  simp only [k1_pay16, k1_pay15, k1_pay14, k1_pay12, k1_pay11, k1_pay9, k1_pay8, subi, addi, broadcast, select]
  generalize (cmpf CmpFPredicate.olt g1 c x) = b1
  generalize (cmpf CmpFPredicate.olt g2 c x) = b2
  decide +revert

theorem pay19_lt (c g1 g2 g3 : Vec F S16 .f32) (x : S16.Idx) : (k1_pay19 c g1 g2 g3 x).toNat < 16 := by
  simp only [k1_pay19, k1_pay18, k1_pay17, k1_pay15, k1_pay14, k1_pay12, k1_pay11, k1_pay9, k1_pay8, subi, addi, broadcast, select]
  generalize (cmpf CmpFPredicate.olt g1 c x) = b1
  generalize (cmpf CmpFPredicate.olt g2 c x) = b2
  generalize (cmpf CmpFPredicate.olt g3 c x) = b3
  decide +revert

/-- Twice the number of edges below, per lane: at most 30. -/
theorem pay21_le (c g1 g2 g3 g4 : Vec F S16 .f32) (x : S16.Idx) : (k1_pay21 c g1 g2 g3 g4 x).toNat ≤ 30 := by
  simp only [k1_pay21, k1_pay18, k1_pay17, k1_pay15, k1_pay14, k1_pay12, k1_pay11, k1_pay9, k1_pay8, muli, addi, broadcast, select]
  generalize (cmpf CmpFPredicate.olt g1 c x) = b1
  generalize (cmpf CmpFPredicate.olt g2 c x) = b2
  generalize (cmpf CmpFPredicate.olt g3 c x) = b3
  generalize (cmpf CmpFPredicate.olt g4 c x) = b4
  decide +revert

theorem pay20_le (v39 : IVec S16 32) (l : Vec F S16 .i32) (x : S16.Idx) : (k1_pay20 (F := F) v39 l x).toNat ≤ 1 := by
  simp only [k1_pay20, broadcast, select]
  generalize (cmpi CmpIPredicate.eq l v39 x) = b1
  decide +revert

/-- The lane numbers, as the kernel's `iota` prints them. -/
abbrev lanes : IVec S16 32 := iota .scVector S16 32 [0] iota_S16_d0_w32_scVector

theorem lanes_apply (x : S16.Idx) : lanes x = BitVec.ofNat 32 (x 0).val := by
  revert x; decide +kernel

theorem pay3_toNat (h m2 : IVec S16 32) (hh : ∀ x, (h x).toNat ≤ 1) (hm : ∀ x, (m2 x).toNat ≤ 30) (x : S16.Idx) :
    (k1_pay3 lanes h m2 x).toNat = ((m2 x).toNat + (h x).toNat) * 48 + (x 0).val := by
  have h1 := hh x
  have h2 := hm x
  have h3 : (x 0).val < 16 := (x 0).isLt
  simp only [k1_pay3, addi, muli, broadcast]
  rw [lanes_apply]
  simp only [IntOp.addi, IntOp.muli, BitVec.toNat_add, BitVec.toNat_mul, BitVec.toNat_ofNat]
  omega

theorem pay3_lt (h m2 : IVec S16 32) (hh : ∀ x, (h x).toNat ≤ 1) (hm : ∀ x, (m2 x).toNat ≤ 30) (x : S16.Idx) :
    (k1_pay3 lanes h m2 x).toNat < 1504 := by
  have h1 := hh x
  have h2 := hm x
  have h3 : (x 0).val < 16 := (x 0).isLt
  rw [pay3_toNat h m2 hh hm]; omega

theorem pay5_toNat (v : IVec S16 32) (hv : ∀ x, (v x).toNat < 1504) (x : S16.Idx) : (k1_pay5 v x).toNat = (v x).toNat + 16 := by
  have h := hv x
  simp only [k1_pay5, addi, broadcast, IntOp.addi, BitVec.toNat_add, BitVec.toNat_ofNat]; omega

theorem pay6_toNat (v : IVec S16 32) (hv : ∀ x, (v x).toNat < 1504) (x : S16.Idx) : (k1_pay6 v x).toNat = (v x).toNat + 32 := by
  have h := hv x
  simp only [k1_pay6, addi, broadcast, IntOp.addi, BitVec.toNat_add, BitVec.toNat_ofNat]; omega

/-! ## One vector of sixteen -/

section Trip

variable (E : Vec F S16 .f32) (top : Vec F S16 .f32) (cls : IVec S16 32) (c : Vec F S16 .f32) (l : Vec F S16 .i32)

/-- The four gathers of the search. -/
def probe1 : Vec F S16 .f32 := loadIdx E ![k1_pay10] (one_vec _ pay10_lt)
def probe2 : Vec F S16 .f32 := loadIdx E ![k1_pay13 c (probe1 E)] (one_vec _ (pay13_lt _ _))
def probe3 : Vec F S16 .f32 := loadIdx E ![k1_pay16 c (probe1 E) (probe2 E c)] (one_vec _ (pay16_lt _ _ _))
def probe4 : Vec F S16 .f32 := loadIdx E ![k1_pay19 c (probe1 E) (probe2 E c) (probe3 E c)] (one_vec _ (pay19_lt _ _ _ _))

/-- The lanes' base positions in the accumulator. -/
def basePos : IVec S16 32 := k1_pay3 lanes (k1_pay20 (F := F) cls l) (k1_pay21 c (probe1 E) (probe2 E c) (probe3 E c) (probe4 E c))

theorem basePos_lt (x : S16.Idx) : (basePos E cls c l x).toNat < 1504 :=
  pay3_lt _ _ (pay20_le _ _) (pay21_le _ _ _ _ _) x

theorem pos0_lt (x : S16.Idx) : (basePos E cls c l x).toNat < 1536 := lt_trans (basePos_lt E cls c l x) (by decide)
theorem pos1_lt (x : S16.Idx) : (k1_pay5 (basePos E cls c l) x).toNat < 1536 := by
  have := basePos_lt E cls c l x
  rw [pay5_toNat _ (basePos_lt E cls c l)]; omega
theorem pos2_lt (x : S16.Idx) : (k1_pay6 (basePos E cls c l) x).toNat < 1536 := by
  have := basePos_lt E cls c l x
  rw [pay6_toNat _ (basePos_lt E cls c l)]; omega

/-- The three scatter-adds: counts, probabilities, squares. -/
def scatter0 (A : Vec F S1536 .f32) : Vec F S1536 .f32 :=
  storeIdx A ![basePos E cls c l] (k1_pay22 (F := F)) (k1_pay4 top c) true (one_vec' _ (pos0_lt E cls c l))
def scatter1 (A : Vec F S1536 .f32) : Vec F S1536 .f32 :=
  storeIdx A ![k1_pay5 (basePos E cls c l)] c (k1_pay4 top c) true (one_vec' _ (pos1_lt E cls c l))
def scatter2 (A : Vec F S1536 .f32) : Vec F S1536 .f32 :=
  storeIdx A ![k1_pay6 (basePos E cls c l)] (k1_pay7 c) (k1_pay4 top c) true (one_vec' _ (pos2_lt E cls c l))

def scatterTrip (A : Vec F S1536 .f32) : Vec F S1536 .f32 :=
  scatter2 E top cls c l (scatter1 E top cls c l (scatter0 E top cls c l A))

end Trip

/-! ## A chunk, a task -/

/-- Word `16 t + x` of a staged chunk. -/
def chunkIdx (t : Fin 512) (x : S16.Idx) : S8192.Idx := fun a => ⟨16 * t.val + (x 0).val, by
  have h : (x 0).val < 16 := (x 0).isLt
  have := t.isLt
  rw [Fin.eq_zero a]; show _ < 8192; omega⟩

/-- The accumulator after the first `n` vectors of a chunk. -/
def scatterTrips (E top : Vec F S16 .f32) (cls : IVec S16 32) (bc : Vec F S8192 .f32) (bl : Vec F S8192 .i32)
    (A : Vec F S1536 .f32) : Nat → Vec F S1536 .f32
  | 0 => A
  | n + 1 => if h : n < 512 then scatterTrip E top cls (fun x => bc (chunkIdx ⟨n, h⟩ x)) (fun x => bl (chunkIdx ⟨n, h⟩ x)) (scatterTrips E top cls bc bl A n)
      else scatterTrips E top cls bc bl A n

/-- The accumulator after the first `n` chunks, chunk `t` staged as `bc t`, `bl t`. -/
def scatterChunks (E top : Vec F S16 .f32) (cls : IVec S16 32) (bc : Nat → Vec F S8192 .f32) (bl : Nat → Vec F S8192 .i32)
    (A : Vec F S1536 .f32) : Nat → Vec F S1536 .f32
  | 0 => A
  | n + 1 => scatterTrips E top cls (bc n) (bl n) (scatterChunks E top cls bc bl A n) 512

/-! ## What a task stages, and what it writes out -/

/-- The task of subcore `L`: tasks are numbered down the subcores, the two cores alternating. -/
def wid (L : grid1.Coords) : Nat := 2 * (L 1).val + (L 0).val

/-- Place `(r, c)` of the staged class rows. -/
def cfIdx (r c : Nat) : S10x1007616.Idx
  | 0 => ⟨r % 10, Nat.mod_lt _ (by decide)⟩
  | 1 => ⟨c % 1007616, Nat.mod_lt _ (by decide)⟩

/-- Place `c` of the padded labels. -/
def lbIdx (c : Nat) : S1007616.Idx := fun a => ⟨c % 1007616, by rw [Fin.eq_zero a]; exact Nat.mod_lt _ (by decide)⟩

/-- Place `(r, x)` of the edges. -/
def edIdx (r : Nat) (x : S16.Idx) : S10x16.Idx
  | 0 => ⟨r % 10, Nat.mod_lt _ (by decide)⟩
  | 1 => ⟨(x 0).val, (x 0).isLt⟩

/-- The first row of task `w`'s chunk `n`. -/
def colOf (w n : Nat) : Nat := 335872 * (w % 3) + 8192 * n

/-- Chunk `n` of task `w`: 8192 rows of its class's probabilities, and the same rows' labels. -/
def cfChunk (Cf : Vec F S10x1007616 .f32) (w n : Nat) : Vec F S8192 .f32 := fun x => Cf (cfIdx (w / 3) (colOf w n + (x 0).val))
def lbChunk (Lb : Vec F S1007616 .i32) (w n : Nat) : Vec F S8192 .i32 := fun x => Lb (lbIdx (colOf w n + (x 0).val))

/-- Class `r`'s edges. -/
def edRow (Ed : Vec F S10x16 .f32) (r : Nat) : Vec F S16 .f32 := fun x => Ed (edIdx r x)

theorem top_lt (x : S16.Idx) : (broadcast S16 15#32 x : BitVec 32).toNat < 16 := by show (15#32 : BitVec 32).toNat < 16; decide

/-- The top edge, in every lane. -/
def topEdge (E : Vec F S16 .f32) : Vec F S16 .f32 := loadIdx E ![broadcast S16 15#32] (one_vec _ top_lt)

/-- The accumulator's zero word. -/
def zeroWord : F .f32 := Scalar.ofBits .f32 0x00000000#32

/-- The accumulator that task `w` writes out. -/
def rowOut (Cf : Vec F S10x1007616 .f32) (Lb : Vec F S1007616 .i32) (Ed : Vec F S10x16 .f32) (w : Nat) : Vec F S1536 .f32 :=
  scatterChunks (edRow Ed (w / 3)) (topEdge (edRow Ed (w / 3))) (k1_pay1 (BitVec.ofNat 32 (w / 3))) (cfChunk Cf w) (lbChunk Lb w) (fun _ => zeroWord) 41

/-- Position `p` of an accumulator. -/
def acIdx (p : Nat) : S1536.Idx := fun a => ⟨p % 1536, by rw [Fin.eq_zero a]; exact Nat.mod_lt _ (by decide)⟩

/-- All the tasks' accumulators: row `w` is task `w`'s. -/
def outAll (Cf : Vec F S10x1007616 .f32) (Lb : Vec F S1007616 .i32) (Ed : Vec F S10x16 .f32) : Vec F S30x1536 .f32 :=
  fun i => rowOut Cf Lb Ed (i 0).val (acIdx (i 1).val)

end Cert.Proof.Bins

end
-- ==== Proof.SetUp.lean ====
/-
  The program as the launch theorem sees it, its ghost state, and the buffers by name.

  The certificate's ghost state has three parts: the rounds of the SparseCore handshakes, the rounds of the
  TensorCore pipeline's staging cells (the softmax call in the same @main), and the transfers' counters.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Step

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The handshakes' rounds, the pipeline's rounds, the transfers' counters. -/
abbrev UH : Type := URounds (GSem nD τ sig) ℕ
abbrev UP : Type := URounds (GSem nD τ sig) Unit
abbrev UU : Type := (UH × UP) × Counters

local notation "𝕄" => MT nD τ sig (HIx 1) (Elt F) ℕ UU ℕ

def EH : Emb UH (MT nD τ sig (HIx 1) (Elt F) ℕ UU ℕ) := (Emb.inl : Emb UH (UH × UP)).trans embL
def EP : Emb UP (MT nD τ sig (HIx 1) (Elt F) ℕ UU ℕ) := (Emb.inr : Emb UP (UH × UP)).trans embL

instance EH_landsIn : (EH (F := F)).LandsIn (upEmb : UEmb _ 𝕄) := by unfold EH; infer_instance
instance EP_landsIn : (EP (F := F)).LandsIn (upEmb : UEmb _ 𝕄) := by unfold EP; infer_instance

/-- The launch element of the ghost state splits into the handshakes' part and the pipeline's. -/
theorem ownU_parts (a : UH) (b : UP) (k : Counters) :
    (ownU (((a, b), k) : UU) : sProp 𝕄) ⊢ iprop(BI.own (EH (F := F) a) ∗ BI.own (EP (F := F) b)) := by
  iintro Hu
  ihave H := (ownU_pair (A := UH × UP) (B := Counters) (a, b) k) $$ Hu
  icases H with ⟨HL, -⟩
  iapply (own_pair_emb (embL : Emb (UH × UP) 𝕄) a b); iexact HL

/-! ## The buffers -/

abbrev cfLoc (d : Dev nD) : Loc nD τ sig := (SparseCore.T d).loc main_v1
abbrev lbLoc (d : Dev nD) : Loc nD τ sig := (SparseCore.T d).loc main_v2
abbrev edLoc (d : Dev nD) : Loc nD τ sig := (SparseCore.T d).loc main_arg2
abbrev outLoc (d : Dev nD) : Loc nD τ sig := (SparseCore.T d).loc main_v3

/-- The kernel's buffers, as the body names them: the staged rows, the labels, the edges, the results and the task's four
    scratch buffers. -/
abbrev cfV : Memref sig Kind.scVector Space.hbm S10x1007616 EltTy.f32 := Memref.whole main_v1_scv
abbrev lbV : Memref sig Kind.scVector Space.hbm S1007616 EltTy.i32 := Memref.whole main_v2_scv
abbrev edV : Memref sig Kind.scVector Space.hbm S10x16 EltTy.f32 := Memref.whole main_arg2_scv
abbrev outV : Memref sig Kind.scVector Space.hbm S30x1536 EltTy.f32 := Memref.whole main_v3_scv
abbrev bcV : Memref sig Kind.scVector Space.vmem S8192 EltTy.f32 := Memref.whole cc1_scratch0
abbrev blV : Memref sig Kind.scVector Space.vmem S8192 EltTy.i32 := Memref.whole cc1_scratch1
abbrev evV : Memref sig Kind.scVector Space.vmem S16 EltTy.f32 := Memref.whole cc1_scratch2
abbrev acV : Memref sig Kind.scVector Space.vmem S1536 EltTy.f32 := Memref.whole cc1_scratch3

/-- The task's thread. -/
abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

end Cert.Proof.Bins

end
-- ==== Proof.Region.lean ====
/-
  The softmax call as a region of @main: what one block computes, what the staged array holds after the call, and
  the region entered and left by the TensorCore between the host's operations.
-/
module

public import proofs.«01_k».proof.Proof.SetUp
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.ValueKit
public import Idealize.ShloMosaic.Lib.Pipeline.Covers

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## What the call computes -/

/-- The grid's point at the block `n` (mod the number of blocks). -/
def blockPt (n : Nat) : grid0.Coords := fun a => ⟨n % grid0.bound a, Nat.mod_lt _ (by revert a; decide)⟩

/-- Rows `2048 n …` of the padded logits. -/
def rowsAt (X : Vec F S1007616x10 .f32) (n : Nat) : Vec F S2048x10 .f32 := fun y => X (fun
  | 0 => ⟨(2048 * n + (y 0).val) % 1007616, Nat.mod_lt _ (by decide)⟩
  | 1 => ⟨(y 1).val, (y 1).isLt⟩
  | ⟨_ + 2, h⟩ => absurd h (Nat.not_lt.2 (Nat.le_add_left _ _)))

/-- A column's place in its block. -/
def inBlock (i : S10x1007616.Idx) : S10x2048.Idx := fun
  | 0 => ⟨(i 0).val, (i 0).isLt⟩
  | 1 => ⟨(i 1).val % 2048, Nat.mod_lt _ (by decide)⟩
  | ⟨_ + 2, h⟩ => absurd h (Nat.not_lt.2 (Nat.le_add_left _ _))

/-- The staged array: column `j` is the block's computation on the rows around `j`. -/
def softOf (X : Vec F S1007616x10 .f32) : Vec F S10x1007616 .f32 := fun i =>
  k0_pay1 (blockPt ((i 1).val / 2048)) (rowsAt X ((i 1).val / 2048)) (inBlock i)

/-! ## The body -/

abbrev r0 : Rect S2048x10 := Rect.unit (s := S2048x10) ![0, 0] S2048x10.size inb_S2048x10_S2048x10_0_0
abbrev r1 : Rect S10x2048 := Rect.unit (s := S10x2048) ![0, 0] S10x2048.size inb_S10x2048_S10x2048_0_0

theorem ld_r0 (x : Vec F S2048x10 .f32) : View.ld x r0 = x :=
  View.ld_unit_zero (by funext a; revert a; decide) _ x

theorem canon_r1 (w : Vec F S10x2048 .f32) : View.canon [(⟨r1, w⟩ : View.Piece (Elt F) S10x2048 .f32)] = w :=
  View.canon_unit_zero (by funext a; revert a; decide) _ w

theorem cover1 (p0 : Vec F S10x2048 .f32) (y : S10x2048.Idx) :
    ∃ pc ∈ ([⟨r1, p0⟩] : List (View.Piece (Elt F) S10x2048 .f32)), y ∈ pc.1.set :=
  View.cover_of_tiled [⟨r1, p0⟩] S10x2048.size (by rfl) y

/-- The body at one point: the input block read, the output block written with its softmax. -/
theorem softmax_body (d : Dev nD) (E : Set ℕ) (i : grid0.Coords) (arg1 : Memref sig .tc .vmem S2048x10 .f32) (h1 : arg1.IsWhole)
    (arg2 : Memref sig .tc .vmem S10x2048 .f32) (h2 : arg2.IsWhole) (x : Vec F S2048x10 .f32) (Q : PUnit → sProp 𝕄) :
    iprop(owns (SparseCore.T d) arg1 fullShare x ∗ (∃ z, owns (SparseCore.T d) arg2 fullShare z)
        ∗ (iprop(owns (SparseCore.T d) arg1 fullShare x ∗ owns (SparseCore.T d) arg2 fullShare (k0_pay1 i x)) -∗ Q ⟨⟩))
      ⊢ wp frame (wpE (defs₀ (F := F)) 𝒱₀ (SparseCore.T d) none) E (cc0__softmax_body i arg1 h1 arg2 h2) Q := by
  rw [cc0__softmax_body_eq_skeleton]; unfold cc0__softmax_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  refine (View.read_writes_eq_canon _ _ _ (cover1 _)).trans ?_
  rw [canon_r1]
  exact congrArg (k0_pay1 i) (ld_r0 _)

/-! ## The pipeline's proof data, from the contents the region is entered at -/

variable (W : Dev nD → Valuation τ sig (Elt F))

/-- The padded logits as the region finds them. -/
abbrev logitsAt (d : Dev nD) : Vec F S1007616x10 .f32 := W d (Proc.devRef .tc main_v0)

/-- The block fetched at point `t`. -/
def fetchedAt (d : Dev nD) (t : Fin cfg0.N) : Vec F S2048x10 .f32 :=
  ((cfg0.win 0).blk t).view.read (Elt F) (W d (Proc.devRef .tc (Pipeline.arrRef spec0 0)))

abbrev restAt (d : Dev nD) : sProp 𝕄 := Pipeline.scopedRest (Ix := HIx 1) (Name := ℕ) (U := UU) (Lvl := ℕ) (Val := Elt F) spec0 d

def dat0 (d : Dev nD) : Dat τ (Elt F) (HIx 1) ℕ UU ℕ cfg0 d where
  A w := W d (Proc.devRef .tc (Pipeline.arrRef spec0 w))
  after w t := match w with
    | ⟨0, _⟩ => fetchedAt W d t
    | ⟨1, _⟩ => k0_pay1 (grid0.coords t) (fetchedAt W d t)
  Φ _ := restAt d
  q _ := fullShare
  owed _ := (K (F := F)).Otc d 0
  recorded _ := {p | (K (F := F)).lev (SparseCore.T d, p.1) p.2 ≤ 0}

theorem after_in (d : Dev nD) (t : Fin cfg0.N) : (dat0 W d).after 0 t = fetchedAt W d t := by dsimp only [dat0]
theorem after_out (d : Dev nD) (t : Fin cfg0.N) : (dat0 W d).after 1 t = k0_pay1 (grid0.coords t) (fetchedAt W d t) := by dsimp only [dat0]
theorem before_in (d : Dev nD) (t : Fin cfg0.N) (z) : (dat0 W d).before 0 t z = fetchedAt W d t := by
  rw [Pipeline.Dat.before_fetched (dat0 W d) 0 t (fetch0_0 t) z]; rfl

theorem defs₀_row (t : Fin cfg0.N) : defs₀ (F := F) .tc cfg0.body (cfg0.bodyArgs t (cfg0.slots t)) = bodyAt0 t := rfl

def ptPre (d : Dev nD) (t : Fin cfg0.N) : sProp 𝕄 :=
  iprop((dat0 W d).Φ t.castSucc ∗ (dat0 W d).owesAt none t.castSucc
    ∗ (∃ z, owns (SparseCore.T d) (st0_0 t) fullShare ((dat0 W d).before 0 t z))
    ∗ (∃ z, owns (SparseCore.T d) (st0_1 t) fullShare ((dat0 W d).before 1 t z)))

def ptPost (d : Dev nD) (t : Fin cfg0.N) : sProp 𝕄 :=
  iprop((dat0 W d).Φ t.succ ∗ (dat0 W d).owesAt none t.succ
    ∗ owns (SparseCore.T d) (st0_0 t) fullShare ((dat0 W d).after 0 t)
    ∗ owns (SparseCore.T d) (st0_1 t) fullShare ((dat0 W d).after 1 t))

theorem body_at (d : Dev nD) (t : Fin cfg0.N) :
    ptPre W d t ⊢ wp frame (wpE (defs₀ (F := F)) 𝒱₀ (SparseCore.T d) none) Set.univ (bodyAt0 t) (fun _ => ptPost W d t) := by
  unfold ptPre ptPost bodyAt0
  simp only [before_in]
  rw [show (dat0 W d).Φ t.succ = (dat0 W d).Φ t.castSucc from rfl,
    show (dat0 W d).owesAt none t.succ = (dat0 W d).owesAt none t.castSucc from rfl, after_in, after_out]
  iintro ⟨HΦ, Ho, ⟨%z0, H0⟩, ⟨%z1, H1⟩⟩
  iapply (softmax_body d Set.univ (grid0.coords t) _ _ _ _ (fetchedAt W d t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (d : Dev nD) : BodyObligation (dat0 W d) (defs₀ (F := F)) 𝒱₀ none Set.univ := fun t => by
  rw [bigSep_W0, bigSep_W0, defs₀_row]
  exact triple_restated (body_at W d t) rfl .rfl fun _ => .rfl

/-! ## The staged array after the call -/

theorem idx_out (i : grid0.Coords) : cc0_transform_1 i = ![0, (i 0).val] := by
  funext a
  have h : (i 0).val < 492 := (i 0).isLt
  match a with
  | 0 => rfl
  | 1 => show (BitVec.ofNat 32 (i 0).val).toNat = (i 0).val; rw [BitVec.toNat_ofNat]; omega
theorem idx_in (i : grid0.Coords) : cc0_transform_0 i = ![(i 0).val, 0] := by
  funext a
  have h : (i 0).val < 492 := (i 0).isLt
  match a with
  | 0 => show (BitVec.ofNat 32 (i 0).val).toNat = (i 0).val; rw [BitVec.toNat_ofNat]; omega
  | 1 => rfl

theorem covers_out : (cfg0.win 1).Covers := by
  refine Pipeline.Window.covers_of_indexMap_surj win0_1 rfl (by decide) fun β => ?_
  have h0 : (β 0).val < 1 := (β 0).isLt
  have h1 : (β 1).val < 492 := (β 1).isLt
  refine ⟨blockPt (β 1).val, fun a => ?_⟩
  show cc0_transform_1 _ a = _
  rw [idx_out]
  match a with
  | 0 => show 0 = (β 0).val; omega
  | 1 => show (β 1).val % 492 = (β 1).val; omega

theorem out_eq (d : Dev nD) : (dat0 W d).arrAt 1 cfg0.N = softOf (logitsAt W d) := by
  refine (dat0 W d).arrAt_eq_of_covers 1 _ covers_out fun t hf y => ?_
  blk_simp
  rw [after_out]
  have hc : (grid0.coords t 0).val < 492 := (grid0.coords t 0).isLt
  have hy : (y 1).val < 2048 := (y 1).isLt
  have hy0 : (y 0).val < 10 := (y 0).isLt
  have e0 : ((win0_1.blk t).view.emb y 0 : Nat) = (y 0).val := by
    blk_simp
    rw [show win0_1.index t 0 = 0 from congrFun (idx_out (grid0.coords t)) 0]; omega
  have e1 : ((win0_1.blk t).view.emb y 1 : Nat) = 2048 * (grid0.coords t 0).val + (y 1).val := by
    blk_simp
    rw [show win0_1.index t 1 = (grid0.coords t 0).val from congrFun (idx_out (grid0.coords t)) 1]; omega
  have hd : ((win0_1.blk t).view.emb y 1 : Nat) / 2048 = (grid0.coords t 0).val := by rw [e1]; omega
  have hm : ((win0_1.blk t).view.emb y 1 : Nat) % 2048 = (y 1).val := by rw [e1]; omega
  show _ = k0_pay1 (blockPt (((win0_1.blk t).view.emb y 1 : Nat) / 2048)) (rowsAt (logitsAt W d) (((win0_1.blk t).view.emb y 1 : Nat) / 2048)) (inBlock ((win0_1.blk t).view.emb y))
  rw [hd]
  refine congr (congr (congrArg k0_pay1 ?_) ?_) ?_
  · funext a
    match a with
    | 0 => exact Fin.ext (Nat.mod_eq_of_lt hc).symm
  · funext x
    have hx : (x 0).val < 2048 := (x 0).isLt
    refine congrArg (W d (Proc.devRef .tc main_v0)) (funext fun a => Fin.ext ?_)
    match a with
    | 0 =>
      show ((win0_0.blk t).view.emb x 0 : Nat) = (2048 * (grid0.coords t 0).val + (x 0).val) % 1007616
      blk_simp
      rw [show win0_0.index t 0 = (grid0.coords t 0).val from congrFun (idx_in (grid0.coords t)) 0]; omega
    | 1 =>
      show ((win0_0.blk t).view.emb x 1 : Nat) = (x 1).val
      blk_simp
      rw [show win0_0.index t 1 = 0 from congrFun (idx_in (grid0.coords t)) 1]; omega
  · funext a
    match a with
    | 0 => exact Fin.ext e0.symm
    | 1 => exact Fin.ext hm.symm

theorem in_eq (d : Dev nD) : (dat0 W d).arrAt 0 cfg0.N = logitsAt W d := (dat0 W d).arrAt_in 0 rfl _

/-! ## The region -/

variable (adm : (p : Fin 1) → (pcfgs (F := F) p).Adm)

def pdats : (p : Fin 1) → (c : Dev nD) → Dat τ (Elt F) (HIx 1) ℕ UU ℕ (Pipeline.pin (pcfgs (F := F)) adm p) c
  | 0 => fun c => dat0 W c
  | ⟨_ + 1, h⟩ => absurd h (Nat.not_lt.2 (Nat.le_add_left _ _))

/-- The contents after the call: the staged array computed, the rest as it was. -/
def afterCall (d : Dev nD) : Valuation τ sig (Elt F) :=
  Function.update (W d) (Proc.devRef .tc main_v1) (softOf (logitsAt W d))

/-- What the TensorCore may still owe and has recorded, before any SparseCore call. -/
def owing (d : Dev nD) : sProp 𝕄 :=
  iprop(∃ Wd, ⌜(K (F := F)).WBelow (SparseCore.T d) Wd 0⌝ ∗ owes (SparseCore.T d) ((K (F := F)).Otc d 0) Wd)

theorem Otc_none (d : Dev nD) (g : GSem nD τ sig) : (K (F := F)).Otc d 0 g none = 0 := by
  by_contra h
  have h' := (K (F := F)).lev_of_Otc_pos (Nat.pos_of_ne_zero h)
  simp only [SparseCore.Cfg.lev_none] at h'
  omega

theorem afterCall_arr (d : Dev nD) : ∀ w : Fin 2, (dat0 W d).arrAt w cfg0.N = afterCall W d (Proc.devRef .tc (Pipeline.arrRef spec0 w))
  | 0 => (in_eq W d).trans (Function.update_of_ne (show Proc.devRef (τ := τ) .tc main_v0 ≠ Proc.devRef .tc main_v1 by decide) _ _).symm
  | 1 => (out_eq W d).trans (Function.update_self (Proc.devRef (τ := τ) .tc main_v1) (softOf (logitsAt W d)) (W d)).symm
  | ⟨_ + 2, h⟩ => absurd h (Nat.not_lt.2 (Nat.le_add_left _ _))

set_option backward.isDefEq.respectTransparency.types false in
def region (R : Dev nD → sProp 𝕄) :
    Pipeline.RegionSeg (pcfgs (F := F)) adm (pdats W adm) none (defs₀ (F := F)) 𝒱₀ (K (F := F)).L (K (F := F)).lev 0 where
  win := launch0.win.to₀
  block_pos := block_pos0
  stage_whole := stage_whole0
  K := PEmpty
  osem k := k.elim
  ho := Pipeline.OwnSemFacts.none _
  hbody c := (body_obligation W c).loose
  hwaits c := Pipeline.cellsWaits_intro (Pipeline.pin (pcfgs (F := F)) adm) (pdats W adm) none 0 c fun w s t =>
    (K (F := F)).mayWait_none (thr := SparseCore.T c) (.dma ((cfg0.win w).sem s)) (Otc_none c)
  pre c := iprop(StableHlo.held (SparseCore.T c) (Pipeline.arrRefs spec0) (W c) ∗ R c ∗ owing c)
  post c := iprop(StableHlo.held (SparseCore.T c) (Pipeline.arrRefs spec0) (afterCall W c) ∗ R c ∗ owing c)
  X c := iprop(emp)
  Y c := iprop(emp)
  Z := R
  hentry c := by
    rw [Pipeline.ownSems0_none, Pipeline.prefHeld_of_none _ rfl]
    iintro ⟨⟨Ha, HR, HO⟩, -, -⟩
    imodintro
    isplitl [Ha]
    · iapply (Entails.of_eq (Pipeline.arrays_held (pcfgs (F := F)) adm (pdats W adm) 0 launch0.toP c (fun w => (dat0 W c).share_full (fun _ => rfl) w) ((dat0 W c).arrAt · 0) (W c) (fun w => rfl)).symm)
      iexact Ha
    isplitr; · iempintro
    isplitl [HO]
    · unfold owing
      icases HO with ⟨%Wd, %hWd, HO⟩
      iexists Wd; isplitr
      · ipureintro; exact fun p hp => Or.inl (hWd p hp)
      · iexact HO
    isplitr; · iempintro
    iexact HR
  hin c := by
    show iprop(_ ∗ _ ∗ restAt c) ⊢ restAt c
    iintro ⟨-, -, Hr⟩; iexact Hr
  hout c := by
    rw [Pipeline.ownSems0_none]
    show restAt c ⊢ iprop(_ ∗ _ ∗ restAt c)
    iintro Hr
    isplitr; · iempintro
    isplitr; · iempintro
    iexact Hr
  hexit c := by
    iintro ⟨Ha, HO, -, HR⟩
    imodintro
    isplitl [Ha]
    · iapply (Entails.of_eq (Pipeline.arrays_held (pcfgs (F := F)) adm (pdats W adm) 0 launch0.toP c (fun w => (dat0 W c).share_full (fun _ => rfl) w) ((dat0 W c).arrAt · cfg0.N) (afterCall W c) (afterCall_arr W c)))
      iexact Ha
    isplitl [HR]; · iexact HR
    unfold owing
    icases HO with ⟨%Wd, %hWd, HO⟩
    iexists Wd; isplitr
    · ipureintro
      intro p hp
      rcases hWd hp with h | ⟨w, s, rfl⟩
      · exact h
      · exact le_rfl
    · iexact HO

end Cert.Proof.Bins

end
-- ==== Proof.Tile.lean ====
module

public import proofs.«01_k».proof.Proof.SetUp

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

/-- A buffer of the task held whole, as the executor spells it. -/
abbrev bcPts (f : Vec F S8192 .f32) : sProp 𝕄 := (bcV).view.loc (VT d L) ↦[(bcV).view.set]{fullShare} f
abbrev blPts (f : Vec F S8192 .i32) : sProp 𝕄 := (blV).view.loc (VT d L) ↦[(blV).view.set]{fullShare} f
abbrev evPts (f : Vec F S16 .f32) : sProp 𝕄 := (evV).view.loc (VT d L) ↦[(evV).view.set]{fullShare} f
abbrev acPts (f : Vec F S1536 .f32) : sProp 𝕄 := (acV).view.loc (VT d L) ↦[(acV).view.set]{fullShare} f

/-- An index check that holds is stepped over. -/
theorem wp_check {α : Type} {Q : α → sProp 𝕄} {P : Prop} {dec : Decidable P} {k : PLift P → Prog (TpuEff nD τ sig (Elt F) Λ₀ (VT d L).2) α} (h : P) :
    wp frame (wpE (defs₀ (F := F)) 𝒱₀ (VT d L) none) Set.univ (Prog.lift (TpuEff.assume P dec) >>= k) Q
      = wp frame (wpE (defs₀ (F := F)) 𝒱₀ (VT d L) none) Set.univ (k ⟨h⟩) Q :=
  wp_assume_of 𝒱₀ (VT d L) none Set.univ h

/-- A gather from the edges buffer, held whole at `E`. -/
theorem wp_probe {α : Type} {Q : α → sProp 𝕄} {idxs : Fin 1 → IVec S16 32} {h : ∀ a x, (idxs a x).toNat < S16.size a} {hl : (evV).view.Loads}
    {k : Vec F S16 .f32 → Prog (TpuEff nD τ sig (Elt F) Λ₀ (VT d L).2) α} (E g : Vec F S16 .f32)
    (hg : loadIdx E idxs h = g) :
    evPts d L E ⊢ iprop((evPts d L E -∗ wp frame (wpE (defs₀ (F := F)) 𝒱₀ (VT d L) none) Set.univ (k g) Q)
      -∗ wp frame (wpE (defs₀ (F := F)) 𝒱₀ (VT d L) none) Set.univ (SparseCore.vectorLoadIdx (evV) idxs h hl >>= k) Q) := by
  have key := SparseCore.wp_vectorLoadIdx (defs := defs₀ (F := F)) 𝒱₀ (VT d L) none Set.univ (base := evV) (idxs := idxs) (h := h) (hl := hl) (k := k) (Q := Q)
    (S := (evV).view.set) (q := fullShare) (f := E) (by rw [View.set_whole]; exact Finset.subset_univ _)
  rwa [show (evV.access (.whole S16)).read (Elt F) E = E from Memref.read_access_whole _ _ _, hg] at key

/-- A scatter-add into the accumulator, held whole at `A`. -/
theorem wp_accum {α : Type} {Q : α → sProp 𝕄} {idxs : Fin 1 → IVec S16 32} {v : Vec F S16 .f32} {mask : IVec S16 1}
    {h : ∀ a x, (idxs a x).toNat < S1536.size a} {hs : ((acV).access (.whole S1536)).Stores Finset.univ}
    {k : PUnit → Prog (TpuEff nD τ sig (Elt F) Λ₀ (VT d L).2) α} (A B : Vec F S1536 .f32)
    (hB : storeIdx A idxs v mask true h = B) :
    acPts d L A ⊢ iprop((acPts d L B -∗ wp frame (wpE (defs₀ (F := F)) 𝒱₀ (VT d L) none) Set.univ (k ⟨⟩) Q)
      -∗ wp frame (wpE (defs₀ (F := F)) 𝒱₀ (VT d L) none) Set.univ (SparseCore.vectorStoreIdx (acV) idxs v mask true h hs >>= k) Q) := by
  have key := SparseCore.wp_vectorStoreIdx (defs := defs₀ (F := F)) 𝒱₀ (VT d L) none Set.univ (base := acV) (idxs := idxs) (v := v) (mask := mask) (add := true) (h := h) (hs := hs) (k := k) (Q := Q) (f := A)
  rw [show (acV.access (.whole S1536)).set = Finset.univ from Memref.set_access_whole _,
    show (acV.access (.whole S1536)).read (Elt F) A = A from Memref.read_access_whole _ _ _, hB,
    show (acV.access (.whole S1536)).write (Elt F) A B Finset.univ = B from Memref.write_access_whole_univ _ _ _ _] at key
  have e : (acV).view.set = Finset.univ := View.set_whole _
  unfold acPts; rw [e]; exact key

theorem read_bc (h1 : k1_cond1 L = 1#1) (t : Fin k1_t3_loop.trips) (bc : Vec F S8192 .f32) :
    View.readAt (Elt F) (bcV).view (Rect.unit (s := S8192) (k1_off5 t) S16.size (k1_off5_inb L t h1)).toLoadRect bc
      = fun x => bc (chunkIdx (t.cast rfl) x) := by
  funext x
  rw [View.readAt_apply, View.read_apply, cast_eq]
  congr 1; funext a
  apply Fin.ext
  rw [Fin.eq_zero a]
  show k1_off5 t 0 + 1 * (x 0).val = 16 * t.val + (x 0).val
  have e := congrFun (k1_off5_eq t) 0
  rw [one_mul]; exact congrArg (· + (x 0).val) e

theorem read_bl (h1 : k1_cond1 L = 1#1) (t : Fin k1_t3_loop.trips) (bl : Vec F S8192 .i32) :
    View.readAt (Elt F) (blV).view (Rect.unit (s := S8192) (k1_off5 t) S16.size (k1_off5_inb L t h1)).toLoadRect bl
      = fun x => bl (chunkIdx (t.cast rfl) x) := by
  funext x
  rw [View.readAt_apply, View.read_apply, cast_eq]
  congr 1; funext a
  apply Fin.ext
  rw [Fin.eq_zero a]
  show k1_off5 t 0 + 1 * (x 0).val = 16 * t.val + (x 0).val
  have e := congrFun (k1_off5_eq t) 0
  rw [one_mul]; exact congrArg (· + (x 0).val) e

/-- The index checks of a trip hold whatever the staged words are. -/
theorem chk2 : k1_chk2 L k1_pay10 := fun _ => one_vec _ pay10_lt
theorem chk3 (E c : Vec F S16 .f32) : k1_chk3 L (k1_pay13 c (probe1 E)) := fun _ => one_vec _ (pay13_lt _ _)
theorem chk4 (E c : Vec F S16 .f32) : k1_chk4 L (k1_pay16 c (probe1 E) (probe2 E c)) := fun _ => one_vec _ (pay16_lt _ _ _)
theorem chk5 (E c : Vec F S16 .f32) : k1_chk5 L (k1_pay19 c (probe1 E) (probe2 E c) (probe3 E c)) := fun _ => one_vec _ (pay19_lt _ _ _ _)
theorem chk6 (E c : Vec F S16 .f32) (cls l : IVec S16 32) : k1_chk6 L (k1_pay3 lanes (k1_pay20 (F := F) cls l) (k1_pay21 c (probe1 E) (probe2 E c) (probe3 E c) (probe4 E c))) := fun _ => one_vec' _ (pos0_lt E cls c l)
theorem chk7 (E c : Vec F S16 .f32) (cls l : IVec S16 32) : k1_chk7 L (k1_pay5 (k1_pay3 lanes (k1_pay20 (F := F) cls l) (k1_pay21 c (probe1 E) (probe2 E c) (probe3 E c) (probe4 E c)))) := fun _ => one_vec' _ (pos1_lt E cls c l)
theorem chk8 (E c : Vec F S16 .f32) (cls l : IVec S16 32) : k1_chk8 L (k1_pay6 (k1_pay3 lanes (k1_pay20 (F := F) cls l) (k1_pay21 c (probe1 E) (probe2 E c) (probe3 E c) (probe4 E c)))) := fun _ => one_vec' _ (pos2_lt E cls c l)

set_option maxHeartbeats 4000000 in
theorem trip_run (h1 : k1_cond1 L = 1#1) (t : Fin k1_t3_loop.trips) (x v21 : BitVec 32)
    (E top : Vec F S16 .f32) (bc : Vec F S8192 .f32) (bl : Vec F S8192 .i32) (A : Vec F S1536 .f32) :
    (iprop(bcPts d L bc ∗ blPts d L bl ∗ evPts d L E ∗ acPts d L A) : sProp 𝕄)
      ⊢ wp frame (wpE (defs₀ (F := F)) 𝒱₀ (VT d L) none) Set.univ
          (k1_t3_body L cfV (Memref.isWhole_whole _) lbV (Memref.isWhole_whole _) edV (Memref.isWhole_whole _) outV (Memref.isWhole_whole _)
            bcV (Memref.isWhole_whole _) blV (Memref.isWhole_whole _) evV (Memref.isWhole_whole _) acV (Memref.isWhole_whole _)
            cc1_scoped0 cc1_scoped1 cc1_scoped2 cc1_scoped3 h1 v21 lanes (k1_pay22 (F := F)) top t x)
          fun _ => iprop(bcPts d L bc ∗ blPts d L bl ∗ evPts d L E
            ∗ acPts d L (scatterTrip E top (k1_pay1 v21) (fun x => bc (chunkIdx (t.cast rfl) x)) (fun x => bl (chunkIdx (t.cast rfl) x)) A)) := by
  iintro ⟨Hbc, Hbl, Hev, Hac⟩
  unfold k1_t3_body
  rw [k1_part1_eq_skeleton]; unfold k1_part1_skel
  sl_exec
  rw [read_bc L h1 t bc, read_bl L h1 t bl]
  generalize (fun x => bc (chunkIdx (t.cast rfl) x)) = c
  generalize (fun x => bl (chunkIdx (t.cast rfl) x)) = l
  simp only [bind_assoc, pure_bind]
  rw [wp_assume_of _ _ _ _ (chk2 L)]
  simp only [bind_assoc, pure_bind]
  iapply (wp_probe d L E (probe1 E) rfl) $$ Hev
  iintro Hev
  rw [wp_check d L (chk3 L E c)]
  iapply (wp_probe d L E (probe2 E c) rfl) $$ Hev
  iintro Hev
  rw [wp_check d L (chk4 L E c)]
  iapply (wp_probe d L E (probe3 E c) rfl) $$ Hev
  iintro Hev
  rw [wp_check d L (chk5 L E c)]
  iapply (wp_probe d L E (probe4 E c) rfl) $$ Hev
  iintro Hev
  rw [wp_check d L (chk6 L E c (k1_pay1 v21) l)]
  iapply (wp_accum d L A (scatter0 E top (k1_pay1 v21) c l A) rfl) $$ Hac
  iintro Hac
  rw [wp_check d L (chk7 L E c (k1_pay1 v21) l)]
  iapply (wp_accum d L _ (scatter1 E top (k1_pay1 v21) c l (scatter0 E top (k1_pay1 v21) c l A)) rfl) $$ Hac
  iintro Hac
  rw [wp_check d L (chk8 L E c (k1_pay1 v21) l)]
  iapply (wp_accum d L _ (scatterTrip E top (k1_pay1 v21) c l A) rfl) $$ Hac
  iintro Hac
  sl_step
  isplitl [Hbc]; · iexact Hbc
  isplitl [Hbl]; · iexact Hbl
  isplitl [Hev]; · iexact Hev
  iexact Hac

end Tile

end Cert.Proof.Bins
-- ==== Proof.Task.lean ====
module

public import proofs.«01_k».proof.Proof.Tile

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Task

variable (d : Dev nD) (L : grid1.Coords)

/-! ## The offsets of the copies -/

omit [FloatOps F] in
theorem off1_eq : ∀ i : grid1.Coords, k1_cond1 i = 1#1 → k1_off1 i = ![wid i / 3, 0] := by decide +kernel
omit [FloatOps F] in
theorem off3_eq : ∀ (i : grid1.Coords) (t : Fin k1_t2_loop.trips), k1_cond1 i = 1#1 → k1_off3 i t = ![wid i / 3, colOf (wid i) t.val] := by decide +kernel
omit [FloatOps F] in
theorem off4_eq : ∀ (i : grid1.Coords) (t : Fin k1_t2_loop.trips), k1_cond1 i = 1#1 → k1_off4 i t = ![colOf (wid i) t.val] := by decide +kernel
omit [FloatOps F] in
theorem wid_lt : ∀ i : grid1.Coords, k1_cond1 i = 1#1 → wid i < 30 := by decide +kernel
omit [FloatOps F] in
theorem wid_ge : ∀ i : grid1.Coords, k1_cond1 i ≠ 1#1 → 30 ≤ wid i := by decide +kernel

theorem colOf_lt (w n : Nat) (hn : n < 41) (x : Nat) (hx : x < 8192) : colOf w n + x < 1007616 := by unfold colOf; omega

/-! ## Zeroing the accumulator -/

/-- The accumulator is zero below position `n`. -/
def ZeroTo (n : Nat) (A : Vec F S1536 .f32) : Prop := ∀ j : S1536.Idx, (j 0).val < n → A j = zeroWord

set_option maxHeartbeats 4000000 in
theorem zero_trip (h1 : k1_cond1 L = 1#1) (t : Fin k1_t1_loop.trips) (x : BitVec 32) (A : Vec F S1536 .f32) (hA : ZeroTo (16 * t.val) A) :
    (acPts d L A : sProp 𝕄) ⊢ wp frame (wpE (defs₀ (F := F)) 𝒱₀ (VT d L) none) Set.univ
        (k1_t1_body L cfV (Memref.isWhole_whole _) lbV (Memref.isWhole_whole _) edV (Memref.isWhole_whole _) outV (Memref.isWhole_whole _)
            bcV (Memref.isWhole_whole _) blV (Memref.isWhole_whole _) evV (Memref.isWhole_whole _) acV (Memref.isWhole_whole _)
            cc1_scoped0 cc1_scoped1 cc1_scoped2 cc1_scoped3 h1 t x)
        fun _ => iprop(∃ B, ⌜ZeroTo (16 * (t.val + 1)) B⌝ ∗ acPts d L B) := by
  iintro Hac
  unfold k1_t1_body
  sl_exec
  sl_step
  iexists _
  isplitr [Hac]
  rotate_left
  · iexact Hac
  ipureintro
  intro j hj
  refine ((View.read_apply (v := acV.view) (acV.view.writes (Elt F) A _) j).trans (cast_eq _ _)).symm.trans ?_
  have ho : k1_off2 t 0 = 16 * t.val := congrFun (k1_off2_eq t) 0
  by_cases hlt : (j 0).val < 16 * t.val
  · rw [View.read_writes_cons_miss_of_axis _ _ _ _ j 0 (16 * t.val) 16 ho rfl rfl (.inl hlt)]
    exact hA j hlt
  · rw [View.read_writes_cons_hit_of_coords _ _ _ _ _ (fun a => ⟨(j 0).val - 16 * t.val, by rw [Fin.eq_zero a]; show _ < 16; omega⟩) j ?_]
    · rfl
    · intro a
      rw [Fin.eq_zero a]
      show (j 0).val = k1_off2 t 0 + 1 * ((j 0).val - 16 * t.val)
      omega

/-! ## Staging a chunk -/

/-- The shares of the confidences, labels and edges the task reads through, as the executor spells them. -/
abbrev cfPts (q : PosShare TreeShare) (f : Vec F S10x1007616 .f32) : sProp 𝕄 := (cfV).view.loc (VT d L) ↦[(cfV).view.set]{q} f
abbrev lbPts (q : PosShare TreeShare) (f : Vec F S1007616 .i32) : sProp 𝕄 := (lbV).view.loc (VT d L) ↦[(lbV).view.set]{q} f
abbrev edPts (q : PosShare TreeShare) (f : Vec F S10x16 .f32) : sProp 𝕄 := (edV).view.loc (VT d L) ↦[(edV).view.set]{q} f

/-- A cell of the task at zero. -/
abbrev cell0 (d : Dev nD) (L : grid1.Coords) (s : DmaSem sig) : sProp 𝕄 := semVal (((VT d L), SemLoc.dma s) : GSem nD τ sig) 0

/-- A whole write leaves the buffer at the words written. -/
theorem writes_bc (f g : Vec F S8192 .f32) : bcV.view.writes (Elt F) f [⟨Rect.whole S8192, g⟩] = g := by
  rw [View.writes_singleton]; exact Memref.write_access_whole_univ (Elt F) cc1_scratch0 f g
theorem writes_bl (f g : Vec F S8192 .i32) : blV.view.writes (Elt F) f [⟨Rect.whole S8192, g⟩] = g := by
  rw [View.writes_singleton]; exact Memref.write_access_whole_univ (Elt F) cc1_scratch1 f g
theorem writes_ev (f g : Vec F S16 .f32) : evV.view.writes (Elt F) f [⟨Rect.whole S16, g⟩] = g := by
  rw [View.writes_singleton]; exact Memref.write_access_whole_univ (Elt F) cc1_scratch2 f g

/-- What the copies read: the task's chunk of the class's row, of the labels, and the class's edges. -/
theorem read_cf (h1 : k1_cond1 L = 1#1) (t : Fin k1_t2_loop.trips) (Cf : Vec F S10x1007616 .f32) :
    ((cfV.slice (Rect.unit (s := S10x1007616) (k1_off3 L t) S1x8192.size (k1_off3_inb L t h1)) (fun _ => rfl)).squeeze S8192 squeezes_S1x8192_S8192).view.read (Elt F) Cf
      = cfChunk Cf (wid L) t.val := by
  funext x
  rw [View.read_apply, cast_eq]
  unfold cfChunk
  congr 1; funext a
  have e := off3_eq L t h1
  have hw := wid_lt L h1
  have hc := colOf_lt (wid L) t.val t.isLt (x 0).val (x 0).isLt
  have hr := Shape.reshapeEquiv_cons_one (d := ![8192]) squeezes_S1x8192_S8192.numel_eq x
  apply Fin.ext
  match a with
  | 0 =>
    show k1_off3 L t 0 + 1 * (Shape.reshapeEquiv squeezes_S1x8192_S8192.numel_eq x 0).val = (wid L / 3) % 10
    rw [show Shape.reshapeEquiv squeezes_S1x8192_S8192.numel_eq x = _ from hr, show k1_off3 L t 0 = wid L / 3 from congrFun e 0]
    show wid L / 3 + 1 * 0 = _; omega
  | 1 =>
    show k1_off3 L t 1 + 1 * (Shape.reshapeEquiv squeezes_S1x8192_S8192.numel_eq x 1).val = (colOf (wid L) t.val + (x 0).val) % 1007616
    rw [show Shape.reshapeEquiv squeezes_S1x8192_S8192.numel_eq x = _ from hr, show k1_off3 L t 1 = colOf (wid L) t.val from congrFun e 1]
    show colOf (wid L) t.val + 1 * (x 0).val = _
    rw [Nat.mod_eq_of_lt hc, Nat.one_mul]

theorem read_lb (h1 : k1_cond1 L = 1#1) (t : Fin k1_t2_loop.trips) (Lb : Vec F S1007616 .i32) :
    (lbV.slice (Rect.unit (s := S1007616) (k1_off4 L t) S8192.size (k1_off4_inb L t h1)) (fun _ => rfl)).view.read (Elt F) Lb
      = lbChunk Lb (wid L) t.val := by
  funext x
  rw [View.read_apply, cast_eq]
  unfold lbChunk
  congr 1; funext a
  have e := off4_eq L t h1
  have hc := colOf_lt (wid L) t.val t.isLt (x 0).val (x 0).isLt
  apply Fin.ext
  rw [Fin.eq_zero a]
  show k1_off4 L t 0 + 1 * (x 0).val = (colOf (wid L) t.val + (x 0).val) % 1007616
  rw [show k1_off4 L t 0 = colOf (wid L) t.val from congrFun e 0, Nat.mod_eq_of_lt hc, Nat.one_mul]

theorem read_ed (h1 : k1_cond1 L = 1#1) (Ed : Vec F S10x16 .f32) :
    ((edV.slice (Rect.unit (s := S10x16) (k1_off1 L) S1x16.size (k1_off1_inb L h1)) (fun _ => rfl)).squeeze S16 squeezes_S1x16_S16).view.read (Elt F) Ed
      = edRow Ed (wid L / 3) := by
  funext x
  rw [View.read_apply, cast_eq]
  unfold edRow
  congr 1; funext a
  have e := off1_eq L h1
  have hw := wid_lt L h1
  have hr := Shape.reshapeEquiv_cons_one (d := ![16]) squeezes_S1x16_S16.numel_eq x
  apply Fin.ext
  match a with
  | 0 =>
    show k1_off1 L 0 + 1 * (Shape.reshapeEquiv squeezes_S1x16_S16.numel_eq x 0).val = (wid L / 3) % 10
    rw [show Shape.reshapeEquiv squeezes_S1x16_S16.numel_eq x = _ from hr, show k1_off1 L 0 = wid L / 3 from congrFun e 0]
    show wid L / 3 + 1 * 0 = _; omega
  | 1 =>
    show k1_off1 L 1 + 1 * (Shape.reshapeEquiv squeezes_S1x16_S16.numel_eq x 1).val = (x 0).val
    rw [show Shape.reshapeEquiv squeezes_S1x16_S16.numel_eq x = _ from hr, show k1_off1 L 1 = 0 from congrFun e 1]
    show 0 + 1 * (x 0).val = _; omega

/-- The waits a task adds are all at the launch's own index. -/
def OnlyNone (W W' : Waits sig (HIx 1)) : Prop := ∀ p ∈ W', p ∈ W ∨ p.2 = none

/-- Before trip `n` of a chunk's loop. -/
def tripInv (v21 : BitVec 32) (E top : Vec F S16 .f32) (bc : Vec F S8192 .f32) (bl : Vec F S8192 .i32) (A : Vec F S1536 .f32)
    (n : Nat) (_ : BitVec 32) : sProp 𝕄 :=
  iprop(bcPts d L bc ∗ blPts d L bl ∗ evPts d L E ∗ acPts d L (scatterTrips E top (k1_pay1 v21) bc bl A n))

set_option maxHeartbeats 4000000 in
theorem chunk_trip (h1 : k1_cond1 L = 1#1) (t : Fin k1_t2_loop.trips) (x v21 : BitVec 32) (q : PosShare TreeShare)
    (Cf : Vec F S10x1007616 .f32) (Lb : Vec F S1007616 .i32) (E top : Vec F S16 .f32) (bc : Vec F S8192 .f32) (bl : Vec F S8192 .i32) (A : Vec F S1536 .f32)
    (O : CellTallies nD τ sig (HIx 1)) (W : Waits sig (HIx 1)) :
    (iprop(Transfers.MayWaits (VT d L) (default : HIx 1) O ∗ cfPts d L q Cf ∗ lbPts d L q Lb ∗ bcPts d L bc ∗ blPts d L bl ∗ evPts d L E ∗ acPts d L A
        ∗ cell0 d L cc1_scoped1.sem ∗ cell0 d L cc1_scoped2.sem ∗ owes (VT d L) O W) : sProp 𝕄)
      ⊢ wp frame (wpE (defs₀ (F := F)) 𝒱₀ (VT d L) none) Set.univ
        (k1_t2_body L cfV (Memref.isWhole_whole _) lbV (Memref.isWhole_whole _) edV (Memref.isWhole_whole _) outV (Memref.isWhole_whole _)
            bcV (Memref.isWhole_whole _) blV (Memref.isWhole_whole _) evV (Memref.isWhole_whole _) acV (Memref.isWhole_whole _)
            cc1_scoped0 cc1_scoped1 cc1_scoped2 cc1_scoped3 h1 v21 lanes (k1_pay22 (F := F)) top t x)
        fun _ => iprop(cfPts d L q Cf ∗ lbPts d L q Lb ∗ (∃ bc, bcPts d L bc) ∗ (∃ bl, blPts d L bl) ∗ evPts d L E
          ∗ acPts d L (scatterTrips E top (k1_pay1 v21) (cfChunk Cf (wid L) t.val) (lbChunk Lb (wid L) t.val) A 512)
          ∗ cell0 d L cc1_scoped1.sem ∗ cell0 d L cc1_scoped2.sem ∗ ∃ W', ⌜OnlyNone W W'⌝ ∗ owes (VT d L) O W') := by
  iintro ⟨#Hmw, Hcf, Hlb, Hbc, Hbl, Hev, Hac, Hc1, Hc2, HO⟩
  unfold k1_t2_body
  sl_exec (disch := exact View.amount_pos _ _ (show 0 < S8192.numel by decide))
  rw [writes_bc, writes_bl]
  unfold chunk_trip.sl.dma0 chunk_trip.sl.dma0_1
  sl_for (tripInv d L v21 E top (cfChunk Cf (wid L) t.val) (lbChunk Lb (wid L) t.val) A) $$ [Hbc Hbl Hev Hac]
  case region =>
    intro k _
    unfold tripInv
    have hk : scatterTrips E top (k1_pay1 v21) (cfChunk Cf (wid L) t.val) (lbChunk Lb (wid L) t.val) A (k.val + 1) = _ :=
      dif_pos (show k.val < 512 from k.isLt)
    rw [hk]
    exact trip_run d L h1 k _ v21 E top _ _ _
  · unfold tripInv
    isplitl [Hbc]; · rw [← read_cf L h1 t Cf]; iexact Hbc
    isplitl [Hbl]; · rw [← read_lb L h1 t Lb]; iexact Hbl
    isplitl [Hev]; · iexact Hev
    iexact Hac
  iintro %_ HI
  unfold tripInv
  icases HI with ⟨Hbc, Hbl, Hev, Hac⟩
  sl_exec
  sl_step
  isplitl [Hcf]; · iexact Hcf
  isplitl [Hlb]; · iexact Hlb
  isplitl [Hbc]; · iexists _; iexact Hbc
  isplitl [Hbl]; · iexists _; iexact Hbl
  isplitl [Hev]; · iexact Hev
  isplitl [Hac]; · iexact Hac
  isplitl [Hc1]; · iexact Hc1
  isplitl [Hc2]; · iexact Hc2
  iexists _; isplitr
  rotate_left
  · iexact HO
  ipureintro
  intro p hp
  rcases Finset.mem_insert.mp hp with hp | hp
  · exact .inr (hp ▸ rfl)
  rcases Finset.mem_insert.mp hp with hp | hp
  · exact .inr (hp ▸ rfl)
  exact .inl hp

/-! ## The task -/

/-- Before chunk `n`: the accumulator holds the chunks below `n`. -/
def chunkInv (v21 : BitVec 32) (q : PosShare TreeShare) (Cf : Vec F S10x1007616 .f32) (Lb : Vec F S1007616 .i32) (E top : Vec F S16 .f32)
    (O : CellTallies nD τ sig (HIx 1)) (W : Waits sig (HIx 1)) (n : Nat) (_ : BitVec 32) : sProp 𝕄 :=
  iprop(Transfers.MayWaits (VT d L) (default : HIx 1) O ∗ cfPts d L q Cf ∗ lbPts d L q Lb ∗ (∃ bc, bcPts d L bc) ∗ (∃ bl, blPts d L bl) ∗ evPts d L E
    ∗ acPts d L (scatterChunks E top (k1_pay1 v21) (cfChunk Cf (wid L)) (lbChunk Lb (wid L)) (fun _ => zeroWord) n)
    ∗ cell0 d L cc1_scoped1.sem ∗ cell0 d L cc1_scoped2.sem ∗ ∃ W', ⌜OnlyNone W W'⌝ ∗ owes (VT d L) O W')

/-- Before zeroing vector `n`. -/
def zeroInv (n : Nat) (_ : BitVec 32) : sProp 𝕄 := iprop(∃ A : Vec F S1536 .f32, ⌜ZeroTo (16 * n) A⌝ ∗ acPts d L A)

/-- The row of the results the task writes, as the body names it. -/
abbrev rowV (h1 : k1_cond1 L = 1#1) : Memref sig .scVector .hbm S1536 .f32 :=
  (outV.slice (Rect.unit (s := S30x1536) (k1_off6 L) S1x1536.size (k1_off6_inb L h1)) (fun _ => rfl)).squeeze S1536 squeezes_S1x1536_S1536

abbrev rowPts (h1 : k1_cond1 L = 1#1) (f : Vec F S30x1536 .f32) : sProp 𝕄 := (rowV L h1).view.loc (VT d L) ↦[(rowV L h1).view.set]{fullShare} f

theorem row_emb (h1 : k1_cond1 L = 1#1) (y : S1536.Idx) :
    (((rowV L h1).view.emb y : S30x1536.Idx) 0).val = wid L ∧ (((rowV L h1).view.emb y : S30x1536.Idx) 1).val = (y 0).val := by
  have e := k1_off6_eq L
  have hr := Shape.reshapeEquiv_cons_one (d := ![1536]) squeezes_S1x1536_S1536.numel_eq y
  constructor
  · show k1_off6 L 0 + 1 * (Shape.reshapeEquiv squeezes_S1x1536_S1536.numel_eq y 0).val = wid L
    rw [show Shape.reshapeEquiv squeezes_S1x1536_S1536.numel_eq y = _ from hr, show k1_off6 L 0 = wid L from congrFun e 0]
    show wid L + 1 * 0 = _; omega
  · show k1_off6 L 1 + 1 * (Shape.reshapeEquiv squeezes_S1x1536_S1536.numel_eq y 1).val = (y 0).val
    rw [show Shape.reshapeEquiv squeezes_S1x1536_S1536.numel_eq y = _ from hr, show k1_off6 L 1 = 0 from congrFun e 1]
    show 0 + 1 * (y 0).val = _; omega

/-- The write-out leaves the task's row at its accumulator. -/
theorem row_written (h1 : k1_cond1 L = 1#1) (Cf : Vec F S10x1007616 .f32) (Lb : Vec F S1007616 .i32) (Ed : Vec F S10x16 .f32)
    (fo : Vec F S30x1536 .f32) (w : Vec F S1536 .f32) (hw : w = rowOut Cf Lb Ed (wid L)) :
    rowPts d L h1 ((rowV L h1).view.writes (Elt F) fo [⟨Rect.whole S1536, w⟩]) = rowPts d L h1 (outAll Cf Lb Ed) := by
  refine pointsTo_congr fun i hi => ?_
  obtain ⟨y, -, rfl⟩ := Finset.mem_map.mp hi
  refine ((View.read_apply (v := (rowV L h1).view) ((rowV L h1).view.writes (Elt F) fo _) y).trans (cast_eq _ _)).symm.trans ?_
  rw [View.read_writes_cons_hit_of_coords _ _ _ _ _ y y (fun a => by rw [Fin.eq_zero a]; show (y 0).val = 0 + 1 * (y 0).val; omega)]
  obtain ⟨e0, e1⟩ := row_emb L h1 y
  have hy : (y 0).val < 1536 := (y 0).isLt
  unfold outAll
  rw [e0, e1, hw]
  congr 1; funext a
  rw [Fin.eq_zero a]
  exact Fin.ext (Nat.mod_eq_of_lt hy).symm

set_option maxHeartbeats 4000000 in
theorem task_run (h1 : k1_cond1 L = 1#1) (q : PosShare TreeShare)
    (Cf : Vec F S10x1007616 .f32) (Lb : Vec F S1007616 .i32) (Ed : Vec F S10x16 .f32) (fo : Vec F S30x1536 .f32)
    (bc : Vec F S8192 .f32) (bl : Vec F S8192 .i32) (E0 : Vec F S16 .f32) (A0 : Vec F S1536 .f32)
    (O : CellTallies nD τ sig (HIx 1)) (W : Waits sig (HIx 1)) :
    (iprop(Transfers.MayWaits (VT d L) (default : HIx 1) O ∗ cfPts d L q Cf ∗ lbPts d L q Lb ∗ edPts d L q Ed ∗ rowPts d L h1 fo
        ∗ bcPts d L bc ∗ blPts d L bl ∗ evPts d L E0 ∗ acPts d L A0
        ∗ cell0 d L cc1_scoped0.sem ∗ cell0 d L cc1_scoped1.sem ∗ cell0 d L cc1_scoped2.sem ∗ cell0 d L cc1_scoped3.sem ∗ owes (VT d L) O W) : sProp 𝕄)
      ⊢ wp frame (wpE (defs₀ (F := F)) 𝒱₀ (VT d L) none) Set.univ
        (cc1_sc_bins (F := F) L cfV (Memref.isWhole_whole _) lbV (Memref.isWhole_whole _) edV (Memref.isWhole_whole _) outV (Memref.isWhole_whole _)
            bcV (Memref.isWhole_whole _) blV (Memref.isWhole_whole _) evV (Memref.isWhole_whole _) acV (Memref.isWhole_whole _)
            cc1_scoped0 cc1_scoped1 cc1_scoped2 cc1_scoped3)
        fun _ => iprop(cfPts d L q Cf ∗ lbPts d L q Lb ∗ edPts d L q Ed ∗ rowPts d L h1 (outAll Cf Lb Ed)
          ∗ (∃ bc, bcPts d L bc) ∗ (∃ bl, blPts d L bl) ∗ (∃ E, evPts d L E) ∗ (∃ A, acPts d L A)
          ∗ cell0 d L cc1_scoped0.sem ∗ cell0 d L cc1_scoped1.sem ∗ cell0 d L cc1_scoped2.sem ∗ cell0 d L cc1_scoped3.sem
          ∗ ∃ W', ⌜OnlyNone W W'⌝ ∗ owes (VT d L) O W') := by
  iintro ⟨#Hmw, Hcf, Hlb, Hed, Hro, Hbc, Hbl, Hev, Hac, Hc0, Hc1, Hc2, Hc3, HO⟩
  rw [cc1_sc_bins_eq_skeleton]; unfold cc1_sc_bins_skel
  rw [k1_part2_eq_skeleton]
  have hch : k1_chk1 L (broadcast S16 15#32) := fun _ => one_vec _ top_lt
  sl_exec (disch := first | sl_exact h1 | exact View.amount_pos _ _ (show 0 < S16.numel by decide))
  rw [writes_ev]
  have hE : task_run.sl.dma0 L h1 Ed = edRow Ed (wid L / 3) := read_ed L h1 Ed
  have hcls : task_run.sl.v21 L = BitVec.ofNat 32 (wid L / 3) :=
    (show ∀ L : grid1.Coords, k1_cond1 L = 1#1 → task_run.sl.v21 L = BitVec.ofNat 32 (wid L / 3) by decide +kernel) L h1
  rw [hE, hcls]
  iapply (wp_probe d L (edRow Ed (wid L / 3)) (topEdge (edRow Ed (wid L / 3))) rfl) $$ Hev
  iintro Hev
  sl_for (zeroInv (F := F) d L) $$ [Hac]
  case region =>
    intro k _
    unfold zeroInv
    iintro ⟨%A, %hA, Hac⟩
    iapply (zero_trip d L h1 k _ A hA)
    iexact Hac
  · unfold zeroInv
    iexists A0; isplitr
    · ipureintro; intro j hj; exact absurd hj (by omega)
    · iexact Hac
  iintro %_ HI
  unfold zeroInv
  icases HI with ⟨%A, %hA, Hac⟩
  have hA' : A = fun _ => zeroWord := funext fun j => hA j (j 0).isLt
  subst hA'
  sl_exec
  sl_for (chunkInv (F := F) d L (BitVec.ofNat 32 (wid L / 3)) q Cf Lb (edRow Ed (wid L / 3)) (topEdge (edRow Ed (wid L / 3))) O W) $$ [Hcf Hlb Hbc Hbl Hev Hac Hc1 Hc2 HO]
  case region =>
    intro k _
    unfold chunkInv
    iintro ⟨#Hmw, Hcf, Hlb, ⟨%bc, Hbc⟩, ⟨%bl, Hbl⟩, Hev, Hac, Hc1, Hc2, %W', %hW', HO⟩
    iapply (wp_wand_r Idealize.ShloMosaic.frame (wpE (defs₀ (F := F)) 𝒱₀ (VT d L) none) Set.univ)
    isplitl [Hcf Hlb Hbc Hbl Hev Hac Hc1 Hc2 HO]
    · iapply (chunk_trip d L h1 k _ (BitVec.ofNat 32 (wid L / 3)) q Cf Lb (edRow Ed (wid L / 3)) (topEdge (edRow Ed (wid L / 3))) bc bl _ O W')
      isplitr; · iexact Hmw
      isplitl [Hcf]; · iexact Hcf
      isplitl [Hlb]; · iexact Hlb
      isplitl [Hbc]; · iexact Hbc
      isplitl [Hbl]; · iexact Hbl
      isplitl [Hev]; · iexact Hev
      isplitl [Hac]; · iexact Hac
      isplitl [Hc1]; · iexact Hc1
      isplitl [Hc2]; · iexact Hc2
      iexact HO
    iintro %_ ⟨Hcf, Hlb, Hbc, Hbl, Hev, Hac, Hc1, Hc2, %W'', %hW'', HO⟩
    isplitr; · iexact Hmw
    isplitl [Hcf]; · iexact Hcf
    isplitl [Hlb]; · iexact Hlb
    isplitl [Hbc]; · iexact Hbc
    isplitl [Hbl]; · iexact Hbl
    isplitl [Hev]; · iexact Hev
    isplitl [Hac]; · iexact Hac
    isplitl [Hc1]; · iexact Hc1
    isplitl [Hc2]; · iexact Hc2
    iexists W''; isplitr
    · ipureintro; intro p hp
      exact (hW'' p hp).elim (fun h => hW' p h) .inr
    · iexact HO
  · unfold chunkInv
    isplitr; · iexact Hmw
    isplitl [Hcf]; · iexact Hcf
    isplitl [Hlb]; · iexact Hlb
    isplitl [Hbc]; · iexists _; iexact Hbc
    isplitl [Hbl]; · iexists _; iexact Hbl
    isplitl [Hev]; · iexact Hev
    isplitl [Hac]; · iexact Hac
    isplitl [Hc1]; · iexact Hc1
    isplitl [Hc2]; · iexact Hc2
    iexists _; isplitr
    rotate_left
    · iexact HO
    ipureintro; intro p hp
    rcases Finset.mem_insert.mp hp with hp | hp
    · exact .inr (hp ▸ rfl)
    exact .inl hp
  iintro %_ HI
  unfold chunkInv
  icases HI with ⟨-, Hcf, Hlb, Hbc, Hbl, Hev, Hac, Hc1, Hc2, %W', %hW', HO⟩
  sl_exec (disch := exact View.amount_pos _ _ (show 0 < S1536.numel by decide))
  have hout : task_run.sl.dma0_1 L Cf Lb Ed = rowOut Cf Lb Ed (wid L) :=
    funext fun x => (View.read_apply (v := acV.view) _ x).trans (cast_eq _ _)
  ihave Hro' := (Entails.of_eq (row_written d L h1 Cf Lb Ed fo _ hout)) $$ Hro
  sl_step
  isplitl [Hcf]; · iexact Hcf
  isplitl [Hlb]; · iexact Hlb
  isplitl [Hed]; · iexact Hed
  isplitl [Hro']; · iexact Hro'
  isplitl [Hbc]; · iexact Hbc
  isplitl [Hbl]; · iexact Hbl
  isplitl [Hev]; · iexists _; iexact Hev
  isplitl [Hac]; · iexists _; iexact Hac
  isplitl [Hc0]; · iexact Hc0
  isplitl [Hc1]; · iexact Hc1
  isplitl [Hc2]; · iexact Hc2
  isplitl [Hc3]; · iexact Hc3
  iexists _; isplitr
  rotate_left
  · iexact HO
  ipureintro; intro p hp
  rcases Finset.mem_insert.mp hp with hp | hp
  · exact .inr (hp ▸ rfl)
  exact hW' p hp

end Task

end Cert.Proof.Bins

end
-- ==== Proof.Obl.lean ====
module

public import proofs.«01_k».proof.Proof.Task

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the handshakes carry -/

variable (m : (ℓ : Loc nD τ sig) → Buf (Elt F) ℓ)

/-- The staged rows and padded labels at the call, per device. -/
structure Staged (F : FTy → Type) where
  cf : Dev nD → Vec F S10x1007616 .f32
  lb : Dev nD → Vec F S1007616 .i32

variable (st : Staged F)

/-- The edges, as the launch found them. -/
abbrev edOf (d : Dev nD) : Vec F S10x16 .f32 := m (edLoc d)

/-- The results' row of task `w` (no row, past the tasks). -/
def rowSet (w : Nat) : Finset S30x1536.Idx := Finset.univ.filter fun i => (i 0).val = w

/-- The read share of task `w`. -/
abbrev taskShare (w : Nat) : PosShare TreeShare := Transfers.shareTokN fullShare w

/-- What task `w` takes and brings back: its read shares, and its row of the results at `f`. -/
def taskPts (d : Dev nD) (w : Nat) (f : Vec F S30x1536 .f32) : sProp 𝕄 :=
  iprop((cfLoc d ↦{taskShare w} st.cf d) ∗ (lbLoc d ↦{taskShare w} st.lb d) ∗ (edLoc d ↦{taskShare w} edOf m d) ∗ outLoc d ↦[rowSet w]{fullShare} f)

/-- The results once every task is done. -/
abbrev outOf (d : Dev nD) : Vec F S30x1536 .f32 := outAll (st.cf d) (st.lb d) (edOf m d)

def P : (K (F := F)).Pay (nD := nD) (Val := Elt F) (Name := ℕ) (U := UU) where
  st := fun q d c => match q with | 0 => bigSep Finset.univ fun i : Fin ((K (F := F)).nSub 0) => taskPts m st d (2 * i.val + c.val) (m (outLoc d))
  dn := fun q d c => match q with | 0 => bigSep Finset.univ fun i : Fin ((K (F := F)).nSub 0) => taskPts m st d (2 * i.val + c.val) (outOf m st d)
  go := fun q d c i => match q with | 0 => taskPts m st d (2 * i.val + c.val) (m (outLoc d))
  td := fun q d c i => match q with | 0 => taskPts m st d (2 * i.val + c.val) (outOf m st d)
  x := fun _ _ => iprop(emp)

instance taskPts_storable (d : Dev nD) (w : Nat) (f : Vec F S30x1536 .f32) : BI.Storable (upEmb : UEmb _ 𝕄) (taskPts m st d w f) := by
  unfold taskPts; infer_instance

instance P_storable : (P (F := F) m st).IsStorable where
  st q d c := match q with
    | 0 => (inferInstance : BI.Storable (upEmb : UEmb _ 𝕄) (bigSep Finset.univ fun i : Fin ((K (F := F)).nSub 0) => taskPts m st d (2 * i.val + c.val) (m (outLoc d))))
  dn q d c := match q with
    | 0 => (inferInstance : BI.Storable (upEmb : UEmb _ 𝕄) (bigSep Finset.univ fun i : Fin ((K (F := F)).nSub 0) => taskPts m st d (2 * i.val + c.val) (outOf m st d)))
  go q d c i := match q with | 0 => (inferInstance : BI.Storable (upEmb : UEmb _ 𝕄) (taskPts m st d (2 * i.val + c.val) (m (outLoc d))))
  td q d c i := match q with | 0 => (inferInstance : BI.Storable (upEmb : UEmb _ 𝕄) (taskPts m st d (2 * i.val + c.val) (outOf m st d)))

theorem vecSplit : (K (F := F)).VecSplit' (P m st) 0 := by
  intro d c
  show (bigSep Finset.univ fun i : Fin ((K (F := F)).nSub 0) => taskPts m st d (2 * i.val + c.val) (m (outLoc d)))
    ⊢ |={Set.univ}=> iprop((bigSep Finset.univ fun i : Fin ((K (F := F)).nSub 0) => taskPts m st d (2 * i.val + c.val) (m (outLoc d)))
      ∗ ((bigSep Finset.univ fun i : Fin ((K (F := F)).nSub 0) => taskPts m st d (2 * i.val + c.val) (outOf m st d))
        -∗ bigSep Finset.univ fun i : Fin ((K (F := F)).nSub 0) => taskPts m st d (2 * i.val + c.val) (outOf m st d)))
  iintro H; imodintro
  isplitl [H]; · iexact H
  iintro H; iexact H

section Obl

variable (d : Dev nD) (L : grid1.Coords)

/-! ## The task's buffers and cells, out of what the launch deals it -/

abbrev csem (k : Nat) (hk : k < 4 := by decide) : DmaSem sig := ⟨4 + k, by show _ < 8; omega⟩
abbrev dcell (d : Dev nD) (c : Fin τ.nSC) (i : Fin τ.nSub) (k : Fin 4) : GSem nD τ sig := (V d c i, .dma (csem k.val k.isLt))

abbrev cells0 (d : Dev nD) (L : grid1.Coords) : sProp 𝕄 :=
  iprop(cell0 d L cc1_scoped0.sem ∗ cell0 d L cc1_scoped1.sem ∗ cell0 d L cc1_scoped2.sem ∗ cell0 d L cc1_scoped3.sem)

theorem dcell_mem (c : Fin τ.nSC) (i : Fin τ.nSub) (k : Fin 4) : dcell d c i k ∈ ownCells (V d c i) :=
  mem_ownCells.mpr ⟨rfl, (show ∀ s : DmaSem sig, (SemLoc.dma s : SemLoc sig).isScoped .scVector = true by decide) _⟩

theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 4)) = {0, 1, 2, 3} by decide,
    SparseCore.bigSep_insert' (by decide), SparseCore.bigSep_insert' (by decide), SparseCore.bigSep_insert' (by decide), bigSep_singleton]
  rfl

abbrev bref (L : grid1.Coords) (r : Ref sig .scVector) : DevRef τ sig := (Proc.scVector (cV L) (jV L)).devRef r

theorem bref_ne {r r' : Ref sig .scVector} (h : r ≠ r') : bref L r ≠ bref L r' := fun e => h (Proc.devRef_injective _ e)

theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f)
          ∗ bigSep (((((ownRefs (τ := τ) (.scVector (cV L) (jV L))).erase (bref L cc1_scratch0)).erase (bref L cc1_scratch1)).erase (bref L cc1_scratch2)).erase (bref L cc1_scratch3))
              fun b => iprop(∃ f, ((d, b) : Loc nD τ sig) ↦{fullShare} f)) := by
  have hm : ∀ r : Ref sig .scVector, r ∈ ([cc1_scratch0, cc1_scratch1, cc1_scratch2, cc1_scratch3] : List (Ref sig .scVector)) →
      bref L r ∈ ownRefs (τ := τ) (.scVector (cV L) (jV L)) := by
    intro r hr
    simp only [List.mem_cons, List.not_mem_nil, or_false] at hr
    rcases hr with rfl | rfl | rfl | rfl <;> exact SparseCore.Cfg.mem_ownRefs_of_owner (p := Proc.scVector (cV L) (jV L)) rfl
  unfold SparseCore.Cfg.ownBufs
  refine (SparseCore.bigSep_erase' (hm cc1_scratch0 (by decide))).trans ?_
  rw [SparseCore.bigSep_erase' (Finset.mem_erase.mpr ⟨bref_ne L (show (cc1_scratch1 : Ref sig .scVector) ≠ cc1_scratch0 by decide), hm cc1_scratch1 (by decide)⟩),
    SparseCore.bigSep_erase' (Finset.mem_erase.mpr ⟨bref_ne L (show (cc1_scratch2 : Ref sig .scVector) ≠ cc1_scratch1 by decide),
      Finset.mem_erase.mpr ⟨bref_ne L (show (cc1_scratch2 : Ref sig .scVector) ≠ cc1_scratch0 by decide), hm cc1_scratch2 (by decide)⟩⟩),
    SparseCore.bigSep_erase' (Finset.mem_erase.mpr ⟨bref_ne L (show (cc1_scratch3 : Ref sig .scVector) ≠ cc1_scratch2 by decide),
      Finset.mem_erase.mpr ⟨bref_ne L (show (cc1_scratch3 : Ref sig .scVector) ≠ cc1_scratch1 by decide),
        Finset.mem_erase.mpr ⟨bref_ne L (show (cc1_scratch3 : Ref sig .scVector) ≠ cc1_scratch0 by decide), hm cc1_scratch3 (by decide)⟩⟩⟩)]

/-! ## The pieces in the body's spelling -/

theorem pts_bc (f : Vec F S8192 .f32) : (bcPts d L f : sProp 𝕄) = (VT d L).loc cc1_scratch0 ↦{fullShare} f := by
  unfold bcPts; rw [show (bcV).view.set = Finset.univ from View.set_whole _]
theorem pts_bl (f : Vec F S8192 .i32) : (blPts d L f : sProp 𝕄) = (VT d L).loc cc1_scratch1 ↦{fullShare} f := by
  unfold blPts; rw [show (blV).view.set = Finset.univ from View.set_whole _]
theorem pts_ev (f : Vec F S16 .f32) : (evPts d L f : sProp 𝕄) = (VT d L).loc cc1_scratch2 ↦{fullShare} f := by
  unfold evPts; rw [show (evV).view.set = Finset.univ from View.set_whole _]
theorem pts_ac (f : Vec F S1536 .f32) : (acPts d L f : sProp 𝕄) = (VT d L).loc cc1_scratch3 ↦{fullShare} f := by
  unfold acPts; rw [show (acV).view.set = Finset.univ from View.set_whole _]
theorem pts_cf (q : PosShare TreeShare) (f : Vec F S10x1007616 .f32) : (cfPts d L q f : sProp 𝕄) = cfLoc d ↦{q} f := by
  unfold cfPts; rw [show (cfV).view.set = Finset.univ from View.set_whole _]
theorem pts_lb (q : PosShare TreeShare) (f : Vec F S1007616 .i32) : (lbPts d L q f : sProp 𝕄) = lbLoc d ↦{q} f := by
  unfold lbPts; rw [show (lbV).view.set = Finset.univ from View.set_whole _]
theorem pts_ed (q : PosShare TreeShare) (f : Vec F S10x16 .f32) : (edPts d L q f : sProp 𝕄) = edLoc d ↦{q} f := by
  unfold edPts; rw [show (edV).view.set = Finset.univ from View.set_whole _]

theorem row_set (h1 : k1_cond1 L = 1#1) : ((rowV L h1).view.set : Finset S30x1536.Idx) = rowSet (wid L) := by
  ext i
  simp only [rowSet, Finset.mem_filter, Finset.mem_univ, true_and]
  constructor
  · intro hi
    obtain ⟨y, -, rfl⟩ := Finset.mem_map.mp hi
    exact (row_emb L h1 y).1
  · intro hi
    have hi1 : (i 1).val < 1536 := (i 1).isLt
    refine Finset.mem_map.mpr ⟨acIdx (i 1).val, Finset.mem_univ _, ?_⟩
    obtain ⟨e0, e1⟩ := row_emb L h1 (acIdx (i 1).val)
    funext a
    apply Fin.ext
    match a with
    | 0 => exact e0.trans hi.symm
    | 1 => exact e1.trans (Nat.mod_eq_of_lt hi1)

theorem pts_row (h1 : k1_cond1 L = 1#1) (f : Vec F S30x1536 .f32) : (rowPts d L h1 f : sProp 𝕄) = outLoc d ↦[rowSet (wid L)]{fullShare} f := by
  unfold rowPts; rw [show ((rowV L h1).view.set : Finset S30x1536.Idx) = _ from row_set L h1]

/-- No row belongs to a subcore without a task. -/
theorem rowSet_none (h1 : ¬ k1_cond1 L = 1#1) : rowSet (wid L) = ∅ := by
  have := wid_ge L h1
  refine Finset.filter_eq_empty_iff.mpr fun i _ => ?_
  have : (i 0).val < 30 := (i 0).isLt
  omega

/-! ## The task's obligation -/

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ taskPts m st d (wid L) (m (outLoc d))
        ∗ scopedBufs (VT d L) ∗ scopedSems0 (VT d L) ∗ owes (VT d L) O W)
      ⊢ wp frame (wpE (defs₀ (F := F)) 𝒱₀ (VT d L) none) Set.univ
          (cc1_sc_bins (F := F) L cfV (Memref.isWhole_whole _) lbV (Memref.isWhole_whole _) edV (Memref.isWhole_whole _) outV (Memref.isWhole_whole _)
            bcV (Memref.isWhole_whole _) blV (Memref.isWhole_whole _) evV (Memref.isWhole_whole _) acV (Memref.isWhole_whole _)
            cc1_scoped0 cc1_scoped1 cc1_scoped2 cc1_scoped3)
          fun _ => iprop(taskPts m st d (wid L) (outOf m st d)
            ∗ scopedBufs (VT d L) ∗ scopedSems0 (VT d L)
            ∗ ∃ W', ⌜∀ p ∈ W', p ∈ W ∨ p.2 = none ∨ p.2 = some (0 : Fin 1)⌝ ∗ owes (VT d L) O W') := by
  rcases Classical.em (k1_cond1 L = 1#1) with h1 | h1
  · rw [(K (F := F)).scopedBufs_V hF d (cV L) (jV L), SparseCore.Cfg.scopedSems0_V (Val := Elt F) d (cV L) (jV L), ownSems0_V, ownBufs_V]
    unfold taskPts
    iintro ⟨#Hlv, -, ⟨Hcf, Hlb, Hed, Hro⟩, ⟨⟨%bc, Hbc⟩, ⟨%bl, Hbl⟩, ⟨%ev, Hev⟩, ⟨%ac, Hac⟩, Hbufs⟩, ⟨⟨Hc0, Hc1, Hc2, Hc3⟩, Hsems⟩, HO⟩
    ihave Hmw := (show levAts (K (F := F)).L (K (F := F)).lev ⊢ Transfers.MayWaits (VT d L) (default : HIx 1) O from
      (K (F := F)).mayWaits_none (thr := VT d L) hO) $$ Hlv
    iapply (wp_wand_r Idealize.ShloMosaic.frame (wpE (defs₀ (F := F)) 𝒱₀ (VT d L) none) Set.univ)
    isplitl [Hcf Hlb Hed Hro Hbc Hbl Hev Hac Hc0 Hc1 Hc2 Hc3 HO]
    · iapply (task_run d L h1 (taskShare (wid L)) (st.cf d) (st.lb d) (edOf m d) (m (outLoc d)) bc bl ev ac O W)
      isplitr; · iexact Hmw
      isplitl [Hcf]; · iapply (Entails.of_eq (pts_cf (F := F) d L _ _).symm); iexact Hcf
      isplitl [Hlb]; · iapply (Entails.of_eq (pts_lb (F := F) d L _ _).symm); iexact Hlb
      isplitl [Hed]; · iapply (Entails.of_eq (pts_ed (F := F) d L _ _).symm); iexact Hed
      isplitl [Hro]; · iapply (Entails.of_eq (pts_row (F := F) d L h1 _).symm); iexact Hro
      isplitl [Hbc]; · iapply (Entails.of_eq (pts_bc (F := F) d L _).symm); iexact Hbc
      isplitl [Hbl]; · iapply (Entails.of_eq (pts_bl (F := F) d L _).symm); iexact Hbl
      isplitl [Hev]; · iapply (Entails.of_eq (pts_ev (F := F) d L _).symm); iexact Hev
      isplitl [Hac]; · iapply (Entails.of_eq (pts_ac (F := F) d L _).symm); iexact Hac
      isplitl [Hc0]; · iexact Hc0
      isplitl [Hc1]; · iexact Hc1
      isplitl [Hc2]; · iexact Hc2
      isplitl [Hc3]; · iexact Hc3
      iexact HO
    iintro %_ ⟨Hcf, Hlb, Hed, Hro, ⟨%bc, Hbc⟩, ⟨%bl, Hbl⟩, ⟨%ev, Hev⟩, ⟨%ac, Hac⟩, Hc0, Hc1, Hc2, Hc3, %W', %hW', HO⟩
    isplitl [Hcf Hlb Hed Hro]
    · isplitl [Hcf]; · iapply (Entails.of_eq (pts_cf (F := F) d L _ _)); iexact Hcf
      isplitl [Hlb]; · iapply (Entails.of_eq (pts_lb (F := F) d L _ _)); iexact Hlb
      isplitl [Hed]; · iapply (Entails.of_eq (pts_ed (F := F) d L _ _)); iexact Hed
      iapply (Entails.of_eq (pts_row (F := F) d L h1 _)); iexact Hro
    isplitl [Hbc Hbl Hev Hac Hbufs]
    · isplitl [Hbc]; · iexists _; iapply (Entails.of_eq (pts_bc (F := F) d L _)); iexact Hbc
      isplitl [Hbl]; · iexists _; iapply (Entails.of_eq (pts_bl (F := F) d L _)); iexact Hbl
      isplitl [Hev]; · iexists _; iapply (Entails.of_eq (pts_ev (F := F) d L _)); iexact Hev
      isplitl [Hac]; · iexists _; iapply (Entails.of_eq (pts_ac (F := F) d L _)); iexact Hac
      iexact Hbufs
    isplitl [Hc0 Hc1 Hc2 Hc3 Hsems]
    · isplitl [Hc0 Hc1 Hc2 Hc3]
      · isplitl [Hc0]; · iexact Hc0
        isplitl [Hc1]; · iexact Hc1
        isplitl [Hc2]; · iexact Hc2
        iexact Hc3
      iexact Hsems
    iexists W'; isplitr
    · ipureintro; exact fun p hp => (hW' p hp).imp_right .inl
    · iexact HO
  · rw [show taskPts m st d (wid L) (outOf m st d) = taskPts m st d (wid L) (m (outLoc d)) by
      unfold taskPts; rw [rowSet_none L h1, pointsTo_empty, pointsTo_empty]]
    rw [cc1_sc_bins_eq_skeleton]; unfold cc1_sc_bins_skel
    iintro ⟨-, -, Ht, Hb, Hs, HO⟩
    sl_exec (disch := first | sl_exact h1)
    sl_step
    isplitl [Ht]; · iexact Ht
    isplitl [Hb]; · iexact Hb
    isplitl [Hs]; · iexact Hs
    iexists W; isplitr
    · ipureintro; exact fun p hp => .inl hp
    · iexact HO

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sc_bins (F := F) (coordsV c s) cfV (Memref.isWhole_whole _) lbV (Memref.isWhole_whole _)
            edV (Memref.isWhole_whole _) outV (Memref.isWhole_whole _)
            bcV (Memref.isWhole_whole _) blV (Memref.isWhole_whole _) evV (Memref.isWhole_whole _) acV (Memref.isWhole_whole _)
            cc1_scoped0 cc1_scoped1 cc1_scoped2 cc1_scoped3) ⟨⟩ c s := rfl

theorem tileObl (hF : (K (F := F)).Facts) : (K (F := F)).TileObl (D (F := F)) 𝒱 (P m st) v₀ 0 := by
  intro d c i O W hO _ _
  simp only [show (P m st).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m st d (coordsV ⟨_, hci.1⟩ ⟨_, hci.2⟩) hF O W hO

end Obl

end Cert.Proof.Bins

end
-- ==== Proof.Host.lean ====
/-
  @main's host operations: the paddings around the two calls and the bins' algebra after them, as lists; @main is the
  lists in order with the two calls between them.
-/
module

public import proofs.«01_k».proof.Proof.Region
public import proofs.«01_k».proof.Proof.Obl

@[expose] public section

noncomputable section

namespace Cert.Proof.Bins

open Cert.KernelIdeal Cert.KernelIdeal.Gen

open Idealize.ShloMosaic
open Idealize.ShloMosaic.SparseCore (S V T)
open Idealize.SL Idealize.SL.Sem
open Idealize.ShloMosaic.StableHlo (seq seqK after)

variable {F : FTy → Type} [FloatOps F]

/-- The scores' padding. -/
def padScores : List (HloOp τ sig (Elt F)) :=
  [ StableHlo.nullary main_c (constantI S_ 32 0#32),
    StableHlo.TRef.unary (.of main_c : StableHlo.TRef sig ⟨S_, .i32⟩) main_call0.v0 (sitofp .f32),
    StableHlo.TRef.binary (.of main_arg0 : StableHlo.TRef sig ⟨S1000000x10, .f32⟩) main_call0.v0 main_call0.v1 (fun x v => pad S1007616x10 ![0, 0] ![7616, 0] ![0, 0] x v pads_S1000000x10_S1007616x10_076160_000 h_S_) ]

/-- The labels' padding. -/
def padLabels : List (HloOp τ sig (Elt F)) :=
  [ StableHlo.nullary main_c_0 (constantI S_ 32 0#32),
    StableHlo.TRef.unary (.of main_c_0 : StableHlo.TRef sig ⟨S_, .i32⟩) main_call1.v0 id,
    StableHlo.TRef.binary (.of main_arg1 : StableHlo.TRef sig ⟨S1000000, .i32⟩) main_call1.v0 main_call1.v1 (fun x v => pad S1007616 ![0] ![7616] ![0] x v pads_S1000000_S1007616_076160 h_S_) ]

/-- The bins' algebra, from the tasks' rows to the error. -/
def algebra : List (HloOp τ sig (Elt F)) :=
  [ StableHlo.reshape main_v3 main_v4 (rfl : (.f32 : EltTy) = .f32) shapeCasts_S30x1536_S10x3x16x2x3x16,
    StableHlo.nullary main_cst (constant S_ .f32 0x00000000#32),
    StableHlo.binary main_v4 main_cst main_v5 ((fun x v => Host.reduceAdd x v reducesTo_S10x3x16x2x3x16_S10x16x2x3_d1_5 h_S_) : (⟨S10x3x16x2x3x16, .f32⟩ : BufTy).Contents (Elt F) → (⟨S_, .f32⟩ : BufTy).Contents (Elt F) → (⟨S10x16x2x3, .f32⟩ : BufTy).Contents (Elt F)),
    StableHlo.unary main_v5 main_v6 ((extractStridedSlice S10x15x2x3 ![0, 1, 0, 0] · slices_S10x16x2x3_S10x15x2x3_0_1_0_0) : (⟨S10x16x2x3, .f32⟩ : BufTy).Contents (Elt F) → (⟨S10x15x2x3, .f32⟩ : BufTy).Contents (Elt F)),
    StableHlo.unary main_v6 main_v7 ((extractStridedSlice S10x15x1x1 ![0, 0, 0, 0] · slices_S10x15x2x3_S10x15x1x1_0_0_0_0) : (⟨S10x15x2x3, .f32⟩ : BufTy).Contents (Elt F) → (⟨S10x15x1x1, .f32⟩ : BufTy).Contents (Elt F)),
    StableHlo.reshape main_v7 main_v8 (rfl : (.f32 : EltTy) = .f32) shapeCasts_S10x15x1x1_S10x15,
    StableHlo.unary main_v6 main_v9 ((extractStridedSlice S10x15x1x1 ![0, 0, 1, 0] · slices_S10x15x2x3_S10x15x1x1_0_0_1_0) : (⟨S10x15x2x3, .f32⟩ : BufTy).Contents (Elt F) → (⟨S10x15x1x1, .f32⟩ : BufTy).Contents (Elt F)),
    StableHlo.reshape main_v9 main_v10 (rfl : (.f32 : EltTy) = .f32) shapeCasts_S10x15x1x1_S10x15,
    StableHlo.unary main_v6 main_v11 ((extractStridedSlice S10x15x1x1 ![0, 0, 0, 1] · slices_S10x15x2x3_S10x15x1x1_0_0_0_1) : (⟨S10x15x2x3, .f32⟩ : BufTy).Contents (Elt F) → (⟨S10x15x1x1, .f32⟩ : BufTy).Contents (Elt F)),
    StableHlo.reshape main_v11 main_v12 (rfl : (.f32 : EltTy) = .f32) shapeCasts_S10x15x1x1_S10x15,
    StableHlo.unary main_v6 main_v13 ((extractStridedSlice S10x15x1x1 ![0, 0, 1, 1] · slices_S10x15x2x3_S10x15x1x1_0_0_1_1) : (⟨S10x15x2x3, .f32⟩ : BufTy).Contents (Elt F) → (⟨S10x15x1x1, .f32⟩ : BufTy).Contents (Elt F)),
    StableHlo.reshape main_v13 main_v14 (rfl : (.f32 : EltTy) = .f32) shapeCasts_S10x15x1x1_S10x15,
    StableHlo.unary main_v6 main_v15 ((extractStridedSlice S10x15x1x1 ![0, 0, 0, 2] · slices_S10x15x2x3_S10x15x1x1_0_0_0_2) : (⟨S10x15x2x3, .f32⟩ : BufTy).Contents (Elt F) → (⟨S10x15x1x1, .f32⟩ : BufTy).Contents (Elt F)),
    StableHlo.reshape main_v15 main_v16 (rfl : (.f32 : EltTy) = .f32) shapeCasts_S10x15x1x1_S10x15,
    StableHlo.unary main_v6 main_v17 ((extractStridedSlice S10x15x1x1 ![0, 0, 1, 2] · slices_S10x15x2x3_S10x15x1x1_0_0_1_2) : (⟨S10x15x2x3, .f32⟩ : BufTy).Contents (Elt F) → (⟨S10x15x1x1, .f32⟩ : BufTy).Contents (Elt F)),
    StableHlo.reshape main_v17 main_v18 (rfl : (.f32 : EltTy) = .f32) shapeCasts_S10x15x1x1_S10x15,
    StableHlo.binary main_v16 main_v18 main_v19 (addf : (⟨S10x15, .f32⟩ : BufTy).Contents (Elt F) → (⟨S10x15, .f32⟩ : BufTy).Contents (Elt F) → (⟨S10x15, .f32⟩ : BufTy).Contents (Elt F)),
    StableHlo.binary main_v8 main_v10 main_v20 (addf : (⟨S10x15, .f32⟩ : BufTy).Contents (Elt F) → (⟨S10x15, .f32⟩ : BufTy).Contents (Elt F) → (⟨S10x15, .f32⟩ : BufTy).Contents (Elt F)),
    StableHlo.nullary main_cst_1 (constant S_ .f32 0x3F800000#32),
    StableHlo.unary main_cst_1 main_v21 (broadcastInDim S10x15 ![] bcast_S_S10x15 : (⟨S_, .f32⟩ : BufTy).Contents (Elt F) → (⟨S10x15, .f32⟩ : BufTy).Contents (Elt F)),
    StableHlo.binary main_v20 main_v21 main_v22 (subf : (⟨S10x15, .f32⟩ : BufTy).Contents (Elt F) → (⟨S10x15, .f32⟩ : BufTy).Contents (Elt F) → (⟨S10x15, .f32⟩ : BufTy).Contents (Elt F)),
    StableHlo.nullary main_cst_2 (constant S_ .f32 0x3F800000#32),
    StableHlo.unary main_cst_2 main_v23 (broadcastInDim S10x15 ![] bcast_S_S10x15 : (⟨S_, .f32⟩ : BufTy).Contents (Elt F) → (⟨S10x15, .f32⟩ : BufTy).Contents (Elt F)),
    StableHlo.binary main_v22 main_v23 main_v24 (maximumf : (⟨S10x15, .f32⟩ : BufTy).Contents (Elt F) → (⟨S10x15, .f32⟩ : BufTy).Contents (Elt F) → (⟨S10x15, .f32⟩ : BufTy).Contents (Elt F)),
    StableHlo.binary main_v10 main_v24 main_v25 (Host.divf : (⟨S10x15, .f32⟩ : BufTy).Contents (Elt F) → (⟨S10x15, .f32⟩ : BufTy).Contents (Elt F) → (⟨S10x15, .f32⟩ : BufTy).Contents (Elt F)),
    StableHlo.nullary main_cst_3 (constant S_ .f32 0x3F800000#32),
    StableHlo.unary main_cst_3 main_v26 (broadcastInDim S10x15 ![] bcast_S_S10x15 : (⟨S_, .f32⟩ : BufTy).Contents (Elt F) → (⟨S10x15, .f32⟩ : BufTy).Contents (Elt F)),
    StableHlo.binary main_v10 main_v26 main_v27 (subf : (⟨S10x15, .f32⟩ : BufTy).Contents (Elt F) → (⟨S10x15, .f32⟩ : BufTy).Contents (Elt F) → (⟨S10x15, .f32⟩ : BufTy).Contents (Elt F)),
    StableHlo.binary main_v27 main_v24 main_v28 (Host.divf : (⟨S10x15, .f32⟩ : BufTy).Contents (Elt F) → (⟨S10x15, .f32⟩ : BufTy).Contents (Elt F) → (⟨S10x15, .f32⟩ : BufTy).Contents (Elt F)),
    StableHlo.binary main_v25 main_v12 main_v29 (mulf : (⟨S10x15, .f32⟩ : BufTy).Contents (Elt F) → (⟨S10x15, .f32⟩ : BufTy).Contents (Elt F) → (⟨S10x15, .f32⟩ : BufTy).Contents (Elt F)),
    StableHlo.binary main_v28 main_v14 main_v30 (mulf : (⟨S10x15, .f32⟩ : BufTy).Contents (Elt F) → (⟨S10x15, .f32⟩ : BufTy).Contents (Elt F) → (⟨S10x15, .f32⟩ : BufTy).Contents (Elt F)),
    StableHlo.binary main_v29 main_v30 main_v31 (addf : (⟨S10x15, .f32⟩ : BufTy).Contents (Elt F) → (⟨S10x15, .f32⟩ : BufTy).Contents (Elt F) → (⟨S10x15, .f32⟩ : BufTy).Contents (Elt F)),
    StableHlo.nullary main_cst_4 (constant S_ .f32 0x40000000#32),
    StableHlo.unary main_cst_4 main_v32 (broadcastInDim S10x15 ![] bcast_S_S10x15 : (⟨S_, .f32⟩ : BufTy).Contents (Elt F) → (⟨S10x15, .f32⟩ : BufTy).Contents (Elt F)),
    StableHlo.binary main_v32 main_v31 main_v33 (mulf : (⟨S10x15, .f32⟩ : BufTy).Contents (Elt F) → (⟨S10x15, .f32⟩ : BufTy).Contents (Elt F) → (⟨S10x15, .f32⟩ : BufTy).Contents (Elt F)),
    StableHlo.binary main_v19 main_v33 main_v34 (subf : (⟨S10x15, .f32⟩ : BufTy).Contents (Elt F) → (⟨S10x15, .f32⟩ : BufTy).Contents (Elt F) → (⟨S10x15, .f32⟩ : BufTy).Contents (Elt F)),
    StableHlo.binary main_v8 main_v25 main_v35 (mulf : (⟨S10x15, .f32⟩ : BufTy).Contents (Elt F) → (⟨S10x15, .f32⟩ : BufTy).Contents (Elt F) → (⟨S10x15, .f32⟩ : BufTy).Contents (Elt F)),
    StableHlo.binary main_v35 main_v25 main_v36 (mulf : (⟨S10x15, .f32⟩ : BufTy).Contents (Elt F) → (⟨S10x15, .f32⟩ : BufTy).Contents (Elt F) → (⟨S10x15, .f32⟩ : BufTy).Contents (Elt F)),
    StableHlo.binary main_v34 main_v36 main_v37 (addf : (⟨S10x15, .f32⟩ : BufTy).Contents (Elt F) → (⟨S10x15, .f32⟩ : BufTy).Contents (Elt F) → (⟨S10x15, .f32⟩ : BufTy).Contents (Elt F)),
    StableHlo.binary main_v10 main_v28 main_v38 (mulf : (⟨S10x15, .f32⟩ : BufTy).Contents (Elt F) → (⟨S10x15, .f32⟩ : BufTy).Contents (Elt F) → (⟨S10x15, .f32⟩ : BufTy).Contents (Elt F)),
    StableHlo.binary main_v38 main_v28 main_v39 (mulf : (⟨S10x15, .f32⟩ : BufTy).Contents (Elt F) → (⟨S10x15, .f32⟩ : BufTy).Contents (Elt F) → (⟨S10x15, .f32⟩ : BufTy).Contents (Elt F)),
    StableHlo.binary main_v37 main_v39 main_v40 (addf : (⟨S10x15, .f32⟩ : BufTy).Contents (Elt F) → (⟨S10x15, .f32⟩ : BufTy).Contents (Elt F) → (⟨S10x15, .f32⟩ : BufTy).Contents (Elt F)),
    StableHlo.nullary main_cst_5 (constant S_ .f32 0x40000000#32),
    StableHlo.unary main_cst_5 main_v41 (broadcastInDim S10x15 ![] bcast_S_S10x15 : (⟨S_, .f32⟩ : BufTy).Contents (Elt F) → (⟨S10x15, .f32⟩ : BufTy).Contents (Elt F)),
    StableHlo.binary main_v20 main_v41 main_v42 (cmpf .oge : (⟨S10x15, .f32⟩ : BufTy).Contents (Elt F) → (⟨S10x15, .f32⟩ : BufTy).Contents (Elt F) → (⟨S10x15, .i1⟩ : BufTy).Contents (Elt F)),
    StableHlo.nullary main_cst_6 (constant S_ .f32 0x00000000#32),
    StableHlo.TRef.unary (.of main_cst_6 : StableHlo.TRef sig ⟨S_, .f32⟩) main_call2.v0 id,
    StableHlo.TRef.unary main_call2.v0 main_call2.v1 (broadcastInDim S10x15 ![] bcast_S_S10x15),
    StableHlo.TRef.ternary (.of main_v42 : StableHlo.TRef sig ⟨S10x15, .i1⟩) (.of main_v40 : StableHlo.TRef sig ⟨S10x15, .f32⟩) main_call2.v1 main_call2.v2 select,
    StableHlo.nullary main_cst_7 (constant S_ .f32 0x00000000#32),
    StableHlo.binary main_v43 main_cst_7 main_v44 ((fun x v => Host.reduceAdd x v reducesTo_S10x15_S10_d1 h_S_) : (⟨S10x15, .f32⟩ : BufTy).Contents (Elt F) → (⟨S_, .f32⟩ : BufTy).Contents (Elt F) → (⟨S10, .f32⟩ : BufTy).Contents (Elt F)),
    StableHlo.nullary main_cst_8 (constant S_ .f32 0x00000000#32),
    StableHlo.binary main_v44 main_cst_8 main_v45 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)),
    StableHlo.nullary main_cst_9 (constant S_ .f32 0x41200000#32),
    StableHlo.binary main_v45 main_cst_9 main_v46 (Host.divf : (⟨S_, .f32⟩ : BufTy).Contents (Elt F) → (⟨S_, .f32⟩ : BufTy).Contents (Elt F) → (⟨S_, .f32⟩ : BufTy).Contents (Elt F)),
    StableHlo.nullary main_cst_10 (constant S_ .f32 0x49742400#32),
    StableHlo.binary main_v46 main_cst_10 main_v47 (Host.divf : (⟨S_, .f32⟩ : BufTy).Contents (Elt F) → (⟨S_, .f32⟩ : BufTy).Contents (Elt F) → (⟨S_, .f32⟩ : BufTy).Contents (Elt F)) ]

/-- What follows the binning call. -/
def afterBins : Prog (TpuEff nD τ sig (Elt F) (SparseCore.Sig (Pipeline.Sig Λ₀ (Fin 1) fun p => (pcfgs (F := F) p).Adm) 1) .tc) PUnit :=
  seqK algebra (pure ⟨⟩)

/-- What follows the softmax call. -/
def afterSoft (d : Dev nD) : Prog (TpuEff nD τ sig (Elt F) (SparseCore.Sig (Pipeline.Sig Λ₀ (Fin 1) fun p => (pcfgs (F := F) p).Adm) 1) .tc) PUnit :=
  seqK padLabels (sc.run d 0 >>= fun _ => afterBins)

set_option maxRecDepth 8000 in
set_option maxHeartbeats 4000000 in
theorem main_eq (d : Dev nD) :
    main (F := F) d = seqK padScores (Prog.lift (.customCall (SparseCore.inner (Pipeline.entry 0)) ()) >>= fun _ => afterSoft d) := by
  rfl

/-! ## What the lists touch and write -/

theorem padScores_sub : (padScores : List (HloOp τ sig (Elt F))).Forall fun op => op.bufs ⊆ StableHlo.tcRefs τ sig :=
  ⟨StableHlo.nullary_bufs_sub .., StableHlo.unary_bufs_sub .., StableHlo.binary_bufs_sub ..⟩
theorem padLabels_sub : (padLabels : List (HloOp τ sig (Elt F))).Forall fun op => op.bufs ⊆ StableHlo.tcRefs τ sig :=
  ⟨StableHlo.nullary_bufs_sub .., StableHlo.unary_bufs_sub .., StableHlo.binary_bufs_sub ..⟩
set_option maxRecDepth 8192 in
theorem algebra_sub : (algebra : List (HloOp τ sig (Elt F))).Forall fun op => op.bufs ⊆ StableHlo.tcRefs τ sig :=
  ⟨StableHlo.reshape_bufs_sub .., StableHlo.nullary_bufs_sub .., StableHlo.binary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub ..⟩

theorem padScores_fresh : (padScores : List (HloOp τ sig (Elt F))).Forall fun op => op.fresh = ∅ := StableHlo.forall_fresh_of_map rfl
theorem padLabels_fresh : (padLabels : List (HloOp τ sig (Elt F))).Forall fun op => op.fresh = ∅ := StableHlo.forall_fresh_of_map rfl
set_option maxRecDepth 8192 in
theorem algebra_fresh : (algebra : List (HloOp τ sig (Elt F))).Forall fun op => op.fresh = ∅ := StableHlo.forall_fresh_of_map rfl

/-- The references each list writes. -/
abbrev padScoresOut : List (Ref sig .tc) := [main_c, main_call0_v0, main_v0]
abbrev padLabelsOut : List (Ref sig .tc) := [main_c_0, main_call1_v0, main_v2]
abbrev algebraOut : List (Ref sig .tc) :=
  [main_v4, main_cst, main_v5, main_v6, main_v7, main_v8, main_v9, main_v10, main_v11, main_v12, main_v13, main_v14, main_v15, main_v16, main_v17, main_v18, main_v19, main_v20, main_cst_1, main_v21, main_v22, main_cst_2, main_v23, main_v24, main_v25, main_cst_3, main_v26, main_v27, main_v28, main_v29, main_v30, main_v31, main_cst_4, main_v32, main_v33, main_v34, main_v35, main_v36, main_v37, main_v38, main_v39, main_v40, main_cst_5, main_v41, main_v42, main_cst_6, main_call2_v0, main_call2_v1, main_v43, main_cst_7, main_v44, main_cst_8, main_v45, main_cst_9, main_v46, main_cst_10, main_v47]

theorem padScores_writes : (padScores : List (HloOp τ sig (Elt F))).Forall fun op => op.writes ⊆ (padScoresOut.map (Proc.devRef (τ := τ) .tc)).toFinset :=
  StableHlo.forall_writes_sub_of_map rfl
theorem padLabels_writes : (padLabels : List (HloOp τ sig (Elt F))).Forall fun op => op.writes ⊆ (padLabelsOut.map (Proc.devRef (τ := τ) .tc)).toFinset :=
  StableHlo.forall_writes_sub_of_map rfl
set_option maxRecDepth 8192 in
theorem algebra_writes : (algebra : List (HloOp τ sig (Elt F))).Forall fun op => op.writes ⊆ (algebraOut.map (Proc.devRef (τ := τ) .tc)).toFinset :=
  StableHlo.forall_writes_sub_of_map rfl

end Cert.Proof.Bins

end
-- ==== Proof.Deal.lean ====
/-
  The arrays the TensorCore holds at the binning call, dealt to the tasks and collected again: the staged rows, the
  padded labels and the edges by read shares, the results by rows.
-/
module

public import proofs.«01_k».proof.Proof.Obl

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (st : Staged F)

/-- The subcores of the two SparseCores, numbered. -/
theorem workers : (Finset.univ : Finset (Fin 2 × Fin 16)).image (fun p => 2 * p.2.val + p.1.val) = Finset.range 32 := by decide

theorem workers_inj : Set.InjOn (fun p : Fin 2 × Fin 16 => 2 * p.2.val + p.1.val) ((Finset.univ : Finset (Fin 2 × Fin 16)) : Set (Fin 2 × Fin 16)) := by
  intro a _ b _ h
  have h1 := a.1.isLt
  have h2 := b.1.isLt
  exact Prod.ext (Fin.ext (by simp only at h; omega)) (Fin.ext (by simp only at h; omega))

/-- Every subcore's piece, in one range. -/
theorem bigSep_workers (Φ : ℕ → sProp 𝕄) :
    (bigSep Finset.univ fun c : Fin 2 => bigSep Finset.univ fun i : Fin 16 => Φ (2 * i.val + c.val)) = bigSep (Finset.range 32) Φ := by
  rw [← workers, SparseCore.bigSep_image_of_injOn workers_inj]
  exact (BI.bigSep_univ_prod (fun p : Fin 2 × Fin 16 => Φ (2 * p.2.val + p.1.val))).symm

/-- The results are the tasks' rows. -/
theorem rows_cover : (Finset.range 32).biUnion rowSet = Finset.univ := by
  refine Finset.eq_univ_iff_forall.mpr fun i => Finset.mem_biUnion.mpr ⟨(i 0).val, Finset.mem_range.mpr ?_, ?_⟩
  · have : (i 0).val < 30 := (i 0).isLt
    omega
  · exact Finset.mem_filter.mpr ⟨Finset.mem_univ _, rfl⟩

theorem rows_disjoint (w w' : ℕ) (h : w ≠ w') : Disjoint (rowSet w) (rowSet w') :=
  Finset.disjoint_left.mpr fun i hi hi' => h ((Finset.mem_filter.mp hi).2.symm.trans (Finset.mem_filter.mp hi').2)

theorem out_rows (d : Dev nD) (f : Vec F S30x1536 .f32) :
    (bigSep (Finset.range 32) fun w => (outLoc d ↦[rowSet w]{fullShare} f : sProp 𝕄)) = (outLoc d ↦{fullShare} f) := by
  rw [show (outLoc d ↦{fullShare} f : sProp 𝕄) = (outLoc d ↦[(Finset.range 32).biUnion rowSet]{fullShare} f) by rw [rows_cover]]
  exact (pointsTo_biUnion (ℓ := outLoc d) (q := fullShare) (f := f) (Finset.range 32) rowSet fun w _ w' _ h => rows_disjoint w w' h).symm

/-- What stays with the TensorCore during the call. -/
def kept (d : Dev nD) : sProp 𝕄 :=
  iprop((cfLoc d ↦{Transfers.shareDrop fullShare 32} st.cf d) ∗ (lbLoc d ↦{Transfers.shareDrop fullShare 32} st.lb d)
    ∗ edLoc d ↦{Transfers.shareDrop fullShare 32} edOf m d)

/-- The four arrays, whole, with the results at `f`. -/
def whole4 (d : Dev nD) (f : Vec F S30x1536 .f32) : sProp 𝕄 :=
  iprop((cfLoc d ↦{fullShare} st.cf d) ∗ (lbLoc d ↦{fullShare} st.lb d) ∗ (edLoc d ↦{fullShare} edOf m d) ∗ outLoc d ↦{fullShare} f)

theorem tasks_eq (d : Dev nD) (f : Vec F S30x1536 .f32) :
    (bigSep (Finset.range 32) fun w => taskPts m st d w f)
      = (iprop((bigSep (Finset.range 32) fun w => cfLoc d ↦{taskShare w} st.cf d) ∗ (bigSep (Finset.range 32) fun w => lbLoc d ↦{taskShare w} st.lb d)
          ∗ (bigSep (Finset.range 32) fun w => edLoc d ↦{taskShare w} edOf m d) ∗ outLoc d ↦{fullShare} f) : sProp 𝕄) := by
  unfold taskPts
  rw [bigSep_sep', bigSep_sep', bigSep_sep', out_rows]

theorem deal (d : Dev nD) (f : Vec F S30x1536 .f32) :
    whole4 m st d f ⊢ (iprop(kept m st d ∗ bigSep (Finset.range 32) fun w => taskPts m st d w f) : sProp 𝕄) := by
  rw [tasks_eq]
  unfold whole4 kept
  iintro ⟨Hc, Hl, He, Ho⟩
  ihave Hc' := (Transfers.pointsTo_toks_range (ℓ := cfLoc d) (S := Finset.univ) (f := st.cf d) fullShare 32).1 $$ Hc
  ihave Hl' := (Transfers.pointsTo_toks_range (ℓ := lbLoc d) (S := Finset.univ) (f := st.lb d) fullShare 32).1 $$ Hl
  ihave He' := (Transfers.pointsTo_toks_range (ℓ := edLoc d) (S := Finset.univ) (f := edOf m d) fullShare 32).1 $$ He
  icases Hc' with ⟨Hc, Hcs⟩
  icases Hl' with ⟨Hl, Hls⟩
  icases He' with ⟨He, Hes⟩
  isplitl [Hc Hl He]
  · isplitl [Hc]; · iexact Hc
    isplitl [Hl]; · iexact Hl
    iexact He
  isplitl [Hcs]; · iexact Hcs
  isplitl [Hls]; · iexact Hls
  isplitl [Hes]; · iexact Hes
  iexact Ho

theorem collect (d : Dev nD) (f : Vec F S30x1536 .f32) :
    (iprop(kept m st d ∗ bigSep (Finset.range 32) fun w => taskPts m st d w f) : sProp 𝕄) ⊢ whole4 m st d f := by
  rw [tasks_eq]
  unfold whole4 kept
  iintro ⟨⟨Hc, Hl, He⟩, Hcs, Hls, Hes, Ho⟩
  isplitl [Hc Hcs]
  · iapply (Transfers.pointsTo_toks_range (ℓ := cfLoc d) (S := Finset.univ) (f := st.cf d) fullShare 32).2
    isplitl [Hc]; · iexact Hc
    iexact Hcs
  isplitl [Hl Hls]
  · iapply (Transfers.pointsTo_toks_range (ℓ := lbLoc d) (S := Finset.univ) (f := st.lb d) fullShare 32).2
    isplitl [Hl]; · iexact Hl
    iexact Hls
  isplitl [He Hes]
  · iapply (Transfers.pointsTo_toks_range (ℓ := edLoc d) (S := Finset.univ) (f := edOf m d) fullShare 32).2
    isplitl [He]; · iexact He
    iexact Hes
  iexact Ho

theorem starts_eq (d : Dev nD) :
    (bigSep Finset.univ fun c : Fin ((K (F := F)).nCore 0) => (P m st).st 0 d c) = bigSep (Finset.range 32) fun w => taskPts m st d w (m (outLoc d)) :=
  bigSep_workers fun w => taskPts m st d w (m (outLoc d))

theorem ends_eq (d : Dev nD) :
    (bigSep Finset.univ fun c : Fin ((K (F := F)).nCore 0) => (P m st).dn 0 d c) = bigSep (Finset.range 32) fun w => taskPts m st d w (outOf m st d) :=
  bigSep_workers fun w => taskPts m st d w (outOf m st d)

end Cert.Proof.Bins

end
-- ==== Proof.Launch.lean ====
/-
  The whole program's run: @main's host operations, the softmax region and the binning call in order, at the contents
  each leaves; the arguments unchanged and the result named.
-/
module

public import proofs.«01_k».proof.Proof.Host
public import proofs.«01_k».proof.Proof.Deal
public import Idealize.ShloMosaic.Lib.Pipeline.Frame

@[expose] public section

noncomputable section

namespace Cert.Proof.Bins

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq seqK after held launchContents)
open Idealize.ShloMosaic.Pipeline (ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents along @main -/

abbrev dr (r : Ref sig .tc) : DevRef τ sig := Proc.devRef .tc r

theorem dr_ne {r r' : Ref sig .tc} (h : r ≠ r') : dr r ≠ dr r' := StableHlo.devRef_ne_of_ne h

/-- After the scores' padding. -/
def W1 (d : Dev nD) : Valuation τ sig (Elt F) := after padScores (launchContents m d)
/-- After the softmax. -/
def W2 (d : Dev nD) : Valuation τ sig (Elt F) := afterCall (W1 m) d
/-- After the labels' padding. -/
def W3 (d : Dev nD) : Valuation τ sig (Elt F) := after padLabels (W2 m d)

/-- What the binning call reads. -/
def stage : Staged F where
  cf d := W3 m d (dr main_v1)
  lb d := W3 m d (dr main_v2)

/-- After the binning. -/
def W4 (d : Dev nD) : Valuation τ sig (Elt F) := Function.update (W3 m d) (dr main_v3) (outOf m (stage m) d)
/-- At the end. -/
def W5 (d : Dev nD) : Valuation τ sig (Elt F) := after algebra (W4 m d)

theorem W1_of (d : Dev nD) (r : Ref sig .tc) (h : r ∉ padScoresOut) : W1 m d (dr r) = m (d, dr r) :=
  StableHlo.after_of_writes_sub padScores _ padScores_writes h
theorem W2_of (d : Dev nD) (r : Ref sig .tc) (h : r ≠ main_v1) : W2 m d (dr r) = W1 m d (dr r) :=
  Function.update_of_ne (dr_ne h) _ _
theorem W3_of (d : Dev nD) (r : Ref sig .tc) (h : r ∉ padLabelsOut) : W3 m d (dr r) = W2 m d (dr r) :=
  StableHlo.after_of_writes_sub padLabels _ padLabels_writes h
theorem W4_of (d : Dev nD) (r : Ref sig .tc) (h : r ≠ main_v3) : W4 m d (dr r) = W3 m d (dr r) :=
  Function.update_of_ne (dr_ne h) _ _
theorem W5_of (d : Dev nD) (r : Ref sig .tc) (h : r ∉ algebraOut) : W5 m d (dr r) = W4 m d (dr r) :=
  StableHlo.after_of_writes_sub algebra _ algebra_writes h

/-- A reference no line writes before the binning is as launched there. -/
theorem W3_launch (d : Dev nD) (r : Ref sig .tc) (h1 : r ∉ padScoresOut) (h2 : r ≠ main_v1) (h3 : r ∉ padLabelsOut) :
    W3 m d (dr r) = m (d, dr r) := (W3_of m d r h3).trans ((W2_of m d r h2).trans (W1_of m d r h1))
theorem W5_launch (d : Dev nD) (r : Ref sig .tc) (h1 : r ∉ padScoresOut) (h2 : r ≠ main_v1) (h3 : r ∉ padLabelsOut) (h4 : r ≠ main_v3) (h5 : r ∉ algebraOut) :
    W5 m d (dr r) = m (d, dr r) := (W5_of m d r h5).trans ((W4_of m d r h4).trans (W3_launch m d r h1 h2 h3))

/-! ## The launch element of the certificate's ghost state -/

/-- The one pipeline runs at no prefetched table. -/
def adm0 : (p : Fin 1) → (pcfgs (F := F) p).Adm := fun p => (cfgs p).toPCfg_adm

abbrev pinned : Fin 1 → Pipeline.Cfg sig Λ₀ := Pipeline.pin (pcfgs (F := F)) adm0

theorem pinned_inj : Function.Injective (Pipeline.cellOf (nD := nD) (τ := τ) (pinned (F := F))) := cellOf_inj

def u₀ : UU :=
  ((initOf (K (F := F)).hsCells (K (F := F)).hsToks,
    initOf (Pipeline.cells (nD := nD) (τ := τ) (pinned (F := F)) pinned_inj) (Pipeline.launchToks (nD := nD) (τ := τ) (pinned (F := F)) pinned_inj)), 1)

/-- The pipeline's cells' and tokens' ghost state, per device. -/
def G (d : Dev nD) : sProp 𝕄 :=
  iprop(Pipeline.cellsGhost (pinned (F := F)) EP 0 d ∗ Pipeline.toksInit (pinned (F := F)) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m (stage m)).x q thr) := by
  unfold u₀
  iintro Hu
  ihave H := (ownU_parts _ _ _) $$ Hu
  icases H with ⟨HH, HP⟩
  imod (Pipeline.fund_ghost (pinned (F := F)) EP pinned_inj) $$ HP with ⟨Hg, Ht⟩
  imodintro
  isplitl [HH]; · iexact HH
  isplitl [Hg Ht]
  · rw [show (bigSep Finset.univ fun d : Dev nD => (G d : sProp 𝕄))
        = iprop((bigSep Finset.univ fun c : Dev nD => bigSep Finset.univ fun p => Pipeline.cellsGhost (pinned (F := F)) EP p c)
          ∗ (bigSep Finset.univ fun c : Dev nD => bigSep Finset.univ fun p => Pipeline.toksInit (pinned (F := F)) EP p c)) from by
      unfold G; rw [bigSep_sep']
      congr 1 <;> exact bigSep_congr fun _ _ => by rw [bigSep_univ_of_subsingleton (0 : Fin 1)]]
    isplitl [Hg]; · iexact Hg
    iexact Ht
  rw [show (bigSep Finset.univ fun thr : Thread nD τ => bigSep Finset.univ fun q : Fin 1 => (P (F := F) m (stage m)).x q thr) = bigSep Finset.univ fun _ => iprop(emp) from
    bigSep_congr fun _ _ => bigSep_univ_of_subsingleton (0 : Fin 1), bigSep_emp']
  iempintro

/-! ## @main on the TensorCore -/

/-- A line of host operations, over the buffers no region scopes. -/
theorem host_run (d : Dev nD) (ops : List (HloOp τ sig (Elt F))) (hs : ops.Forall fun op => op.bufs ⊆ StableHlo.tcRefs τ sig)
    (hf : ops.Forall fun op => op.fresh = ∅) (V : Valuation τ sig (Elt F))
    (q : Prog (TpuEff nD τ sig (Elt F) (SparseCore.Sig (Pipeline.Sig Λ₀ (Fin 1) fun p => (pcfgs (F := F) p).Adm) 1) .tc) PUnit) {Q : PUnit → sProp 𝕄} :
    iprop(boundary (SparseCore.T d) ∗ held (SparseCore.T d) (ucRefs τ sig) V)
      ⊢ iprop(((boundary (SparseCore.T d) ∗ held (SparseCore.T d) (ucRefs τ sig) (after ops V))
            -∗ wp frame (wpE ((K (F := F)).defs (D (F := F))) 𝒱 (SparseCore.T d) none) Set.univ q Q)
          -∗ wp frame (wpE ((K (F := F)).defs (D (F := F))) 𝒱 (SparseCore.T d) none) Set.univ (seqK ops q) Q) := by
  rw [← StableHlo.seq_bind_seqK]
  exact StableHlo.wp_seq (defs := (K (F := F)).defs (D (F := F))) 𝒱 none Set.univ d (ucRefs τ sig) (fun _ => q) ops
    (fun op h => Pipeline.sub_ucRefs op ((List.forall_iff_forall_mem.mp hs) op h)) (fun op h => (List.forall_iff_forall_mem.mp hf) op h) V

theorem mem_uc (r : Ref sig .tc) (h : (dr r).isScoped = false) : dr r ∈ ucRefs τ sig :=
  Finset.mem_filter.mpr ⟨StableHlo.devRef_mem_tcRefs r, fun h' => Bool.false_ne_true (h.symm.trans h')⟩

/-- Four references' buffers, as a set. -/
abbrev four (a b c e : Ref sig .tc) : Finset (DevRef τ sig) := ({a, b, c, e} : Finset (Ref sig .tc)).image dr

theorem four_sub (a b c e : Ref sig .tc) (ha : (dr a).isScoped = false) (hb : (dr b).isScoped = false) (hc : (dr c).isScoped = false)
    (he : (dr e).isScoped = false) : four a b c e ⊆ ucRefs τ sig := by
  intro x hx
  obtain ⟨r, hr, rfl⟩ := Finset.mem_image.mp hx
  simp only [Finset.mem_insert, Finset.mem_singleton] at hr
  rcases hr with rfl | rfl | rfl | rfl
  · exact mem_uc _ ha
  · exact mem_uc _ hb
  · exact mem_uc _ hc
  · exact mem_uc _ he

theorem held_four (d : Dev nD) (a b c e : Ref sig .tc) (h1 : a ∉ ({b, c, e} : Finset (Ref sig .tc))) (h2 : b ∉ ({c, e} : Finset (Ref sig .tc)))
    (h3 : c ∉ ({e} : Finset (Ref sig .tc))) (V : Valuation τ sig (Elt F)) :
    (held (SparseCore.T d) (four a b c e) V : sProp 𝕄)
      = iprop((((d, dr a) : Loc nD τ sig) ↦{fullShare} V (dr a)) ∗ (((d, dr b) : Loc nD τ sig) ↦{fullShare} V (dr b))
          ∗ (((d, dr c) : Loc nD τ sig) ↦{fullShare} V (dr c)) ∗ ((d, dr e) : Loc nD τ sig) ↦{fullShare} V (dr e)) := by
  unfold held
  rw [SparseCore.bigSep_image_of_injOn (f := dr) (fun _ _ _ _ h => Proc.devRef_injective _ h),
    SparseCore.bigSep_insert' h1, SparseCore.bigSep_insert' h2, SparseCore.bigSep_insert' h3, bigSep_singleton]

/-- The binning call's four arrays. -/
abbrev callRefs : Finset (DevRef τ sig) := four main_v1 main_v2 main_arg2 main_v3

theorem callRefs_sub : callRefs ⊆ ucRefs τ sig := four_sub _ _ _ _ rfl rfl rfl rfl

theorem held_before (d : Dev nD) : (held (SparseCore.T d) callRefs (W3 m d) : sProp 𝕄) = whole4 m (stage m) d (m (outLoc d)) := by
  rw [held_four d _ _ _ _ (by decide) (by decide) (by decide), W3_launch m d main_arg2 (by decide) (by decide) (by decide),
    W3_launch m d main_v3 (by decide) (by decide) (by decide)]
  rfl

theorem held_after (d : Dev nD) : (held (SparseCore.T d) callRefs (W4 m d) : sProp 𝕄) = whole4 m (stage m) d (outOf m (stage m) d) := by
  rw [held_four d _ _ _ _ (by decide) (by decide) (by decide), W4_of m d main_arg2 (by decide), W4_of m d main_v1 (by decide), W4_of m d main_v2 (by decide),
    W3_launch m d main_arg2 (by decide) (by decide) (by decide), show W4 m d (dr main_v3) = outOf m (stage m) d from Function.update_self _ _ _]
  rfl

theorem held_rest (d : Dev nD) : (held (SparseCore.T d) (ucRefs τ sig \ callRefs) (W4 m d) : sProp 𝕄) = held (SparseCore.T d) (ucRefs τ sig \ callRefs) (W3 m d) := by
  refine StableHlo.held_congr _ fun b hb => Function.update_of_ne (fun e => (Finset.mem_sdiff.mp hb).2 ?_) _ _
  exact e ▸ Finset.mem_image_of_mem dr (by decide)

theorem arrs_sub : Pipeline.arrRefs spec0 ⊆ ucRefs τ sig := Pipeline.arrRefs_sub_ucRefs spec0 (by decide)

theorem held_unstaged (d : Dev nD) : (held (SparseCore.T d) (ucRefs τ sig \ Pipeline.arrRefs spec0) (W2 m d) : sProp 𝕄)
    = held (SparseCore.T d) (ucRefs τ sig \ Pipeline.arrRefs spec0) (W1 m d) := by
  refine StableHlo.held_congr _ fun b hb => Function.update_of_ne (fun e => (Finset.mem_sdiff.mp hb).2 ?_) _ _
  exact e ▸ Finset.mem_image_of_mem (fun w => dr (Pipeline.arrRef spec0 w)) (Finset.mem_univ (1 : Fin 2))

/-- What stays with the TensorCore while the softmax runs. -/
def R0 (d : Dev nD) : sProp 𝕄 := held (SparseCore.T d) (ucRefs τ sig \ Pipeline.arrRefs spec0) (W1 m d)

set_option backward.isDefEq.respectTransparency.types false in
/-- The softmax call, at the arrays it stages. -/
theorem soft_wp (d : Dev nD) (Q : PUnit → sProp 𝕄) :
    iprop((boundary (SparseCore.T d) ∗ (held (SparseCore.T d) (Pipeline.arrRefs spec0) (W2 m d) ∗ R0 m d ∗ owing d)
          -∗ |={Set.univ}=> Q ⟨⟩)
        ∗ boundary (SparseCore.T d) ∗ (held (SparseCore.T d) (Pipeline.arrRefs spec0) (W1 m d) ∗ R0 m d ∗ owing d) ∗ levAts (K (F := F)).L (K (F := F)).lev
        ∗ Pipeline.cellsGhost (pinned (F := F)) EP 0 d ∗ Pipeline.toksInit (pinned (F := F)) EP 0 d)
      ⊢ wp frame (wpE ((K (F := F)).defs (D (F := F))) 𝒱 (SparseCore.T d) none) Set.univ
          (Prog.lift (.customCall (SparseCore.inner (Pipeline.entry 0)) ())) Q :=
  (Pipeline.RegionSeg.wp (pcfgs (F := F)) adm0 (pdats (W1 m) adm0) none pinned_inj EP (defs₀ (F := F)) 𝒱₀ (K (F := F)).L (K (F := F)).lev
    (region (W1 m) adm0 (R0 m)) d none (fun u hu => nomatch hu) .ret Q).trans
  ((K (F := F)).wp_liftProg (D (F := F)) 𝒱 (SparseCore.T d) Set.univ none (.op (.customCall (Pipeline.entry (0 : Fin 1)) ()) .ret) Q)

/-- The softmax call, between the host's lines. -/
theorem soft_run (d : Dev nD) (Q : PUnit → sProp 𝕄) :
    iprop((boundary (SparseCore.T d) ∗ (held (SparseCore.T d) (ucRefs τ sig) (W2 m d)) ∗ owing d -∗ Q ⟨⟩)
        ∗ boundary (SparseCore.T d) ∗ held (SparseCore.T d) (ucRefs τ sig) (W1 m d) ∗ owing d ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  refine (show _ ⊢ _ from ?_ : _ ⊢ (_ : sProp 𝕄)).trans (soft_wp m d Q)
  unfold G R0
  rw [StableHlo.held_sub_split (SparseCore.T d) arrs_sub (W1 m d), StableHlo.held_sub_split (SparseCore.T d) arrs_sub (W2 m d), held_unstaged]
  iintro ⟨HQ, Hb, ⟨Ha, Hr⟩, HO, Hlv, Hg, Ht⟩
  isplitl [HQ]
  · iintro ⟨Hb, Ha, Hr, HO⟩
    imodintro
    iapply HQ
    isplitl [Hb]; · iexact Hb
    isplitr [HO]
    · isplitl [Ha]; · iexact Ha
      iexact Hr
    · iexact HO
  isplitl [Hb]; · iexact Hb
  isplitl [Ha Hr HO]
  · isplitl [Ha]; · iexact Ha
    isplitl [Hr]; · iexact Hr
    iexact HO
  isplitl [Hlv]; · iexact Hlv
  isplitl [Hg]; · iexact Hg
  iexact Ht

abbrev FIN (d : Dev nD) : sProp 𝕄 := held (SparseCore.T d) (ucRefs τ sig) (W5 m d)

/-- @main on device `d`'s TensorCore, from the launch's buffers to the last contents. -/
theorem hmain (κ : GSem nD τ sig → ℕ) (d : Dev nD) :
    iprop((K (F := F)).ctx EH (P m (stage m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (ucRefs τ sig) (launchContents m d) from
    Pipeline.unscopedBufs_held d (launchContents m d)]
  iintro ⟨#Hctx, Hst, ⟨Hb, Hbufs, Hts, -⟩, HG⟩
  ihave Hlv := (SparseCore.Cfg.ctx_levAts κ) $$ Hctx
  iapply (host_run d padScores padScores_sub padScores_fresh (launchContents m d)) $$ [Hb Hbufs]
  · isplitl [Hb] <;> iassumption
  iintro ⟨Hb, Hbufs⟩
  rw [wp_bind]
  ihave Hst' := (show (K (F := F)).tcSt EH d 0 ⊢ iprop(owing d ∗ (owing d -∗ (K (F := F)).tcSt EH d 0)) from by
    unfold SparseCore.Cfg.tcSt owing
    iintro ⟨HO, Hr⟩
    isplitl [HO]; · iexact HO
    iintro HO
    isplitl [HO]; · iexact HO
    iexact Hr) $$ Hst
  icases Hst' with ⟨HO, Hback⟩
  iapply (soft_run m d)
  isplitr [Hb Hbufs HO HG]
  · iintro ⟨Hb, Hbufs, HO⟩
    ihave Hst := Hback $$ HO
    unfold afterSoft
    iapply (host_run d padLabels padLabels_sub padLabels_fresh (W2 m d)) $$ [Hb Hbufs]
    · isplitl [Hb] <;> iassumption
    iintro ⟨Hb, Hbufs⟩
    rw [wp_bind]
    ihave Hbufs' := (show held (SparseCore.T d) (ucRefs τ sig) (after padLabels (W2 m d)) ⊢ _ from
      Entails.of_eq (StableHlo.held_sub_split (SparseCore.T d) callRefs_sub (W3 m d))) $$ Hbufs
    icases Hbufs' with ⟨Hc, Hr⟩
    ihave Hc := (Entails.of_eq (held_before m d)) $$ Hc
    ihave Hc := (deal m (stage m) d (m (outLoc d))) $$ Hc
    icases Hc with ⟨Hk, Hc⟩
    iapply ((K (F := F)).wp_run (D (F := F)) 𝒱 (EH := EH) (P := P m (stage m)) κ d 0) $$ [Hst Hk Hc Hb Hr Hts]
    isplitr; · iexact Hctx
    isplitl [Hst]; · iexact Hst
    isplitl [Hc]
    · iapply (Entails.of_eq (starts_eq m (stage m) d).symm); iexact Hc
    iintro ⟨Hst, Hdn⟩
    ihave Hc := (Entails.of_eq (ends_eq m (stage m) d)) $$ Hdn
    ihave Hc := (collect m (stage m) d (outOf m (stage m) d)) $$ [Hk Hc]
    · isplitl [Hk] <;> iassumption
    ihave Hc := (Entails.of_eq (held_after m d).symm) $$ Hc
    ihave Hr := (Entails.of_eq (held_rest m d).symm) $$ Hr
    ihave Hbufs := (Entails.of_eq (StableHlo.held_sub_split (SparseCore.T d) callRefs_sub (W4 m d)).symm) $$ [Hc Hr]
    · isplitl [Hc] <;> iassumption
    unfold afterBins
    iapply (host_run d algebra algebra_sub algebra_fresh (W4 m d)) $$ [Hb Hbufs]
    · isplitl [Hb] <;> iassumption
    iintro ⟨Hb, Hbufs⟩
    rw [wp_pure]
    imodintro
    isplitl [Hst]; · iexact Hst
    isplitl [Hbufs]; · iexact Hbufs
    isplitl [Hb] <;> iassumption
  isplitl [Hb]; · iexact Hb
  isplitl [Hbufs]; · iexact Hbufs
  isplitl [HO]; · iexact HO
  isplitr; · iexact Hlv
  iexact HG

/-! ## The final memory -/

abbrev resRefs : Finset (DevRef τ sig) := four main_arg0 main_arg1 main_arg2 main_v47

theorem resRefs_sub : resRefs ⊆ ucRefs τ sig := four_sub _ _ _ _ rfl rfl rfl rfl

def fq (d : Dev nD) (s' : Phys nD τ sig (Elt F)) : Prop :=
  s'.mem.mem (d, dr main_arg0) = W5 m d (dr main_arg0) ∧ s'.mem.mem (d, dr main_arg1) = W5 m d (dr main_arg1)
    ∧ s'.mem.mem (d, dr main_arg2) = W5 m d (dr main_arg2) ∧ s'.mem.mem (d, dr main_v47) = W5 m d (dr main_v47)

theorem one_agree (d : Dev nD) (r : Ref sig .tc) (V : Valuation τ sig (Elt F)) (s' : Phys nD τ sig (Elt F)) :
    iprop(SI s' ∗ ((d, dr r) : Loc nD τ sig) ↦{fullShare} V (dr r)) ⊢ (⌜s'.mem.mem (d, dr r) = V (dr r)⌝ : sProp 𝕄) := by
  refine (SI_pointsTo_agree (st := s') (ℓ := (d, dr r)) (I := Finset.univ) (q := fullShare) (f := V (dr r))).trans ?_
  iintro %h
  ipureintro
  exact funext fun i => h i (Finset.mem_univ i)

theorem hfin (d : Dev nD) (s' : Phys nD τ sig (Elt F)) : iprop(FIN m d ∗ SI s') ⊢ (⌜fq m d s'⌝ : sProp 𝕄) := by
  unfold FIN
  rw [StableHlo.held_sub_split (SparseCore.T d) resRefs_sub, held_four d _ _ _ _ (by decide) (by decide) (by decide)]
  iintro ⟨⟨⟨H0, H1, H2, H3⟩, -⟩, HSI⟩
  ihave H := (persistent_entails_right (one_agree d main_arg0 (W5 m d) s')) $$ [HSI H0]
  · isplitl [HSI] <;> iassumption
  icases H with ⟨%h0, HSI, -⟩
  ihave H := (persistent_entails_right (one_agree d main_arg1 (W5 m d) s')) $$ [HSI H1]
  · isplitl [HSI] <;> iassumption
  icases H with ⟨%h1, HSI, -⟩
  ihave H := (persistent_entails_right (one_agree d main_arg2 (W5 m d) s')) $$ [HSI H2]
  · isplitl [HSI] <;> iassumption
  icases H with ⟨%h2, HSI, -⟩
  ihave H := (one_agree d main_v47 (W5 m d) s') $$ [HSI H3]
  · isplitl [HSI] <;> iassumption
  icases H with %h3
  ipureintro
  exact ⟨h0, h1, h2, h3⟩

/-! ## The run -/

/-- The program's end: the result computed, the arguments unchanged, every semaphore at zero. -/
def QC : PUnit × MemSt nD τ sig (Elt F) → Prop := fun r =>
  (∀ c : Dev nD, r.2.mem (c.tc.loc main_v47) = W5 m c (dr main_v47) ∧ r.2.mem (c.tc.loc main_arg0) = m (c.tc.loc main_arg0)
    ∧ r.2.mem (c.tc.loc main_arg1) = m (c.tc.loc main_arg1) ∧ r.2.mem (c.tc.loc main_arg2) = m (c.tc.loc main_arg2)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (stage m)) (A := ∅) facts v₀
    (fun q hq => match q with | 0 => nomatch hq)
    (fun q _ => match q with | 0 => tileObl m (stage m) facts)
    (fun q _ => match q with | 0 => SparseCore.Cfg.VecSplit.of_plain (vecSplit m (stage m)))
    m ρ main G (FIN m) (u₀ (F := F)) (sep_elim_left.trans (hu₀ m)) (hmain m ρ) (fq m) (hfin m) (QC m)
    (fun _ h hz => ⟨fun c => ⟨(h c).2.2.2, (h c).1.trans (W5_launch m c main_arg0 (by decide) (by decide) (by decide) (by decide) (by decide)),
      (h c).2.1.trans (W5_launch m c main_arg1 (by decide) (by decide) (by decide) (by decide) (by decide)),
      (h c).2.2.1.trans (W5_launch m c main_arg2 (by decide) (by decide) (by decide) (by decide) (by decide))⟩, hz⟩)

end Cert.Proof.Bins

end
-- ==== Proof.Result.lean ====
/-
  The kernel's result as a function of the tasks' rows: the host operations after the binning, read at the result.
-/
module

public import proofs.«01_k».proof.Proof.Launch
public import Idealize.ShloMosaic.Lib.StableHlo.RunRead

@[expose] public section

noncomputable section

namespace Cert.Proof.Bins

open Cert.KernelIdeal Cert.KernelIdeal.Gen

open Idealize.ShloMosaic
open Idealize.ShloMosaic.StableHlo (seq seqK after held launchContents)

variable {F : FTy → Type} [FloatOps F]

/-- The statistics by class, bin, hit and kind, summed over the tasks' row blocks and the lanes. -/
def tallied (O : Vec F S30x1536 .f32) : Vec F S10x16x2x3 .f32 :=
  Host.reduceAdd (shapeCast S10x3x16x2x3x16 O shapeCasts_S30x1536_S10x3x16x2x3x16) (constant S_ .f32 0x00000000#32) reducesTo_S10x3x16x2x3x16_S10x16x2x3_d1_5 h_S_

/-- One statistic by class and bin, the bins from 1. -/
def statCol (O : Vec F S30x1536 .f32) (off : Fin 4 → ℕ) (h : S10x15x2x3.Slices off S10x15x1x1) : Vec F S10x15 .f32 :=
  shapeCast S10x15 (extractStridedSlice S10x15x1x1 off (extractStridedSlice S10x15x2x3 ![0, 1, 0, 0] (tallied O) slices_S10x16x2x3_S10x15x2x3_0_1_0_0) h) shapeCasts_S10x15x1x1_S10x15

/-- A word in every bin. -/
def wordAt (w : BitVec 32) : Vec F S10x15 .f32 := broadcastInDim S10x15 ![] bcast_S_S10x15 (constant S_ .f32 w)

/-- The bins' terms of the counts, sums and sums of squares of the misses and of the hits. -/
def binsOf (c0 c1 s0 s1 q0 q1 : Vec F S10x15 .f32) : Vec F S10x15 .f32 :=
  let n := addf c0 c1
  let D := maximumf (subf n (wordAt 0x3F800000#32)) (wordAt 0x3F800000#32)
  let a0 := Host.divf c1 D
  let a1 := Host.divf (subf c1 (wordAt 0x3F800000#32)) D
  select (cmpf .oge n (wordAt 0x40000000#32))
    (addf (addf (subf (addf q0 q1) (mulf (wordAt 0x40000000#32) (addf (mulf a0 s0) (mulf a1 s1)))) (mulf (mulf c0 a0) a0)) (mulf (mulf c1 a1) a1))
    (wordAt 0x00000000#32)

/-- The mean over the rows and the classes. -/
def meanOf (B : Vec F S10x15 .f32) : Vec F S_ .f32 :=
  Host.divf (Host.divf (Host.reduceAdd (Host.reduceAdd B (constant S_ .f32 0x00000000#32) reducesTo_S10x15_S10_d1 h_S_) (constant S_ .f32 0x00000000#32) reducesTo_S10_S_d0 h_S_)
    (constant S_ .f32 0x41200000#32)) (constant S_ .f32 0x49742400#32)

/-- The bins' terms of the tasks' rows. -/
def binsAll (O : Vec F S30x1536 .f32) : Vec F S10x15 .f32 :=
  binsOf (statCol O ![0, 0, 0, 0] slices_S10x15x2x3_S10x15x1x1_0_0_0_0) (statCol O ![0, 0, 1, 0] slices_S10x15x2x3_S10x15x1x1_0_0_1_0)
    (statCol O ![0, 0, 0, 1] slices_S10x15x2x3_S10x15x1x1_0_0_0_1) (statCol O ![0, 0, 1, 1] slices_S10x15x2x3_S10x15x1x1_0_0_1_1)
    (statCol O ![0, 0, 0, 2] slices_S10x15x2x3_S10x15x1x1_0_0_0_2) (statCol O ![0, 0, 1, 2] slices_S10x15x2x3_S10x15x1x1_0_0_1_2)

variable (m : (ℓ : Loc nD τ sig) → Buf (Elt F) ℓ)

/-- The padded scores. -/
theorem W1_scores (d : Dev nD) : W1 m d (dr main_v0)
    = pad S1007616x10 ![0, 0] ![7616, 0] ![0, 0] (m (d, dr main_arg0)) (sitofp .f32 (constantI S_ 32 0#32)) pads_S1000000x10_S1007616x10_076160_000 h_S_ := by
  unfold W1
  simp only [padScores, StableHlo.TRef.unary, StableHlo.TRef.binary, StableHlo.TRef.toBuf, StableHlo.TRef.ofBuf, cast_eq]
  after_results_simp <;> rfl

/-- The padded labels. -/
theorem W3_labels (d : Dev nD) : W3 m d (dr main_v2)
    = pad S1007616 ![0] ![7616] ![0] (W2 m d (dr main_arg1)) (constantI S_ 32 0#32) pads_S1000000_S1007616_076160 h_S_ := by
  unfold W3
  simp only [padLabels, StableHlo.TRef.unary, StableHlo.TRef.binary, StableHlo.TRef.toBuf, StableHlo.TRef.ofBuf, cast_eq]
  after_results_simp <;> rfl

set_option maxHeartbeats 4000000 in
set_option maxRecDepth 8192 in
/-- The result. -/
theorem W5_result (d : Dev nD) : W5 m d (dr main_v47) = meanOf (binsAll (W4 m d (dr main_v3))) := by
  unfold W5
  simp only [algebra, StableHlo.TRef.unary, StableHlo.TRef.ternary, StableHlo.TRef.toBuf, StableHlo.TRef.ofBuf, cast_eq]
  after_results_simp
  rfl

end Cert.Proof.Bins

end
-- ==== Proof.Soft.lean ====
/-
  The two programs' softmax over the exact reals: the kernel's staged array holds, in the columns of the given rows,
  the same function of the row's logits as the reference's (`softOf_apply`, `ref_soft_apply`), and in the padding
  columns the constant the kernel marks them with.
-/
module

public import proofs.«01_k».proof.Proof.Region
public import proofs.«01_k».proof.Proof.Gen.ReferenceIdeal.Read
public import Idealize.ShloMosaic.Lib.IdealHost
public import Idealize.ShloMosaic.Lib.ValueIdxCore
public import Idealize.ShloMosaic.Lib.ValueIdx

@[expose] public section

noncomputable section

namespace Cert.Proof.Bins

open Cert.KernelIdeal Cert.KernelIdeal.Gen
open Idealize.ShloMosaic
open Idealize.ShloMosaic.ValueIdx (idx2_lt0 idx2_lt1 select_apply select_one select_zero)

/-- The largest of a row's ten logits. -/
def rowMax (u : Fin 10 → EReal) : EReal := (Finset.univ : Finset (Fin 10)).fold max (Ideal.ofBits .f32 0xFF800000#32) u

/-- The softmax of a row at `k`. -/
def rowSoft (u : Fin 10 → EReal) (k : Fin 10) : EReal :=
  Ideal.div (Ideal.exp (u k - rowMax u)) (∑ i : Fin 10, Ideal.exp (u i - rowMax u))

/-- The mark of a padding column. -/
def padMark : EReal := Ideal.ofBits .f32 0x3FFC0000#32

section Kernel

theorem colBroadcast_apply (v : FVec Ideal S2048 .f32) (y : S2048x10.Idx) :
    broadcastTo S2048x10 (shapeCast S2048x1 v shapeCasts_S2048_S2048x1) broadcasts_S2048x1_S2048x10 y = v (ValueIdx.ix1 ⟨(y 0).val, idx2_lt0 y⟩) := by
  rw [broadcastTo_apply (shapeCast S2048x1 v shapeCasts_S2048_S2048x1) broadcasts_S2048x1_S2048x10 y (ValueIdx.ix2 ⟨(y 0).val, idx2_lt0 y⟩ 0)
    (fun a => match a with
      | ⟨0, _⟩ => rfl
      | ⟨1, _⟩ => rfl)]
  refine shapeCast_apply v shapeCasts_S2048_S2048x1 _ _ ?_
  rw [Shape.rowMajor_val_one, Shape.rowMajor_val_two]
  show (y 0).val = (y 0).val * 1 + 0
  omega

theorem pay1_soft_apply (i : grid0.Coords) (v0 : Vec Ideal S2048x10 .f32) (y : S10x2048.Idx) :
    (k0_pay1 i v0 y : EReal) = if 2048 * (i 0).val + (y 1).val < 1000000 then rowSoft (fun k => v0 (ValueIdx.ix2 ⟨(y 1).val, idx2_lt1 y⟩ k)) ⟨(y 0).val, idx2_lt0 y⟩ else padMark := by
  have hi : (i 0).val < 492 := (i 0).isLt
  have hy : (y 1).val < 2048 := idx2_lt1 y
  unfold k0_pay1
  dsimp only
  rw [select_apply]
  have hbit : cmpi .slt (addi (broadcast S10x2048 (Scalar.muli (BitVec.ofNat 32 (i 0).val) 2048#32)) (iota .tc S10x2048 32 [1] iota_S10x2048_d1_w32))
      (broadcast S10x2048 1000000#32) y = if 2048 * (i 0).val + (y 1).val < 1000000 then 1#1 else 0#1 := by
    have hw : (addi (broadcast S10x2048 (Scalar.muli (BitVec.ofNat 32 (i 0).val) 2048#32)) (iota .tc S10x2048 32 [1] iota_S10x2048_d1_w32) y)
        = BitVec.ofNat 32 (2048 * (i 0).val + (y 1).val) := by
      show BitVec.ofNat 32 (i 0).val * 2048#32 + iota .tc S10x2048 32 [1] iota_S10x2048_d1_w32 y = _
      rw [iota_single_apply]
      apply BitVec.eq_of_toNat_eq
      simp only [BitVec.toNat_add, BitVec.toNat_mul, BitVec.toNat_ofNat]
      omega
    show BitVec.ofBool (BitVec.slt (addi _ _ y) 1000000#32) = _
    rw [hw, BitVec.slt]
    have e : (BitVec.ofNat 32 (2048 * (i 0).val + (y 1).val)).toInt = ((2048 * (i 0).val + (y 1).val : ℕ) : ℤ) := by
      rw [BitVec.toInt_eq_toNat_of_lt (by rw [BitVec.toNat_ofNat]; omega), BitVec.toNat_ofNat, Nat.mod_eq_of_lt (by omega)]
    rw [e]
    have e2 : (1000000#32 : BitVec 32).toInt = 1000000 := by decide
    rw [e2]
    by_cases h : 2048 * (i 0).val + (y 1).val < 1000000
    · rw [if_pos h, decide_eq_true (by exact_mod_cast h)]; rfl
    · rw [if_neg h, decide_eq_false (by exact_mod_cast h)]; rfl
  rw [hbit]
  by_cases h : 2048 * (i 0).val + (y 1).val < 1000000
  · rw [if_pos h, if_pos h, select_one]
    rw [transpose_apply [1, 0] _ transposes_S2048x10_p1_0_S10x2048 y (ValueIdx.ix2 ⟨(y 1).val, idx2_lt1 y⟩ ⟨(y 0).val, idx2_lt0 y⟩)
      (fun b => match b with
        | ⟨0, _⟩ => rfl
        | ⟨1, _⟩ => rfl)]
    rw [shapeCast_self]
    have hmax : ∀ p : Fin 2048, (multiReduction (F := Ideal) (φ := .f32) .maximumf [1] S2048 v0 0xFF800000#32 reduces_S2048x10_S2048 (.inl rfl) rfl (ValueIdx.ix1 p) : EReal)
        = rowMax (fun k => v0 (ValueIdx.ix2 p k)) := by
      intro p
      refine (Ideal.multiReduction_maximumf_single _ _ _ _ _ _).trans ?_
      unfold rowMax
      refine Finset.fold_congr (fun k _ => ?_)
      exact congrArg v0 (funext fun a => Fin.ext (by match a with | ⟨0, _⟩ => rfl | ⟨1, _⟩ => rfl))
    have hexp : ∀ (p : Fin 2048) (k : Fin 10),
        (exp (F := Ideal) (φ := .f32) (subf (F := Ideal) (φ := .f32) v0 (broadcastTo S2048x10 (shapeCast S2048x1 (multiReduction (F := Ideal) (φ := .f32) .maximumf [1] S2048 v0 0xFF800000#32 reduces_S2048x10_S2048 (.inl rfl) rfl)
          shapeCasts_S2048_S2048x1) broadcasts_S2048x1_S2048x10)) (ValueIdx.ix2 p k) : EReal) = Ideal.exp (v0 (ValueIdx.ix2 p k) - rowMax (fun k => v0 (ValueIdx.ix2 p k))) := by
      intro p k
      show Ideal.exp ((v0 (ValueIdx.ix2 p k) : EReal) - broadcastTo S2048x10 _ broadcasts_S2048x1_S2048x10 (ValueIdx.ix2 p k)) = _
      rw [colBroadcast_apply, show (ValueIdx.ix1 ⟨((ValueIdx.ix2 p k : S2048x10.Idx) 0).val, idx2_lt0 (ValueIdx.ix2 p k)⟩ : S2048.Idx) = ValueIdx.ix1 p from rfl, hmax]
    show Ideal.div _ (broadcastTo S2048x10 _ broadcasts_S2048x1_S2048x10 _) = _
    rw [colBroadcast_apply, hexp]
    refine congrArg (Ideal.div _) ((Ideal.multiReduction_add_single _ _ _ _ _ _).trans ?_)
    refine Finset.sum_congr rfl fun k _ => Eq.trans ?_ (hexp ⟨(y 1).val, idx2_lt1 y⟩ k)
    exact congrArg _ (funext fun a => Fin.ext (by match a with | ⟨0, _⟩ => rfl | ⟨1, _⟩ => rfl))
  · rw [if_neg h, if_neg h, select_zero]
    rfl

/-- The staged array, read at a column. -/
theorem softOf_apply (X : Vec Ideal S1007616x10 .f32) (i : S10x1007616.Idx) :
    (softOf X i : EReal) = if (i 1).val < 1000000 then rowSoft (fun k => X (ValueIdx.ix2 ⟨(i 1).val, idx2_lt1 i⟩ k)) ⟨(i 0).val, idx2_lt0 i⟩ else padMark := by
  have h1 : (i 1).val < 1007616 := idx2_lt1 i
  unfold softOf
  rw [pay1_soft_apply]
  have hp : (blockPt ((i 1).val / 2048) 0).val = (i 1).val / 2048 := Nat.mod_eq_of_lt (by show (i 1).val / 2048 < 492; omega)
  have hb : (inBlock i 1).val = (i 1).val % 2048 := rfl
  have hc : 2048 * (blockPt ((i 1).val / 2048) 0).val + (inBlock i 1).val = (i 1).val := by rw [hp, hb]; omega
  by_cases h : (i 1).val < 1000000
  · rw [if_pos (by rw [hc]; exact h), if_pos h]
    refine congrArg (fun u => rowSoft u _) (funext fun k => ?_)
    refine congrArg X (funext fun a => Fin.ext ?_)
    match a with
    | ⟨0, _⟩ =>
      show (2048 * ((i 1).val / 2048) + (i 1).val % 2048) % 1007616 = (i 1).val
      omega
    | ⟨1, _⟩ => rfl
  · rw [if_neg (by rw [hc]; exact h), if_neg h]

end Kernel

section Reference

open Cert.ReferenceIdeal.Read

theorem negInf : Ideal.ofBits .f32 0xFF800000#32 = (⊥ : EReal) := by
  simp [Ideal.ofBits, Ideal.ieee]

/-- The reference's softmax, read at a class and a row. -/
theorem ref_soft_apply (x0 : (⟨Cert.ReferenceIdeal.S1000000x10, .f32⟩ : BufTy).Contents (Elt Ideal)) (i : Cert.ReferenceIdeal.S10x1000000.Idx) :
    (val_main_v11 (F := Ideal) x0 i : EReal) = rowSoft (fun k => x0 (ValueIdx.ix2 ⟨(i 1).val, idx2_lt1 i⟩ k)) ⟨(i 0).val, idx2_lt0 i⟩ := by
  have hmax : ∀ p : Fin 1000000, (val_main_v2 (F := Ideal) x0 (ValueIdx.ix1 p) : EReal) = rowMax (fun k => x0 (ValueIdx.ix2 p k)) := by
    intro p
    rw [val_main_v2_apply, val_main_v1_apply, val_main_cst_0_apply]
    show max (Ideal.ofBits .f32 0xFF800000#32) (val_main_v0 (F := Ideal) x0 (ValueIdx.ix1 p) : EReal) = _
    rw [negInf, max_eq_right bot_le]
    unfold val_main_v0
    rw [Host.reduce_eq_fold_single (FloatOps.maximumf (F := Ideal) (φ := .f32)) _ _ Cert.ReferenceIdeal.Gen.reducesTo_S1000000x10_S1000000_d1 (by decide)]
    unfold rowMax
    refine Finset.fold_congr (fun k _ => ?_)
    exact congrArg x0 (funext fun a => Fin.ext (by match a with | ⟨0, _⟩ => rfl | ⟨1, _⟩ => rfl))
  have hexp : ∀ (p : Fin 1000000) (k : Fin 10), (val_main_v6 (F := Ideal) x0 (ValueIdx.ix2 p k) : EReal) = Ideal.exp (x0 (ValueIdx.ix2 p k) - rowMax (fun k => x0 (ValueIdx.ix2 p k))) := by
    intro p k
    rw [val_main_v6_apply, val_main_v5_apply, val_main_v4_apply, val_main_v3_apply, show idx_main_v3 (idx_main_v4 (ValueIdx.ix2 p k)) = ValueIdx.ix1 p from funext fun a => (by match a with | ⟨0, _⟩ => rfl)]
    exact congrArg (fun z : EReal => Ideal.exp ((x0 (ValueIdx.ix2 p k) : EReal) - z)) (hmax p)
  rw [val_main_v11_apply, val_main_v10_apply, val_main_v9_apply, val_main_v8_apply, val_main_v7_apply]
  unfold rowSoft
  have hz : (val_main_cst_1 (F := Ideal) (Shape.Idx.first Cert.ReferenceIdeal.Gen.h_S_) : EReal) = 0 := Ideal.ofBits_zero_f32
  show Ideal.div _ _ = _
  rw [hz, zero_add]
  congr 1
  · rw [show idx_main_v11 i = ValueIdx.ix2 ⟨(i 1).val, idx2_lt1 i⟩ ⟨(i 0).val, idx2_lt0 i⟩ from funext fun a => (by match a with | ⟨0, _⟩ => rfl | ⟨1, _⟩ => rfl)]
    exact hexp ⟨(i 1).val, idx2_lt1 i⟩ ⟨(i 0).val, idx2_lt0 i⟩
  · refine Finset.sum_congr rfl fun k _ => ?_
    rw [show idx_main_v7 (idx_main_v8 (idx_main_v9 (idx_main_v11 i))) k = ValueIdx.ix2 ⟨(i 1).val, idx2_lt1 i⟩ k from funext fun a => (by match a with | ⟨0, _⟩ => rfl | ⟨1, _⟩ => rfl)]
    exact hexp ⟨(i 1).val, idx2_lt1 i⟩ k

end Reference

end Cert.Proof.Bins

end
-- ==== Proof.Place.lean ====
/-
  The SparseCore task's accumulator over the exact reals.

  Over the extended reals a scatter-add is a sum: the word at a position is what it was plus the contributions of
  the masked lanes whose position it is (`storeIdx_add`). The four-step search counts the edges strictly below a
  probability (`edgesBelow_spec`), so the word of counter (edges below, label hit, statistic, lane) is the sum of the
  statistic over the lane's own probabilities that fall there (`rowOut_cell`).
-/
module

public import proofs.«01_k».proof.Proof.Step
public import Idealize.ShloMosaic.PureOps.Ideal.Laws
public import Idealize.ShloMosaic.Lib.ValueIdxCore
public import Idealize.ShloMosaic.Lib.IdealHost
public import Idealize.ShloMosaic.Lib.Pointwise.Select

@[expose] public section

noncomputable section

namespace Cert.Proof.Bins

open Cert.KernelIdeal Cert.KernelIdeal.Gen
open Idealize.ShloMosaic

/-! ## The search -/

/-- The number of edges (of the first fifteen) strictly below `x`, as the four steps find it. -/
def edgesBelow (e : ℕ → EReal) (x : EReal) : ℕ :=
  let m1 := if e 7 < x then 8 else 0
  let m2 := if e (m1 + 3) < x then m1 + 4 else m1
  let m3 := if e (m2 + 1) < x then m2 + 2 else m2
  if e m3 < x then m3 + 1 else m3

/-- The search ends between an edge below `x` and one that is not. -/
theorem edgesBelow_ends (e : ℕ → EReal) (x : EReal) :
    (edgesBelow e x = 0 ∨ e (edgesBelow e x - 1) < x) ∧ (edgesBelow e x = 15 ∨ ¬ e (edgesBelow e x) < x) ∧ edgesBelow e x ≤ 15 := by
  unfold edgesBelow
  by_cases h1 : e 7 < x
  · simp only [h1, if_true]
    by_cases h2 : e (8 + 3) < x
    · simp only [h2, if_true]
      by_cases h3 : e (8 + 4 + 1) < x
      · simp only [h3, if_true]
        by_cases h4 : e (8 + 4 + 2) < x
        · simp only [if_pos h4]; refine ⟨?_, ?_, by norm_num⟩ <;> first | exact Or.inr h1 | exact Or.inr h2 | exact Or.inr h3 | exact Or.inr h4 | exact Or.inl (by norm_num)
        · simp only [if_neg h4]; refine ⟨?_, ?_, by norm_num⟩ <;> first | exact Or.inr h1 | exact Or.inr h2 | exact Or.inr h3 | exact Or.inr h4 | exact Or.inl (by norm_num)
      · simp only [h3, if_false]
        by_cases h4 : e (8 + 4) < x
        · simp only [if_pos h4]; refine ⟨?_, ?_, by norm_num⟩ <;> first | exact Or.inr h1 | exact Or.inr h2 | exact Or.inr h3 | exact Or.inr h4 | exact Or.inl (by norm_num)
        · simp only [if_neg h4]; refine ⟨?_, ?_, by norm_num⟩ <;> first | exact Or.inr h1 | exact Or.inr h2 | exact Or.inr h3 | exact Or.inr h4 | exact Or.inl (by norm_num)
    · simp only [h2, if_false]
      by_cases h3 : e (8 + 1) < x
      · simp only [h3, if_true]
        by_cases h4 : e (8 + 2) < x
        · simp only [if_pos h4]; refine ⟨?_, ?_, by norm_num⟩ <;> first | exact Or.inr h1 | exact Or.inr h2 | exact Or.inr h3 | exact Or.inr h4 | exact Or.inl (by norm_num)
        · simp only [if_neg h4]; refine ⟨?_, ?_, by norm_num⟩ <;> first | exact Or.inr h1 | exact Or.inr h2 | exact Or.inr h3 | exact Or.inr h4 | exact Or.inl (by norm_num)
      · simp only [h3, if_false]
        by_cases h4 : e 8 < x
        · simp only [if_pos h4]; refine ⟨?_, ?_, by norm_num⟩ <;> first | exact Or.inr h1 | exact Or.inr h2 | exact Or.inr h3 | exact Or.inr h4 | exact Or.inl (by norm_num)
        · simp only [if_neg h4]; refine ⟨?_, ?_, by norm_num⟩ <;> first | exact Or.inr h1 | exact Or.inr h2 | exact Or.inr h3 | exact Or.inr h4 | exact Or.inl (by norm_num)
  · simp only [h1, if_false]
    by_cases h2 : e (0 + 3) < x
    · simp only [h2, if_true]
      by_cases h3 : e (0 + 4 + 1) < x
      · simp only [h3, if_true]
        by_cases h4 : e (0 + 4 + 2) < x
        · simp only [if_pos h4]; refine ⟨?_, ?_, by norm_num⟩ <;> first | exact Or.inr h1 | exact Or.inr h2 | exact Or.inr h3 | exact Or.inr h4 | exact Or.inl (by norm_num)
        · simp only [if_neg h4]; refine ⟨?_, ?_, by norm_num⟩ <;> first | exact Or.inr h1 | exact Or.inr h2 | exact Or.inr h3 | exact Or.inr h4 | exact Or.inl (by norm_num)
      · simp only [h3, if_false]
        by_cases h4 : e (0 + 4) < x
        · simp only [if_pos h4]; refine ⟨?_, ?_, by norm_num⟩ <;> first | exact Or.inr h1 | exact Or.inr h2 | exact Or.inr h3 | exact Or.inr h4 | exact Or.inl (by norm_num)
        · simp only [if_neg h4]; refine ⟨?_, ?_, by norm_num⟩ <;> first | exact Or.inr h1 | exact Or.inr h2 | exact Or.inr h3 | exact Or.inr h4 | exact Or.inl (by norm_num)
    · simp only [h2, if_false]
      by_cases h3 : e (0 + 1) < x
      · simp only [h3, if_true]
        by_cases h4 : e (0 + 2) < x
        · simp only [if_pos h4]; refine ⟨?_, ?_, by norm_num⟩ <;> first | exact Or.inr h1 | exact Or.inr h2 | exact Or.inr h3 | exact Or.inr h4 | exact Or.inl (by norm_num)
        · simp only [if_neg h4]; refine ⟨?_, ?_, by norm_num⟩ <;> first | exact Or.inr h1 | exact Or.inr h2 | exact Or.inr h3 | exact Or.inr h4 | exact Or.inl (by norm_num)
      · simp only [h3, if_false]
        by_cases h4 : e 0 < x
        · simp only [if_pos h4]; refine ⟨?_, ?_, by norm_num⟩ <;> first | exact Or.inr h1 | exact Or.inr h2 | exact Or.inr h3 | exact Or.inr h4 | exact Or.inl (by norm_num)
        · simp only [if_neg h4]; refine ⟨?_, ?_, by norm_num⟩ <;> first | exact Or.inr h1 | exact Or.inr h2 | exact Or.inr h3 | exact Or.inr h4 | exact Or.inl (by norm_num)

/-- On ascending edges: an edge is below `x` exactly when it is one of the first `edgesBelow`. -/
theorem edgesBelow_spec (e : ℕ → EReal) (hm : ∀ i j, i ≤ j → j < 16 → e i ≤ e j) (x : EReal) {i : ℕ} (hi : i < 15) :
    e i < x ↔ i < edgesBelow e x := by
  obtain ⟨hl, hr, h15⟩ := edgesBelow_ends e x
  constructor
  · intro h
    by_contra hn
    rcases hr with hr | hr
    · omega
    · exact hr (lt_of_le_of_lt (hm _ i (by omega) (by omega)) h)
  · intro h
    rcases hl with hl | hl
    · omega
    · exact lt_of_le_of_lt (hm i _ (by omega) (by omega)) hl

/-- `x` falls in the bin above edge `b`: `b + 1` edges are below it, and it is not above the top edge. -/
theorem in_bin_iff (e : ℕ → EReal) (hm : ∀ i j, i ≤ j → j < 16 → e i ≤ e j) (x : EReal) {b : ℕ} (hb : b < 15) :
    (x ≤ e 15 ∧ edgesBelow e x = b + 1) ↔ (e b < x ∧ x ≤ e (b + 1)) := by
  have h15 := (edgesBelow_ends e x).2.2
  constructor
  · rintro ⟨h1, h2⟩
    refine ⟨(edgesBelow_spec e hm x hb).2 (by omega), ?_⟩
    by_cases hb' : b + 1 < 15
    · have := (edgesBelow_spec e hm x hb').not.2 (by omega)
      exact not_lt.1 this
    · have : b + 1 = 15 := by omega
      rw [this]; exact h1
  · rintro ⟨h1, h2⟩
    refine ⟨le_trans h2 (hm _ _ (by omega) (by omega)), ?_⟩
    have hlt := (edgesBelow_spec e hm x hb).1 h1
    by_cases hb' : b + 1 < 15
    · have := (edgesBelow_spec e hm x hb').not.1 (not_lt.2 h2)
      omega
    · omega

/-- Edge `n` of an edges vector. -/
def edgeAt (E : Vec Ideal S16 .f32) (n : ℕ) : EReal := E (ix1 ⟨n % 16, Nat.mod_lt _ (by decide)⟩)

section Search

variable (E : Vec Ideal S16 .f32) (c : Vec Ideal S16 .f32) (x : S16.Idx)

theorem olt_apply (a b : Vec Ideal S16 .f32) : cmpf (F := Ideal) (φ := .f32) CmpFPredicate.olt a b x = if (a x : EReal) < b x then 1#1 else 0#1 := by
  show Ideal.cmp .olt (a x) (b x) = _
  rw [Ideal.cmp_olt]; by_cases h : (a x : EReal) < b x <;> simp [h]

theorem gather_apply (v : IVec S16 32) (h) (n : ℕ) (hn : (v x).toNat = n) :
    (loadIdx (F := Ideal) (e := .f32) E ![v] h x : EReal) = edgeAt E n := by
  unfold loadIdx edgeAt
  congr 1
  funext a
  have hlt : n < 16 := by rw [← hn]; have := h 0 x; simpa using this
  apply Fin.ext
  rw [Fin.eq_zero a]
  show (v x).toNat = n % 16
  rw [hn, Nat.mod_eq_of_lt hlt]

theorem probe1_apply : (probe1 E x : EReal) = edgeAt E 7 := by
  refine gather_apply E x _ _ 7 ?_
  simp only [k1_pay10, k1_pay9, k1_pay8, subi, addi, broadcast]; decide

/-- Where the search stands after one, two and three steps. -/
def at1 : ℕ := if edgeAt E 7 < c x then 8 else 0
def at2 : ℕ := if edgeAt E (at1 E c x + 3) < c x then at1 E c x + 4 else at1 E c x
def at3 : ℕ := if edgeAt E (at2 E c x + 1) < c x then at2 E c x + 2 else at2 E c x

theorem probe2_apply : (probe2 E c x : EReal) = edgeAt E (at1 E c x + 3) := by
  refine gather_apply E x _ _ _ ?_
  simp only [k1_pay13, k1_pay12, k1_pay11, k1_pay9, k1_pay8, subi, addi, broadcast, select, olt_apply, probe1_apply, at1]
  by_cases h1 : edgeAt E 7 < c x <;> simp only [h1, if_true, if_false] <;> decide

theorem probe3_apply : (probe3 E c x : EReal) = edgeAt E (at2 E c x + 1) := by
  refine gather_apply E x _ _ _ ?_
  simp only [k1_pay16, k1_pay15, k1_pay14, k1_pay12, k1_pay11, k1_pay9, k1_pay8, subi, addi, broadcast, select, olt_apply,
    probe1_apply, probe2_apply, at2]
  by_cases h2 : edgeAt E (at1 E c x + 3) < c x <;> simp only [h2, if_true, if_false] <;> simp only [at1] <;>
    by_cases h1 : edgeAt E 7 < c x <;> simp only [h1, if_true, if_false] <;> decide

theorem probe4_apply : (probe4 E c x : EReal) = edgeAt E (at3 E c x) := by
  refine gather_apply E x _ _ _ ?_
  simp only [k1_pay19, k1_pay18, k1_pay17, k1_pay15, k1_pay14, k1_pay12, k1_pay11, k1_pay9, k1_pay8, subi, addi, broadcast, select, olt_apply,
    probe1_apply, probe2_apply, probe3_apply, at3]
  by_cases h3 : edgeAt E (at2 E c x + 1) < c x <;> simp only [h3, if_true, if_false] <;> simp only [at2] <;>
    by_cases h2 : edgeAt E (at1 E c x + 3) < c x <;> simp only [h2, if_true, if_false] <;> simp only [at1] <;>
    by_cases h1 : edgeAt E 7 < c x <;> simp only [h1, if_true, if_false] <;> decide

theorem pay21_apply : (k1_pay21 c (probe1 E) (probe2 E c) (probe3 E c) (probe4 E c) x).toNat = 2 * edgesBelow (edgeAt E) (c x) := by
  have e : edgesBelow (edgeAt E) (c x) = if edgeAt E (at3 E c x) < c x then at3 E c x + 1 else at3 E c x := rfl
  rw [e]
  simp only [k1_pay21, k1_pay18, k1_pay17, k1_pay15, k1_pay14, k1_pay12, k1_pay11, k1_pay9, k1_pay8, muli, addi, broadcast, select, olt_apply,
    probe1_apply, probe2_apply, probe3_apply, probe4_apply]
  by_cases h4 : edgeAt E (at3 E c x) < c x <;> simp only [h4, if_true, if_false] <;> simp only [at3] <;>
    by_cases h3 : edgeAt E (at2 E c x + 1) < c x <;> simp only [h3, if_true, if_false] <;> simp only [at2] <;>
    by_cases h2 : edgeAt E (at1 E c x + 3) < c x <;> simp only [h2, if_true, if_false] <;> simp only [at1] <;>
    by_cases h1 : edgeAt E 7 < c x <;> simp only [h1, if_true, if_false] <;> decide

end Search

/-- Whether a label is the class, as 0 or 1. -/
def hitOf (cls lab : BitVec 32) : ℕ := if lab = cls then 1 else 0

theorem basePos_apply (E c : Vec Ideal S16 .f32) (cls : IVec S16 32) (l : Vec Ideal S16 .i32) (x : S16.Idx) :
    (basePos E cls c l x).toNat = (2 * edgesBelow (edgeAt E) (c x) + hitOf (cls x) (l x)) * 48 + (x 0).val := by
  unfold basePos
  rw [pay3_toNat _ _ (pay20_le _ _) (pay21_le _ _ _ _ _), pay21_apply]
  congr 3
  simp only [k1_pay20, broadcast, select, cmpi, hitOf]
  by_cases h : l x = cls x
  · rw [if_pos h, h]; simp [IntOp.cmpi, Scalar.select]
  · rw [if_neg h]
    have : IntOp.cmpi .eq (l x) (cls x) = 0#1 := by
      show BitVec.ofBool (l x == cls x) = 0#1
      rw [beq_eq_false_iff_ne.2 h]; rfl
    rw [this]; rfl

/-! ## Scatter-adds as sums -/

/-- Steps that each add a term at `q`, folded: the terms' sum. -/
theorem foldl_at {ι J : Type} (q : J) (step : (J → EReal) → ι → J → EReal) (w : ι → EReal)
    (hstep : ∀ g k, step g k q = g q + w k) (L : List ι) : ∀ g, L.foldl step g q = g q + (L.map w).sum := by
  induction L with
  | nil => intro g; simp
  | cons k L ih => intro g; rw [List.foldl_cons, ih, List.map_cons, List.sum_cons, ← add_assoc, hstep]

/-- A masked scatter-add over the extended reals, read at a position: what was there, plus the masked lanes' values
    whose position it is. -/
theorem storeIdx_add (f : Vec Ideal S1536 .f32) (idx : IVec S16 32) (v : Vec Ideal S16 .f32) (mask : IVec S16 1) (h) (q : S1536.Idx) :
    (storeIdx (F := Ideal) (e := .f32) f ![idx] v mask true h q : EReal)
      = (f q : EReal) + ∑ k : Fin 16, if mask (ix1 k) = 1#1 ∧ (idx (ix1 k)).toNat = (q 0).val then (v (ix1 k) : EReal) else 0 := by
  rw [Fin.sum_univ_def]
  unfold storeIdx
  refine foldl_at (ι := Fin 16) q _ (fun k => if mask (ix1 k) = 1#1 ∧ (idx (ix1 k)).toNat = (q 0).val then (v (ix1 k) : EReal) else 0) ?_ (List.finRange 16) f
  intro g k
  have hk : (Shape.ofLane (d := ![16]) k : S16.Idx) = ix1 k := by
    funext a; rw [Fin.eq_zero a]; rfl
  dsimp only
  rw [hk]
  by_cases hmask : mask (ix1 k) = 1#1
  · rw [if_pos (show mask (ix1 k) = 1 from hmask)]
    by_cases hq : (idx (ix1 k)).toNat = (q 0).val
    · have hqi : q = idxAt ![idx] h (ix1 k) := by
        funext a
        apply Fin.ext
        rw [Fin.eq_zero a]; exact hq.symm
      have hall : ∀ a, (q a).val = ((idxAt ![idx] h (ix1 k)) a).val := fun a => by rw [← hqi]
      rw [if_pos hall, if_pos (rfl : true = true), ← hqi, if_pos (⟨hmask, hq⟩ : mask (ix1 k) = 1#1 ∧ (idx (ix1 k)).toNat = (q 0).val)]
      rfl
    · rw [if_neg (fun hc => hq (hc 0).symm), if_neg (fun hc => hq hc.2), add_zero]
  · rw [if_neg (show ¬ mask (ix1 k) = 1 from hmask), if_neg (fun hc => hmask hc.1), add_zero]

/-! ## The counters -/

/-- Position of the counter of (`M` edges below, label hit `H`, statistic `s`, lane `k`). -/
def cellPos (M H s k : ℕ) : ℕ := (2 * M + H) * 48 + 16 * s + k

/-- The three statistics of a probability: one, itself, its square. -/
def statOf (s : ℕ) (x : EReal) : EReal := if s = 0 then 1 else if s = 1 then x else x * x

/-- What one row adds to the counter (`M`, `H`, `s`). -/
def rowTerm (e : ℕ → EReal) (M H s : ℕ) (cls lab : BitVec 32) (x : EReal) : EReal :=
  if x ≤ e 15 ∧ edgesBelow e x = M ∧ hitOf cls lab = H then statOf s x else 0

theorem hitOf_le (cls lab : BitVec 32) : hitOf cls lab ≤ 1 := by unfold hitOf; split_ifs <;> omega

section Cell

variable (E : Vec Ideal S16 .f32) (cls : IVec S16 32) (c : Vec Ideal S16 .f32) (l : Vec Ideal S16 .i32)

theorem topEdge_apply (x : S16.Idx) : (topEdge E x : EReal) = edgeAt E 15 := gather_apply E x _ _ 15 rfl

theorem mask_apply (x : S16.Idx) : k1_pay4 (topEdge E) c x = 1#1 ↔ (c x : EReal) ≤ edgeAt E 15 := by
  show Ideal.cmp .ole (c x) (topEdge E x) = 1#1 ↔ _
  rw [topEdge_apply]
  exact Ideal.cmp_ole_eq_one _ _

/-- The lanes' contributions to one counter: only its own lane's. -/
theorem lane_sum (s M H k : ℕ) (hs : s < 3) (hM : M < 16) (hH : H < 2) (hk : k < 16) (t : ℕ) (ht : t < 3) (v : Vec Ideal S16 .f32)
    (idx : IVec S16 32) (hidx : ∀ x, (idx x).toNat = (basePos E cls c l x).toNat + 16 * t) :
    (∑ j : Fin 16, if k1_pay4 (topEdge E) c (ix1 j) = 1#1 ∧ (idx (ix1 j)).toNat = cellPos M H s k then (v (ix1 j) : EReal) else 0)
      = if s = t ∧ (c (ix1 ⟨k, hk⟩) : EReal) ≤ edgeAt E 15 ∧ edgesBelow (edgeAt E) (c (ix1 ⟨k, hk⟩)) = M
          ∧ hitOf (cls (ix1 ⟨k, hk⟩)) (l (ix1 ⟨k, hk⟩)) = H then (v (ix1 ⟨k, hk⟩) : EReal) else 0 := by
  have hpos : ∀ j : Fin 16, (idx (ix1 j)).toNat = cellPos M H s k ↔
      (j = ⟨k, hk⟩ ∧ s = t ∧ edgesBelow (edgeAt E) (c (ix1 j)) = M ∧ hitOf (cls (ix1 j)) (l (ix1 j)) = H) := by
    intro j
    rw [hidx, basePos_apply]
    unfold cellPos
    have h1 := hitOf_le (cls (ix1 j)) (l (ix1 j))
    have h2 := (edgesBelow_ends (edgeAt E) (c (ix1 j))).2.2
    have h3 : ((ix1 j : S16.Idx) 0).val = j.val := rfl
    have h4 := j.isLt
    rw [h3, Fin.ext_iff]
    show _ ↔ (j.val = k ∧ _)
    omega
  simp only [hpos, mask_apply]
  rw [Finset.sum_eq_single ⟨k, hk⟩]
  · congr 1
    apply propext
    constructor
    · rintro ⟨a, _, b, c, d⟩; exact ⟨b, a, c, d⟩
    · rintro ⟨b, a, c, d⟩; exact ⟨a, rfl, b, c, d⟩
  · intro j _ hj
    rw [if_neg]
    rintro ⟨_, h, _⟩; exact hj h
  · intro h; exact absurd (Finset.mem_univ _) h

theorem acIdx_val {p : ℕ} (h : p < 1536) : (acIdx p 0).val = p := Nat.mod_eq_of_lt h

theorem cellPos_lt {s M H k : ℕ} (hs : s < 3) (hM : M < 16) (hH : H < 2) (hk : k < 16) : cellPos M H s k < 1536 := by
  unfold cellPos; omega

/-- One vector's effect on a counter. -/
theorem scatterTrip_cell (A : Vec Ideal S1536 .f32) (s M H k : ℕ) (hs : s < 3) (hM : M < 16) (hH : H < 2) (hk : k < 16) :
    (scatterTrip E (topEdge E) cls c l A (acIdx (cellPos M H s k)) : EReal)
      = (A (acIdx (cellPos M H s k)) : EReal) + rowTerm (edgeAt E) M H s (cls (ix1 ⟨k, hk⟩)) (l (ix1 ⟨k, hk⟩)) (c (ix1 ⟨k, hk⟩)) := by
  unfold scatterTrip scatter2 scatter1 scatter0
  rw [storeIdx_add, storeIdx_add, storeIdx_add, acIdx_val (cellPos_lt hs hM hH hk),
    lane_sum E cls c l s M H k hs hM hH hk 0 (by omega) _ _ (fun x => rfl),
    lane_sum E cls c l s M H k hs hM hH hk 1 (by omega) _ _ (fun x => pay5_toNat _ (basePos_lt E cls c l) x),
    lane_sum E cls c l s M H k hs hM hH hk 2 (by omega) _ _ (fun x => pay6_toNat _ (basePos_lt E cls c l) x),
    add_assoc, add_assoc]
  congr 1
  unfold rowTerm statOf
  have hone : (k1_pay22 (F := Ideal) (ix1 ⟨k, hk⟩) : EReal) = 1 := by
    show Ideal.ofBits .f32 0x3F800000#32 = 1
    simp
  have hsq : (k1_pay7 c (ix1 ⟨k, hk⟩) : EReal) = (c (ix1 ⟨k, hk⟩) : EReal) * c (ix1 ⟨k, hk⟩) := rfl
  rw [hone, hsq]
  obtain rfl | rfl | rfl : s = 0 ∨ s = 1 ∨ s = 2 := by omega
  · simp
  · simp
  · simp

end Cell

theorem scatterTrips_cell (E : Vec Ideal S16 .f32) (cls : IVec S16 32) (bc : Vec Ideal S8192 .f32) (bl : Vec Ideal S8192 .i32)
    (A : Vec Ideal S1536 .f32) (s M H k : ℕ) (hs : s < 3) (hM : M < 16) (hH : H < 2) (hk : k < 16) (f : ℕ → EReal)
    (hf : ∀ t : Fin 512, rowTerm (edgeAt E) M H s (cls (ix1 ⟨k, hk⟩)) (bl (chunkIdx t (ix1 ⟨k, hk⟩))) (bc (chunkIdx t (ix1 ⟨k, hk⟩))) = f t.val)
    (n : ℕ) (hn : n ≤ 512) :
    (scatterTrips E (topEdge E) cls bc bl A n (acIdx (cellPos M H s k)) : EReal)
      = (A (acIdx (cellPos M H s k)) : EReal) + ∑ t ∈ Finset.range n, f t := by
  induction n with
  | zero => simp [scatterTrips]
  | succ n ih =>
    have h : n < 512 := by omega
    rw [scatterTrips, dif_pos h, scatterTrip_cell E cls _ _ _ s M H k hs hM hH hk, ih (by omega), Finset.sum_range_succ, add_assoc]
    congr 2
    exact hf ⟨n, h⟩

theorem scatterChunks_cell (E : Vec Ideal S16 .f32) (cls : IVec S16 32) (bc : ℕ → Vec Ideal S8192 .f32) (bl : ℕ → Vec Ideal S8192 .i32)
    (A : Vec Ideal S1536 .f32) (s M H k : ℕ) (hs : s < 3) (hM : M < 16) (hH : H < 2) (hk : k < 16) (f : ℕ → ℕ → EReal)
    (hf : ∀ n (t : Fin 512), rowTerm (edgeAt E) M H s (cls (ix1 ⟨k, hk⟩)) (bl n (chunkIdx t (ix1 ⟨k, hk⟩))) (bc n (chunkIdx t (ix1 ⟨k, hk⟩))) = f n t.val)
    (n : ℕ) :
    (scatterChunks E (topEdge E) cls bc bl A n (acIdx (cellPos M H s k)) : EReal)
      = (A (acIdx (cellPos M H s k)) : EReal) + ∑ i ∈ Finset.range n, ∑ t ∈ Finset.range 512, f i t := by
  induction n with
  | zero => simp [scatterChunks]
  | succ n ih =>
    rw [scatterChunks, scatterTrips_cell E cls _ _ _ s M H k hs hM hH hk (f n) (hf n) 512 le_rfl, ih, Finset.sum_range_succ _ n, add_assoc]

/-- The term that staged row `j` of class `r` adds to a counter. -/
def colTerm (Cf : Vec Ideal S10x1007616 .f32) (Lb : Vec Ideal S1007616 .i32) (Ed : Vec Ideal S10x16 .f32) (r M H s j : ℕ) : EReal :=
  rowTerm (edgeAt (edRow Ed r)) M H s (BitVec.ofNat 32 r) (Lb (lbIdx j)) (Cf (cfIdx r j))

/-- A task's counter, as the sum over its chunks and vectors of one lane's rows. -/
theorem rowOut_cell (Cf : Vec Ideal S10x1007616 .f32) (Lb : Vec Ideal S1007616 .i32) (Ed : Vec Ideal S10x16 .f32) (w s M H k : ℕ)
    (hs : s < 3) (hM : M < 16) (hH : H < 2) (hk : k < 16) :
    (rowOut Cf Lb Ed w (acIdx (cellPos M H s k)) : EReal)
      = ∑ i ∈ Finset.range 41, ∑ t ∈ Finset.range 512, colTerm Cf Lb Ed (w / 3) M H s (colOf w i + (16 * t + k)) := by
  unfold rowOut
  rw [scatterChunks_cell _ _ _ _ _ s M H k hs hM hH hk (fun i t => colTerm Cf Lb Ed (w / 3) M H s (colOf w i + (16 * t + k)))]
  · have : (zeroWord (F := Ideal) : EReal) = 0 := Ideal.ofBits_zero_f32
    rw [this, zero_add]
  · intro n t
    unfold colTerm
    have hcls : k1_pay1 (BitVec.ofNat 32 (w / 3)) (ix1 ⟨k, hk⟩) = BitVec.ofNat 32 (w / 3) := by
      simp only [k1_pay1, muli, broadcast, IntOp.muli]; exact BitVec.one_mul _
    rw [hcls]
    rfl

/-! ## All the rows -/

theorem sum_range_mul {M : Type*} [AddCommMonoid M] (a b : ℕ) (f : ℕ → M) :
    ∑ n ∈ Finset.range (a * b), f n = ∑ i ∈ Finset.range a, ∑ j ∈ Finset.range b, f (b * i + j) := by
  induction a with
  | zero => simp
  | succ a ih => rw [Nat.succ_mul, Finset.sum_range_add, ih, Finset.sum_range_succ, Nat.mul_comm a b]

/-- The three thirds, the chunks, the vectors and the lanes together run over every staged row once. -/
theorem sum_rows {M : Type*} [AddCommMonoid M] (g : ℕ → M) :
    ∑ th ∈ Finset.range 3, ∑ k ∈ Finset.range 16, ∑ i ∈ Finset.range 41, ∑ t ∈ Finset.range 512, g (335872 * th + 8192 * i + (16 * t + k))
      = ∑ j ∈ Finset.range 1007616, g j := by
  rw [show 1007616 = 3 * 335872 from rfl, sum_range_mul]
  refine Finset.sum_congr rfl fun th _ => ?_
  rw [show 335872 = 41 * 8192 from rfl, sum_range_mul, Finset.sum_comm]
  refine Finset.sum_congr rfl fun i _ => ?_
  rw [show 8192 = 512 * 16 from rfl, sum_range_mul, Finset.sum_comm]
  refine Finset.sum_congr rfl fun t _ => Finset.sum_congr rfl fun k _ => ?_
  rw [add_assoc]

end Cert.Proof.Bins

end
-- ==== Proof.Algebra.lean ====
/-
  One bin's error, two ways, over the extended reals.

  The reference sums over the rows in the bin the square of |probability − (hits − own hit) / (rows − 1)|. The kernel
  has, for the rows with and without the hit, their number, the sum of their probabilities and the sum of the squares,
  and expands the square. When the probabilities in the bin are real numbers both are the same real number
  (`bins_agree`), and so are the two orders of the final division by the number of rows and of classes (`means_agree`).
-/
module

public import Idealize.ShloMosaic.PureOps.Ideal.Laws
public import Idealize.ShloMosaic.Lib.IdealHost

@[expose] public section

noncomputable section

namespace Cert.Proof.Bins

open Idealize.ShloMosaic

/-- A finite sum of real numbers, as extended reals. -/
theorem coe_sum {ι : Type} (S : Finset ι) (f : ι → ℝ) : (∑ j ∈ S, ((f j : ℝ) : EReal)) = ((∑ j ∈ S, f j : ℝ) : EReal) := by
  classical
  induction S using Finset.induction_on with
  | empty => simp
  | insert a S ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem div_real (a b : ℝ) (hb : b ≠ 0) : Ideal.div (a : EReal) (b : EReal) = ((a / b : ℝ) : EReal) := by
  rw [Ideal.div_coe hb, ← EReal.coe_mul]; congr 1; ring

/-! ## The kernel's form -/

/-- The kernel's bin: `T H s` is the statistic `s` (number, sum, sum of squares) over the rows with hit `H`. -/
def binKer (T : ℕ → ℕ → EReal) : EReal :=
  let D := max ((T 0 0 + T 1 0) - 1) 1
  let a0 := Ideal.div (T 1 0) D
  let a1 := Ideal.div (T 1 0 - 1) D
  if 2 ≤ T 0 0 + T 1 0 then
    ((T 0 2 + T 1 2) - 2 * (a0 * T 0 1 + a1 * T 1 1) + (T 0 0 * a0) * a0) + (T 1 0 * a1) * a1
  else 0

/-- The same over the reals. -/
def binKerR (t : ℕ → ℕ → ℝ) : ℝ :=
  let D := max ((t 0 0 + t 1 0) - 1) 1
  let a0 := t 1 0 / D
  let a1 := (t 1 0 - 1) / D
  if 2 ≤ t 0 0 + t 1 0 then
    ((t 0 2 + t 1 2) - 2 * (a0 * t 0 1 + a1 * t 1 1) + (t 0 0 * a0) * a0) + (t 1 0 * a1) * a1
  else 0

theorem binKer_real (t : ℕ → ℕ → ℝ) : binKer (fun H s => ((t H s : ℝ) : EReal)) = ((binKerR t : ℝ) : EReal) := by
  unfold binKer binKerR
  have hD : max ((t 0 0 + t 1 0) - 1) 1 ≠ (0 : ℝ) := ne_of_gt (lt_of_lt_of_le one_pos (le_max_right _ _))
  have h1 : (1 : EReal) = ((1 : ℝ) : EReal) := rfl
  have h2 : (2 : EReal) = ((2 : ℝ) : EReal) := rfl
  have hD' : max (((t 0 0 : EReal) + (t 1 0 : EReal)) - 1) 1 = ((max ((t 0 0 + t 1 0) - 1) 1 : ℝ) : EReal) := by
    rw [h1, ← EReal.coe_add, ← EReal.coe_sub, coe_max]
  simp only [hD']
  rw [h1, h2, ← EReal.coe_sub, div_real _ _ hD, div_real _ _ hD]
  simp only [← EReal.coe_add, ← EReal.coe_sub, ← EReal.coe_mul, EReal.coe_le_coe_iff]
  split_ifs
  · rfl
  · rfl

/-! ## The reference's form -/

/-- The reference's bin over rows `ι`: those with `B` are in it, `p` their probabilities, `h` their hits. -/
def binRef {ι : Type} [Fintype ι] (B : ι → Prop) [DecidablePred B] (p : ι → EReal) (h : ι → ℕ) : EReal :=
  let n : ℕ := (Finset.univ.filter B).card
  let D : EReal := ((max ((n : ℝ) - 1) 1 : ℝ) : EReal)
  let s : EReal := ∑ j, if B j then ((h j : ℝ) : EReal) else 0
  if 1 < n then ∑ j, if B j then
      (let x := p j - Ideal.div (s - ((h j : ℝ) : EReal)) D; max x (-x) * max x (-x)) else 0
  else 0

/-- The same over the reals. -/
def binRefR {ι : Type} [Fintype ι] (B : ι → Prop) [DecidablePred B] (q : ι → ℝ) (h : ι → ℕ) : ℝ :=
  let n : ℕ := (Finset.univ.filter B).card
  let D : ℝ := max ((n : ℝ) - 1) 1
  let s : ℝ := ∑ j, if B j then (h j : ℝ) else 0
  if 1 < n then ∑ j, if B j then (q j - (s - (h j : ℝ)) / D) * (q j - (s - (h j : ℝ)) / D) else 0
  else 0

section

variable {ι : Type} [Fintype ι] (B : ι → Prop) [DecidablePred B] (p : ι → EReal) (q : ι → ℝ) (h : ι → ℕ)

theorem coe_sum_ite (f : ι → EReal) (g : ι → ℝ) (P : ι → Prop) [DecidablePred P] (hfg : ∀ j, P j → f j = ((g j : ℝ) : EReal)) :
    (∑ j, if P j then f j else 0) = ((∑ j, if P j then g j else 0 : ℝ) : EReal) := by
  rw [← coe_sum]
  refine Finset.sum_congr rfl fun j _ => ?_
  by_cases hj : P j
  · rw [if_pos hj, if_pos hj, hfg j hj]
  · rw [if_neg hj, if_neg hj]; rfl

theorem binRef_real (hp : ∀ j, B j → p j = ((q j : ℝ) : EReal)) : binRef B p h = ((binRefR B q h : ℝ) : EReal) := by
  unfold binRef binRefR
  have hD : max (((Finset.univ.filter B).card : ℝ) - 1) 1 ≠ 0 := ne_of_gt (lt_of_lt_of_le one_pos (le_max_right _ _))
  simp only
  rw [coe_sum_ite (fun j => ((h j : ℝ) : EReal)) (fun j => (h j : ℝ)) B (fun _ _ => rfl)]
  split_ifs
  · refine coe_sum_ite _ _ B fun j hj => ?_
    rw [hp j hj, ← EReal.coe_sub, div_real _ _ hD, ← EReal.coe_sub, ← EReal.coe_neg, coe_max, ← EReal.coe_mul]
    congr 1
    exact abs_mul_abs_self (α := ℝ) _
  · rfl

/-- The kernel's statistics of the rows in the bin. -/
def binStats (H s : ℕ) : ℝ := ∑ j, if B j ∧ h j = H then (if s = 0 then 1 else if s = 1 then q j else q j * q j) else 0

theorem bin_forms (hh : ∀ j, h j ≤ 1) : binKerR (binStats B q h) = binRefR B q h := by
  unfold binKerR binRefR
  have hs : ∀ (f : ι → ℝ) , (∑ j, if B j ∧ h j = 0 then f j else 0) + (∑ j, if B j ∧ h j = 1 then f j else 0) = ∑ j, if B j then f j else 0 := by
    intro f
    rw [← Finset.sum_add_distrib]
    refine Finset.sum_congr rfl fun j _ => ?_
    have := hh j
    by_cases hb : B j
    · obtain h0 | h1 : h j = 0 ∨ h j = 1 := by omega
      · simp [hb, h0]
      · simp [hb, h1]
    · simp [hb]
  have hn : binStats B q h 0 0 + binStats B q h 1 0 = ((Finset.univ.filter B).card : ℝ) := by
    unfold binStats
    rw [hs]
    simp
  have hsum : (∑ j, if B j then (h j : ℝ) else 0) = binStats B q h 1 0 := by
    unfold binStats
    refine Finset.sum_congr rfl fun j _ => ?_
    have := hh j
    by_cases hb : B j
    · obtain h0 | h1 : h j = 0 ∨ h j = 1 := by omega
      · simp [hb, h0]
      · simp [hb, h1]
    · simp [hb]
  simp only
  rw [hn, hsum]
  set D : ℝ := max (((Finset.univ.filter B).card : ℝ) - 1) 1
  have h2 : (2 ≤ ((Finset.univ.filter B).card : ℝ)) ↔ 1 < (Finset.univ.filter B).card := by
    constructor
    · intro h; have : (2 : ℕ) ≤ (Finset.univ.filter B).card := by exact_mod_cast h
      omega
    · intro h; exact_mod_cast h
  by_cases hc : 1 < (Finset.univ.filter B).card
  · rw [if_pos hc, if_pos (h2.2 hc)]
    set a0 : ℝ := binStats B q h 1 0 / D with ha0
    set a1 : ℝ := (binStats B q h 1 0 - 1) / D with ha1
    have e : ∀ j, (if B j then (q j - (binStats B q h 1 0 - (h j : ℝ)) / D) * (q j - (binStats B q h 1 0 - (h j : ℝ)) / D) else 0)
        = (if B j then q j * q j else 0) - 2 * (a0 * (if B j ∧ h j = 0 then q j else 0) + a1 * (if B j ∧ h j = 1 then q j else 0))
          + ((if B j ∧ h j = 0 then 1 else 0) * a0) * a0 + ((if B j ∧ h j = 1 then 1 else 0) * a1) * a1 := by
      intro j
      have := hh j
      by_cases hb : B j
      · obtain h0 | h1 : h j = 0 ∨ h j = 1 := by omega
        · simp only [hb, h0, if_true, true_and, Nat.cast_zero, sub_zero, ← ha0]; norm_num; ring
        · simp only [hb, h1, if_true, true_and, Nat.cast_one, ← ha1]; norm_num; ring
      · simp [hb]
    simp only [e]
    rw [Finset.sum_add_distrib, Finset.sum_add_distrib, Finset.sum_sub_distrib, ← Finset.mul_sum, Finset.sum_add_distrib, ← Finset.mul_sum, ← Finset.mul_sum,
      ← Finset.sum_mul, ← Finset.sum_mul, ← Finset.sum_mul, ← Finset.sum_mul, ← hs]
    unfold binStats
    simp
  · rw [if_neg hc, if_neg (fun h => hc (h2.1 h))]

/-- The two forms agree when the probabilities in the bin are real, and are then a real number. -/
theorem bins_agree (hh : ∀ j, h j ≤ 1) (hp : ∀ j, B j → p j = ((q j : ℝ) : EReal)) (T : ℕ → ℕ → EReal)
    (hT : ∀ H s, H < 2 → s < 3 → T H s = ∑ j, if B j ∧ h j = H then (if s = 0 then 1 else if s = 1 then p j else p j * p j) else 0) :
    binKer T = binRef B p h := by
  have hT' : ∀ H s, H < 2 → s < 3 → T H s = ((binStats B q h H s : ℝ) : EReal) := by
    intro H s hH hs
    rw [hT H s hH hs]
    refine coe_sum_ite _ _ (fun j => B j ∧ h j = H) fun j hj => ?_
    rw [hp j hj.1]
    split_ifs
    · rfl
    · rfl
    · rw [EReal.coe_mul]
  have hk : binKer T = binKer (fun H s => ((binStats B q h H s : ℝ) : EReal)) := by
    unfold binKer
    simp only [hT' 0 0 (by omega) (by omega), hT' 1 0 (by omega) (by omega), hT' 0 1 (by omega) (by omega), hT' 1 1 (by omega) (by omega),
      hT' 0 2 (by omega) (by omega), hT' 1 2 (by omega) (by omega)]
  rw [hk, binKer_real, bin_forms B q h hh, binRef_real B p q h hp]

end

/-! ## The means -/

/-- Dividing each class's sum by the number of rows and the total by the number of classes, or the total by both. -/
theorem means_agree (x : Fin 10 → Fin 15 → ℝ) :
    Ideal.div (∑ r : Fin 10, Ideal.div (∑ b : Fin 15, ((x r b : ℝ) : EReal)) ((1000000 : ℝ) : EReal)) ((10 : ℝ) : EReal)
      = Ideal.div (Ideal.div (∑ r : Fin 10, ∑ b : Fin 15, ((x r b : ℝ) : EReal)) ((10 : ℝ) : EReal)) ((1000000 : ℝ) : EReal) := by
  simp only [coe_sum]
  have h : ∀ r, Ideal.div ((∑ b : Fin 15, x r b : ℝ) : EReal) ((1000000 : ℝ) : EReal) = (((∑ b : Fin 15, x r b) / 1000000 : ℝ) : EReal) :=
    fun r => div_real _ _ (by norm_num)
  simp only [h, coe_sum]
  rw [div_real _ _ (by norm_num), div_real _ _ (by norm_num), div_real _ _ (by norm_num), ← Finset.sum_div]
  congr 1
  ring

end Cert.Proof.Bins

end
-- ==== Proof.RefValue.lean ====
/-
  The reference's result over the exact reals: per class and bin the form `binRef` of Algebra.lean over the rows, and
  the means of these.
-/
module

public import proofs.«01_k».proof.Proof.Soft
public import proofs.«01_k».proof.Proof.Place
public import proofs.«01_k».proof.Proof.Algebra
public import Idealize.ShloMosaic.Lib.IndicatorCount

@[expose] public section

noncomputable section

namespace Cert.Proof.Bins

open Idealize.ShloMosaic
open Idealize.ShloMosaic.ValueIdx (idx2_lt0 idx2_lt1 select_apply select_one select_zero)
open Cert.ReferenceIdeal.Read

/-- Row `j`'s probability of class `r`. -/
def probOf (x0 : Vec Ideal Cert.ReferenceIdeal.S1000000x10 .f32) (r : Fin 10) (j : Fin 1000000) : EReal :=
  rowSoft (fun k => x0 (ValueIdx.ix2 j k)) r

/-- Class `r`'s edge `n`. -/
def edgeOf (x2 : Vec Ideal Cert.ReferenceIdeal.S10x16 .f32) (r : Fin 10) : ℕ → EReal := edgeAt (edRow x2 r.val)

/-- Whether row `j`'s label is class `r`. -/
def hitAt (x1 : Vec Ideal Cert.ReferenceIdeal.S1000000 .i32) (r : Fin 10) (j : Fin 1000000) : ℕ :=
  hitOf (BitVec.ofNat 32 r.val) (x1 (ValueIdx.ix1 j))

/-- Row `j`'s probability of class `r` lies in bin `b`. -/
def InBin (x0 : Vec Ideal Cert.ReferenceIdeal.S1000000x10 .f32) (x2 : Vec Ideal Cert.ReferenceIdeal.S10x16 .f32) (r : Fin 10) (b : Fin 15) (j : Fin 1000000) : Prop :=
  edgeOf x2 r b.val < probOf x0 r j ∧ probOf x0 r j ≤ edgeOf x2 r (b.val + 1)

instance (x0 : Vec Ideal Cert.ReferenceIdeal.S1000000x10 .f32) (x2 : Vec Ideal Cert.ReferenceIdeal.S10x16 .f32) (r : Fin 10) (b : Fin 15) :
    DecidablePred (InBin x0 x2 r b) := fun _ => Classical.propDecidable _

theorem ofBits_ten : (Ideal.ofBits .f32 0x41200000#32 : EReal) = ((10 : ℝ) : EReal) := by
  simp [Ideal.ofBits, Ideal.ieee, -EReal.coe_mul]; norm_num

theorem ofBits_million : (Ideal.ofBits .f32 0x49742400#32 : EReal) = ((1000000 : ℝ) : EReal) := by
  simp [Ideal.ofBits, Ideal.ieee, -EReal.coe_mul]; norm_num

theorem sum_idx1 {n : ℕ} (f : (⟨1, ![n]⟩ : Shape).Idx → EReal) : ∑ i, f i = ∑ k : Fin n, f (ValueIdx.ix1 k) :=
  (Equiv.sum_comp (⟨fun k => ValueIdx.ix1 k, fun i => i 0, fun _ => rfl, fun i => (ValueIdx.eq_ix1 i).symm⟩ : Fin n ≃ (⟨1, ![n]⟩ : Shape).Idx) f).symm

section Read

variable (x0 : Vec Ideal Cert.ReferenceIdeal.S1000000x10 .f32) (x1 : Vec Ideal Cert.ReferenceIdeal.S1000000 .i32)
  (x2 : Vec Ideal Cert.ReferenceIdeal.S10x16 .f32) (r : Fin 10) (b : Fin 15) (j : Fin 1000000)

theorem v11_at (i : Cert.ReferenceIdeal.S10x1000000.Idx) (h0 : (i 0).val = r.val) (h1 : (i 1).val = j.val) :
    (val_main_v11 (F := Ideal) x0 i : EReal) = probOf x0 r j := by
  rw [ref_soft_apply]
  unfold probOf
  have e0 : (⟨(i 0).val, idx2_lt0 i⟩ : Fin 10) = r := Fin.ext h0
  have e1 : (⟨(i 1).val, idx2_lt1 i⟩ : Fin 1000000) = j := Fin.ext h1
  rw [e0, e1]

theorem edge_at (i : Cert.ReferenceIdeal.S10x16.Idx) (n : ℕ) (h0 : (i 0).val = r.val) (h1 : (i 1).val = n) :
    (x2 i : EReal) = edgeOf x2 r n := by
  unfold edgeOf edgeAt edRow
  have hr := r.isLt
  have hi : (i 1).val < 16 := idx2_lt1 i
  refine congrArg x2 (funext fun a => Fin.ext ?_)
  match a with
  | ⟨0, _⟩ => show (i 0).val = r.val % 10; omega
  | ⟨1, _⟩ => show (i 1).val = n % 16; omega

/-- The comparison with the bin's two edges. -/
theorem v31_at : val_main_v31 (F := Ideal) x0 x2 (ValueIdx.ix3 r b j) = if InBin x0 x2 r b j then 1#1 else 0#1 := by
  rw [val_main_v31_apply, val_main_v25_apply, val_main_v30_apply, val_main_v23_apply, val_main_v24_apply, val_main_v28_apply, val_main_v29_apply,
    val_main_v21_apply, val_main_v22_apply, val_main_v26_apply, val_main_v27_apply, val_main_v19_apply, val_main_v20_apply,
    v11_at x0 r j _ rfl rfl, edge_at x2 r _ b.val rfl rfl, edge_at x2 r _ (b.val + 1) rfl (Nat.add_comm _ _)]
  show IntOp.andi (Ideal.cmp .ogt (probOf x0 r j) (edgeOf x2 r b.val)) (Ideal.cmp .ole (probOf x0 r j) (edgeOf x2 r (b.val + 1))) = _
  rw [Ideal.cmp_ogt, Ideal.cmp_ole]
  unfold InBin
  by_cases h1 : edgeOf x2 r b.val < probOf x0 r j <;> by_cases h2 : probOf x0 r j ≤ edgeOf x2 r (b.val + 1) <;>
    simp [h1, h2, IntOp.andi]

/-- The label's indicator. -/
theorem v18_at (i : Cert.ReferenceIdeal.S10x1000000.Idx) (h0 : (i 0).val = r.val) (h1 : (i 1).val = j.val) :
    (val_main_v18 (F := Ideal) x1 i : EReal) = ((hitAt x1 r j : ℝ) : EReal) := by
  rw [val_main_v18_apply, val_main_v17_apply, val_main_v15_apply, val_main_v16_apply, val_main_v12_apply, val_main_v14_apply, val_main_v13_apply]
  have e1 : idx_main_v12 (idx_main_v15 i) = ValueIdx.ix1 j := funext fun a => Fin.ext (by match a with | ⟨0, _⟩ => exact h1)
  have e2 : ((idx_main_v14 (idx_main_v16 i)) 0).val = r.val := h0
  rw [e1, e2]
  unfold hitAt hitOf
  show (((BitVec.ofBool (x1 (ValueIdx.ix1 j) == BitVec.ofNat 32 r.val)).toNat : ℝ) : EReal) = _
  by_cases h : x1 (ValueIdx.ix1 j) = BitVec.ofNat 32 r.val
  · rw [if_pos h, beq_iff_eq.2 h]; rfl
  · rw [if_neg h, beq_eq_false_iff_ne.2 h]; rfl

/-- The number of rows in the bin. -/
def binCount : ℕ := (Finset.univ.filter (InBin x0 x2 r b)).card

theorem binCount_le : binCount x0 x2 r b ≤ 1000000 := by
  unfold binCount
  exact (Finset.card_le_univ _).trans (by rw [Fintype.card_fin])

theorem v33_at : val_main_v33 (F := Ideal) x0 x2 (ValueIdx.ix2 r b) = BitVec.ofNat 32 (binCount x0 x2 r b) := by
  unfold val_main_v33
  have h : Cert.ReferenceIdeal.S10x15x1000000.Reduces [2] Cert.ReferenceIdeal.S10x15 := by decide
  have hl : ∀ k : Fin 1000000, h.lift (ValueIdx.ix2 r b) k = ValueIdx.ix3 r b k := fun k => funext fun a => Fin.ext (by
    match a with
    | ⟨0, _⟩ => rfl
    | ⟨1, _⟩ => rfl
    | ⟨2, _⟩ => rfl)
  have hf : val_main_v32 (F := Ideal) x0 x2 ∘ h.lift (ValueIdx.ix2 r b)
      = fun k : Fin 1000000 => (val_main_v31 (F := Ideal) x0 x2 (ValueIdx.ix3 r b k)).setWidth 32 := funext fun k =>
    congrArg (fun i => (val_main_v31 (F := Ideal) x0 x2 i).setWidth 32) (hl k)
  refine (Host.reduce_eq_fold_single (IntOp.addi (w := 32)) _ _ Cert.ReferenceIdeal.Gen.reducesTo_S10x15x1000000_S10x15_d2 h _ _).trans ?_
  rw [hf]
  refine (IndicatorCount.fold_addi_setWidth_eq_card (w := 32) (fun k : Fin 1000000 => val_main_v31 (F := Ideal) x0 x2 (ValueIdx.ix3 r b k)) Finset.univ).trans ?_
  unfold binCount
  refine congrArg (fun S : Finset (Fin 1000000) => BitVec.ofNat 32 S.card) (Finset.filter_congr fun k _ => ?_)
  rw [v31_at]
  by_cases hk : InBin x0 x2 r b k <;> simp [hk]

/-- The divisor: the count less one, at least one. -/
theorem v41_at : (val_main_v41 (F := Ideal) x0 x2 (ValueIdx.ix2 r b) : EReal) = ((max ((binCount x0 x2 r b : ℝ) - 1) 1 : ℝ) : EReal) := by
  rw [val_main_v41_apply, val_main_v40_apply, val_main_v38_apply, v33_at]
  have hn := binCount_le x0 x2 r b
  generalize binCount x0 x2 r b = n at hn ⊢
  show (((IntOp.maxsi (IntOp.subi (BitVec.ofNat 32 n) 1#32) 1#32).toInt : ℝ) : EReal) = _
  have e : (IntOp.maxsi (IntOp.subi (BitVec.ofNat 32 n) 1#32) 1#32).toInt = max ((n : ℤ) - 1) 1 := by
    have h1 : (IntOp.subi (BitVec.ofNat 32 n) 1#32).toInt = (n : ℤ) - 1 := by
      show (BitVec.ofNat 32 n - 1#32).toInt = _
      rw [BitVec.toInt_sub, BitVec.toInt_eq_toNat_bmod (BitVec.ofNat 32 n), BitVec.toNat_ofNat]
      simp only [Int.bmod, show (1#32).toInt = 1 from rfl]
      omega
    unfold IntOp.maxsi
    simp only [BitVec.sle_eq_decide, BitVec.slt_eq_decide, h1, show (1#32).toInt = 1 from rfl]
    split_ifs with h2 <;> simp_all <;> omega
  rw [e]
  push_cast
  rfl

theorem v57_at : val_main_v57 (F := Ideal) x0 x2 (ValueIdx.ix2 r b) = if 1 < binCount x0 x2 r b then 1#1 else 0#1 := by
  rw [val_main_v57_apply, v33_at]
  have hn := binCount_le x0 x2 r b
  generalize binCount x0 x2 r b = n at hn ⊢
  show BitVec.ofBool ((1#32).slt (BitVec.ofNat 32 n)) = _
  have h1 : (BitVec.ofNat 32 n).toInt = (n : ℤ) := by
    rw [BitVec.toInt_eq_toNat_bmod, BitVec.toNat_ofNat]
    simp only [Int.bmod]
    omega
  rw [BitVec.slt_eq_decide, h1, show (1#32).toInt = 1 from rfl]
  by_cases h : 1 < n
  · rw [if_pos h, decide_eq_true (by omega)]; rfl
  · rw [if_neg h, decide_eq_false (by omega)]; rfl

theorem v36_at : (val_main_v36 (F := Ideal) x0 x1 x2 (ValueIdx.ix2 r b) : EReal)
    = ∑ j, if InBin x0 x2 r b j then ((hitAt x1 r j : ℝ) : EReal) else 0 := by
  rw [val_main_v36_apply]
  refine (congrArg₂ (· + ·) (show (val_main_cst_3 (F := Ideal) _ : EReal) = 0 from Ideal.ofBits_zero_f32) (Finset.sum_congr rfl fun j _ => ?_)).trans (zero_add _)
  have ei : idx_main_v36 (ValueIdx.ix2 r b) j = ValueIdx.ix3 r b j := funext fun a => Fin.ext (by
    match a with
    | ⟨0, _⟩ => rfl
    | ⟨1, _⟩ => rfl
    | ⟨2, _⟩ => rfl)
  rw [ei, val_main_v35_apply, v31_at, val_main_call0_v1_apply, val_main_v34_apply, v18_at x1 r j _ rfl rfl]
  by_cases h : InBin x0 x2 r b j
  · rw [if_pos h, if_pos h]; rfl
  · rw [if_neg h, if_neg h]
    exact Ideal.ofBits_zero_f32

/-- One row's squared gap to the bin's mean accuracy. -/
theorem v54_at : (val_main_v54 (F := Ideal) x0 x1 x2 (ValueIdx.ix3 r b j) : EReal)
    = (let x := probOf x0 r j - Ideal.div ((∑ j, if InBin x0 x2 r b j then ((hitAt x1 r j : ℝ) : EReal) else 0) - ((hitAt x1 r j : ℝ) : EReal))
        ((max ((binCount x0 x2 r b : ℝ) - 1) 1 : ℝ) : EReal)
      max x (-x) * max x (-x)) := by
  rw [val_main_v54_apply, val_main_v53_apply, val_main_v52_apply, val_main_v51_apply, val_main_v50_apply, val_main_v49_apply, val_main_v48_apply,
    val_main_v47_apply, val_main_v46_apply, val_main_v45_apply, val_main_v44_apply, val_main_v43_apply, val_main_v42_apply,
    v11_at x0 r j _ rfl rfl, v18_at x1 r j _ rfl rfl]
  have e1 : idx_main_v47 (idx_main_v48 (ValueIdx.ix3 r b j)) = ValueIdx.ix2 r b := funext fun a => Fin.ext (by
    match a with
    | ⟨0, _⟩ => rfl
    | ⟨1, _⟩ => rfl)
  have e2 : idx_main_v42 (idx_main_v44 (ValueIdx.ix3 r b j)) = ValueIdx.ix2 r b := funext fun a => Fin.ext (by
    match a with
    | ⟨0, _⟩ => rfl
    | ⟨1, _⟩ => rfl)
  rw [e1, e2, v36_at, v41_at]
  rfl

/-- The reference's term of class `r` and bin `b`. -/
theorem v59_at : (val_main_v59 (F := Ideal) x0 x1 x2 (ValueIdx.ix2 r b) : EReal) = binRef (InBin x0 x2 r b) (probOf x0 r) (hitAt x1 r) := by
  rw [val_main_v59_apply, v57_at]
  unfold binRef
  show Scalar.select (if 1 < binCount x0 x2 r b then 1#1 else 0#1) _ _ = if 1 < binCount x0 x2 r b then _ else _
  by_cases hn : 1 < binCount x0 x2 r b
  · rw [if_pos hn, if_pos hn, select_one, val_main_v58_apply]
    refine (congrArg₂ (· + ·) (show (val_main_cst_8 (F := Ideal) _ : EReal) = 0 from Ideal.ofBits_zero_f32) (Finset.sum_congr rfl fun j _ => ?_)).trans (zero_add _)
    have ei : idx_main_v58 (ValueIdx.ix2 r b) j = ValueIdx.ix3 r b j := funext fun a => Fin.ext (by
      match a with
      | ⟨0, _⟩ => rfl
      | ⟨1, _⟩ => rfl
      | ⟨2, _⟩ => rfl)
    rw [ei, val_main_v55_apply, v31_at, v54_at]
    by_cases h : InBin x0 x2 r b j
    · rw [if_pos h, if_pos h]; rfl
    · rw [if_neg h, if_neg h]
      exact Ideal.ofBits_zero_f32
  · rw [if_neg hn, if_neg hn, select_zero]
    exact Ideal.ofBits_zero_f32

/-- The reference's result. -/
theorem v64_eq (i : Cert.ReferenceIdeal.S_.Idx) : (val_main_v64 (F := Ideal) x0 x1 x2 i : EReal)
    = Ideal.div (∑ r : Fin 10, Ideal.div (∑ b : Fin 15, binRef (InBin x0 x2 r b) (probOf x0 r) (hitAt x1 r)) ((1000000 : ℝ) : EReal)) ((10 : ℝ) : EReal) := by
  rw [val_main_v64_apply, val_main_v63_apply]
  show Ideal.div ((val_main_cst_12 (F := Ideal) _ : EReal) + ∑ j : Cert.ReferenceIdeal.S10.Idx, (val_main_v62 (F := Ideal) x0 x1 x2 j : EReal)) (val_main_cst_13 (F := Ideal) i : EReal) = _
  have c13 : (val_main_cst_13 (F := Ideal) i : EReal) = ((10 : ℝ) : EReal) := ofBits_ten
  have c12 : ∀ i, (val_main_cst_12 (F := Ideal) i : EReal) = 0 := fun _ => Ideal.ofBits_zero_f32
  rw [c13, c12, zero_add, sum_idx1]
  refine congrArg (Ideal.div · _) (Finset.sum_congr rfl fun r _ => ?_)
  rw [val_main_v62_apply, val_main_v61_apply, val_main_v60_apply]
  refine congrArg₂ Ideal.div ((congrArg₂ (· + ·) (show (val_main_cst_10 (F := Ideal) _ : EReal) = 0 from Ideal.ofBits_zero_f32) (Finset.sum_congr rfl fun b _ => ?_)).trans (zero_add _)) ofBits_million
  refine Eq.trans (congrArg (val_main_v59 (F := Ideal) x0 x1 x2) (funext fun a => Fin.ext ?_)) (v59_at x0 x1 x2 r b)
  match a with
  | ⟨0, _⟩ => rfl
  | ⟨1, _⟩ => rfl

end Read

end Cert.Proof.Bins

end
-- ==== Proof.Tally.lean ====
/-
  The kernel's bins over the exact reals: each statistic as a sum over the tasks' row blocks and the lanes, each bin's
  term as `binKer` of these, and the mean.
-/
module

public import proofs.«01_k».proof.Proof.Result
public import proofs.«01_k».proof.Proof.RefValue
public import Idealize.ShloMosaic.Lib.ValueIdxRank6
public import Idealize.ShloMosaic.Lib.ReduceAll

@[expose] public section

noncomputable section

namespace Cert.Proof.Bins

open Cert.KernelIdeal Cert.KernelIdeal.Gen

open Idealize.ShloMosaic
open Idealize.ShloMosaic.ValueIdx (idx2_lt0 idx2_lt1 select_apply select_one select_zero)

theorem cell_lt {M H s k : ℕ} (hM : M < 16) (hH : H < 2) (hs : s < 3) (hk : k < 16) : cellPos M H s k < 1536 := by
  unfold cellPos; omega

/-- Row `w`, position `p` of the tasks' rows. -/
def outIdx (w p : ℕ) : S30x1536.Idx := ValueIdx.ix2 ⟨w % 30, Nat.mod_lt _ (by decide)⟩ ⟨p % 1536, Nat.mod_lt _ (by decide)⟩

/-- One statistic of one class, bin and hit, over the class's three tasks and the sixteen lanes. -/
def tallySum (O : Vec Ideal S30x1536 .f32) (r M H s : ℕ) : EReal :=
  ∑ th ∈ Finset.range 3, ∑ k ∈ Finset.range 16, O (outIdx (3 * r + th) (cellPos M H s k))

section Tally

variable (O : Vec Ideal S30x1536 .f32) (r : Fin 10) (M : Fin 16) (H : Fin 2) (s : Fin 3)

/-- The split view of the tasks' rows. -/
theorem split_at (th : Fin 3) (k : Fin 16) :
    (shapeCast S10x3x16x2x3x16 O shapeCasts_S30x1536_S10x3x16x2x3x16 (ValueIdx.ix6 r th M H s k) : EReal) = O (outIdx (3 * r.val + th.val) (cellPos M.val H.val s.val k.val)) := by
  refine shapeCast_apply _ _ _ _ ?_
  rw [Shape.rowMajor_val_two, Shape.rowMajor_val_six]
  have := r.isLt; have := th.isLt; have := M.isLt; have := H.isLt; have := s.isLt; have := k.isLt
  show ((3 * r.val + th.val) % 30) * 1536 + cellPos M.val H.val s.val k.val % 1536 = ((((r.val * 3 + th.val) * 16 + M.val) * 2 + H.val) * 3 + s.val) * 16 + k.val
  unfold cellPos
  omega

theorem tallied_at : (tallied O (ValueIdx.ix4 r M H s) : EReal) = tallySum O r.val M.val H.val s.val := by
  unfold tallied
  simp only [Host.reduceAdd, Ideal.hostReduceAdd_def]
  unfold Ideal.hostReduceAdd
  refine (congrArg₂ (· + ·) (Ideal.ofBits_zero_f32 : (Ideal.ofBits .f32 0x00000000#32 : EReal) = 0) ?_).trans (zero_add _)
  unfold tallySum
  have hd : ∀ (i : S10x3x16x2x3x16.Idx), reducesTo_S10x3x16x2x3x16_S10x16x2x3_d1_5.drop i = ValueIdx.ix4 (i 0) (i 2) (i 3) (i 4) := fun i => funext fun a => Fin.ext (by
    match a with
    | ⟨0, _⟩ => rfl
    | ⟨1, _⟩ => rfl
    | ⟨2, _⟩ => rfl
    | ⟨3, _⟩ => rfl)
  rw [Finset.sum_range]
  simp only [Finset.sum_range]
  rw [← Fintype.sum_prod_type']
  refine Finset.sum_bij' (fun i _ => ((i 1, i 5) : Fin 3 × Fin 16)) (fun p _ => ValueIdx.ix6 r p.1 M H s p.2) ?_ ?_ ?_ ?_ ?_
  · exact fun _ _ => Finset.mem_univ _
  · intro p _
    rw [Finset.mem_filter]
    exact ⟨Finset.mem_univ _, hd _⟩
  · intro i hi
    rw [Finset.mem_filter, hd] at hi
    have h := hi.2
    have h0 : i 0 = r := congrFun h 0
    have h1 : i 2 = M := congrFun h 1
    have h2 : i 3 = H := congrFun h 2
    have h3 : i 4 = s := congrFun h 3
    rw [← h0, ← h1, ← h2, ← h3]
    exact (ValueIdx.eq_ix6 i).symm
  · exact fun p _ => rfl
  · intro i hi
    rw [Finset.mem_filter, hd] at hi
    have h := hi.2
    have h0 : i 0 = r := congrFun h 0
    have h1 : i 2 = M := congrFun h 1
    have h2 : i 3 = H := congrFun h 2
    have h3 : i 4 = s := congrFun h 3
    have e : i = ValueIdx.ix6 r (i 1) M H s (i 5) := by
      rw [← h0, ← h1, ← h2, ← h3]
      exact ValueIdx.eq_ix6 i
    exact (congrArg _ e).trans (split_at O r M H s (i 1) (i 5))

theorem statCol_at (b : Fin 15) (off : Fin 4 → ℕ) (h : S10x15x2x3.Slices off S10x15x1x1) (o0 : off 0 = 0) (o1 : off 1 = 0) (o2 : off 2 = H.val) (o3 : off 3 = s.val) :
    (statCol O off h (ValueIdx.ix2 r b) : EReal) = tallySum O r.val (b.val + 1) H.val s.val := by
  unfold statCol
  have hb := b.isLt
  refine (shapeCast_apply _ _ _ (ValueIdx.ix4 (n0 := 10) (n1 := 15) (n2 := 1) (n3 := 1) r b 0 0) ?_).trans ?_
  · rw [Shape.rowMajor_val_four, Shape.rowMajor_val_two]
    show ((r.val * 15 + b.val) * 1 + 0) * 1 + 0 = r.val * 15 + b.val
    omega
  refine (extractStridedSlice_apply _ _ _ _ (ValueIdx.ix4 (n0 := 10) (n1 := 15) (n2 := 2) (n3 := 3) r b H s) ?_).trans ?_
  · intro a
    match a with
    | ⟨0, _⟩ => show r.val = off 0 + r.val; omega
    | ⟨1, _⟩ => show b.val = off 1 + b.val; omega
    | ⟨2, _⟩ => show H.val = off 2 + 0; omega
    | ⟨3, _⟩ => show s.val = off 3 + 0; omega
  refine (extractStridedSlice_apply _ _ _ _ (ValueIdx.ix4 (n0 := 10) (n1 := 16) (n2 := 2) (n3 := 3) r ⟨b.val + 1, by omega⟩ H s) ?_).trans ?_
  · intro a
    match a with
    | ⟨0, _⟩ => show r.val = 0 + r.val; omega
    | ⟨1, _⟩ => show b.val + 1 = 1 + b.val; omega
    | ⟨2, _⟩ => show H.val = 0 + H.val; omega
    | ⟨3, _⟩ => show s.val = 0 + s.val; omega
  exact tallied_at O r _ H s

theorem ofBits_two : (Ideal.ofBits .f32 0x40000000#32 : EReal) = 2 := by
  simp [Ideal.ofBits, Ideal.ieee, -EReal.coe_mul]; norm_num; rfl

theorem wordAt_apply (w : BitVec 32) (i : S10x15.Idx) : (wordAt (F := Ideal) w i : EReal) = Ideal.ofBits .f32 w := rfl

/-- A bin's term, over its six statistics. -/
theorem bin_scalar (c0 c1 s0 s1 q0 q1 : EReal) :
    (let one := Ideal.ofBits .f32 0x3F800000#32
     let two := Ideal.ofBits .f32 0x40000000#32
     let D := max ((c0 + c1) - one) one
     let a0 := Ideal.div c1 D
     let a1 := Ideal.div (c1 - one) D
     Scalar.select (Ideal.cmp .oge (c0 + c1) two) ((((q0 + q1) - two * (a0 * s0 + a1 * s1)) + (c0 * a0) * a0) + (c1 * a1) * a1)
       (Ideal.ofBits .f32 0x00000000#32))
    = (let D := max ((c0 + c1) - 1) 1
       let a0 := Ideal.div c1 D
       let a1 := Ideal.div (c1 - 1) D
       if 2 ≤ c0 + c1 then (((q0 + q1) - 2 * (a0 * s0 + a1 * s1)) + (c0 * a0) * a0) + (c1 * a1) * a1 else 0) := by
  rw [Ideal.ofBits_one_f32, ofBits_two, Ideal.ofBits_zero_f32]
  dsimp only
  rw [Ideal.cmp_oge]
  by_cases h : (2 : EReal) ≤ c0 + c1
  · rw [if_pos h, decide_eq_true h]; rfl
  · rw [if_neg h, decide_eq_false h]; rfl

/-- A bin's term. -/
theorem binsAll_at (b : Fin 15) : (binsAll O (ValueIdx.ix2 r b) : EReal) = binKer (fun H s => tallySum O r.val (b.val + 1) H s) := by
  refine (bin_scalar (statCol O ![0, 0, 0, 0] slices_S10x15x2x3_S10x15x1x1_0_0_0_0 (ValueIdx.ix2 r b)) (statCol O ![0, 0, 1, 0] slices_S10x15x2x3_S10x15x1x1_0_0_1_0 (ValueIdx.ix2 r b))
    (statCol O ![0, 0, 0, 1] slices_S10x15x2x3_S10x15x1x1_0_0_0_1 (ValueIdx.ix2 r b)) (statCol O ![0, 0, 1, 1] slices_S10x15x2x3_S10x15x1x1_0_0_1_1 (ValueIdx.ix2 r b))
    (statCol O ![0, 0, 0, 2] slices_S10x15x2x3_S10x15x1x1_0_0_0_2 (ValueIdx.ix2 r b)) (statCol O ![0, 0, 1, 2] slices_S10x15x2x3_S10x15x1x1_0_0_1_2 (ValueIdx.ix2 r b))).trans ?_
  rw [statCol_at O r 0 0 b ![0, 0, 0, 0] slices_S10x15x2x3_S10x15x1x1_0_0_0_0 rfl rfl rfl rfl,
    statCol_at O r 1 0 b ![0, 0, 1, 0] slices_S10x15x2x3_S10x15x1x1_0_0_1_0 rfl rfl rfl rfl,
    statCol_at O r 0 1 b ![0, 0, 0, 1] slices_S10x15x2x3_S10x15x1x1_0_0_0_1 rfl rfl rfl rfl,
    statCol_at O r 1 1 b ![0, 0, 1, 1] slices_S10x15x2x3_S10x15x1x1_0_0_1_1 rfl rfl rfl rfl,
    statCol_at O r 0 2 b ![0, 0, 0, 2] slices_S10x15x2x3_S10x15x1x1_0_0_0_2 rfl rfl rfl rfl,
    statCol_at O r 1 2 b ![0, 0, 1, 2] slices_S10x15x2x3_S10x15x1x1_0_0_1_2 rfl rfl rfl rfl]
  rfl

/-- The mean. -/
theorem meanOf_eq (B : Vec Ideal S10x15 .f32) (i : S_.Idx) : (meanOf B i : EReal)
    = Ideal.div (Ideal.div (∑ r : Fin 10, ∑ b : Fin 15, (B (ValueIdx.ix2 r b) : EReal)) ((10 : ℝ) : EReal)) ((1000000 : ℝ) : EReal) := by
  unfold meanOf
  refine congrArg₂ Ideal.div (congrArg₂ Ideal.div ?_ ofBits_ten) ofBits_million
  simp only [Host.reduceAdd, Ideal.hostReduceAdd_def]
  refine (Ideal.hostReduceAdd_total reducesTo_S10_S_d0 (fun b => b.elim0) _ _ i).trans ?_
  refine (congrArg₂ (· + ·) (Ideal.ofBits_zero_f32 : (Ideal.ofBits .f32 0x00000000#32 : EReal) = 0) ?_).trans (zero_add _)
  rw [sum_idx1]
  refine Finset.sum_congr rfl fun r _ => ?_
  refine (Ideal.hostReduceAdd_single reducesTo_S10x15_S10_d1 (by decide) _ _ _).trans ?_
  refine (congrArg₂ (· + ·) (Ideal.ofBits_zero_f32 : (Ideal.ofBits .f32 0x00000000#32 : EReal) = 0) (Finset.sum_congr rfl fun b _ => ?_)).trans (zero_add _)
  exact congrArg B (funext fun a => Fin.ext (by match a with | ⟨0, _⟩ => rfl | ⟨1, _⟩ => rfl))

end Tally

end Cert.Proof.Bins

end
-- ==== Proof.Agree.lean ====
/-
  The kernel's and the reference's results agree: the kernel's statistics are sums over the real rows (the padded rows
  stand above every edge), so each bin's term is the reference's, and the means differ only by the order of two
  divisions.
-/
module

public import proofs.«01_k».proof.Proof.Tally
public import proofs.«01_k».proof.Defs
public import Idealize.ShloMosaic.Lib.KernelVsHost
public import proofs.«01_k».proof.Proof.Gen.Pre_edges_ok

@[expose] public section

noncomputable section

namespace Cert.Proof.Bins

open Cert.KernelIdeal Cert.KernelIdeal.Gen

open Idealize.ShloMosaic
open Idealize.ShloMosaic.ValueIdx (idx2_lt0 idx2_lt1 select_apply select_one select_zero)

/-! ## The tasks' rows -/

/-- A statistic of the tasks' rows is a sum over every padded row. -/
theorem tallySum_rows (Cf : Vec Ideal S10x1007616 .f32) (Lb : Vec Ideal S1007616 .i32) (Ed : Vec Ideal S10x16 .f32) {r M H s : ℕ}
    (hr : r < 10) (hM : M < 16) (hH : H < 2) (hs : s < 3) :
    tallySum (outAll Cf Lb Ed) r M H s = ∑ j ∈ Finset.range 1007616, colTerm Cf Lb Ed r M H s j := by
  rw [← sum_rows]
  unfold tallySum
  refine Finset.sum_congr rfl fun th hth => Finset.sum_congr rfl fun k hk => ?_
  rw [Finset.mem_range] at hth hk
  have hc := cell_lt hM hH hs hk
  have e : outAll Cf Lb Ed (outIdx (3 * r + th) (cellPos M H s k)) = rowOut Cf Lb Ed (3 * r + th) (acIdx (cellPos M H s k)) := by
    show rowOut Cf Lb Ed ((3 * r + th) % 30) (acIdx (cellPos M H s k % 1536)) = _
    rw [Nat.mod_eq_of_lt (by omega : 3 * r + th < 30), Nat.mod_eq_of_lt hc]
  rw [e, rowOut_cell Cf Lb Ed _ s M H k hs hM hH hk]
  refine Finset.sum_congr rfl fun i _ => Finset.sum_congr rfl fun t _ => ?_
  have h1 : (3 * r + th) / 3 = r := by omega
  have h2 : colOf (3 * r + th) i = 335872 * th + 8192 * i := by unfold colOf; omega
  rw [h1, h2]

section Rows

variable (x0 : Vec Ideal S1000000x10 .f32) (x1 : Vec Ideal S1000000 .i32) (x2 : Vec Ideal S10x16 .f32)
  (X : Vec Ideal S1007616x10 .f32) (Lb : Vec Ideal S1007616 .i32)
  (hX : ∀ (j : Fin 1000000) (k : Fin 10), X (ValueIdx.ix2 ⟨j.val, by omega⟩ k) = x0 (ValueIdx.ix2 j k))
  (hL : ∀ j : Fin 1000000, Lb (lbIdx j.val) = x1 (ValueIdx.ix1 j))
  (r : Fin 10)
  (hmono : ∀ i j, i ≤ j → j < 16 → edgeOf x2 r i ≤ edgeOf x2 r j) (htop : edgeOf x2 r 15 < padMark)

include hX in
theorem soft_row (j : Fin 1000000) : (softOf X (cfIdx r.val j.val) : EReal) = probOf x0 r j := by
  have hj := j.isLt
  have hr := r.isLt
  rw [softOf_apply]
  have e0 : (⟨(cfIdx r.val j.val 0).val, idx2_lt0 _⟩ : Fin 10) = r := Fin.ext (Nat.mod_eq_of_lt hr)
  have v1 : (cfIdx r.val j.val 1).val = j.val := Nat.mod_eq_of_lt (by omega)
  rw [if_pos (by rw [v1]; exact hj), e0]
  unfold probOf
  congr 1
  funext k
  rw [← hX j k]
  exact congrArg (fun a => X (ValueIdx.ix2 a k)) (Fin.ext v1)

theorem soft_pad (j : ℕ) (h : 1000000 ≤ j) (h' : j < 1007616) : (softOf X (cfIdx r.val j) : EReal) = padMark := by
  rw [softOf_apply]
  have v1 : (cfIdx r.val j 1).val = j := Nat.mod_eq_of_lt h'
  rw [if_neg (by rw [v1]; omega)]

include hX hL hmono htop in
/-- A statistic, as a sum over the real rows in the bin. -/
theorem tallySum_bin (b : Fin 15) {H s : ℕ} (hH : H < 2) (hs : s < 3) :
    tallySum (outAll (softOf X) Lb x2) r.val (b.val + 1) H s
      = ∑ j : Fin 1000000, if InBin x0 x2 r b j ∧ hitAt x1 r j = H then
          (if s = 0 then 1 else if s = 1 then probOf x0 r j else probOf x0 r j * probOf x0 r j) else 0 := by
  rw [tallySum_rows _ _ _ r.isLt (by omega) hH hs, show 1007616 = 1000000 + 7616 from rfl, Finset.sum_range_add]
  have hz : ∑ x ∈ Finset.range 7616, colTerm (softOf X) Lb x2 r.val (b.val + 1) H s (1000000 + x) = 0 := by
    refine Finset.sum_eq_zero fun x hx => ?_
    rw [Finset.mem_range] at hx
    unfold colTerm rowTerm
    rw [soft_pad X r (1000000 + x) (by omega) (by omega), if_neg]
    exact fun h => absurd h.1 (not_le.2 htop)
  rw [hz, add_zero, Finset.sum_range]
  refine Finset.sum_congr rfl fun j _ => ?_
  unfold colTerm rowTerm
  rw [soft_row x0 X hX r j, hL j]
  have hb := in_bin_iff (edgeOf x2 r) hmono (probOf x0 r j) b.isLt
  have hi : (probOf x0 r j ≤ edgeAt (edRow x2 r.val) 15 ∧ edgesBelow (edgeAt (edRow x2 r.val)) (probOf x0 r j) = b.val + 1
      ∧ hitOf (BitVec.ofNat 32 r.val) (x1 (ValueIdx.ix1 j)) = H) ↔ (InBin x0 x2 r b j ∧ hitAt x1 r j = H) :=
    and_assoc.symm.trans (and_congr hb Iff.rfl)
  by_cases h : InBin x0 x2 r b j ∧ hitAt x1 r j = H
  · rw [if_pos h, if_pos (hi.2 h)]; rfl
  · rw [if_neg h, if_neg (fun h' => h (hi.1 h'))]

include hmono htop in
/-- A probability in a bin is a real number. -/
theorem prob_real (b : Fin 15) (j : Fin 1000000) (h : InBin x0 x2 r b j) : probOf x0 r j = (((probOf x0 r j).toReal : ℝ) : EReal) := by
  refine (EReal.coe_toReal ?_ ?_).symm
  · have : probOf x0 r j < padMark := lt_of_le_of_lt (h.2.trans (hmono _ 15 (by have := b.isLt; omega) (by omega))) htop
    exact ne_of_lt (lt_of_lt_of_le this le_top)
  · exact ne_of_gt (lt_of_le_of_lt bot_le h.1)

include hX hL hmono htop in
/-- The bin's term is the reference's. -/
theorem bin_agrees (b : Fin 15) : (binsAll (outAll (softOf X) Lb x2) (ValueIdx.ix2 r b) : EReal) = binRef (InBin x0 x2 r b) (probOf x0 r) (hitAt x1 r) := by
  rw [binsAll_at]
  exact bins_agree (InBin x0 x2 r b) (probOf x0 r) (fun j => (probOf x0 r j).toReal) (hitAt x1 r) (fun j => hitOf_le _ _)
    (fun j h => prob_real x0 x2 r hmono htop b j h) _ (fun H s hH hs => tallySum_bin x0 x1 x2 X Lb hX hL r hmono htop b hH hs)

end Rows

/-- The two results agree. -/
theorem results_agree (x0 : Vec Ideal S1000000x10 .f32) (x1 : Vec Ideal S1000000 .i32) (x2 : Vec Ideal S10x16 .f32)
    (X : Vec Ideal S1007616x10 .f32) (Lb : Vec Ideal S1007616 .i32)
    (hX : ∀ (j : Fin 1000000) (k : Fin 10), X (ValueIdx.ix2 ⟨j.val, by omega⟩ k) = x0 (ValueIdx.ix2 j k))
    (hL : ∀ j : Fin 1000000, Lb (lbIdx j.val) = x1 (ValueIdx.ix1 j))
    (hmono : ∀ r i j, i ≤ j → j < 16 → edgeOf x2 r i ≤ edgeOf x2 r j) (htop : ∀ r, edgeOf x2 r 15 < padMark) (i : S_.Idx) :
    (Cert.ReferenceIdeal.Read.val_main_v64 (F := Ideal) x0 x1 x2 i : EReal) = meanOf (binsAll (outAll (softOf X) Lb x2)) i := by
  rw [v64_eq, meanOf_eq]
  have e : ∀ r b, binRef (InBin x0 x2 r b) (probOf x0 r) (hitAt x1 r)
      = ((binRefR (InBin x0 x2 r b) (fun j => (probOf x0 r j).toReal) (hitAt x1 r) : ℝ) : EReal) := fun r b =>
    binRef_real _ _ _ _ (fun j h => prob_real x0 x2 r (hmono r) (htop r) b j h)
  simp only [bin_agrees x0 x1 x2 X Lb hX hL _ (hmono _) (htop _), e]
  exact means_agree _

/-! ## The precondition -/

section Pre

variable (x0 : Vec Ideal S1000000x10 .f32) (x1 : Vec Ideal S1000000 .i32) (x2 : Vec Ideal S10x16 .f32)

theorem edges_of_pre (h : letI := Cert.Pre_edges_ok.Gen.facts; Cert.Pre_edges_ok.fn (F := Ideal) x0 x1 x2 = fun _ => 1#1) (r : Fin 10) :
    (∀ i j, i ≤ j → j < 16 → edgeOf x2 r i ≤ edgeOf x2 r j) ∧ edgeOf x2 r 15 < padMark := by
  letI := Cert.Pre_edges_ok.Gen.facts
  haveI : Subsingleton Cert.Pre_edges_ok.S_.Idx := ⟨fun a b => funext fun i => i.elim0⟩
  have h0 := congrFun h (Shape.Idx.first (by decide : 0 < Cert.Pre_edges_ok.S_.numel))
  unfold Cert.Pre_edges_ok.fn at h0
  obtain ⟨ha, hb⟩ := IntOp.andi_eq_one.1 h0
  constructor
  · have step : ∀ n, n < 15 → edgeOf x2 r n ≤ edgeOf x2 r (n + 1) := by
      intro n hn
      have := Host.reduce_andi_all _ _ _ _ _ ha (ValueIdx.ix2 r ⟨n, hn⟩)
      have hle := (Ideal.cmp_ole_eq_one _ _).1 this
      have hl : (extractStridedSlice Cert.Pre_edges_ok.S10x15 ![0, 0] x2 Cert.Pre_edges_ok.Gen.facts.slices_S10x16_S10x15_0_0 (ValueIdx.ix2 r ⟨n, hn⟩) : EReal) = edgeOf x2 r n :=
        edge_at x2 r _ n (Nat.zero_add _) (Nat.zero_add _)
      have hr : (extractStridedSlice Cert.Pre_edges_ok.S10x15 ![0, 1] x2 Cert.Pre_edges_ok.Gen.facts.slices_S10x16_S10x15_0_1 (ValueIdx.ix2 r ⟨n, hn⟩) : EReal) = edgeOf x2 r (n + 1) :=
        edge_at x2 r _ (n + 1) (Nat.zero_add _) (Nat.add_comm _ _)
      rw [← hl, ← hr]
      exact hle
    intro i j hij hj
    induction j, hij using Nat.le_induction with
    | base => exact le_rfl
    | succ k hk ih => exact (ih (by omega)).trans (step k (by omega))
  · have := Host.reduce_andi_all _ _ _ _ _ hb (ValueIdx.ix1 r)
    have hlt := (Ideal.cmp_olt_eq_one _ _).1 this
    have hl : (shapeCast Cert.Pre_edges_ok.S10 (extractStridedSlice Cert.Pre_edges_ok.S10x1 ![0, 15] x2 Cert.Pre_edges_ok.Gen.facts.slices_S10x16_S10x1_0_15)
        Cert.Pre_edges_ok.Gen.facts.shapeCasts_S10x1_S10 (ValueIdx.ix1 r) : EReal) = edgeOf x2 r 15 := by
      refine (shapeCast_apply _ _ _ (ValueIdx.ix2 (n0 := 10) (n1 := 1) r 0) ?_).trans (edge_at x2 r _ 15 (Nat.zero_add _) rfl)
      rw [Shape.rowMajor_val_two, Shape.rowMajor_val_one]
      show r.val * 1 + 0 = r.val
      omega
    rw [← hl]
    exact hlt

end Pre

/-! ## The run's contents -/

section Run

variable (m : (ℓ : Loc nD τ sig) → Buf (Elt Ideal) ℓ) (d : Dev nD)

theorem scores_at (j : Fin 1000000) (k : Fin 10) :
    (W1 m d (dr main_v0) : Vec Ideal S1007616x10 .f32) (ValueIdx.ix2 ⟨j.val, by omega⟩ k) = (m (d, dr main_arg0) : Vec Ideal S1000000x10 .f32) (ValueIdx.ix2 j k) := by
  rw [W1_scores]
  refine pad_apply_of_inside _ _ _ _ _ _ _ _ _ fun a => ?_
  match a with
  | ⟨0, _⟩ => show j.val = 0 + j.val * (0 + 1); omega
  | ⟨1, _⟩ => show k.val = 0 + k.val * (0 + 1); omega

theorem labels_at (j : Fin 1000000) :
    (W3 m d (dr main_v2) : Vec Ideal S1007616 .i32) (lbIdx j.val) = (m (d, dr main_arg1) : Vec Ideal S1000000 .i32) (ValueIdx.ix1 j) := by
  rw [W3_labels, W2_of m d main_arg1 (by decide), W1_of m d main_arg1 (by decide)]
  refine pad_apply_of_inside _ _ _ _ _ _ _ _ _ fun a => ?_
  have hj := j.isLt
  match a with
  | ⟨0, _⟩ => show j.val % 1007616 = 0 + j.val * (0 + 1); omega

/-- The result the run leaves. -/
theorem result_eq : W5 m d (dr main_v47)
    = meanOf (binsAll (outAll (softOf (W1 m d (dr main_v0) : Vec Ideal S1007616x10 .f32)) (W3 m d (dr main_v2)) (m (d, dr main_arg2)))) := by
  rw [W5_result]
  unfold W4
  rw [Function.update_self]
  have e : (W3 m d (dr main_v1) : Vec Ideal S10x1007616 .f32) = softOf (W1 m d (dr main_v0) : Vec Ideal S1007616x10 .f32) := by
    rw [W3_of m d main_v1 (by decide)]
    exact Function.update_self (Proc.devRef (τ := τ) .tc main_v1) (softOf (logitsAt (W1 m) d)) (W1 m d)
  rw [← e]
  rfl

end Run

end Cert.Proof.Bins

end
-- ==== Proof.SelStep.lean ====
/-
  What the two counting tasks compute, as plain functions of the buffers they read.

  The first call counts, per task, the keys of each of the 4096 buckets `key >>> 18`, one counter per bucket and lane:
  a vector of sixteen keys adds 1 at the positions `16 · bucket + lane`. The second call looks each key's bucket up in
  a table of slots; a key whose bucket has a slot below 30 adds 1 at `2048 · slot + sub`, where `sub` is the key's next
  eleven bits. `foldTrips` is a step repeated over one staged chunk of 8192 keys, `foldChunks` over the 41 chunks of a
  task. The first call's positions are in range whatever the keys are, the second's whenever the slots are at most 30.
-/
module

public import proofs.«01_k».proof.Defs
public import Idealize.ShloMosaic.Lib.SparseCore.Ops
public import Idealize.ShloMosaic.Lib.Tactic
public import proofs.«01_k».proof.Proof.Gen.SelectIdeal
public import proofs.«01_k».proof.Proof.Gen.SelectIdeal.Skeleton

@[expose] public section

noncomputable section

namespace Cert.Proof.Sel

open Cert.SelectIdeal Cert.SelectIdeal.Gen
open Idealize.ShloMosaic

variable {F : FTy → Type} [FloatOps F]

/-! ## The positions are in range -/

/-- A bound on one index vector over a rank-one shape, from each lane. -/
theorem vec_lt {d : Fin 1 → ℕ} (v : IVec S16 32) (h : ∀ x, (v x).toNat < d 0) (a : Fin 1) (x : S16.Idx) :
    ((![v] : Fin 1 → IVec S16 32) a x).toNat < (⟨1, d⟩ : Shape).size a := by
  rw [Fin.eq_zero a]; exact h x

/-- The bucket of a key, as the kernel computes it: the upper fourteen bits, at most 4095. -/
def bucket (k : BitVec 32) : ℕ := min (k.toNat / 262144) 4095

theorem bucket_lt (k : BitVec 32) : bucket k < 4096 := by unfold bucket; omega

theorem shr_toNat (k : BitVec 32) (n : ℕ) (hn : n < 32) : (IntOp.shrui ArithUnit.vector k (BitVec.ofNat 32 n)).toNat = k.toNat / 2 ^ n := by
  have e : (BitVec.ofNat 32 n).toNat = n := by rw [BitVec.toNat_ofNat]; omega
  unfold IntOp.shrui
  rw [if_pos (by rw [e]; exact hn), BitVec.ushiftRight_eq', BitVec.toNat_ushiftRight, e, Nat.shiftRight_eq_div_pow]

theorem min4095 (a : BitVec 32) (ha : a.toNat < 16384) : (IntOp.minsi a 4095#32).toNat = min a.toNat 4095 := by
  unfold IntOp.minsi
  have e : a.slt 4095#32 = decide (a.toNat < 4095) := by
    rw [BitVec.slt_eq_decide]
    congr 1
    rw [BitVec.toInt_eq_toNat_of_lt (by omega)]
    exact propext ⟨fun h => by have : (4095#32 : BitVec 32).toInt = 4095 := by decide
                               omega, fun h => by have : (4095#32 : BitVec 32).toInt = 4095 := by decide
                                                  omega⟩
  rw [e]
  by_cases h : a.toNat < 4095
  · simp only [h, decide_true, if_true]; omega
  · simp only [h, decide_false]
    show (4095 : ℕ) = _; omega

theorem bucket_eq (k : BitVec 32) : (IntOp.minsi (IntOp.shrui ArithUnit.vector k 18#32) 4095#32).toNat = bucket k := by
  have e := shr_toNat k 18 (by decide)
  rw [min4095 _ (by rw [e]; have := k.isLt; omega), e]; rfl

/-- The lane numbers, as the kernel's `iota` prints them. -/
theorem lanes_apply (x : S16.Idx) : iota .scVector S16 32 [0] iota_S16_d0_w32_scVector x = BitVec.ofNat 32 (x 0).val := by
  revert x; decide +kernel

theorem pay3_toNat (c : Vec F S16 .i32) (x : S16.Idx) : (k0_pay3 (F := F) c x).toNat = 16 * bucket (c x) + (x 0).val := by
  have hb := bucket_eq (c x)
  have hl := bucket_lt (c x)
  have hx : (x 0).val < 16 := (x 0).isLt
  show (IntOp.addi (IntOp.muli (IntOp.minsi (IntOp.shrui ArithUnit.vector (c x) 18#32) 4095#32) 16#32) (iota .scVector S16 32 [0] iota_S16_d0_w32_scVector x)).toNat = _
  rw [lanes_apply]
  simp only [IntOp.addi, IntOp.muli, BitVec.toNat_add, BitVec.toNat_mul, BitVec.toNat_ofNat, hb]
  omega

theorem pay3_lt (c : Vec F S16 .i32) (x : S16.Idx) : (k0_pay3 (F := F) c x).toNat < 65536 := by
  have hl := bucket_lt (c x)
  have hx : (x 0).val < 16 := (x 0).isLt
  rw [pay3_toNat]; omega

theorem pay2_toNat (c : Vec F S16 .i32) (x : S16.Idx) : (k1_pay2 (F := F) c x).toNat = bucket (c x) := bucket_eq (c x)

theorem pay2_lt (c : Vec F S16 .i32) (x : S16.Idx) : (k1_pay2 (F := F) c x).toNat < 4096 := by rw [pay2_toNat]; exact bucket_lt _

/-- The next eleven bits of a key. -/
def sub (k : BitVec 32) : ℕ := k.toNat / 128 % 2048

theorem sub_lt (k : BitVec 32) : sub k < 2048 := Nat.mod_lt _ (by decide)

theorem sub_eq (k : BitVec 32) : (IntOp.andi (IntOp.shrui ArithUnit.vector k 7#32) 2047#32).toNat = sub k := by
  show (IntOp.shrui ArithUnit.vector k 7#32 &&& 2047#32).toNat = _
  rw [BitVec.toNat_and, shr_toNat k 7 (by decide), show (2047#32 : BitVec 32).toNat = 2 ^ 11 - 1 from rfl, Nat.and_two_pow_sub_one_eq_mod]
  rfl

theorem mask_eq (s : BitVec 32) (hs : s.toNat ≤ 30) : IntOp.cmpi .slt s 30#32 = BitVec.ofBool (decide (s.toNat < 30)) := by
  show BitVec.ofBool (s.slt 30#32) = _
  congr 1
  rw [BitVec.slt_eq_decide]
  congr 1
  rw [BitVec.toInt_eq_toNat_of_lt (by omega)]
  have : (30#32 : BitVec 32).toInt = 30 := by decide
  exact propext ⟨fun h => by omega, fun h => by omega⟩

theorem pay4_toNat (c s : Vec F S16 .i32) (x : S16.Idx) (hs : (s x : BitVec 32).toNat ≤ 30) :
    (k1_pay4 (F := F) c s x).toNat = if (s x : BitVec 32).toNat < 30 then 2048 * (s x : BitVec 32).toNat + sub (c x) else 0 := by
  have hb := sub_eq (c x)
  have hl := sub_lt (c x)
  show (if IntOp.cmpi .slt (s x) 30#32 = 1 then IntOp.addi (IntOp.muli (s x) 2048#32) (IntOp.andi (IntOp.shrui ArithUnit.vector (c x) 7#32) 2047#32) else 0#32 : BitVec 32).toNat = _
  rw [mask_eq _ hs]
  by_cases h : (s x : BitVec 32).toNat < 30
  · rw [if_pos (by simp only [h, decide_true]; rfl), if_pos h]
    simp only [IntOp.addi, IntOp.muli, BitVec.toNat_add, BitVec.toNat_mul, hb]
    show ((s x : BitVec 32).toNat * 2048 % 2 ^ 32 + sub (c x)) % 2 ^ 32 = _
    omega
  · rw [if_neg (by simp only [h, decide_false]; decide), if_neg h]; rfl

theorem pay4_lt (c s : Vec F S16 .i32) (x : S16.Idx) (hs : (s x : BitVec 32).toNat ≤ 30) : (k1_pay4 (F := F) c s x).toNat < 61440 := by
  have hl := sub_lt (c x)
  rw [pay4_toNat c s x hs]; split <;> omega

/-! ## One vector of sixteen keys -/

/-- The first call's step on its counters. -/
def hist1Trip (c : Vec F S16 .i32) (A : Vec F S65536 .i32) : Vec F S65536 .i32 :=
  storeIdx A ![k0_pay3 (F := F) c] (k0_pay1) (fun _ => 1#1) true (vec_lt _ (pay3_lt c))

/-- The slots of a vector's keys. -/
def slots (T : Vec F S4096 .i32) (c : Vec F S16 .i32) : Vec F S16 .i32 := loadIdx T ![k1_pay2 (F := F) c] (vec_lt _ (pay2_lt c))

/-- The second call's step on its counters (nothing, at a table with slots past the counters). -/
def hist2Trip (T : Vec F S4096 .i32) (c : Vec F S16 .i32) (A : Vec F S61440 .i32) : Vec F S61440 .i32 :=
  if h : ∀ x, (k1_pay4 (F := F) c (slots T c) x).toNat < 61440 then
    storeIdx A ![k1_pay4 (F := F) c (slots T c)] k1_pay5 (k1_pay3 (F := F) (slots T c)) true (vec_lt _ h)
  else A

/-- Every slot is at most 30. -/
def SlotsOk {s : Shape} (T : Vec F s .i32) : Prop := ∀ i, (T i : BitVec 32).toNat ≤ 30

theorem slots_ok (T : Vec F S4096 .i32) (hT : SlotsOk T) (c : Vec F S16 .i32) (x : S16.Idx) : (k1_pay4 (F := F) c (slots T c) x).toNat < 61440 :=
  pay4_lt c _ x (hT _)

/-! ## A chunk, a task -/

/-- Word `16 t + x` of a staged chunk. -/
def chunkIdx (t : Fin 512) (x : S16.Idx) : S8192.Idx := fun a => ⟨16 * t.val + (x 0).val, by
  have h : (x 0).val < 16 := (x 0).isLt
  have := t.isLt
  rw [Fin.eq_zero a]; show _ < 8192; omega⟩

/-- A step repeated over the first `n` vectors of a chunk. -/
def foldTrips {α : Type} (step : Vec F S16 .i32 → α → α) (b : Vec F S8192 .i32) (A : α) : Nat → α
  | 0 => A
  | n + 1 => if h : n < 512 then step (fun x => b (chunkIdx ⟨n, h⟩ x)) (foldTrips step b A n) else foldTrips step b A n

/-- A step repeated over the first `n` chunks. -/
def foldChunks {α : Type} (step : Vec F S16 .i32 → α → α) (b : Nat → Vec F S8192 .i32) (A : α) : Nat → α
  | 0 => A
  | n + 1 => foldTrips step (b n) (foldChunks step b A n) 512

/-! ## What a task stages, and what it writes out -/

/-- The task of subcore `L`: tasks are numbered down the subcores, the two cores alternating. -/
def wid (L : grid0.Coords) : Nat := 2 * (L 1).val + (L 0).val

/-- Place `(r, c)` of the keys. -/
def keyIdx (r c : Nat) : S10x1007616.Idx
  | 0 => ⟨r % 10, Nat.mod_lt _ (by decide)⟩
  | 1 => ⟨c % 1007616, Nat.mod_lt _ (by decide)⟩

/-- The first row of task `w`'s chunk `n`. -/
def colOf (w n : Nat) : Nat := 335872 * (w % 3) + 8192 * n

theorem colOf_lt (w n : Nat) (hn : n < 41) (x : Nat) (hx : x < 8192) : colOf w n + x < 1007616 := by unfold colOf; omega

/-- Chunk `n` of task `w`: 8192 of its class's keys. -/
def keyChunk (Ks : Vec F S10x1007616 .i32) (w n : Nat) : Vec F S8192 .i32 := fun x => Ks (keyIdx (w / 3) (colOf w n + (x 0).val))

/-- Class `r`'s row of the table. -/
def tabRow (Tb : Vec F S10x4096 .i32) (r : Nat) : Vec F S4096 .i32 := fun x => Tb fun
  | 0 => ⟨r % 10, Nat.mod_lt _ (by decide)⟩
  | 1 => ⟨(x 0).val, (x 0).isLt⟩

/-- Position `p` of the counters. -/
def at1 (p : Nat) : S65536.Idx := fun a => ⟨p % 65536, by rw [Fin.eq_zero a]; exact Nat.mod_lt _ (by decide)⟩
def at2 (p : Nat) : S61440.Idx := fun a => ⟨p % 61440, by rw [Fin.eq_zero a]; exact Nat.mod_lt _ (by decide)⟩

/-- The counters at zero. -/
def zero1 : Vec F S65536 .i32 := fun _ => (0#32 : BitVec 32)
def zero2 : Vec F S61440 .i32 := fun _ => (0#32 : BitVec 32)

/-- The counters that task `w` writes out, in the first call and in the second. -/
def row1 (Ks : Vec F S10x1007616 .i32) (w : Nat) : Vec F S65536 .i32 := foldChunks hist1Trip (keyChunk Ks w) zero1 41
def row2 (Ks : Vec F S10x1007616 .i32) (Tb : Vec F S10x4096 .i32) (w : Nat) : Vec F S61440 .i32 :=
  foldChunks (hist2Trip (tabRow Tb (w / 3))) (keyChunk Ks w) zero2 41

/-- All the tasks' counters: row `w` is task `w`'s. -/
def all1 (Ks : Vec F S10x1007616 .i32) : Vec F S30x65536 .i32 := fun i => row1 Ks (i 0).val (at1 (i 1).val)
def all2 (Ks : Vec F S10x1007616 .i32) (Tb : Vec F S10x4096 .i32) : Vec F S30x61440 .i32 := fun i => row2 Ks Tb (i 0).val (at2 (i 1).val)

end Cert.Proof.Sel

end
-- ==== Proof.SelSetUp.lean ====
/-
  The selection's program as the launch theorem sees it, its ghost state, and the buffers by name.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.SelStep

@[expose] public section

noncomputable section

namespace Cert.Proof.Sel

open Cert.SelectIdeal Cert.SelectIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program -/

abbrev ΛP : Labels := Pipeline.Sig Λ₀ (Fin 0) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => match q with | 0 => rfl | 1 => rfl⟩

/-! ## The ghost state: the handshakes' rounds, and the transfers' counters -/

abbrev UH : Type := URounds (GSem nD τ sig) ℕ
abbrev UU : Type := UH × Counters

local notation "𝕄" => MT nD τ sig (HIx 2) (Elt F) ℕ UU ℕ

def EH : Emb UH (MT nD τ sig (HIx 2) (Elt F) ℕ UU ℕ) := embL

instance EH_landsIn : (EH (F := F)).LandsIn (upEmb : UEmb _ 𝕄) := by unfold EH; infer_instance

/-! ## The buffers -/

abbrev keyLoc (d : Dev nD) : Loc nD τ sig := (SparseCore.T d).loc main_arg0
abbrev cntLoc (d : Dev nD) : Loc nD τ sig := (SparseCore.T d).loc main_v0
abbrev tabLoc (d : Dev nD) : Loc nD τ sig := (SparseCore.T d).loc main_v35
abbrev subLoc (d : Dev nD) : Loc nD τ sig := (SparseCore.T d).loc main_v36

/-- The calls' buffers, as the bodies name them: the keys, the counters written out, and the task's scratch buffers; in the
    second call the table too. -/
abbrev keyV : Memref sig Kind.scVector Space.hbm S10x1007616 EltTy.i32 := Memref.whole main_arg0_scv
abbrev cntV : Memref sig Kind.scVector Space.hbm S30x65536 EltTy.i32 := Memref.whole main_v0_scv
abbrev tabV : Memref sig Kind.scVector Space.hbm S10x4096 EltTy.i32 := Memref.whole main_v35_scv
abbrev subV : Memref sig Kind.scVector Space.hbm S30x61440 EltTy.i32 := Memref.whole main_v36_scv
abbrev buf1V : Memref sig Kind.scVector Space.vmem S8192 EltTy.i32 := Memref.whole cc0_scratch0
abbrev acc1V : Memref sig Kind.scVector Space.vmem S65536 EltTy.i32 := Memref.whole cc0_scratch1
abbrev buf2V : Memref sig Kind.scVector Space.vmem S8192 EltTy.i32 := Memref.whole cc1_scratch0
abbrev rowTV : Memref sig Kind.scVector Space.vmem S4096 EltTy.i32 := Memref.whole cc1_scratch1
abbrev acc2V : Memref sig Kind.scVector Space.vmem S61440 EltTy.i32 := Memref.whole cc1_scratch2

/-- The task's thread. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The waits a task adds are all at the launch's own index. -/
def OnlyNone (W W' : Waits sig (HIx 2)) : Prop := ∀ p ∈ W', p ∈ W ∨ p.2 = none

/-- A cell of the task at zero. -/
abbrev cell0 (d : Dev nD) (L : grid0.Coords) (s : DmaSem sig) : sProp 𝕄 := semVal (((VT d L), SemLoc.dma s) : GSem nD τ sig) 0

/-- An index check that holds is stepped over. -/
theorem wp_check (d : Dev nD) (L : grid0.Coords) {α : Type} {Q : α → sProp 𝕄} {P : Prop} {dec : Decidable P}
    {k : PLift P → Prog (TpuEff nD τ sig (Elt F) Λ₀ (VT d L).2) α} (h : P) :
    wp frame (wpE (defs₀ (F := F)) 𝒱₀ (VT d L) none) Set.univ (Prog.lift (TpuEff.assume P dec) >>= k) Q
      = wp frame (wpE (defs₀ (F := F)) 𝒱₀ (VT d L) none) Set.univ (k ⟨h⟩) Q :=
  wp_assume_of 𝒱₀ (VT d L) none Set.univ h

end Cert.Proof.Sel

end
-- ==== Proof.SelOne.lean ====
/-
  The first call's task: the counters zeroed, each staged chunk's keys counted, the counters written out.
-/
module

public import proofs.«01_k».proof.Proof.SelSetUp

@[expose] public section

noncomputable section

namespace Cert.Proof.Sel

open Cert.SelectIdeal Cert.SelectIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section One

variable (d : Dev nD) (L : grid0.Coords)

/-- The task's buffers held whole, and its share of the keys, as the executor spells them. -/
abbrev buf1Pts (f : Vec F S8192 .i32) : sProp 𝕄 := (buf1V).view.loc (VT d L) ↦[(buf1V).view.set]{fullShare} f
abbrev acc1Pts (f : Vec F S65536 .i32) : sProp 𝕄 := (acc1V).view.loc (VT d L) ↦[(acc1V).view.set]{fullShare} f
abbrev keyPts (q : PosShare TreeShare) (f : Vec F S10x1007616 .i32) : sProp 𝕄 := (keyV).view.loc (VT d L) ↦[(keyV).view.set]{q} f

/-- A scatter-add into the counters, held whole at `A`. -/
theorem wp_count1 {α : Type} {Q : α → sProp 𝕄} {idxs : Fin 1 → IVec S16 32} {v : Vec F S16 .i32} {mask : IVec S16 1}
    {h : ∀ a x, (idxs a x).toNat < S65536.size a} {hs : ((acc1V).access (.whole S65536)).Stores Finset.univ}
    {k : PUnit → Prog (TpuEff nD τ sig (Elt F) Λ₀ (VT d L).2) α} (A B : Vec F S65536 .i32)
    (hB : storeIdx A idxs v mask true h = B) :
    acc1Pts d L A ⊢ iprop((acc1Pts d L B -∗ wp frame (wpE (defs₀ (F := F)) 𝒱₀ (VT d L) none) Set.univ (k ⟨⟩) Q)
      -∗ wp frame (wpE (defs₀ (F := F)) 𝒱₀ (VT d L) none) Set.univ (SparseCore.vectorStoreIdx (acc1V) idxs v mask true h hs >>= k) Q) := by
  have key := SparseCore.wp_vectorStoreIdx (defs := defs₀ (F := F)) 𝒱₀ (VT d L) none Set.univ (base := acc1V) (idxs := idxs) (v := v) (mask := mask) (add := true) (h := h) (hs := hs) (k := k) (Q := Q) (f := A)
  rw [show (acc1V.access (.whole S65536)).set = Finset.univ from Memref.set_access_whole _,
    show (acc1V.access (.whole S65536)).read (Elt F) A = A from Memref.read_access_whole _ _ _, hB,
    show (acc1V.access (.whole S65536)).write (Elt F) A B Finset.univ = B from Memref.write_access_whole_univ _ _ _ _] at key
  have e : (acc1V).view.set = Finset.univ := View.set_whole _
  unfold acc1Pts; rw [e]; exact key

theorem read_buf1 (h1 : k0_cond1 L = 1#1) (t : Fin k0_t3_loop.trips) (b : Vec F S8192 .i32) :
    View.readAt (Elt F) (buf1V).view (Rect.unit (s := S8192) (k0_off3 t) S16.size (k0_off3_inb L t h1)).toLoadRect b
      = fun x => b (chunkIdx (t.cast rfl) x) := by
  funext x
  rw [View.readAt_apply, View.read_apply, cast_eq]
  congr 1; funext a
  apply Fin.ext
  rw [Fin.eq_zero a]
  show k0_off3 t 0 + 1 * (x 0).val = 16 * t.val + (x 0).val
  have e := congrFun (k0_off3_eq t) 0
  rw [one_mul]; exact congrArg (· + (x 0).val) e

theorem chk1 (c : Vec F S16 .i32) : k0_chk1 L (k0_pay3 (F := F) c) := fun _ => vec_lt _ (pay3_lt c)

set_option maxHeartbeats 4000000 in
theorem trip1_run (h1 : k0_cond1 L = 1#1) (t : Fin k0_t3_loop.trips) (x v1 : BitVec 32)
    (b : Vec F S8192 .i32) (A : Vec F S65536 .i32) :
    (iprop(buf1Pts d L b ∗ acc1Pts d L A) : sProp 𝕄)
      ⊢ wp frame (wpE (defs₀ (F := F)) 𝒱₀ (VT d L) none) Set.univ
          (k0_t3_body L keyV (Memref.isWhole_whole _) cntV (Memref.isWhole_whole _) buf1V (Memref.isWhole_whole _) acc1V (Memref.isWhole_whole _)
            cc0_scoped0 cc0_scoped1 v1 h1 t x)
          fun _ => iprop(buf1Pts d L b ∗ acc1Pts d L (hist1Trip (fun x => b (chunkIdx (t.cast rfl) x)) A)) := by
  iintro ⟨Hb, Ha⟩
  unfold k0_t3_body
  sl_exec
  have hv : trip1_run.sl.v52 L h1 t b = k0_pay3 (F := F) (fun x => b (chunkIdx (t.cast rfl) x)) := congrArg k0_pay3 (read_buf1 L h1 t b)
  rw [hv]
  generalize (fun x => b (chunkIdx (t.cast rfl) x)) = c
  rw [wp_assume_of _ _ _ _ (chk1 L c)]
  iapply (wp_count1 d L A (hist1Trip c A) rfl) $$ Ha
  iintro Ha
  sl_step
  isplitl [Hb]; · iexact Hb
  iexact Ha

/-! ## The offsets of the copies -/

omit [FloatOps F] in
theorem off2_eq : ∀ (i : grid0.Coords) (t : Fin k0_t2_loop.trips), k0_cond1 i = 1#1 → k0_off2 i t = ![wid i / 3, colOf (wid i) t.val] := by decide +kernel
omit [FloatOps F] in
theorem wid_lt : ∀ i : grid0.Coords, k0_cond1 i = 1#1 → wid i < 30 := by decide +kernel
omit [FloatOps F] in
theorem wid_ge : ∀ i : grid0.Coords, k0_cond1 i ≠ 1#1 → 30 ≤ wid i := by decide +kernel

/-! ## Zeroing the counters -/

/-- The counters are zero below position `n`. -/
def ZeroTo1 (n : Nat) (A : Vec F S65536 .i32) : Prop := ∀ j : S65536.Idx, (j 0).val < n → A j = (0#32 : BitVec 32)

set_option maxHeartbeats 4000000 in
theorem zero1_trip (h1 : k0_cond1 L = 1#1) (t : Fin k0_t1_loop.trips) (x v1 : BitVec 32) (A : Vec F S65536 .i32) (hA : ZeroTo1 (16 * t.val) A) :
    (acc1Pts d L A : sProp 𝕄) ⊢ wp frame (wpE (defs₀ (F := F)) 𝒱₀ (VT d L) none) Set.univ
        (k0_t1_body L keyV (Memref.isWhole_whole _) cntV (Memref.isWhole_whole _) buf1V (Memref.isWhole_whole _) acc1V (Memref.isWhole_whole _)
            cc0_scoped0 cc0_scoped1 v1 h1 t x)
        fun _ => iprop(∃ B, ⌜ZeroTo1 (16 * (t.val + 1)) B⌝ ∗ acc1Pts d L B) := by
  iintro Hac
  unfold k0_t1_body
  sl_exec
  sl_step
  iexists _
  isplitr [Hac]
  rotate_left
  · iexact Hac
  ipureintro
  intro j hj
  refine ((View.read_apply (v := acc1V.view) (acc1V.view.writes (Elt F) A _) j).trans (cast_eq _ _)).symm.trans ?_
  have ho : k0_off1 t 0 = 16 * t.val := congrFun (k0_off1_eq t) 0
  by_cases hlt : (j 0).val < 16 * t.val
  · rw [View.read_writes_cons_miss_of_axis _ _ _ _ j 0 (16 * t.val) 16 ho rfl rfl (.inl hlt)]
    exact hA j hlt
  · rw [View.read_writes_cons_hit_of_coords _ _ _ _ _ (fun a => ⟨(j 0).val - 16 * t.val, by rw [Fin.eq_zero a]; show _ < 16; omega⟩) j ?_]
    · rfl
    · intro a
      rw [Fin.eq_zero a]
      show (j 0).val = k0_off1 t 0 + 1 * ((j 0).val - 16 * t.val)
      omega

/-! ## Staging a chunk -/

/-- A whole write leaves the buffer at the words written. -/
theorem writes_buf1 (f g : Vec F S8192 .i32) : buf1V.view.writes (Elt F) f [⟨Rect.whole S8192, g⟩] = g := by
  rw [View.writes_singleton]; exact Memref.write_access_whole_univ (Elt F) cc0_scratch0 f g

/-- What the copy reads: the task's chunk of its class's keys. -/
theorem read_key1 (h1 : k0_cond1 L = 1#1) (t : Fin k0_t2_loop.trips) (Ks : Vec F S10x1007616 .i32) :
    ((keyV.slice (Rect.unit (s := S10x1007616) (k0_off2 L t) S1x8192.size (k0_off2_inb L t h1)) (fun _ => rfl)).squeeze S8192 squeezes_S1x8192_S8192).view.read (Elt F) Ks
      = keyChunk Ks (wid L) t.val := by
  funext x
  rw [View.read_apply, cast_eq]
  unfold keyChunk
  congr 1; funext a
  have e := off2_eq L t h1
  have hw := wid_lt L h1
  have hc := colOf_lt (wid L) t.val t.isLt (x 0).val (x 0).isLt
  have hr := Shape.reshapeEquiv_cons_one (d := ![8192]) squeezes_S1x8192_S8192.numel_eq x
  apply Fin.ext
  match a with
  | 0 =>
    show k0_off2 L t 0 + 1 * (Shape.reshapeEquiv squeezes_S1x8192_S8192.numel_eq x 0).val = (wid L / 3) % 10
    rw [show Shape.reshapeEquiv squeezes_S1x8192_S8192.numel_eq x = _ from hr, show k0_off2 L t 0 = wid L / 3 from congrFun e 0]
    show wid L / 3 + 1 * 0 = _; omega
  | 1 =>
    show k0_off2 L t 1 + 1 * (Shape.reshapeEquiv squeezes_S1x8192_S8192.numel_eq x 1).val = (colOf (wid L) t.val + (x 0).val) % 1007616
    rw [show Shape.reshapeEquiv squeezes_S1x8192_S8192.numel_eq x = _ from hr, show k0_off2 L t 1 = colOf (wid L) t.val from congrFun e 1]
    show colOf (wid L) t.val + 1 * (x 0).val = _
    rw [Nat.mod_eq_of_lt hc, Nat.one_mul]

/-- Before trip `n` of a chunk's loop. -/
def trip1Inv (b : Vec F S8192 .i32) (A : Vec F S65536 .i32) (n : Nat) (_ : BitVec 32) : sProp 𝕄 :=
  iprop(buf1Pts d L b ∗ acc1Pts d L (foldTrips hist1Trip b A n))

set_option maxHeartbeats 4000000 in
theorem chunk1_trip (h1 : k0_cond1 L = 1#1) (t : Fin k0_t2_loop.trips) (x v1 : BitVec 32) (q : PosShare TreeShare)
    (Ks : Vec F S10x1007616 .i32) (b : Vec F S8192 .i32) (A : Vec F S65536 .i32)
    (O : CellTallies nD τ sig (HIx 2)) (W : Waits sig (HIx 2)) :
    (iprop(Transfers.MayWaits (VT d L) (default : HIx 2) O ∗ keyPts d L q Ks ∗ buf1Pts d L b ∗ acc1Pts d L A
        ∗ cell0 d L cc0_scoped0.sem ∗ owes (VT d L) O W) : sProp 𝕄)
      ⊢ wp frame (wpE (defs₀ (F := F)) 𝒱₀ (VT d L) none) Set.univ
        (k0_t2_body L keyV (Memref.isWhole_whole _) cntV (Memref.isWhole_whole _) buf1V (Memref.isWhole_whole _) acc1V (Memref.isWhole_whole _)
            cc0_scoped0 cc0_scoped1 v1 h1 t x)
        fun _ => iprop(keyPts d L q Ks ∗ (∃ b, buf1Pts d L b)
          ∗ acc1Pts d L (foldTrips hist1Trip (keyChunk Ks (wid L) t.val) A 512)
          ∗ cell0 d L cc0_scoped0.sem ∗ ∃ W', ⌜OnlyNone W W'⌝ ∗ owes (VT d L) O W') := by
  iintro ⟨#Hmw, Hk, Hb, Ha, Hc, HO⟩
  unfold k0_t2_body
  sl_exec (disch := exact View.amount_pos _ _ (show 0 < S8192.numel by decide))
  rw [writes_buf1]
  unfold chunk1_trip.sl.dma0
  sl_for (trip1Inv d L (keyChunk Ks (wid L) t.val) A) $$ [Hb Ha]
  case region =>
    intro k _
    unfold trip1Inv
    have hk : foldTrips hist1Trip (keyChunk Ks (wid L) t.val) A (k.val + 1) = _ := dif_pos (show k.val < 512 from k.isLt)
    rw [hk]
    exact trip1_run d L h1 k _ v1 _ _
  · unfold trip1Inv
    isplitl [Hb]; · rw [← read_key1 L h1 t Ks]; iexact Hb
    iexact Ha
  iintro %_ HI
  unfold trip1Inv
  icases HI with ⟨Hb, Ha⟩
  sl_exec
  sl_step
  isplitl [Hk]; · iexact Hk
  isplitl [Hb]; · iexists _; iexact Hb
  isplitl [Ha]; · iexact Ha
  isplitl [Hc]; · iexact Hc
  iexists _; isplitr
  rotate_left
  · iexact HO
  ipureintro
  intro p hp
  rcases Finset.mem_insert.mp hp with hp | hp
  · exact .inr (hp ▸ rfl)
  exact .inl hp

/-! ## The task -/

/-- Before chunk `n`: the counters hold the chunks below `n`. -/
def chunk1Inv (q : PosShare TreeShare) (Ks : Vec F S10x1007616 .i32)
    (O : CellTallies nD τ sig (HIx 2)) (W : Waits sig (HIx 2)) (n : Nat) (_ : BitVec 32) : sProp 𝕄 :=
  iprop(Transfers.MayWaits (VT d L) (default : HIx 2) O ∗ keyPts d L q Ks ∗ (∃ b, buf1Pts d L b)
    ∗ acc1Pts d L (foldChunks hist1Trip (keyChunk Ks (wid L)) zero1 n)
    ∗ cell0 d L cc0_scoped0.sem ∗ ∃ W', ⌜OnlyNone W W'⌝ ∗ owes (VT d L) O W')

/-- Before zeroing vector `n`. -/
def zero1Inv (n : Nat) (_ : BitVec 32) : sProp 𝕄 := iprop(∃ A : Vec F S65536 .i32, ⌜ZeroTo1 (16 * n) A⌝ ∗ acc1Pts d L A)

/-- The row of the counters the task writes, as the body names it. -/
abbrev row1V (h1 : k0_cond1 L = 1#1) : Memref sig .scVector .hbm S65536 .i32 :=
  (cntV.slice (Rect.unit (s := S30x65536) (k0_off4 L) S1x65536.size (k0_off4_inb L h1)) (fun _ => rfl)).squeeze S65536 squeezes_S1x65536_S65536

abbrev row1Pts (h1 : k0_cond1 L = 1#1) (f : Vec F S30x65536 .i32) : sProp 𝕄 := (row1V L h1).view.loc (VT d L) ↦[(row1V L h1).view.set]{fullShare} f

theorem row1_emb (h1 : k0_cond1 L = 1#1) (y : S65536.Idx) :
    (((row1V L h1).view.emb y : S30x65536.Idx) 0).val = wid L ∧ (((row1V L h1).view.emb y : S30x65536.Idx) 1).val = (y 0).val := by
  have e := k0_off4_eq L
  have hr := Shape.reshapeEquiv_cons_one (d := ![65536]) squeezes_S1x65536_S65536.numel_eq y
  constructor
  · show k0_off4 L 0 + 1 * (Shape.reshapeEquiv squeezes_S1x65536_S65536.numel_eq y 0).val = wid L
    rw [show Shape.reshapeEquiv squeezes_S1x65536_S65536.numel_eq y = _ from hr, show k0_off4 L 0 = wid L from congrFun e 0]
    show wid L + 1 * 0 = _; omega
  · show k0_off4 L 1 + 1 * (Shape.reshapeEquiv squeezes_S1x65536_S65536.numel_eq y 1).val = (y 0).val
    rw [show Shape.reshapeEquiv squeezes_S1x65536_S65536.numel_eq y = _ from hr, show k0_off4 L 1 = 0 from congrFun e 1]
    show 0 + 1 * (y 0).val = _; omega

/-- The write-out leaves the task's row at its counters. -/
theorem row1_written (h1 : k0_cond1 L = 1#1) (Ks : Vec F S10x1007616 .i32)
    (fo : Vec F S30x65536 .i32) (w : Vec F S65536 .i32) (hw : w = row1 Ks (wid L)) :
    row1Pts d L h1 ((row1V L h1).view.writes (Elt F) fo [⟨Rect.whole S65536, w⟩]) = row1Pts d L h1 (all1 Ks) := by
  refine pointsTo_congr fun i hi => ?_
  obtain ⟨y, -, rfl⟩ := Finset.mem_map.mp hi
  refine ((View.read_apply (v := (row1V L h1).view) ((row1V L h1).view.writes (Elt F) fo _) y).trans (cast_eq _ _)).symm.trans ?_
  rw [View.read_writes_cons_hit_of_coords _ _ _ _ _ y y (fun a => by rw [Fin.eq_zero a]; show (y 0).val = 0 + 1 * (y 0).val; omega)]
  obtain ⟨e0, e1⟩ := row1_emb L h1 y
  have hy : (y 0).val < 65536 := (y 0).isLt
  unfold all1
  rw [e0, e1, hw]
  congr 1; funext a
  rw [Fin.eq_zero a]
  exact Fin.ext (Nat.mod_eq_of_lt hy).symm

set_option maxHeartbeats 4000000 in
theorem task1_run (h1 : k0_cond1 L = 1#1) (q : PosShare TreeShare)
    (Ks : Vec F S10x1007616 .i32) (fo : Vec F S30x65536 .i32) (b : Vec F S8192 .i32) (A0 : Vec F S65536 .i32)
    (O : CellTallies nD τ sig (HIx 2)) (W : Waits sig (HIx 2)) :
    (iprop(Transfers.MayWaits (VT d L) (default : HIx 2) O ∗ keyPts d L q Ks ∗ row1Pts d L h1 fo ∗ buf1Pts d L b ∗ acc1Pts d L A0
        ∗ cell0 d L cc0_scoped0.sem ∗ cell0 d L cc0_scoped1.sem ∗ owes (VT d L) O W) : sProp 𝕄)
      ⊢ wp frame (wpE (defs₀ (F := F)) 𝒱₀ (VT d L) none) Set.univ
        (cc0_sc_hist1 (F := F) L keyV (Memref.isWhole_whole _) cntV (Memref.isWhole_whole _) buf1V (Memref.isWhole_whole _) acc1V (Memref.isWhole_whole _)
            cc0_scoped0 cc0_scoped1)
        fun _ => iprop(keyPts d L q Ks ∗ row1Pts d L h1 (all1 Ks) ∗ (∃ b, buf1Pts d L b) ∗ (∃ A, acc1Pts d L A)
          ∗ cell0 d L cc0_scoped0.sem ∗ cell0 d L cc0_scoped1.sem
          ∗ ∃ W', ⌜OnlyNone W W'⌝ ∗ owes (VT d L) O W') := by
  iintro ⟨#Hmw, Hk, Hro, Hb, Hac, Hc0, Hc1, HO⟩
  rw [cc0_sc_hist1_eq_skeleton]; unfold cc0_sc_hist1_skel
  rw [k0_part1_eq_skeleton]
  sl_exec (disch := first | sl_exact h1)
  sl_for (zero1Inv (F := F) d L) $$ [Hac]
  case region =>
    intro k _
    unfold zero1Inv
    iintro ⟨%A, %hA, Hac⟩
    iapply (zero1_trip d L h1 k _ _ A hA)
    iexact Hac
  · unfold zero1Inv
    iexists A0; isplitr
    · ipureintro; intro j hj; exact absurd hj (by omega)
    · iexact Hac
  iintro %_ HI
  unfold zero1Inv
  icases HI with ⟨%A, %hA, Hac⟩
  have hA' : A = zero1 := funext fun j => hA j (j 0).isLt
  subst hA'
  sl_exec
  sl_for (chunk1Inv (F := F) d L q Ks O W) $$ [Hk Hb Hac Hc0 HO]
  case region =>
    intro k _
    unfold chunk1Inv
    iintro ⟨#Hmw, Hk, ⟨%b, Hb⟩, Hac, Hc0, %W', %hW', HO⟩
    iapply (wp_wand_r Idealize.ShloMosaic.frame (wpE (defs₀ (F := F)) 𝒱₀ (VT d L) none) Set.univ)
    isplitl [Hk Hb Hac Hc0 HO]
    · iapply (chunk1_trip d L h1 k _ _ q Ks b _ O W')
      isplitr; · iexact Hmw
      isplitl [Hk]; · iexact Hk
      isplitl [Hb]; · iexact Hb
      isplitl [Hac]; · iexact Hac
      isplitl [Hc0]; · iexact Hc0
      iexact HO
    iintro %_ ⟨Hk, Hb, Hac, Hc0, %W'', %hW'', HO⟩
    isplitr; · iexact Hmw
    isplitl [Hk]; · iexact Hk
    isplitl [Hb]; · iexact Hb
    isplitl [Hac]; · iexact Hac
    isplitl [Hc0]; · iexact Hc0
    iexists W''; isplitr
    · ipureintro; intro p hp
      exact (hW'' p hp).elim (fun h => hW' p h) .inr
    · iexact HO
  · unfold chunk1Inv
    isplitr; · iexact Hmw
    isplitl [Hk]; · iexact Hk
    isplitl [Hb]; · iexists _; iexact Hb
    isplitl [Hac]; · iexact Hac
    isplitl [Hc0]; · iexact Hc0
    iexists _; isplitr
    rotate_left
    · iexact HO
    ipureintro; intro p hp
    exact .inl hp
  iintro %_ HI
  unfold chunk1Inv
  icases HI with ⟨-, Hk, Hb, Hac, Hc0, %W', %hW', HO⟩
  sl_exec (disch := exact View.amount_pos _ _ (show 0 < S65536.numel by decide))
  have hout : task1_run.sl.dma0 L Ks = row1 Ks (wid L) :=
    funext fun x => (View.read_apply (v := acc1V.view) _ x).trans (cast_eq _ _)
  ihave Hro' := (Entails.of_eq (row1_written d L h1 Ks fo _ hout)) $$ Hro
  sl_step
  isplitl [Hk]; · iexact Hk
  isplitl [Hro']; · iexact Hro'
  isplitl [Hb]; · iexact Hb
  isplitl [Hac]; · iexists _; iexact Hac
  isplitl [Hc0]; · iexact Hc0
  isplitl [Hc1]; · iexact Hc1
  iexists _; isplitr
  rotate_left
  · iexact HO
  ipureintro; intro p hp
  rcases Finset.mem_insert.mp hp with hp | hp
  · exact .inr (hp ▸ rfl)
  exact hW' p hp

end One

end Cert.Proof.Sel

end
-- ==== Proof.SelTwo.lean ====
/-
  The second call's task: the class's row of slots staged, the counters zeroed, each staged chunk's keys of the chosen
  buckets counted, the counters written out. The slots are at most 30: the counted positions are in range then.
-/
module

public import proofs.«01_k».proof.Proof.SelOne

@[expose] public section

noncomputable section

namespace Cert.Proof.Sel

open Cert.SelectIdeal Cert.SelectIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Two

variable (d : Dev nD) (L : grid0.Coords)

/-- The task's buffers held whole, and its share of the table, as the executor spells them. -/
abbrev buf2Pts (f : Vec F S8192 .i32) : sProp 𝕄 := (buf2V).view.loc (VT d L) ↦[(buf2V).view.set]{fullShare} f
abbrev acc2Pts (f : Vec F S61440 .i32) : sProp 𝕄 := (acc2V).view.loc (VT d L) ↦[(acc2V).view.set]{fullShare} f
abbrev rowTPts (f : Vec F S4096 .i32) : sProp 𝕄 := (rowTV).view.loc (VT d L) ↦[(rowTV).view.set]{fullShare} f
abbrev tabPts (q : PosShare TreeShare) (f : Vec F S10x4096 .i32) : sProp 𝕄 := (tabV).view.loc (VT d L) ↦[(tabV).view.set]{q} f

/-- A gather from the table's row, held whole at `T`. -/
theorem wp_slots {α : Type} {Q : α → sProp 𝕄} {idxs : Fin 1 → IVec S16 32} {h : ∀ a x, (idxs a x).toNat < S4096.size a} {hl : (rowTV).view.Loads}
    {k : Vec F S16 .i32 → Prog (TpuEff nD τ sig (Elt F) Λ₀ (VT d L).2) α} (T : Vec F S4096 .i32) (g : Vec F S16 .i32)
    (hg : loadIdx T idxs h = g) :
    rowTPts d L T ⊢ iprop((rowTPts d L T -∗ wp frame (wpE (defs₀ (F := F)) 𝒱₀ (VT d L) none) Set.univ (k g) Q)
      -∗ wp frame (wpE (defs₀ (F := F)) 𝒱₀ (VT d L) none) Set.univ (SparseCore.vectorLoadIdx (rowTV) idxs h hl >>= k) Q) := by
  have key := SparseCore.wp_vectorLoadIdx (defs := defs₀ (F := F)) 𝒱₀ (VT d L) none Set.univ (base := rowTV) (idxs := idxs) (h := h) (hl := hl) (k := k) (Q := Q)
    (S := (rowTV).view.set) (q := fullShare) (f := T) (by rw [View.set_whole]; exact Finset.subset_univ _)
  rwa [show (rowTV.access (.whole S4096)).read (Elt F) T = T from Memref.read_access_whole _ _ _, hg] at key

/-- A scatter-add into the counters, held whole at `A`. -/
theorem wp_count2 {α : Type} {Q : α → sProp 𝕄} {idxs : Fin 1 → IVec S16 32} {v : Vec F S16 .i32} {mask : IVec S16 1}
    {h : ∀ a x, (idxs a x).toNat < S61440.size a} {hs : ((acc2V).access (.whole S61440)).Stores Finset.univ}
    {k : PUnit → Prog (TpuEff nD τ sig (Elt F) Λ₀ (VT d L).2) α} (A B : Vec F S61440 .i32)
    (hB : storeIdx A idxs v mask true h = B) :
    acc2Pts d L A ⊢ iprop((acc2Pts d L B -∗ wp frame (wpE (defs₀ (F := F)) 𝒱₀ (VT d L) none) Set.univ (k ⟨⟩) Q)
      -∗ wp frame (wpE (defs₀ (F := F)) 𝒱₀ (VT d L) none) Set.univ (SparseCore.vectorStoreIdx (acc2V) idxs v mask true h hs >>= k) Q) := by
  have key := SparseCore.wp_vectorStoreIdx (defs := defs₀ (F := F)) 𝒱₀ (VT d L) none Set.univ (base := acc2V) (idxs := idxs) (v := v) (mask := mask) (add := true) (h := h) (hs := hs) (k := k) (Q := Q) (f := A)
  rw [show (acc2V.access (.whole S61440)).set = Finset.univ from Memref.set_access_whole _,
    show (acc2V.access (.whole S61440)).read (Elt F) A = A from Memref.read_access_whole _ _ _, hB,
    show (acc2V.access (.whole S61440)).write (Elt F) A B Finset.univ = B from Memref.write_access_whole_univ _ _ _ _] at key
  have e : (acc2V).view.set = Finset.univ := View.set_whole _
  unfold acc2Pts; rw [e]; exact key

theorem read_buf2 (h1 : k1_cond1 L = 1#1) (t : Fin k1_t3_loop.trips) (b : Vec F S8192 .i32) :
    View.readAt (Elt F) (buf2V).view (Rect.unit (s := S8192) (k1_off4 t) S16.size (k1_off4_inb L t h1)).toLoadRect b
      = fun x => b (chunkIdx (t.cast rfl) x) := by
  funext x
  rw [View.readAt_apply, View.read_apply, cast_eq]
  congr 1; funext a
  apply Fin.ext
  rw [Fin.eq_zero a]
  show k1_off4 t 0 + 1 * (x 0).val = 16 * t.val + (x 0).val
  have e := congrFun (k1_off4_eq t) 0
  rw [one_mul]; exact congrArg (· + (x 0).val) e

theorem chk1' (c : Vec F S16 .i32) : k1_chk1 L (k1_pay2 (F := F) c) := fun _ => vec_lt _ (pay2_lt c)
theorem chk2 (T : Vec F S4096 .i32) (hT : SlotsOk T) (c : Vec F S16 .i32) : k1_chk2 L (k1_pay4 (F := F) c (slots T c)) := fun _ => vec_lt _ (slots_ok T hT c)

set_option maxHeartbeats 4000000 in
theorem trip2_run (h1 : k1_cond1 L = 1#1) (t : Fin k1_t3_loop.trips) (x : BitVec 32)
    (T : Vec F S4096 .i32) (hT : SlotsOk T) (b : Vec F S8192 .i32) (A : Vec F S61440 .i32) :
    (iprop(buf2Pts d L b ∗ rowTPts d L T ∗ acc2Pts d L A) : sProp 𝕄)
      ⊢ wp frame (wpE (defs₀ (F := F)) 𝒱₀ (VT d L) none) Set.univ
          (k1_t3_body L keyV (Memref.isWhole_whole _) tabV (Memref.isWhole_whole _) subV (Memref.isWhole_whole _) buf2V (Memref.isWhole_whole _) rowTV (Memref.isWhole_whole _) acc2V (Memref.isWhole_whole _)
            cc1_scoped0 cc1_scoped1 cc1_scoped2 h1 k1_pay5 t x)
          fun _ => iprop(buf2Pts d L b ∗ rowTPts d L T ∗ acc2Pts d L (hist2Trip T (fun x => b (chunkIdx (t.cast rfl) x)) A)) := by
  iintro ⟨Hb, Ht, Ha⟩
  unfold k1_t3_body
  sl_exec
  have hv : View.readAt (Elt F) (buf2V).view (Rect.unit (s := S8192) (k1_off4 t) S16.size (k1_off4_inb L t h1)).toLoadRect b = _ := read_buf2 L h1 t b
  rw [hv, show trip2_run.sl.v48 L h1 t b = k1_pay2 (F := F) (fun x => b (chunkIdx (t.cast rfl) x)) from congrArg k1_pay2 hv]
  generalize (fun x => b (chunkIdx (t.cast rfl) x)) = c
  rw [wp_assume_of _ _ _ _ (chk1' L c)]
  iapply (wp_slots d L T (slots T c) rfl) $$ Ht
  iintro Ht
  rw [wp_check d L (chk2 L T hT c)]
  have hB : hist2Trip T c A = storeIdx A ![k1_pay4 (F := F) c (slots T c)] k1_pay5 (k1_pay3 (F := F) (slots T c)) true (vec_lt _ (slots_ok T hT c)) :=
    dif_pos (slots_ok T hT c)
  iapply (wp_count2 d L A (hist2Trip T c A) hB.symm) $$ Ha
  iintro Ha
  sl_step
  isplitl [Hb]; · iexact Hb
  isplitl [Ht]; · iexact Ht
  iexact Ha

/-! ## The offsets of the copies -/

omit [FloatOps F] in
theorem off3_eq : ∀ (i : grid0.Coords) (t : Fin k1_t2_loop.trips), k1_cond1 i = 1#1 → k1_off3 i t = ![wid i / 3, colOf (wid i) t.val] := by decide +kernel
omit [FloatOps F] in
theorem wid_lt' : ∀ i : grid0.Coords, k1_cond1 i = 1#1 → wid i < 30 := by decide +kernel
omit [FloatOps F] in
theorem wid_ge' : ∀ i : grid0.Coords, k1_cond1 i ≠ 1#1 → 30 ≤ wid i := by decide +kernel

/-! ## Zeroing the counters -/

/-- The counters are zero below position `n`. -/
def ZeroTo2 (n : Nat) (A : Vec F S61440 .i32) : Prop := ∀ j : S61440.Idx, (j 0).val < n → A j = (0#32 : BitVec 32)

set_option maxHeartbeats 4000000 in
theorem zero2_trip (h1 : k1_cond1 L = 1#1) (t : Fin k1_t1_loop.trips) (x : BitVec 32) (A : Vec F S61440 .i32) (hA : ZeroTo2 (16 * t.val) A) :
    (acc2Pts d L A : sProp 𝕄) ⊢ wp frame (wpE (defs₀ (F := F)) 𝒱₀ (VT d L) none) Set.univ
        (k1_t1_body L keyV (Memref.isWhole_whole _) tabV (Memref.isWhole_whole _) subV (Memref.isWhole_whole _) buf2V (Memref.isWhole_whole _) rowTV (Memref.isWhole_whole _) acc2V (Memref.isWhole_whole _)
            cc1_scoped0 cc1_scoped1 cc1_scoped2 h1 t x)
        fun _ => iprop(∃ B, ⌜ZeroTo2 (16 * (t.val + 1)) B⌝ ∗ acc2Pts d L B) := by
  iintro Hac
  unfold k1_t1_body
  sl_exec
  sl_step
  iexists _
  isplitr [Hac]
  rotate_left
  · iexact Hac
  ipureintro
  intro j hj
  refine ((View.read_apply (v := acc2V.view) (acc2V.view.writes (Elt F) A _) j).trans (cast_eq _ _)).symm.trans ?_
  have ho : k1_off2 t 0 = 16 * t.val := congrFun (k1_off2_eq t) 0
  by_cases hlt : (j 0).val < 16 * t.val
  · rw [View.read_writes_cons_miss_of_axis _ _ _ _ j 0 (16 * t.val) 16 ho rfl rfl (.inl hlt)]
    exact hA j hlt
  · rw [View.read_writes_cons_hit_of_coords _ _ _ _ _ (fun a => ⟨(j 0).val - 16 * t.val, by rw [Fin.eq_zero a]; show _ < 16; omega⟩) j ?_]
    · rfl
    · intro a
      rw [Fin.eq_zero a]
      show (j 0).val = k1_off2 t 0 + 1 * ((j 0).val - 16 * t.val)
      omega

/-! ## Staging a chunk -/

/-- A whole write leaves the buffer at the words written. -/
theorem writes_buf2 (f g : Vec F S8192 .i32) : buf2V.view.writes (Elt F) f [⟨Rect.whole S8192, g⟩] = g := by
  rw [View.writes_singleton]; exact Memref.write_access_whole_univ (Elt F) cc1_scratch0 f g

/-- What the copy reads: the task's chunk of its class's keys. -/
theorem read_key2 (h1 : k1_cond1 L = 1#1) (t : Fin k1_t2_loop.trips) (Ks : Vec F S10x1007616 .i32) :
    ((keyV.slice (Rect.unit (s := S10x1007616) (k1_off3 L t) S1x8192.size (k1_off3_inb L t h1)) (fun _ => rfl)).squeeze S8192 squeezes_S1x8192_S8192).view.read (Elt F) Ks
      = keyChunk Ks (wid L) t.val := by
  funext x
  rw [View.read_apply, cast_eq]
  unfold keyChunk
  congr 1; funext a
  have e := off3_eq L t h1
  have hw := wid_lt' L h1
  have hc := colOf_lt (wid L) t.val t.isLt (x 0).val (x 0).isLt
  have hr := Shape.reshapeEquiv_cons_one (d := ![8192]) squeezes_S1x8192_S8192.numel_eq x
  apply Fin.ext
  match a with
  | 0 =>
    show k1_off3 L t 0 + 1 * (Shape.reshapeEquiv squeezes_S1x8192_S8192.numel_eq x 0).val = (wid L / 3) % 10
    rw [show Shape.reshapeEquiv squeezes_S1x8192_S8192.numel_eq x = _ from hr, show k1_off3 L t 0 = wid L / 3 from congrFun e 0]
    show wid L / 3 + 1 * 0 = _; omega
  | 1 =>
    show k1_off3 L t 1 + 1 * (Shape.reshapeEquiv squeezes_S1x8192_S8192.numel_eq x 1).val = (colOf (wid L) t.val + (x 0).val) % 1007616
    rw [show Shape.reshapeEquiv squeezes_S1x8192_S8192.numel_eq x = _ from hr, show k1_off3 L t 1 = colOf (wid L) t.val from congrFun e 1]
    show colOf (wid L) t.val + 1 * (x 0).val = _
    rw [Nat.mod_eq_of_lt hc, Nat.one_mul]

/-- Before trip `n` of a chunk's loop. -/
def trip2Inv (T : Vec F S4096 .i32) (b : Vec F S8192 .i32) (A : Vec F S61440 .i32) (n : Nat) (_ : BitVec 32) : sProp 𝕄 :=
  iprop(buf2Pts d L b ∗ rowTPts d L T ∗ acc2Pts d L (foldTrips (hist2Trip T) b A n))

set_option maxHeartbeats 4000000 in
theorem chunk2_trip (h1 : k1_cond1 L = 1#1) (t : Fin k1_t2_loop.trips) (x : BitVec 32) (T : Vec F S4096 .i32) (hT : SlotsOk T) (q : PosShare TreeShare)
    (Ks : Vec F S10x1007616 .i32) (b : Vec F S8192 .i32) (A : Vec F S61440 .i32)
    (O : CellTallies nD τ sig (HIx 2)) (W : Waits sig (HIx 2)) :
    (iprop(Transfers.MayWaits (VT d L) (default : HIx 2) O ∗ keyPts d L q Ks ∗ buf2Pts d L b ∗ rowTPts d L T ∗ acc2Pts d L A
        ∗ cell0 d L cc1_scoped1.sem ∗ owes (VT d L) O W) : sProp 𝕄)
      ⊢ wp frame (wpE (defs₀ (F := F)) 𝒱₀ (VT d L) none) Set.univ
        (k1_t2_body L keyV (Memref.isWhole_whole _) tabV (Memref.isWhole_whole _) subV (Memref.isWhole_whole _) buf2V (Memref.isWhole_whole _) rowTV (Memref.isWhole_whole _) acc2V (Memref.isWhole_whole _)
            cc1_scoped0 cc1_scoped1 cc1_scoped2 h1 k1_pay5 t x)
        fun _ => iprop(keyPts d L q Ks ∗ (∃ b, buf2Pts d L b) ∗ rowTPts d L T
          ∗ acc2Pts d L (foldTrips (hist2Trip T) (keyChunk Ks (wid L) t.val) A 512)
          ∗ cell0 d L cc1_scoped1.sem ∗ ∃ W', ⌜OnlyNone W W'⌝ ∗ owes (VT d L) O W') := by
  iintro ⟨#Hmw, Hk, Hb, Ht, Ha, Hc, HO⟩
  unfold k1_t2_body
  sl_exec (disch := exact View.amount_pos _ _ (show 0 < S8192.numel by decide))
  rw [writes_buf2]
  unfold chunk2_trip.sl.dma0
  sl_for (trip2Inv d L T (keyChunk Ks (wid L) t.val) A) $$ [Hb Ht Ha]
  case region =>
    intro k _
    unfold trip2Inv
    have hk : foldTrips (hist2Trip T) (keyChunk Ks (wid L) t.val) A (k.val + 1) = _ := dif_pos (show k.val < 512 from k.isLt)
    rw [hk]
    exact trip2_run d L h1 k _ T hT _ _
  · unfold trip2Inv
    isplitl [Hb]; · rw [← read_key2 L h1 t Ks]; iexact Hb
    isplitl [Ht]; · iexact Ht
    iexact Ha
  iintro %_ HI
  unfold trip2Inv
  icases HI with ⟨Hb, Ht, Ha⟩
  sl_exec
  sl_step
  isplitl [Hk]; · iexact Hk
  isplitl [Hb]; · iexists _; iexact Hb
  isplitl [Ht]; · iexact Ht
  isplitl [Ha]; · iexact Ha
  isplitl [Hc]; · iexact Hc
  iexists _; isplitr
  rotate_left
  · iexact HO
  ipureintro
  intro p hp
  rcases Finset.mem_insert.mp hp with hp | hp
  · exact .inr (hp ▸ rfl)
  exact .inl hp

/-! ## The task -/

/-- Before chunk `n`: the counters hold the chunks below `n`. -/
def chunk2Inv (T : Vec F S4096 .i32) (q : PosShare TreeShare) (Ks : Vec F S10x1007616 .i32)
    (O : CellTallies nD τ sig (HIx 2)) (W : Waits sig (HIx 2)) (n : Nat) (_ : BitVec 32) : sProp 𝕄 :=
  iprop(Transfers.MayWaits (VT d L) (default : HIx 2) O ∗ keyPts d L q Ks ∗ (∃ b, buf2Pts d L b) ∗ rowTPts d L T
    ∗ acc2Pts d L (foldChunks (hist2Trip T) (keyChunk Ks (wid L)) zero2 n)
    ∗ cell0 d L cc1_scoped1.sem ∗ ∃ W', ⌜OnlyNone W W'⌝ ∗ owes (VT d L) O W')

/-- Before zeroing vector `n`. -/
def zero2Inv (n : Nat) (_ : BitVec 32) : sProp 𝕄 := iprop(∃ A : Vec F S61440 .i32, ⌜ZeroTo2 (16 * n) A⌝ ∗ acc2Pts d L A)

/-- The row of the counters the task writes, as the body names it. -/
abbrev row2V (h1 : k1_cond1 L = 1#1) : Memref sig .scVector .hbm S61440 .i32 :=
  (subV.slice (Rect.unit (s := S30x61440) (k1_off5 L) S1x61440.size (k1_off5_inb L h1)) (fun _ => rfl)).squeeze S61440 squeezes_S1x61440_S61440

abbrev row2Pts (h1 : k1_cond1 L = 1#1) (f : Vec F S30x61440 .i32) : sProp 𝕄 := (row2V L h1).view.loc (VT d L) ↦[(row2V L h1).view.set]{fullShare} f

theorem row2_emb (h1 : k1_cond1 L = 1#1) (y : S61440.Idx) :
    (((row2V L h1).view.emb y : S30x61440.Idx) 0).val = wid L ∧ (((row2V L h1).view.emb y : S30x61440.Idx) 1).val = (y 0).val := by
  have e := k1_off5_eq L
  have hr := Shape.reshapeEquiv_cons_one (d := ![61440]) squeezes_S1x61440_S61440.numel_eq y
  constructor
  · show k1_off5 L 0 + 1 * (Shape.reshapeEquiv squeezes_S1x61440_S61440.numel_eq y 0).val = wid L
    rw [show Shape.reshapeEquiv squeezes_S1x61440_S61440.numel_eq y = _ from hr, show k1_off5 L 0 = wid L from congrFun e 0]
    show wid L + 1 * 0 = _; omega
  · show k1_off5 L 1 + 1 * (Shape.reshapeEquiv squeezes_S1x61440_S61440.numel_eq y 1).val = (y 0).val
    rw [show Shape.reshapeEquiv squeezes_S1x61440_S61440.numel_eq y = _ from hr, show k1_off5 L 1 = 0 from congrFun e 1]
    show 0 + 1 * (y 0).val = _; omega

/-- The write-out leaves the task's row at its counters. -/
theorem row2_written (h1 : k1_cond1 L = 1#1) (Ks : Vec F S10x1007616 .i32) (Tb : Vec F S10x4096 .i32)
    (fo : Vec F S30x61440 .i32) (w : Vec F S61440 .i32) (hw : w = row2 Ks Tb (wid L)) :
    row2Pts d L h1 ((row2V L h1).view.writes (Elt F) fo [⟨Rect.whole S61440, w⟩]) = row2Pts d L h1 (all2 Ks Tb) := by
  refine pointsTo_congr fun i hi => ?_
  obtain ⟨y, -, rfl⟩ := Finset.mem_map.mp hi
  refine ((View.read_apply (v := (row2V L h1).view) ((row2V L h1).view.writes (Elt F) fo _) y).trans (cast_eq _ _)).symm.trans ?_
  rw [View.read_writes_cons_hit_of_coords _ _ _ _ _ y y (fun a => by rw [Fin.eq_zero a]; show (y 0).val = 0 + 1 * (y 0).val; omega)]
  obtain ⟨e0, e1⟩ := row2_emb L h1 y
  have hy : (y 0).val < 61440 := (y 0).isLt
  unfold all2
  rw [e0, e1, hw]
  congr 1; funext a
  rw [Fin.eq_zero a]
  exact Fin.ext (Nat.mod_eq_of_lt hy).symm

/-- What the task stages of the table: its class's row. -/
theorem writes_rowT (f g : Vec F S4096 .i32) : rowTV.view.writes (Elt F) f [⟨Rect.whole S4096, g⟩] = g := by
  rw [View.writes_singleton]; exact Memref.write_access_whole_univ (Elt F) cc1_scratch1 f g

omit [FloatOps F] in
theorem off1_eq : ∀ i : grid0.Coords, k1_cond1 i = 1#1 → k1_off1 i = ![wid i / 3, 0] := by decide +kernel

theorem read_tab (h1 : k1_cond1 L = 1#1) (Tb : Vec F S10x4096 .i32) :
    ((tabV.slice (Rect.unit (s := S10x4096) (k1_off1 L) S1x4096.size (k1_off1_inb L h1)) (fun _ => rfl)).squeeze S4096 squeezes_S1x4096_S4096).view.read (Elt F) Tb
      = tabRow Tb (wid L / 3) := by
  funext x
  rw [View.read_apply, cast_eq]
  unfold tabRow
  congr 1; funext a
  have e := off1_eq L h1
  have hw := wid_lt' L h1
  have hr := Shape.reshapeEquiv_cons_one (d := ![4096]) squeezes_S1x4096_S4096.numel_eq x
  apply Fin.ext
  match a with
  | 0 =>
    show k1_off1 L 0 + 1 * (Shape.reshapeEquiv squeezes_S1x4096_S4096.numel_eq x 0).val = (wid L / 3) % 10
    rw [show Shape.reshapeEquiv squeezes_S1x4096_S4096.numel_eq x = _ from hr, show k1_off1 L 0 = wid L / 3 from congrFun e 0]
    show wid L / 3 + 1 * 0 = _; omega
  | 1 =>
    show k1_off1 L 1 + 1 * (Shape.reshapeEquiv squeezes_S1x4096_S4096.numel_eq x 1).val = (x 0).val
    rw [show Shape.reshapeEquiv squeezes_S1x4096_S4096.numel_eq x = _ from hr, show k1_off1 L 1 = 0 from congrFun e 1]
    show 0 + 1 * (x 0).val = _; omega

set_option maxHeartbeats 4000000 in
theorem task2_run (h1 : k1_cond1 L = 1#1) (q : PosShare TreeShare)
    (Ks : Vec F S10x1007616 .i32) (Tb : Vec F S10x4096 .i32) (hTb : SlotsOk Tb) (fo : Vec F S30x61440 .i32) (b : Vec F S8192 .i32) (T0 : Vec F S4096 .i32) (A0 : Vec F S61440 .i32)
    (O : CellTallies nD τ sig (HIx 2)) (W : Waits sig (HIx 2)) :
    (iprop(Transfers.MayWaits (VT d L) (default : HIx 2) O ∗ keyPts d L q Ks ∗ tabPts d L q Tb ∗ row2Pts d L h1 fo ∗ buf2Pts d L b ∗ rowTPts d L T0 ∗ acc2Pts d L A0
        ∗ cell0 d L cc1_scoped0.sem ∗ cell0 d L cc1_scoped1.sem ∗ cell0 d L cc1_scoped2.sem ∗ owes (VT d L) O W) : sProp 𝕄)
      ⊢ wp frame (wpE (defs₀ (F := F)) 𝒱₀ (VT d L) none) Set.univ
        (cc1_sc_hist2 (F := F) L keyV (Memref.isWhole_whole _) tabV (Memref.isWhole_whole _) subV (Memref.isWhole_whole _) buf2V (Memref.isWhole_whole _) rowTV (Memref.isWhole_whole _) acc2V (Memref.isWhole_whole _)
            cc1_scoped0 cc1_scoped1 cc1_scoped2)
        fun _ => iprop(keyPts d L q Ks ∗ tabPts d L q Tb ∗ row2Pts d L h1 (all2 Ks Tb) ∗ (∃ b, buf2Pts d L b) ∗ (∃ T, rowTPts d L T) ∗ (∃ A, acc2Pts d L A)
          ∗ cell0 d L cc1_scoped0.sem ∗ cell0 d L cc1_scoped1.sem ∗ cell0 d L cc1_scoped2.sem
          ∗ ∃ W', ⌜OnlyNone W W'⌝ ∗ owes (VT d L) O W') := by
  iintro ⟨#Hmw, Hk, Htb, Hro, Hb, Ht, Hac, Hc, Hc0, Hc1, HO⟩
  rw [cc1_sc_hist2_eq_skeleton]; unfold cc1_sc_hist2_skel
  rw [k1_part1_eq_skeleton]
  have hT : SlotsOk (tabRow Tb (wid L / 3)) := fun _ => hTb _
  sl_exec (disch := first | sl_exact h1 | exact View.amount_pos _ _ (show 0 < S4096.numel by decide))
  rw [writes_rowT]
  have hE : task2_run.sl.dma0 L h1 Tb = tabRow Tb (wid L / 3) := read_tab L h1 Tb
  rw [hE]
  sl_for (zero2Inv (F := F) d L) $$ [Hac]
  case region =>
    intro k _
    unfold zero2Inv
    iintro ⟨%A, %hA, Hac⟩
    iapply (zero2_trip d L h1 k _ A hA)
    iexact Hac
  · unfold zero2Inv
    iexists A0; isplitr
    · ipureintro; intro j hj; exact absurd hj (by omega)
    · iexact Hac
  iintro %_ HI
  unfold zero2Inv
  icases HI with ⟨%A, %hA, Hac⟩
  have hA' : A = zero2 := funext fun j => hA j (j 0).isLt
  subst hA'
  sl_exec
  sl_for (chunk2Inv (F := F) d L (tabRow Tb (wid L / 3)) q Ks O W) $$ [Hk Hb Ht Hac Hc0 HO]
  case region =>
    intro k _
    unfold chunk2Inv
    iintro ⟨#Hmw, Hk, ⟨%b, Hb⟩, Ht, Hac, Hc0, %W', %hW', HO⟩
    iapply (wp_wand_r Idealize.ShloMosaic.frame (wpE (defs₀ (F := F)) 𝒱₀ (VT d L) none) Set.univ)
    isplitl [Hk Hb Ht Hac Hc0 HO]
    · iapply (chunk2_trip d L h1 k _ (tabRow Tb (wid L / 3)) hT q Ks b _ O W')
      isplitr; · iexact Hmw
      isplitl [Hk]; · iexact Hk
      isplitl [Hb]; · iexact Hb
      isplitl [Ht]; · iexact Ht
      isplitl [Hac]; · iexact Hac
      isplitl [Hc0]; · iexact Hc0
      iexact HO
    iintro %_ ⟨Hk, Hb, Ht, Hac, Hc0, %W'', %hW'', HO⟩
    isplitr; · iexact Hmw
    isplitl [Hk]; · iexact Hk
    isplitl [Hb]; · iexact Hb
    isplitl [Ht]; · iexact Ht
    isplitl [Hac]; · iexact Hac
    isplitl [Hc0]; · iexact Hc0
    iexists W''; isplitr
    · ipureintro; intro p hp
      exact (hW'' p hp).elim (fun h => hW' p h) .inr
    · iexact HO
  · unfold chunk2Inv
    isplitr; · iexact Hmw
    isplitl [Hk]; · iexact Hk
    isplitl [Hb]; · iexists _; iexact Hb
    isplitl [Ht]; · iexact Ht
    isplitl [Hac]; · iexact Hac
    isplitl [Hc0]; · iexact Hc0
    iexists _; isplitr
    rotate_left
    · iexact HO
    ipureintro; intro p hp
    rcases Finset.mem_insert.mp hp with hp | hp
    · exact .inr (hp ▸ rfl)
    exact .inl hp
  iintro %_ HI
  unfold chunk2Inv
  icases HI with ⟨-, Hk, Hb, Ht, Hac, Hc0, %W', %hW', HO⟩
  sl_exec (disch := exact View.amount_pos _ _ (show 0 < S61440.numel by decide))
  have hout : task2_run.sl.dma0_1 L Ks Tb = row2 Ks Tb (wid L) :=
    funext fun x => (View.read_apply (v := acc2V.view) _ x).trans (cast_eq _ _)
  ihave Hro' := (Entails.of_eq (row2_written d L h1 Ks Tb fo _ hout)) $$ Hro
  sl_step
  isplitl [Hk]; · iexact Hk
  isplitl [Htb]; · iexact Htb
  isplitl [Hro']; · iexact Hro'
  isplitl [Hb]; · iexact Hb
  isplitl [Ht]; · iexists _; iexact Ht
  isplitl [Hac]; · iexists _; iexact Hac
  isplitl [Hc]; · iexact Hc
  isplitl [Hc0]; · iexact Hc0
  isplitl [Hc1]; · iexact Hc1
  iexists _; isplitr
  rotate_left
  · iexact HO
  ipureintro; intro p hp
  rcases Finset.mem_insert.mp hp with hp | hp
  · exact .inr (hp ▸ rfl)
  exact hW' p hp

end Two

end Cert.Proof.Sel

end
-- ==== Proof.SelObl.lean ====
/-
  What the two calls' handshakes carry, and the tasks' obligations: each task takes a share of the keys (in the second
  call of the table too) and its row of the counters, and brings them back with the row counted.
-/
module

public import proofs.«01_k».proof.Proof.SelTwo

@[expose] public section

noncomputable section

namespace Cert.Proof.Sel

open Cert.SelectIdeal Cert.SelectIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## What the handshakes carry -/

variable (m : (ℓ : Loc nD τ sig) → Buf (Elt F) ℓ)

/-- The table of slots at the second call, per device. -/
abbrev Tables (F : FTy → Type) := Dev nD → Vec F S10x4096 .i32

variable (tb : Tables F)

/-- The keys, as the launch found them. -/
abbrev keysOf (d : Dev nD) : Vec F S10x1007616 .i32 := m (keyLoc d)

/-- The counters' row of task `w` (no row, past the tasks). -/
def rowSet1 (w : Nat) : Finset S30x65536.Idx := Finset.univ.filter fun i => (i 0).val = w
def rowSet2 (w : Nat) : Finset S30x61440.Idx := Finset.univ.filter fun i => (i 0).val = w

/-- The read share of task `w`. -/
abbrev taskShare (w : Nat) : PosShare TreeShare := Transfers.shareTokN fullShare w

/-- What task `w` of the first call takes and brings back, its row at `f`. -/
def task1Pts (d : Dev nD) (w : Nat) (f : Vec F S30x65536 .i32) : sProp 𝕄 :=
  iprop((keyLoc d ↦{taskShare w} keysOf m d) ∗ cntLoc d ↦[rowSet1 w]{fullShare} f)
/-- What task `w` of the second call takes and brings back, its row at `f`. -/
def task2Pts (d : Dev nD) (w : Nat) (f : Vec F S30x61440 .i32) : sProp 𝕄 :=
  iprop((keyLoc d ↦{taskShare w} keysOf m d) ∗ (tabLoc d ↦{taskShare w} tb d) ∗ subLoc d ↦[rowSet2 w]{fullShare} f)

/-- The counters once every task is done. -/
abbrev cntOf (d : Dev nD) : Vec F S30x65536 .i32 := all1 (keysOf m d)
abbrev subOf (d : Dev nD) : Vec F S30x61440 .i32 := all2 (keysOf m d) (tb d)

def P : (K (F := F)).Pay (nD := nD) (Val := Elt F) (Name := ℕ) (U := UU) where
  st := fun q d c => match q with
    | 0 => bigSep Finset.univ fun i : Fin ((K (F := F)).nSub 0) => task1Pts m d (2 * i.val + c.val) (m (cntLoc d))
    | 1 => bigSep Finset.univ fun i : Fin ((K (F := F)).nSub 1) => task2Pts m tb d (2 * i.val + c.val) (m (subLoc d))
  dn := fun q d c => match q with
    | 0 => bigSep Finset.univ fun i : Fin ((K (F := F)).nSub 0) => task1Pts m d (2 * i.val + c.val) (cntOf m d)
    | 1 => bigSep Finset.univ fun i : Fin ((K (F := F)).nSub 1) => task2Pts m tb d (2 * i.val + c.val) (subOf m tb d)
  go := fun q d c i => match q with
    | 0 => task1Pts m d (2 * i.val + c.val) (m (cntLoc d))
    | 1 => task2Pts m tb d (2 * i.val + c.val) (m (subLoc d))
  td := fun q d c i => match q with
    | 0 => task1Pts m d (2 * i.val + c.val) (cntOf m d)
    | 1 => task2Pts m tb d (2 * i.val + c.val) (subOf m tb d)
  x := fun _ _ => iprop(emp)

instance task1Pts_storable (d : Dev nD) (w : Nat) (f : Vec F S30x65536 .i32) : BI.Storable (upEmb : UEmb _ 𝕄) (task1Pts m d w f) := by
  unfold task1Pts; infer_instance
instance task2Pts_storable (d : Dev nD) (w : Nat) (f : Vec F S30x61440 .i32) : BI.Storable (upEmb : UEmb _ 𝕄) (task2Pts m tb d w f) := by
  unfold task2Pts; infer_instance

instance P_storable : (P (F := F) m tb).IsStorable where
  st q d c := match q with
    | 0 => (inferInstance : BI.Storable (upEmb : UEmb _ 𝕄) (bigSep Finset.univ fun i : Fin ((K (F := F)).nSub 0) => task1Pts m d (2 * i.val + c.val) (m (cntLoc d))))
    | 1 => (inferInstance : BI.Storable (upEmb : UEmb _ 𝕄) (bigSep Finset.univ fun i : Fin ((K (F := F)).nSub 1) => task2Pts m tb d (2 * i.val + c.val) (m (subLoc d))))
  dn q d c := match q with
    | 0 => (inferInstance : BI.Storable (upEmb : UEmb _ 𝕄) (bigSep Finset.univ fun i : Fin ((K (F := F)).nSub 0) => task1Pts m d (2 * i.val + c.val) (cntOf m d)))
    | 1 => (inferInstance : BI.Storable (upEmb : UEmb _ 𝕄) (bigSep Finset.univ fun i : Fin ((K (F := F)).nSub 1) => task2Pts m tb d (2 * i.val + c.val) (subOf m tb d)))
  go q d c i := match q with
    | 0 => (inferInstance : BI.Storable (upEmb : UEmb _ 𝕄) (task1Pts m d (2 * i.val + c.val) (m (cntLoc d))))
    | 1 => (inferInstance : BI.Storable (upEmb : UEmb _ 𝕄) (task2Pts m tb d (2 * i.val + c.val) (m (subLoc d))))
  td q d c i := match q with
    | 0 => (inferInstance : BI.Storable (upEmb : UEmb _ 𝕄) (task1Pts m d (2 * i.val + c.val) (cntOf m d)))
    | 1 => (inferInstance : BI.Storable (upEmb : UEmb _ 𝕄) (task2Pts m tb d (2 * i.val + c.val) (subOf m tb d)))

/-- A split that hands each piece on as it is, and gathers the pieces as they come back. -/
theorem split_plain (A B : sProp 𝕄) : A ⊢ |={Set.univ}=> iprop(A ∗ (B -∗ B)) := by
  iintro H; imodintro
  isplitl [H]; · iexact H
  iintro H; iexact H

theorem vecSplit (q : Fin 2) : (K (F := F)).VecSplit' (P m tb) q := by
  intro d c
  match q with
  | 0 => exact split_plain _ _
  | 1 => exact split_plain _ _

section Obl

variable (d : Dev nD) (L : grid0.Coords)

/-! ## The task's buffers and cells, out of what the launch deals it -/

abbrev csem (k : Nat) (hk : k < 5 := by decide) : DmaSem sig := ⟨k, by show _ < 5; omega⟩
abbrev dcell (d : Dev nD) (c : Fin τ.nSC) (i : Fin τ.nSub) (k : Fin 5) : GSem nD τ sig := (V d c i, .dma (csem k.val k.isLt))

theorem dcell_mem (c : Fin τ.nSC) (i : Fin τ.nSub) (k : Fin 5) : dcell d c i k ∈ ownCells (V d c i) :=
  mem_ownCells.mpr ⟨rfl, (show ∀ s : DmaSem sig, (SemLoc.dma s : SemLoc sig).isScoped .scVector = true by decide) _⟩

theorem ownSems0_V :
    (ownSems0 (VT d L) : sProp 𝕄)
      = iprop((cell0 d L cc0_scoped0.sem ∗ cell0 d L cc0_scoped1.sem ∗ cell0 d L cc1_scoped0.sem ∗ cell0 d L cc1_scoped1.sem ∗ cell0 d L cc1_scoped2.sem)
        ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 5)) = {0, 1, 2, 3, 4} by decide,
    SparseCore.bigSep_insert' (by decide), SparseCore.bigSep_insert' (by decide), SparseCore.bigSep_insert' (by decide), SparseCore.bigSep_insert' (by decide), bigSep_singleton]
  rfl

abbrev bref (L : grid0.Coords) (r : Ref sig .scVector) : DevRef τ sig := (Proc.scVector (cV L) (jV L)).devRef r

abbrev scratch : Finset (Ref sig .scVector) := {cc0_scratch0, cc0_scratch1, cc1_scratch0, cc1_scratch1, cc1_scratch2}

theorem ownBufs_V :
    (ownBufs (VT d L) : sProp 𝕄)
      = iprop(((∃ f, (VT d L).loc cc0_scratch0 ↦{fullShare} f) ∗ (∃ f, (VT d L).loc cc0_scratch1 ↦{fullShare} f)
          ∗ (∃ f, (VT d L).loc cc1_scratch0 ↦{fullShare} f) ∗ (∃ f, (VT d L).loc cc1_scratch1 ↦{fullShare} f) ∗ (∃ f, (VT d L).loc cc1_scratch2 ↦{fullShare} f))
          ∗ bigSep ((ownRefs (τ := τ) (.scVector (cV L) (jV L))) \ scratch.image (bref L))
              fun b => iprop(∃ f, ((d, b) : Loc nD τ sig) ↦{fullShare} f)) := by
  unfold SparseCore.Cfg.ownBufs
  rw [SparseCore.bigSep_sdiff_split' (t := scratch.image (bref L)) (Finset.image_subset_iff.mpr fun r hr => by
      simp only [Finset.mem_insert, Finset.mem_singleton] at hr
      rcases hr with rfl | rfl | rfl | rfl | rfl <;> exact SparseCore.Cfg.mem_ownRefs_of_owner (p := Proc.scVector (cV L) (jV L)) rfl),
    SparseCore.bigSep_image_of_injOn (f := bref L) (fun a _ b _ h => Proc.devRef_injective _ h)]
  rw [SparseCore.bigSep_insert' (by decide), SparseCore.bigSep_insert' (by decide), SparseCore.bigSep_insert' (by decide), SparseCore.bigSep_insert' (by decide), bigSep_singleton]

/-! ## The pieces in the bodies' spelling -/

theorem pts_buf1 (f : Vec F S8192 .i32) : (buf1Pts d L f : sProp 𝕄) = (VT d L).loc cc0_scratch0 ↦{fullShare} f := by
  unfold buf1Pts; rw [show (buf1V).view.set = Finset.univ from View.set_whole _]
theorem pts_acc1 (f : Vec F S65536 .i32) : (acc1Pts d L f : sProp 𝕄) = (VT d L).loc cc0_scratch1 ↦{fullShare} f := by
  unfold acc1Pts; rw [show (acc1V).view.set = Finset.univ from View.set_whole _]
theorem pts_buf2 (f : Vec F S8192 .i32) : (buf2Pts d L f : sProp 𝕄) = (VT d L).loc cc1_scratch0 ↦{fullShare} f := by
  unfold buf2Pts; rw [show (buf2V).view.set = Finset.univ from View.set_whole _]
theorem pts_rowT (f : Vec F S4096 .i32) : (rowTPts d L f : sProp 𝕄) = (VT d L).loc cc1_scratch1 ↦{fullShare} f := by
  unfold rowTPts; rw [show (rowTV).view.set = Finset.univ from View.set_whole _]
theorem pts_acc2 (f : Vec F S61440 .i32) : (acc2Pts d L f : sProp 𝕄) = (VT d L).loc cc1_scratch2 ↦{fullShare} f := by
  unfold acc2Pts; rw [show (acc2V).view.set = Finset.univ from View.set_whole _]
theorem pts_key (q : PosShare TreeShare) (f : Vec F S10x1007616 .i32) : (keyPts d L q f : sProp 𝕄) = keyLoc d ↦{q} f := by
  unfold keyPts; rw [show (keyV).view.set = Finset.univ from View.set_whole _]
theorem pts_tab (q : PosShare TreeShare) (f : Vec F S10x4096 .i32) : (tabPts d L q f : sProp 𝕄) = tabLoc d ↦{q} f := by
  unfold tabPts; rw [show (tabV).view.set = Finset.univ from View.set_whole _]

theorem row1_set (h1 : k0_cond1 L = 1#1) : ((row1V L h1).view.set : Finset S30x65536.Idx) = rowSet1 (wid L) := by
  ext i
  simp only [rowSet1, Finset.mem_filter, Finset.mem_univ, true_and]
  constructor
  · intro hi
    obtain ⟨y, -, rfl⟩ := Finset.mem_map.mp hi
    exact (row1_emb L h1 y).1
  · intro hi
    have hi1 : (i 1).val < 65536 := (i 1).isLt
    refine Finset.mem_map.mpr ⟨at1 (i 1).val, Finset.mem_univ _, ?_⟩
    obtain ⟨e0, e1⟩ := row1_emb L h1 (at1 (i 1).val)
    funext a
    apply Fin.ext
    match a with
    | 0 => exact e0.trans hi.symm
    | 1 => exact e1.trans (Nat.mod_eq_of_lt hi1)

theorem row2_set (h1 : k1_cond1 L = 1#1) : ((row2V L h1).view.set : Finset S30x61440.Idx) = rowSet2 (wid L) := by
  ext i
  simp only [rowSet2, Finset.mem_filter, Finset.mem_univ, true_and]
  constructor
  · intro hi
    obtain ⟨y, -, rfl⟩ := Finset.mem_map.mp hi
    exact (row2_emb L h1 y).1
  · intro hi
    have hi1 : (i 1).val < 61440 := (i 1).isLt
    refine Finset.mem_map.mpr ⟨at2 (i 1).val, Finset.mem_univ _, ?_⟩
    obtain ⟨e0, e1⟩ := row2_emb L h1 (at2 (i 1).val)
    funext a
    apply Fin.ext
    match a with
    | 0 => exact e0.trans hi.symm
    | 1 => exact e1.trans (Nat.mod_eq_of_lt hi1)

theorem pts_row1 (h1 : k0_cond1 L = 1#1) (f : Vec F S30x65536 .i32) : (row1Pts d L h1 f : sProp 𝕄) = cntLoc d ↦[rowSet1 (wid L)]{fullShare} f := by
  unfold row1Pts; rw [show ((row1V L h1).view.set : Finset S30x65536.Idx) = _ from row1_set L h1]
theorem pts_row2 (h1 : k1_cond1 L = 1#1) (f : Vec F S30x61440 .i32) : (row2Pts d L h1 f : sProp 𝕄) = subLoc d ↦[rowSet2 (wid L)]{fullShare} f := by
  unfold row2Pts; rw [show ((row2V L h1).view.set : Finset S30x61440.Idx) = _ from row2_set L h1]

/-- No row belongs to a subcore without a task. -/
theorem rowSet1_none (h1 : ¬ k0_cond1 L = 1#1) : rowSet1 (wid L) = ∅ := by
  have := wid_ge L h1
  refine Finset.filter_eq_empty_iff.mpr fun i _ => ?_
  have : (i 0).val < 30 := (i 0).isLt
  omega
theorem rowSet2_none (h1 : ¬ k1_cond1 L = 1#1) : rowSet2 (wid L) = ∅ := by
  have := wid_ge' L h1
  refine Finset.filter_eq_empty_iff.mpr fun i _ => ?_
  have : (i 0).val < 30 := (i 0).isLt
  omega

/-! ## The tasks' obligations -/

set_option maxHeartbeats 4000000 in
theorem tile1_body (hF : (K (F := F)).Facts) (O : CellTallies nD τ sig (HIx 2)) (W : Waits sig (HIx 2)) (hO : ∀ g, O g none = 0) :
    iprop(levAts (K (F := F)).L (K (F := F)).lev ∗ emp ∗ task1Pts m d (wid L) (m (cntLoc d))
        ∗ scopedBufs (VT d L) ∗ scopedSems0 (VT d L) ∗ owes (VT d L) O W)
      ⊢ wp frame (wpE (defs₀ (F := F)) 𝒱₀ (VT d L) none) Set.univ
          (cc0_sc_hist1 (F := F) L keyV (Memref.isWhole_whole _) cntV (Memref.isWhole_whole _) buf1V (Memref.isWhole_whole _) acc1V (Memref.isWhole_whole _)
            cc0_scoped0 cc0_scoped1)
          fun _ => iprop(task1Pts m d (wid L) (cntOf m d)
            ∗ scopedBufs (VT d L) ∗ scopedSems0 (VT d L)
            ∗ ∃ W', ⌜∀ p ∈ W', p ∈ W ∨ p.2 = none ∨ p.2 = some (0 : Fin 2)⌝ ∗ owes (VT d L) O W') := by
  rcases Classical.em (k0_cond1 L = 1#1) with h1 | h1
  · rw [(K (F := F)).scopedBufs_V hF d (cV L) (jV L), SparseCore.Cfg.scopedSems0_V (Val := Elt F) d (cV L) (jV L), ownSems0_V, ownBufs_V]
    unfold task1Pts
    iintro ⟨#Hlv, -, ⟨Hk, Hro⟩, ⟨⟨⟨%b, Hb⟩, ⟨%ac, Hac⟩, Hb3⟩, Hbufs⟩, ⟨⟨Hc0, Hc1, Hc3⟩, Hsems⟩, HO⟩
    ihave Hmw := (show levAts (K (F := F)).L (K (F := F)).lev ⊢ Transfers.MayWaits (VT d L) (default : HIx 2) O from
      (K (F := F)).mayWaits_none (thr := VT d L) hO) $$ Hlv
    iapply (wp_wand_r Idealize.ShloMosaic.frame (wpE (defs₀ (F := F)) 𝒱₀ (VT d L) none) Set.univ)
    isplitl [Hk Hro Hb Hac Hc0 Hc1 HO]
    · iapply (task1_run d L h1 (taskShare (wid L)) (keysOf m d) (m (cntLoc d)) b ac O W)
      isplitr; · iexact Hmw
      isplitl [Hk]; · iapply (Entails.of_eq (pts_key (F := F) d L _ _).symm); iexact Hk
      isplitl [Hro]; · iapply (Entails.of_eq (pts_row1 (F := F) d L h1 _).symm); iexact Hro
      isplitl [Hb]; · iapply (Entails.of_eq (pts_buf1 (F := F) d L _).symm); iexact Hb
      isplitl [Hac]; · iapply (Entails.of_eq (pts_acc1 (F := F) d L _).symm); iexact Hac
      isplitl [Hc0]; · iexact Hc0
      isplitl [Hc1]; · iexact Hc1
      iexact HO
    iintro %_ ⟨Hk, Hro, ⟨%b, Hb⟩, ⟨%ac, Hac⟩, Hc0, Hc1, %W', %hW', HO⟩
    isplitl [Hk Hro]
    · isplitl [Hk]; · iapply (Entails.of_eq (pts_key (F := F) d L _ _)); iexact Hk
      iapply (Entails.of_eq (pts_row1 (F := F) d L h1 _)); iexact Hro
    isplitl [Hb Hac Hb3 Hbufs]
    · isplitr [Hbufs]
      · isplitl [Hb]; · iexists _; iapply (Entails.of_eq (pts_buf1 (F := F) d L _)); iexact Hb
        isplitl [Hac]; · iexists _; iapply (Entails.of_eq (pts_acc1 (F := F) d L _)); iexact Hac
        iexact Hb3
      iexact Hbufs
    isplitl [Hc0 Hc1 Hc3 Hsems]
    · isplitr [Hsems]
      · isplitl [Hc0]; · iexact Hc0
        isplitl [Hc1]; · iexact Hc1
        iexact Hc3
      iexact Hsems
    iexists W'; isplitr
    · ipureintro; exact fun p hp => (hW' p hp).imp_right .inl
    · iexact HO
  · rw [show task1Pts m d (wid L) (cntOf m d) = task1Pts m d (wid L) (m (cntLoc d)) by
      unfold task1Pts; rw [rowSet1_none L h1, pointsTo_empty, pointsTo_empty]]
    rw [cc0_sc_hist1_eq_skeleton]; unfold cc0_sc_hist1_skel
    iintro ⟨-, -, Ht, Hb, Hs, HO⟩
    sl_exec (disch := first | sl_exact h1)
    sl_step
    isplitl [Ht]; · iexact Ht
    isplitl [Hb]; · iexact Hb
    isplitl [Hs]; · iexact Hs
    iexists W; isplitr
    · ipureintro; exact fun p hp => .inl hp
    · iexact HO

set_option maxHeartbeats 4000000 in
theorem tile2_body (htb : ∀ d, SlotsOk (tb d)) (hF : (K (F := F)).Facts) (O : CellTallies nD τ sig (HIx 2)) (W : Waits sig (HIx 2)) (hO : ∀ g, O g none = 0) :
    iprop(levAts (K (F := F)).L (K (F := F)).lev ∗ emp ∗ task2Pts m tb d (wid L) (m (subLoc d))
        ∗ scopedBufs (VT d L) ∗ scopedSems0 (VT d L) ∗ owes (VT d L) O W)
      ⊢ wp frame (wpE (defs₀ (F := F)) 𝒱₀ (VT d L) none) Set.univ
          (cc1_sc_hist2 (F := F) L keyV (Memref.isWhole_whole _) tabV (Memref.isWhole_whole _) subV (Memref.isWhole_whole _) buf2V (Memref.isWhole_whole _)
            rowTV (Memref.isWhole_whole _) acc2V (Memref.isWhole_whole _) cc1_scoped0 cc1_scoped1 cc1_scoped2)
          fun _ => iprop(task2Pts m tb d (wid L) (subOf m tb d)
            ∗ scopedBufs (VT d L) ∗ scopedSems0 (VT d L)
            ∗ ∃ W', ⌜∀ p ∈ W', p ∈ W ∨ p.2 = none ∨ p.2 = some (1 : Fin 2)⌝ ∗ owes (VT d L) O W') := by
  rcases Classical.em (k1_cond1 L = 1#1) with h1 | h1
  · rw [(K (F := F)).scopedBufs_V hF d (cV L) (jV L), SparseCore.Cfg.scopedSems0_V (Val := Elt F) d (cV L) (jV L), ownSems0_V, ownBufs_V]
    unfold task2Pts
    iintro ⟨#Hlv, -, ⟨Hk, Htb, Hro⟩, ⟨⟨Hb1, Hb2, ⟨%b, Hb⟩, ⟨%T0, Ht⟩, ⟨%ac, Hac⟩⟩, Hbufs⟩, ⟨⟨Hd0, Hd1, Hc0, Hc1, Hc2⟩, Hsems⟩, HO⟩
    ihave Hmw := (show levAts (K (F := F)).L (K (F := F)).lev ⊢ Transfers.MayWaits (VT d L) (default : HIx 2) O from
      (K (F := F)).mayWaits_none (thr := VT d L) hO) $$ Hlv
    iapply (wp_wand_r Idealize.ShloMosaic.frame (wpE (defs₀ (F := F)) 𝒱₀ (VT d L) none) Set.univ)
    isplitl [Hk Htb Hro Hb Ht Hac Hc0 Hc1 Hc2 HO]
    · iapply (task2_run d L h1 (taskShare (wid L)) (keysOf m d) (tb d) (htb d) (m (subLoc d)) b T0 ac O W)
      isplitr; · iexact Hmw
      isplitl [Hk]; · iapply (Entails.of_eq (pts_key (F := F) d L _ _).symm); iexact Hk
      isplitl [Htb]; · iapply (Entails.of_eq (pts_tab (F := F) d L _ _).symm); iexact Htb
      isplitl [Hro]; · iapply (Entails.of_eq (pts_row2 (F := F) d L h1 _).symm); iexact Hro
      isplitl [Hb]; · iapply (Entails.of_eq (pts_buf2 (F := F) d L _).symm); iexact Hb
      isplitl [Ht]; · iapply (Entails.of_eq (pts_rowT (F := F) d L _).symm); iexact Ht
      isplitl [Hac]; · iapply (Entails.of_eq (pts_acc2 (F := F) d L _).symm); iexact Hac
      isplitl [Hc0]; · iexact Hc0
      isplitl [Hc1]; · iexact Hc1
      isplitl [Hc2]; · iexact Hc2
      iexact HO
    iintro %_ ⟨Hk, Htb, Hro, ⟨%b, Hb⟩, ⟨%T0, Ht⟩, ⟨%ac, Hac⟩, Hc0, Hc1, Hc2, %W', %hW', HO⟩
    isplitl [Hk Htb Hro]
    · isplitl [Hk]; · iapply (Entails.of_eq (pts_key (F := F) d L _ _)); iexact Hk
      isplitl [Htb]; · iapply (Entails.of_eq (pts_tab (F := F) d L _ _)); iexact Htb
      iapply (Entails.of_eq (pts_row2 (F := F) d L h1 _)); iexact Hro
    isplitl [Hb1 Hb2 Hb Ht Hac Hbufs]
    · isplitr [Hbufs]
      · isplitl [Hb1]; · iexact Hb1
        isplitl [Hb2]; · iexact Hb2
        isplitl [Hb]; · iexists _; iapply (Entails.of_eq (pts_buf2 (F := F) d L _)); iexact Hb
        isplitl [Ht]; · iexists _; iapply (Entails.of_eq (pts_rowT (F := F) d L _)); iexact Ht
        iexists _; iapply (Entails.of_eq (pts_acc2 (F := F) d L _)); iexact Hac
      iexact Hbufs
    isplitl [Hd0 Hd1 Hc0 Hc1 Hc2 Hsems]
    · isplitr [Hsems]
      · isplitl [Hd0]; · iexact Hd0
        isplitl [Hd1]; · iexact Hd1
        isplitl [Hc0]; · iexact Hc0
        isplitl [Hc1]; · iexact Hc1
        iexact Hc2
      iexact Hsems
    iexists W'; isplitr
    · ipureintro; exact fun p hp => (hW' p hp).imp_right .inl
    · iexact HO
  · rw [show task2Pts m tb d (wid L) (subOf m tb d) = task2Pts m tb d (wid L) (m (subLoc d)) by
      unfold task2Pts; rw [rowSet2_none L h1, pointsTo_empty, pointsTo_empty]]
    rw [cc1_sc_hist2_eq_skeleton]; unfold cc1_sc_hist2_skel
    iintro ⟨-, -, Ht, Hb, Hs, HO⟩
    sl_exec (disch := first | sl_exact h1)
    sl_step
    isplitl [Ht]; · iexact Ht
    isplitl [Hb]; · iexact Hb
    isplitl [Hs]; · iexact Hs
    iexists W; isplitr
    · ipureintro; exact fun p hp => .inl hp
    · iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_one (c : Fin τ.nSC) (s : Fin τ.nSub) :
    defs₀ (F := F) (.scVector c s) 0 ()
      = SparseCore.onTile hcore0 hsub0 (fun c s => cc0_sc_hist1 (F := F) (coordsV c s) keyV (Memref.isWhole_whole _) cntV (Memref.isWhole_whole _)
            buf1V (Memref.isWhole_whole _) acc1V (Memref.isWhole_whole _) cc0_scoped0 cc0_scoped1) ⟨⟩ c s := rfl

theorem defs₀_two (c : Fin τ.nSC) (s : Fin τ.nSub) :
    defs₀ (F := F) (.scVector c s) 1 ()
      = SparseCore.onTile hcore1 hsub1 (fun c s => cc1_sc_hist2 (F := F) (coordsV c s) keyV (Memref.isWhole_whole _) tabV (Memref.isWhole_whole _)
            subV (Memref.isWhole_whole _) buf2V (Memref.isWhole_whole _) rowTV (Memref.isWhole_whole _) acc2V (Memref.isWhole_whole _)
            cc1_scoped0 cc1_scoped1 cc1_scoped2) ⟨⟩ c s := rfl

theorem tileObl1 (hF : (K (F := F)).Facts) : (K (F := F)).TileObl (D (F := F)) 𝒱 (P m tb) v₀ 0 := by
  intro d c i O W hO _ _
  simp only [show (P m tb).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_one]; simp only [SparseCore.onTile, hci, and_self, ↓reduceDIte]
  exact tile1_body m d (coordsV ⟨_, hci.1⟩ ⟨_, hci.2⟩) hF O W hO

theorem tileObl2 (htb : ∀ d, SlotsOk (tb d)) (hF : (K (F := F)).Facts) : (K (F := F)).TileObl (D (F := F)) 𝒱 (P m tb) v₀ 1 := by
  intro d c i O W hO _ _
  simp only [show (P m tb).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_two]; simp only [SparseCore.onTile, hci, and_self, ↓reduceDIte]
  exact tile2_body m tb d (coordsV ⟨_, hci.1⟩ ⟨_, hci.2⟩) htb hF O W hO

end Obl

/-! ## The arrays dealt to the tasks and collected again -/

/-- The subcores of the two SparseCores, numbered. -/
theorem workers : (Finset.univ : Finset (Fin 2 × Fin 16)).image (fun p => 2 * p.2.val + p.1.val) = Finset.range 32 := by decide

theorem workers_inj : Set.InjOn (fun p : Fin 2 × Fin 16 => 2 * p.2.val + p.1.val) ((Finset.univ : Finset (Fin 2 × Fin 16)) : Set (Fin 2 × Fin 16)) := by
  intro a _ b _ h
  have h1 := a.1.isLt
  have h2 := b.1.isLt
  exact Prod.ext (Fin.ext (by simp only at h; omega)) (Fin.ext (by simp only at h; omega))

/-- Every subcore's piece, in one range. -/
theorem bigSep_workers (Φ : ℕ → sProp 𝕄) :
    (bigSep Finset.univ fun c : Fin 2 => bigSep Finset.univ fun i : Fin 16 => Φ (2 * i.val + c.val)) = bigSep (Finset.range 32) Φ := by
  rw [← workers, SparseCore.bigSep_image_of_injOn workers_inj]
  exact (BI.bigSep_univ_prod (fun p : Fin 2 × Fin 16 => Φ (2 * p.2.val + p.1.val))).symm

theorem rows1 (d : Dev nD) (f : Vec F S30x65536 .i32) :
    (bigSep (Finset.range 32) fun w => (cntLoc d ↦[rowSet1 w]{fullShare} f : sProp 𝕄)) = (cntLoc d ↦{fullShare} f) := by
  have hc : (Finset.range 32).biUnion rowSet1 = Finset.univ := Finset.eq_univ_iff_forall.mpr fun i =>
    Finset.mem_biUnion.mpr ⟨(i 0).val, Finset.mem_range.mpr (lt_of_lt_of_le (b := 30) (i 0).isLt (by decide)), Finset.mem_filter.mpr ⟨Finset.mem_univ _, rfl⟩⟩
  rw [show (cntLoc d ↦{fullShare} f : sProp 𝕄) = (cntLoc d ↦[(Finset.range 32).biUnion rowSet1]{fullShare} f) by rw [hc]]
  exact (pointsTo_biUnion (ℓ := cntLoc d) (q := fullShare) (f := f) (Finset.range 32) rowSet1 fun w _ w' _ h =>
    Finset.disjoint_left.mpr fun i hi hi' => h ((Finset.mem_filter.mp hi).2.symm.trans (Finset.mem_filter.mp hi').2)).symm

theorem rows2 (d : Dev nD) (f : Vec F S30x61440 .i32) :
    (bigSep (Finset.range 32) fun w => (subLoc d ↦[rowSet2 w]{fullShare} f : sProp 𝕄)) = (subLoc d ↦{fullShare} f) := by
  have hc : (Finset.range 32).biUnion rowSet2 = Finset.univ := Finset.eq_univ_iff_forall.mpr fun i =>
    Finset.mem_biUnion.mpr ⟨(i 0).val, Finset.mem_range.mpr (lt_of_lt_of_le (b := 30) (i 0).isLt (by decide)), Finset.mem_filter.mpr ⟨Finset.mem_univ _, rfl⟩⟩
  rw [show (subLoc d ↦{fullShare} f : sProp 𝕄) = (subLoc d ↦[(Finset.range 32).biUnion rowSet2]{fullShare} f) by rw [hc]]
  exact (pointsTo_biUnion (ℓ := subLoc d) (q := fullShare) (f := f) (Finset.range 32) rowSet2 fun w _ w' _ h =>
    Finset.disjoint_left.mpr fun i hi hi' => h ((Finset.mem_filter.mp hi).2.symm.trans (Finset.mem_filter.mp hi').2)).symm

/-- The share that stays with the TensorCore during a call. -/
abbrev keptShare : PosShare TreeShare := Transfers.shareDrop fullShare 32

theorem deal1 (d : Dev nD) (f : Vec F S30x65536 .i32) :
    (iprop((keyLoc d ↦{fullShare} keysOf m d) ∗ cntLoc d ↦{fullShare} f) : sProp 𝕄)
      ⊢ iprop((keyLoc d ↦{keptShare} keysOf m d) ∗ bigSep (Finset.range 32) fun w => task1Pts m d w f) := by
  unfold task1Pts
  rw [bigSep_sep', rows1]
  iintro ⟨Hk, Ho⟩
  ihave Hk' := (Transfers.pointsTo_toks_range (ℓ := keyLoc d) (S := Finset.univ) (f := keysOf m d) fullShare 32).1 $$ Hk
  icases Hk' with ⟨Hk, Hks⟩
  isplitl [Hk]; · iexact Hk
  isplitl [Hks]; · iexact Hks
  iexact Ho

theorem collect1 (d : Dev nD) (f : Vec F S30x65536 .i32) :
    (iprop((keyLoc d ↦{keptShare} keysOf m d) ∗ bigSep (Finset.range 32) fun w => task1Pts m d w f) : sProp 𝕄)
      ⊢ iprop((keyLoc d ↦{fullShare} keysOf m d) ∗ cntLoc d ↦{fullShare} f) := by
  unfold task1Pts
  rw [bigSep_sep', rows1]
  iintro ⟨Hk, Hks, Ho⟩
  isplitl [Hk Hks]
  · iapply (Transfers.pointsTo_toks_range (ℓ := keyLoc d) (S := Finset.univ) (f := keysOf m d) fullShare 32).2
    isplitl [Hk]; · iexact Hk
    iexact Hks
  iexact Ho

theorem deal2 (d : Dev nD) (f : Vec F S30x61440 .i32) :
    (iprop((keyLoc d ↦{fullShare} keysOf m d) ∗ (tabLoc d ↦{fullShare} tb d) ∗ subLoc d ↦{fullShare} f) : sProp 𝕄)
      ⊢ iprop(((keyLoc d ↦{keptShare} keysOf m d) ∗ tabLoc d ↦{keptShare} tb d) ∗ bigSep (Finset.range 32) fun w => task2Pts m tb d w f) := by
  unfold task2Pts
  rw [bigSep_sep', bigSep_sep', rows2]
  iintro ⟨Hk, Ht, Ho⟩
  ihave Hk' := (Transfers.pointsTo_toks_range (ℓ := keyLoc d) (S := Finset.univ) (f := keysOf m d) fullShare 32).1 $$ Hk
  ihave Ht' := (Transfers.pointsTo_toks_range (ℓ := tabLoc d) (S := Finset.univ) (f := tb d) fullShare 32).1 $$ Ht
  icases Hk' with ⟨Hk, Hks⟩
  icases Ht' with ⟨Ht, Hts⟩
  isplitl [Hk Ht]
  · isplitl [Hk]; · iexact Hk
    iexact Ht
  isplitl [Hks]; · iexact Hks
  isplitl [Hts]; · iexact Hts
  iexact Ho

theorem collect2 (d : Dev nD) (f : Vec F S30x61440 .i32) :
    (iprop(((keyLoc d ↦{keptShare} keysOf m d) ∗ tabLoc d ↦{keptShare} tb d) ∗ bigSep (Finset.range 32) fun w => task2Pts m tb d w f) : sProp 𝕄)
      ⊢ iprop((keyLoc d ↦{fullShare} keysOf m d) ∗ (tabLoc d ↦{fullShare} tb d) ∗ subLoc d ↦{fullShare} f) := by
  unfold task2Pts
  rw [bigSep_sep', bigSep_sep', rows2]
  iintro ⟨⟨Hk, Ht⟩, Hks, Hts, Ho⟩
  isplitl [Hk Hks]
  · iapply (Transfers.pointsTo_toks_range (ℓ := keyLoc d) (S := Finset.univ) (f := keysOf m d) fullShare 32).2
    isplitl [Hk]; · iexact Hk
    iexact Hks
  isplitl [Ht Hts]
  · iapply (Transfers.pointsTo_toks_range (ℓ := tabLoc d) (S := Finset.univ) (f := tb d) fullShare 32).2
    isplitl [Ht]; · iexact Ht
    iexact Hts
  iexact Ho

theorem starts1 (d : Dev nD) :
    (bigSep Finset.univ fun c : Fin ((K (F := F)).nCore 0) => (P m tb).st 0 d c) = bigSep (Finset.range 32) fun w => task1Pts m d w (m (cntLoc d)) :=
  bigSep_workers fun w => task1Pts m d w (m (cntLoc d))
theorem ends1 (d : Dev nD) :
    (bigSep Finset.univ fun c : Fin ((K (F := F)).nCore 0) => (P m tb).dn 0 d c) = bigSep (Finset.range 32) fun w => task1Pts m d w (cntOf m d) :=
  bigSep_workers fun w => task1Pts m d w (cntOf m d)
theorem starts2 (d : Dev nD) :
    (bigSep Finset.univ fun c : Fin ((K (F := F)).nCore 1) => (P m tb).st 1 d c) = bigSep (Finset.range 32) fun w => task2Pts m tb d w (m (subLoc d)) :=
  bigSep_workers fun w => task2Pts m tb d w (m (subLoc d))
theorem ends2 (d : Dev nD) :
    (bigSep Finset.univ fun c : Fin ((K (F := F)).nCore 1) => (P m tb).dn 1 d c) = bigSep (Finset.range 32) fun w => task2Pts m tb d w (subOf m tb d) :=
  bigSep_workers fun w => task2Pts m tb d w (subOf m tb d)

end Cert.Proof.Sel

end
-- ==== Proof.SelHost.lean ====
/-
  @main's host operations between and after the two calls, as lists; @main is the lists in order with the calls between
  them.
-/
module

public import proofs.«01_k».proof.Proof.SelObl

@[expose] public section

noncomputable section

namespace Cert.Proof.Sel

open Cert.SelectIdeal Cert.SelectIdeal.Gen

open Idealize.ShloMosaic
open Idealize.ShloMosaic.SparseCore (S V T)
open Idealize.SL Idealize.SL.Sem
open Idealize.ShloMosaic.StableHlo (seq seqK after)

variable {F : FTy → Type} [FloatOps F]

/-- The first count's rows summed, each rank's bucket and its rank inside that bucket. -/
def counts : List (HloOp τ sig (Elt F)) :=
  [ StableHlo.reshape main_v0 main_v1 (rfl : (.i32 : EltTy) = .i32) shapeCasts_S30x65536_S10x3x4096x16,
    StableHlo.nullary main_c (constantI S_ 32 0#32),
    StableHlo.binary main_v1 main_c main_v2 ((fun x v => Host.reduce IntOp.addi x v reducesTo_S10x3x4096x16_S10x4096_d1_3 h_S_) : (⟨S10x3x4096x16, .i32⟩ : BufTy).Contents (Elt F) → (⟨S_, .i32⟩ : BufTy).Contents (Elt F) → (⟨S10x4096, .i32⟩ : BufTy).Contents (Elt F)),
    StableHlo.unary main_arg1 main_v3 (broadcastInDim S10x30 ![1] bcast_S30_S10x30_1 : (⟨S30, .i32⟩ : BufTy).Contents (Elt F) → (⟨S10x30, .i32⟩ : BufTy).Contents (Elt F)),
    StableHlo.TRef.nullary main_call0_call0.c (constantI S_ 32 0#32),
    StableHlo.TRef.unary main_call0_call0.c main_call0_call0.v0 (broadcastInDim S_ ![] bcast_S_S_),
    StableHlo.TRef.binary (.of main_v2 : StableHlo.TRef sig ⟨S10x4096, .i32⟩) main_call0_call0.v0 main_call0_call0.v1 (fun x v => Host.reduceWindow IntOp.addi ![1, 4096] ![1, 1] ![0, 4095] ![0, 0] x v reduceWindows_S10x4096_S10x4096_w1s1p0_0_w4096s1p4095_0 h_S_),
    StableHlo.unary main_v4 main_v5 (broadcastInDim S10x1x4096 ![0, 2] bcast_S10x4096_S10x1x4096_0_2 : (⟨S10x4096, .i32⟩ : BufTy).Contents (Elt F) → (⟨S10x1x4096, .i32⟩ : BufTy).Contents (Elt F)),
    StableHlo.unary main_v3 main_v6 (broadcastInDim S10x30x1 ![0, 1] bcast_S10x30_S10x30x1_0_1 : (⟨S10x30, .i32⟩ : BufTy).Contents (Elt F) → (⟨S10x30x1, .i32⟩ : BufTy).Contents (Elt F)),
    StableHlo.unary main_v5 main_v7 (broadcastInDim S10x30x4096 ![0, 1, 2] bcast_S10x1x4096_S10x30x4096_0_1_2 : (⟨S10x1x4096, .i32⟩ : BufTy).Contents (Elt F) → (⟨S10x30x4096, .i32⟩ : BufTy).Contents (Elt F)),
    StableHlo.unary main_v6 main_v8 (broadcastInDim S10x30x4096 ![0, 1, 2] bcast_S10x30x1_S10x30x4096_0_1_2 : (⟨S10x30x1, .i32⟩ : BufTy).Contents (Elt F) → (⟨S10x30x4096, .i32⟩ : BufTy).Contents (Elt F)),
    StableHlo.binary main_v7 main_v8 main_v9 (cmpi .sle : (⟨S10x30x4096, .i32⟩ : BufTy).Contents (Elt F) → (⟨S10x30x4096, .i32⟩ : BufTy).Contents (Elt F) → (⟨S10x30x4096, .i1⟩ : BufTy).Contents (Elt F)),
    StableHlo.unary main_v9 main_v10 ((extui 32 · natLt_1_32) : (⟨S10x30x4096, .i1⟩ : BufTy).Contents (Elt F) → (⟨S10x30x4096, .i32⟩ : BufTy).Contents (Elt F)),
    StableHlo.nullary main_c_0 (constantI S_ 32 0#32),
    StableHlo.binary main_v10 main_c_0 main_v11 ((fun x v => Host.reduce IntOp.addi x v reducesTo_S10x30x4096_S10x30_d2 h_S_) : (⟨S10x30x4096, .i32⟩ : BufTy).Contents (Elt F) → (⟨S_, .i32⟩ : BufTy).Contents (Elt F) → (⟨S10x30, .i32⟩ : BufTy).Contents (Elt F)),
    StableHlo.unary main_v2 main_v12 (broadcastInDim S10x1x4096 ![0, 2] bcast_S10x4096_S10x1x4096_0_2 : (⟨S10x4096, .i32⟩ : BufTy).Contents (Elt F) → (⟨S10x1x4096, .i32⟩ : BufTy).Contents (Elt F)),
    StableHlo.unary main_v9 main_v13 ((extui 32 · natLt_1_32) : (⟨S10x30x4096, .i1⟩ : BufTy).Contents (Elt F) → (⟨S10x30x4096, .i32⟩ : BufTy).Contents (Elt F)),
    StableHlo.unary main_v12 main_v14 (broadcastInDim S10x30x4096 ![0, 1, 2] bcast_S10x1x4096_S10x30x4096_0_1_2 : (⟨S10x1x4096, .i32⟩ : BufTy).Contents (Elt F) → (⟨S10x30x4096, .i32⟩ : BufTy).Contents (Elt F)),
    StableHlo.binary main_v13 main_v14 main_v15 (muli : (⟨S10x30x4096, .i32⟩ : BufTy).Contents (Elt F) → (⟨S10x30x4096, .i32⟩ : BufTy).Contents (Elt F) → (⟨S10x30x4096, .i32⟩ : BufTy).Contents (Elt F)),
    StableHlo.nullary main_c_1 (constantI S_ 32 0#32),
    StableHlo.binary main_v15 main_c_1 main_v16 ((fun x v => Host.reduce IntOp.addi x v reducesTo_S10x30x4096_S10x30_d2 h_S_) : (⟨S10x30x4096, .i32⟩ : BufTy).Contents (Elt F) → (⟨S_, .i32⟩ : BufTy).Contents (Elt F) → (⟨S10x30, .i32⟩ : BufTy).Contents (Elt F)),
    StableHlo.binary main_v3 main_v16 main_v17 (subi : (⟨S10x30, .i32⟩ : BufTy).Contents (Elt F) → (⟨S10x30, .i32⟩ : BufTy).Contents (Elt F) → (⟨S10x30, .i32⟩ : BufTy).Contents (Elt F)) ]

/-- The first of a row's ranks with the same bucket. -/
def firsts : List (HloOp τ sig (Elt F)) :=
  [ StableHlo.nullary main_v18 (iotaInDim S30 32 0),
    StableHlo.unary main_v11 main_v19 (broadcastInDim S10x1x30 ![0, 2] bcast_S10x30_S10x1x30_0_2 : (⟨S10x30, .i32⟩ : BufTy).Contents (Elt F) → (⟨S10x1x30, .i32⟩ : BufTy).Contents (Elt F)),
    StableHlo.unary main_v11 main_v20 (broadcastInDim S10x30x1 ![0, 1] bcast_S10x30_S10x30x1_0_1 : (⟨S10x30, .i32⟩ : BufTy).Contents (Elt F) → (⟨S10x30x1, .i32⟩ : BufTy).Contents (Elt F)),
    StableHlo.unary main_v19 main_v21 (broadcastInDim S10x30x30 ![0, 1, 2] bcast_S10x1x30_S10x30x30_0_1_2 : (⟨S10x1x30, .i32⟩ : BufTy).Contents (Elt F) → (⟨S10x30x30, .i32⟩ : BufTy).Contents (Elt F)),
    StableHlo.unary main_v20 main_v22 (broadcastInDim S10x30x30 ![0, 1, 2] bcast_S10x30x1_S10x30x30_0_1_2 : (⟨S10x30x1, .i32⟩ : BufTy).Contents (Elt F) → (⟨S10x30x30, .i32⟩ : BufTy).Contents (Elt F)),
    StableHlo.binary main_v21 main_v22 main_v23 (cmpi .eq : (⟨S10x30x30, .i32⟩ : BufTy).Contents (Elt F) → (⟨S10x30x30, .i32⟩ : BufTy).Contents (Elt F) → (⟨S10x30x30, .i1⟩ : BufTy).Contents (Elt F)),
    StableHlo.unary main_v18 main_v24 (broadcastInDim S1x1x30 ![2] bcast_S30_S1x1x30_2 : (⟨S30, .i32⟩ : BufTy).Contents (Elt F) → (⟨S1x1x30, .i32⟩ : BufTy).Contents (Elt F)),
    StableHlo.nullary main_c_2 (constantI S_ 32 30#32),
    StableHlo.TRef.unary (.of main_c_2 : StableHlo.TRef sig ⟨S_, .i32⟩) main_call1.v0 id,
    StableHlo.TRef.unary (.of main_v24 : StableHlo.TRef sig ⟨S1x1x30, .i32⟩) main_call1.v1 (broadcastInDim S10x30x30 ![0, 1, 2] bcast_S1x1x30_S10x30x30_0_1_2),
    StableHlo.TRef.unary main_call1.v0 main_call1.v2 (broadcastInDim S10x30x30 ![] bcast_S_S10x30x30),
    StableHlo.TRef.ternary (.of main_v23 : StableHlo.TRef sig ⟨S10x30x30, .i1⟩) main_call1.v1 main_call1.v2 main_call1.v3 select,
    StableHlo.nullary main_c_3 (constantI S_ 32 2147483647#32),
    StableHlo.binary main_v25 main_c_3 main_v26 ((fun x v => Host.reduce IntOp.minsi x v reducesTo_S10x30x30_S10x30_d2 h_S_) : (⟨S10x30x30, .i32⟩ : BufTy).Contents (Elt F) → (⟨S_, .i32⟩ : BufTy).Contents (Elt F) → (⟨S10x30, .i32⟩ : BufTy).Contents (Elt F)) ]

/-- Each bucket's slot. -/
def table : List (HloOp τ sig (Elt F)) :=
  [ StableHlo.nullary main_v27 (iotaInDim S4096 32 0),
    StableHlo.unary main_v11 main_v28 (broadcastInDim S10x30x1 ![0, 1] bcast_S10x30_S10x30x1_0_1 : (⟨S10x30, .i32⟩ : BufTy).Contents (Elt F) → (⟨S10x30x1, .i32⟩ : BufTy).Contents (Elt F)),
    StableHlo.unary main_v27 main_v29 (broadcastInDim S1x1x4096 ![2] bcast_S4096_S1x1x4096_2 : (⟨S4096, .i32⟩ : BufTy).Contents (Elt F) → (⟨S1x1x4096, .i32⟩ : BufTy).Contents (Elt F)),
    StableHlo.unary main_v28 main_v30 (broadcastInDim S10x30x4096 ![0, 1, 2] bcast_S10x30x1_S10x30x4096_0_1_2 : (⟨S10x30x1, .i32⟩ : BufTy).Contents (Elt F) → (⟨S10x30x4096, .i32⟩ : BufTy).Contents (Elt F)),
    StableHlo.unary main_v29 main_v31 (broadcastInDim S10x30x4096 ![0, 1, 2] bcast_S1x1x4096_S10x30x4096_0_1_2 : (⟨S1x1x4096, .i32⟩ : BufTy).Contents (Elt F) → (⟨S10x30x4096, .i32⟩ : BufTy).Contents (Elt F)),
    StableHlo.binary main_v30 main_v31 main_v32 (cmpi .eq : (⟨S10x30x4096, .i32⟩ : BufTy).Contents (Elt F) → (⟨S10x30x4096, .i32⟩ : BufTy).Contents (Elt F) → (⟨S10x30x4096, .i1⟩ : BufTy).Contents (Elt F)),
    StableHlo.unary main_v18 main_v33 (broadcastInDim S1x30x1 ![1] bcast_S30_S1x30x1_1 : (⟨S30, .i32⟩ : BufTy).Contents (Elt F) → (⟨S1x30x1, .i32⟩ : BufTy).Contents (Elt F)),
    StableHlo.nullary main_c_4 (constantI S_ 32 30#32),
    StableHlo.TRef.unary (.of main_c_4 : StableHlo.TRef sig ⟨S_, .i32⟩) main_call2.v0 id,
    StableHlo.TRef.unary (.of main_v33 : StableHlo.TRef sig ⟨S1x30x1, .i32⟩) main_call2.v1 (broadcastInDim S10x30x4096 ![0, 1, 2] bcast_S1x30x1_S10x30x4096_0_1_2),
    StableHlo.TRef.unary main_call2.v0 main_call2.v2 (broadcastInDim S10x30x4096 ![] bcast_S_S10x30x4096),
    StableHlo.TRef.ternary (.of main_v32 : StableHlo.TRef sig ⟨S10x30x4096, .i1⟩) main_call2.v1 main_call2.v2 main_call2.v3 select,
    StableHlo.nullary main_c_5 (constantI S_ 32 2147483647#32),
    StableHlo.binary main_v34 main_c_5 main_v35 ((fun x v => Host.reduce IntOp.minsi x v reducesTo_S10x30x4096_S10x4096_d1 h_S_) : (⟨S10x30x4096, .i32⟩ : BufTy).Contents (Elt F) → (⟨S_, .i32⟩ : BufTy).Contents (Elt F) → (⟨S10x4096, .i32⟩ : BufTy).Contents (Elt F)) ]

/-- The second count's rows summed, and each rank's row of them. -/
def chosen : List (HloOp τ sig (Elt F)) :=
  [ StableHlo.reshape main_v36 main_v37 (rfl : (.i32 : EltTy) = .i32) shapeCasts_S30x61440_S10x3x30x2048,
    StableHlo.nullary main_c_6 (constantI S_ 32 0#32),
    StableHlo.binary main_v37 main_c_6 main_v38 ((fun x v => Host.reduce IntOp.addi x v reducesTo_S10x3x30x2048_S10x30x2048_d1 h_S_) : (⟨S10x3x30x2048, .i32⟩ : BufTy).Contents (Elt F) → (⟨S_, .i32⟩ : BufTy).Contents (Elt F) → (⟨S10x30x2048, .i32⟩ : BufTy).Contents (Elt F)),
    StableHlo.unary main_v26 main_v39 (broadcastInDim S10x30x1 ![0, 1] bcast_S10x30_S10x30x1_0_1 : (⟨S10x30, .i32⟩ : BufTy).Contents (Elt F) → (⟨S10x30x1, .i32⟩ : BufTy).Contents (Elt F)),
    StableHlo.TRef.nullary main_call3.c (constantI S_ 32 0#32),
    StableHlo.TRef.unary main_call3.c main_call3.v0 (broadcastInDim S10x30x1 ![] bcast_S_S10x30x1),
    StableHlo.TRef.binary (.of main_v39 : StableHlo.TRef sig ⟨S10x30x1, .i32⟩) main_call3.v0 main_call3.v1 (cmpi .slt),
    StableHlo.TRef.nullary main_call3.c_0 (constantI S_ 32 30#32),
    StableHlo.TRef.unary main_call3.c_0 main_call3.v2 (broadcastInDim S10x30x1 ![] bcast_S_S10x30x1),
    StableHlo.TRef.binary (.of main_v39 : StableHlo.TRef sig ⟨S10x30x1, .i32⟩) main_call3.v2 main_call3.v3 addi,
    StableHlo.TRef.ternary main_call3.v1 main_call3.v3 (.of main_v39 : StableHlo.TRef sig ⟨S10x30x1, .i32⟩) main_call3.v4 select,
    StableHlo.TRef.nullary main_call3.c_1 (constantI S1 32 29#32),
    StableHlo.TRef.nullary main_call3.c_2 (constantI S_ 32 0#32),
    StableHlo.TRef.unary main_call3.c_2 main_call3.v5 (broadcastInDim S10x30x1 ![] bcast_S_S10x30x1),
    StableHlo.TRef.binary main_call3.v4 main_call3.v5 main_call3.v6 (cmpi .sge),
    StableHlo.TRef.unary main_call3.c_1 main_call3.v7 (broadcastInDim S1x1x1 ![2] bcast_S1_S1x1x1_2),
    StableHlo.TRef.unary main_call3.v7 main_call3.v8 (broadcastInDim S10x30x1 ![0, 1, 2] bcast_S1x1x1_S10x30x1_0_1_2),
    StableHlo.TRef.binary main_call3.v4 main_call3.v8 main_call3.v9 (cmpi .sle),
    StableHlo.TRef.binary main_call3.v6 main_call3.v9 main_call3.v10 andi,
    StableHlo.TRef.nullary main_call3.c_3 (constantI S_ 1 1#1),
    StableHlo.TRef.binary main_call3.v10 main_call3.c_3 main_call3.v11 (fun x v => Host.reduce IntOp.andi x v reducesTo_S10x30x1_S10x30_d2 h_S_),
    StableHlo.TRef.binary (.of main_v38 : StableHlo.TRef sig ⟨S10x30x2048, .i32⟩) main_call3.v4 main_call3.v12 (fun x i => Host.gather gather_S10x30x2048_S10x30x1_S10x30x2048_2_1_0_0_1_2_112048 x i),
    StableHlo.TRef.unary main_call3.v11 main_call3.v13 (broadcastInDim S10x30x2048 ![0, 1] bcast_S10x30_S10x30x2048_0_1),
    StableHlo.TRef.nullary main_call3.c_4 (constantI S_ 32 2147483648#32),
    StableHlo.TRef.unary main_call3.c_4 main_call3.v14 (broadcastInDim S10x30x2048 ![] bcast_S_S10x30x2048),
    StableHlo.TRef.ternary main_call3.v13 main_call3.v12 main_call3.v14 main_call3.v15 select ]

/-- Each rank's place among its bucket's parts, and the key the two make. -/
def keysFound : List (HloOp τ sig (Elt F)) :=
  [ StableHlo.unary main_v17 main_v41 (broadcastInDim S10x30x1 ![0, 1] bcast_S10x30_S10x30x1_0_1 : (⟨S10x30, .i32⟩ : BufTy).Contents (Elt F) → (⟨S10x30x1, .i32⟩ : BufTy).Contents (Elt F)),
    StableHlo.TRef.nullary main_call4_call0.c (constantI S_ 32 0#32),
    StableHlo.TRef.unary main_call4_call0.c main_call4_call0.v0 (broadcastInDim S_ ![] bcast_S_S_),
    StableHlo.TRef.binary (.of main_v40 : StableHlo.TRef sig ⟨S10x30x2048, .i32⟩) main_call4_call0.v0 main_call4_call0.v1 (fun x v => Host.reduceWindow IntOp.addi ![1, 1, 2048] ![1, 1, 1] ![0, 0, 2047] ![0, 0, 0] x v reduceWindows_S10x30x2048_S10x30x2048_w1s1p0_0_w1s1p0_0_w2048s1p2047_0 h_S_),
    StableHlo.unary main_v42 main_v43 (broadcastInDim S10x30x1x2048 ![0, 1, 3] bcast_S10x30x2048_S10x30x1x2048_0_1_3 : (⟨S10x30x2048, .i32⟩ : BufTy).Contents (Elt F) → (⟨S10x30x1x2048, .i32⟩ : BufTy).Contents (Elt F)),
    StableHlo.unary main_v41 main_v44 (broadcastInDim S10x30x1x1 ![0, 1, 2] bcast_S10x30x1_S10x30x1x1_0_1_2 : (⟨S10x30x1, .i32⟩ : BufTy).Contents (Elt F) → (⟨S10x30x1x1, .i32⟩ : BufTy).Contents (Elt F)),
    StableHlo.unary main_v44 main_v45 (broadcastInDim S10x30x1x2048 ![0, 1, 2, 3] bcast_S10x30x1x1_S10x30x1x2048_0_1_2_3 : (⟨S10x30x1x1, .i32⟩ : BufTy).Contents (Elt F) → (⟨S10x30x1x2048, .i32⟩ : BufTy).Contents (Elt F)),
    StableHlo.binary main_v43 main_v45 main_v46 (cmpi .sle : (⟨S10x30x1x2048, .i32⟩ : BufTy).Contents (Elt F) → (⟨S10x30x1x2048, .i32⟩ : BufTy).Contents (Elt F) → (⟨S10x30x1x2048, .i1⟩ : BufTy).Contents (Elt F)),
    StableHlo.unary main_v46 main_v47 ((extui 32 · natLt_1_32) : (⟨S10x30x1x2048, .i1⟩ : BufTy).Contents (Elt F) → (⟨S10x30x1x2048, .i32⟩ : BufTy).Contents (Elt F)),
    StableHlo.nullary main_c_7 (constantI S_ 32 0#32),
    StableHlo.binary main_v47 main_c_7 main_v48 ((fun x v => Host.reduce IntOp.addi x v reducesTo_S10x30x1x2048_S10x30x1_d3 h_S_) : (⟨S10x30x1x2048, .i32⟩ : BufTy).Contents (Elt F) → (⟨S_, .i32⟩ : BufTy).Contents (Elt F) → (⟨S10x30x1, .i32⟩ : BufTy).Contents (Elt F)),
    StableHlo.unary main_v40 main_v49 (broadcastInDim S10x30x1x2048 ![0, 1, 3] bcast_S10x30x2048_S10x30x1x2048_0_1_3 : (⟨S10x30x2048, .i32⟩ : BufTy).Contents (Elt F) → (⟨S10x30x1x2048, .i32⟩ : BufTy).Contents (Elt F)),
    StableHlo.unary main_v46 main_v50 ((extui 32 · natLt_1_32) : (⟨S10x30x1x2048, .i1⟩ : BufTy).Contents (Elt F) → (⟨S10x30x1x2048, .i32⟩ : BufTy).Contents (Elt F)),
    StableHlo.binary main_v50 main_v49 main_v51 (muli : (⟨S10x30x1x2048, .i32⟩ : BufTy).Contents (Elt F) → (⟨S10x30x1x2048, .i32⟩ : BufTy).Contents (Elt F) → (⟨S10x30x1x2048, .i32⟩ : BufTy).Contents (Elt F)),
    StableHlo.nullary main_c_8 (constantI S_ 32 0#32),
    StableHlo.binary main_v51 main_c_8 main_v52 ((fun x v => Host.reduce IntOp.addi x v reducesTo_S10x30x1x2048_S10x30x1_d3 h_S_) : (⟨S10x30x1x2048, .i32⟩ : BufTy).Contents (Elt F) → (⟨S_, .i32⟩ : BufTy).Contents (Elt F) → (⟨S10x30x1, .i32⟩ : BufTy).Contents (Elt F)),
    StableHlo.binary main_v41 main_v52 main_v53 (subi : (⟨S10x30x1, .i32⟩ : BufTy).Contents (Elt F) → (⟨S10x30x1, .i32⟩ : BufTy).Contents (Elt F) → (⟨S10x30x1, .i32⟩ : BufTy).Contents (Elt F)),
    StableHlo.reshape main_v48 main_v54 (rfl : (.i32 : EltTy) = .i32) shapeCasts_S10x30x1_S10x30,
    StableHlo.reshape main_v53 main_v55 (rfl : (.i32 : EltTy) = .i32) shapeCasts_S10x30x1_S10x30,
    StableHlo.nullary main_c_9 (constantI S_ 32 262144#32),
    StableHlo.unary main_c_9 main_v56 (broadcastInDim S10x30 ![] bcast_S_S10x30 : (⟨S_, .i32⟩ : BufTy).Contents (Elt F) → (⟨S10x30, .i32⟩ : BufTy).Contents (Elt F)),
    StableHlo.binary main_v11 main_v56 main_v57 (muli : (⟨S10x30, .i32⟩ : BufTy).Contents (Elt F) → (⟨S10x30, .i32⟩ : BufTy).Contents (Elt F) → (⟨S10x30, .i32⟩ : BufTy).Contents (Elt F)),
    StableHlo.nullary main_c_10 (constantI S_ 32 128#32),
    StableHlo.unary main_c_10 main_v58 (broadcastInDim S10x30 ![] bcast_S_S10x30 : (⟨S_, .i32⟩ : BufTy).Contents (Elt F) → (⟨S10x30, .i32⟩ : BufTy).Contents (Elt F)),
    StableHlo.binary main_v54 main_v58 main_v59 (muli : (⟨S10x30, .i32⟩ : BufTy).Contents (Elt F) → (⟨S10x30, .i32⟩ : BufTy).Contents (Elt F) → (⟨S10x30, .i32⟩ : BufTy).Contents (Elt F)),
    StableHlo.binary main_v57 main_v59 main_v60 (addi : (⟨S10x30, .i32⟩ : BufTy).Contents (Elt F) → (⟨S10x30, .i32⟩ : BufTy).Contents (Elt F) → (⟨S10x30, .i32⟩ : BufTy).Contents (Elt F)) ]

/-- What follows the second call. -/
def afterTwo : Prog (TpuEff nD τ sig (Elt F) (SparseCore.Sig (Pipeline.Sig Λ₀ (Fin 0) fun p => (pcfgs (F := F) p).Adm) 2) .tc) PUnit :=
  seqK chosen (seqK keysFound (pure ⟨⟩))

/-- What follows the first call. -/
def afterOne (d : Dev nD) : Prog (TpuEff nD τ sig (Elt F) (SparseCore.Sig (Pipeline.Sig Λ₀ (Fin 0) fun p => (pcfgs (F := F) p).Adm) 2) .tc) PUnit :=
  seqK counts (seqK firsts (seqK table (sc.run d 1 >>= fun _ => afterTwo)))

set_option maxRecDepth 16000 in
set_option maxHeartbeats 8000000 in
theorem main_eq (d : Dev nD) : main (F := F) d = sc.run d 0 >>= fun _ => afterOne d := by
  rfl

/-! ## What the lists touch and write -/

set_option maxRecDepth 8192 in
theorem counts_sub : (counts : List (HloOp τ sig (Elt F))).Forall fun op => op.bufs ⊆ StableHlo.tcRefs τ sig :=
  ⟨StableHlo.reshape_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.binary_bufs_sub ..⟩
set_option maxRecDepth 8192 in
theorem firsts_sub : (firsts : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub ..⟩
set_option maxRecDepth 8192 in
theorem table_sub : (table : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.binary_bufs_sub ..⟩
set_option maxRecDepth 8192 in
theorem chosen_sub : (chosen : List (HloOp τ sig (Elt F))).Forall fun op => op.bufs ⊆ StableHlo.tcRefs τ sig :=
  ⟨StableHlo.reshape_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
set_option maxRecDepth 8192 in
theorem keysFound_sub : (keysFound : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.binary_bufs_sub .., StableHlo.reshape_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩

set_option maxRecDepth 8192 in
theorem counts_fresh : (counts : List (HloOp τ sig (Elt F))).Forall fun op => op.fresh = ∅ := StableHlo.forall_fresh_of_map rfl
set_option maxRecDepth 8192 in
theorem firsts_fresh : (firsts : List (HloOp τ sig (Elt F))).Forall fun op => op.fresh = ∅ := StableHlo.forall_fresh_of_map rfl
set_option maxRecDepth 8192 in
theorem table_fresh : (table : List (HloOp τ sig (Elt F))).Forall fun op => op.fresh = ∅ := StableHlo.forall_fresh_of_map rfl
set_option maxRecDepth 8192 in
theorem chosen_fresh : (chosen : List (HloOp τ sig (Elt F))).Forall fun op => op.fresh = ∅ := StableHlo.forall_fresh_of_map rfl
set_option maxRecDepth 8192 in
theorem keysFound_fresh : (keysFound : List (HloOp τ sig (Elt F))).Forall fun op => op.fresh = ∅ := StableHlo.forall_fresh_of_map rfl

/-- The references each list writes. -/
abbrev countsOut : List (Ref sig .tc) :=
  [main_v1, main_c, main_v2, main_v3, main_call0_call0_c, main_call0_call0_v0, main_v4, main_v5, main_v6, main_v7, main_v8, main_v9, main_v10, main_c_0, main_v11, main_v12, main_v13, main_v14, main_v15, main_c_1, main_v16, main_v17]
abbrev firstsOut : List (Ref sig .tc) :=
  [main_v18, main_v19, main_v20, main_v21, main_v22, main_v23, main_v24, main_c_2, main_call1_v0, main_call1_v1, main_call1_v2, main_v25, main_c_3, main_v26]
abbrev tableOut : List (Ref sig .tc) :=
  [main_v27, main_v28, main_v29, main_v30, main_v31, main_v32, main_v33, main_c_4, main_call2_v0, main_call2_v1, main_call2_v2, main_v34, main_c_5, main_v35]
abbrev chosenOut : List (Ref sig .tc) :=
  [main_v37, main_c_6, main_v38, main_v39, main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_c_4, main_call3_v14, main_v40]
abbrev keysFoundOut : List (Ref sig .tc) :=
  [main_v41, main_call4_call0_c, main_call4_call0_v0, main_v42, main_v43, main_v44, main_v45, main_v46, main_v47, main_c_7, main_v48, main_v49, main_v50, main_v51, main_c_8, main_v52, main_v53, main_v54, main_v55, main_c_9, main_v56, main_v57, main_c_10, main_v58, main_v59, main_v60]

set_option maxRecDepth 8192 in
theorem counts_writes : (counts : List (HloOp τ sig (Elt F))).Forall fun op => op.writes ⊆ (countsOut.map (Proc.devRef (τ := τ) .tc)).toFinset :=
  StableHlo.forall_writes_sub_of_map rfl
set_option maxRecDepth 8192 in
theorem firsts_writes : (firsts : List (HloOp τ sig (Elt F))).Forall fun op => op.writes ⊆ (firstsOut.map (Proc.devRef (τ := τ) .tc)).toFinset :=
  StableHlo.forall_writes_sub_of_map rfl
set_option maxRecDepth 8192 in
theorem table_writes : (table : List (HloOp τ sig (Elt F))).Forall fun op => op.writes ⊆ (tableOut.map (Proc.devRef (τ := τ) .tc)).toFinset :=
  StableHlo.forall_writes_sub_of_map rfl
set_option maxRecDepth 8192 in
theorem chosen_writes : (chosen : List (HloOp τ sig (Elt F))).Forall fun op => op.writes ⊆ (chosenOut.map (Proc.devRef (τ := τ) .tc)).toFinset :=
  StableHlo.forall_writes_sub_of_map rfl
set_option maxRecDepth 8192 in
theorem keysFound_writes : (keysFound : List (HloOp τ sig (Elt F))).Forall fun op => op.writes ⊆ (keysFoundOut.map (Proc.devRef (τ := τ) .tc)).toFinset :=
  StableHlo.forall_writes_sub_of_map rfl

end Cert.Proof.Sel

end
-- ==== Proof.SelLaunch.lean ====
/-
  The whole program's run: the two calls and @main's host operations in order, at the contents each leaves; the
  arguments unchanged and the result named.
-/
module

public import proofs.«01_k».proof.Proof.SelHost
public import Idealize.ShloMosaic.Lib.Pipeline.Frame
public import Idealize.ShloMosaic.Lib.Pipeline.Kit

@[expose] public section

noncomputable section

namespace Cert.Proof.Sel

open Cert.SelectIdeal Cert.SelectIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq seqK after held launchContents)
open Idealize.ShloMosaic.Pipeline (ucRefs)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The contents along @main -/

abbrev dr (r : Ref sig .tc) : DevRef τ sig := Proc.devRef .tc r

theorem dr_ne {r r' : Ref sig .tc} (h : r ≠ r') : dr r ≠ dr r' := StableHlo.devRef_ne_of_ne h

/-- After the first call. -/
def W1 (d : Dev nD) : Valuation τ sig (Elt F) := Function.update (launchContents m d) (dr main_v0) (cntOf m d)
/-- After each of the three host lists before the second call. -/
def W2 (d : Dev nD) : Valuation τ sig (Elt F) := after counts (W1 m d)
def W3 (d : Dev nD) : Valuation τ sig (Elt F) := after firsts (W2 m d)
def W4 (d : Dev nD) : Valuation τ sig (Elt F) := after table (W3 m d)

/-- The table the second call reads. -/
def tabOf : Tables F := fun d => W4 m d (dr main_v35)

/-- After the second call. -/
def W5 (d : Dev nD) : Valuation τ sig (Elt F) := Function.update (W4 m d) (dr main_v36) (subOf m (tabOf m) d)
/-- After each of the two host lists that end @main. -/
def W6 (d : Dev nD) : Valuation τ sig (Elt F) := after chosen (W5 m d)
def W7 (d : Dev nD) : Valuation τ sig (Elt F) := after keysFound (W6 m d)

theorem W1_of (d : Dev nD) (r : Ref sig .tc) (h : r ≠ main_v0) : W1 m d (dr r) = m (d, dr r) :=
  Function.update_of_ne (dr_ne h) _ _
theorem W2_of (d : Dev nD) (r : Ref sig .tc) (h : r ∉ countsOut) : W2 m d (dr r) = W1 m d (dr r) :=
  StableHlo.after_of_writes_sub counts _ counts_writes h
theorem W3_of (d : Dev nD) (r : Ref sig .tc) (h : r ∉ firstsOut) : W3 m d (dr r) = W2 m d (dr r) :=
  StableHlo.after_of_writes_sub firsts _ firsts_writes h
theorem W4_of (d : Dev nD) (r : Ref sig .tc) (h : r ∉ tableOut) : W4 m d (dr r) = W3 m d (dr r) :=
  StableHlo.after_of_writes_sub table _ table_writes h
theorem W5_of (d : Dev nD) (r : Ref sig .tc) (h : r ≠ main_v36) : W5 m d (dr r) = W4 m d (dr r) :=
  Function.update_of_ne (dr_ne h) _ _
theorem W6_of (d : Dev nD) (r : Ref sig .tc) (h : r ∉ chosenOut) : W6 m d (dr r) = W5 m d (dr r) :=
  StableHlo.after_of_writes_sub chosen _ chosen_writes h
theorem W7_of (d : Dev nD) (r : Ref sig .tc) (h : r ∉ keysFoundOut) : W7 m d (dr r) = W6 m d (dr r) :=
  StableHlo.after_of_writes_sub keysFound _ keysFound_writes h

/-- A reference no line writes before the second call is as launched there. -/
theorem W4_launch (d : Dev nD) (r : Ref sig .tc) (h : r ∉ main_v0 :: (countsOut ++ firstsOut ++ tableOut)) : W4 m d (dr r) = m (d, dr r) := by
  rw [List.mem_cons, List.mem_append, List.mem_append, not_or, not_or, not_or] at h
  exact (W4_of m d r h.2.2).trans ((W3_of m d r h.2.1.2).trans ((W2_of m d r h.2.1.1).trans (W1_of m d r h.1)))
theorem W7_launch (d : Dev nD) (r : Ref sig .tc) (h : r ∉ main_v0 :: (countsOut ++ firstsOut ++ tableOut))
    (h' : r ∉ main_v36 :: (chosenOut ++ keysFoundOut)) : W7 m d (dr r) = m (d, dr r) := by
  rw [List.mem_cons, List.mem_append, not_or, not_or] at h'
  exact (W7_of m d r h'.2.2).trans ((W6_of m d r h'.2.1).trans ((W5_of m d r h'.1).trans (W4_launch m d r h)))

/-! ## The launch element of the certificate's ghost state -/

def u₀ : UU := (initOf (K (F := F)).hsCells (K (F := F)).hsToks, 1)

/-- Nothing is kept beside the calls' handshakes. -/
def G (_ : Dev nD) : sProp 𝕄 := iprop(emp)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => (P m (tabOf m)).x q thr) := by
  unfold u₀ G
  iintro Hu
  ihave H := (ownU_pair (A := UH) (B := Counters) _ _) $$ Hu
  icases H with ⟨HH, -⟩
  imodintro
  isplitl [HH]; · iexact HH
  rw [show (bigSep Finset.univ fun thr : Thread nD τ => bigSep Finset.univ fun q : Fin 2 => (P (F := F) m (tabOf m)).x q thr) = bigSep Finset.univ fun _ => iprop(emp) from
    bigSep_congr fun _ _ => bigSep_emp' _, bigSep_emp', bigSep_emp']
  isplitr <;> iempintro

/-! ## @main on the TensorCore -/

/-- A line of host operations, over the buffers no region scopes. -/
theorem host_run (d : Dev nD) (ops : List (HloOp τ sig (Elt F))) (hs : ops.Forall fun op => op.bufs ⊆ StableHlo.tcRefs τ sig)
    (hf : ops.Forall fun op => op.fresh = ∅) (V : Valuation τ sig (Elt F))
    (q : Prog (TpuEff nD τ sig (Elt F) (SparseCore.Sig (Pipeline.Sig Λ₀ (Fin 0) fun p => (pcfgs (F := F) p).Adm) 2) .tc) PUnit) {Q : PUnit → sProp 𝕄} :
    iprop(boundary (SparseCore.T d) ∗ held (SparseCore.T d) (ucRefs τ sig) V)
      ⊢ iprop(((boundary (SparseCore.T d) ∗ held (SparseCore.T d) (ucRefs τ sig) (after ops V))
            -∗ wp frame (wpE ((K (F := F)).defs (D (F := F))) 𝒱 (SparseCore.T d) none) Set.univ q Q)
          -∗ wp frame (wpE ((K (F := F)).defs (D (F := F))) 𝒱 (SparseCore.T d) none) Set.univ (seqK ops q) Q) := by
  rw [← StableHlo.seq_bind_seqK]
  exact StableHlo.wp_seq (defs := (K (F := F)).defs (D (F := F))) 𝒱 none Set.univ d (ucRefs τ sig) (fun _ => q) ops
    (fun op h => Pipeline.sub_ucRefs op ((List.forall_iff_forall_mem.mp hs) op h)) (fun op h => (List.forall_iff_forall_mem.mp hf) op h) V

theorem mem_uc (r : Ref sig .tc) (h : (dr r).isScoped = false) : dr r ∈ ucRefs τ sig :=
  Finset.mem_filter.mpr ⟨StableHlo.devRef_mem_tcRefs r, fun h' => Bool.false_ne_true (h.symm.trans h')⟩

/-- A set of the TensorCore's references, as buffers. -/
abbrev bufsOf (s : Finset (Ref sig .tc)) : Finset (DevRef τ sig) := s.image dr

theorem bufsOf_sub (s : Finset (Ref sig .tc)) (hs : ∀ r ∈ s, (dr r).isScoped = false) : bufsOf s ⊆ ucRefs τ sig := by
  intro x hx
  obtain ⟨r, hr, rfl⟩ := Finset.mem_image.mp hx
  exact mem_uc r (hs r hr)

theorem held_bufsOf (d : Dev nD) (s : Finset (Ref sig .tc)) (V : Valuation τ sig (Elt F)) :
    (held (SparseCore.T d) (bufsOf s) V : sProp 𝕄) = bigSep s fun r => (((d, dr r) : Loc nD τ sig) ↦{fullShare} V (dr r)) := by
  unfold held
  rw [SparseCore.bigSep_image_of_injOn (f := dr) (fun _ _ _ _ h => Proc.devRef_injective _ h)]

/-- The arrays of the first call, and of the second. -/
abbrev refs1 : Finset (Ref sig .tc) := {main_arg0, main_v0}
abbrev refs2 : Finset (Ref sig .tc) := {main_arg0, main_v35, main_v36}

theorem refs1_sub : bufsOf refs1 ⊆ ucRefs τ sig := bufsOf_sub _ (by decide)
theorem refs2_sub : bufsOf refs2 ⊆ ucRefs τ sig := bufsOf_sub _ (by decide)

theorem held1_before (d : Dev nD) : (held (SparseCore.T d) (bufsOf refs1) (launchContents m d) : sProp 𝕄)
    = iprop((keyLoc d ↦{fullShare} keysOf m d) ∗ cntLoc d ↦{fullShare} m (cntLoc d)) := by
  rw [held_bufsOf, SparseCore.bigSep_insert' (by decide), bigSep_singleton]
theorem held1_after (d : Dev nD) : (held (SparseCore.T d) (bufsOf refs1) (W1 m d) : sProp 𝕄)
    = iprop((keyLoc d ↦{fullShare} keysOf m d) ∗ cntLoc d ↦{fullShare} cntOf m d) := by
  rw [held_bufsOf, SparseCore.bigSep_insert' (by decide), bigSep_singleton, W1_of m d main_arg0 (by decide),
    show W1 m d (dr main_v0) = cntOf m d from Function.update_self _ _ _]
theorem held1_rest (d : Dev nD) : (held (SparseCore.T d) (ucRefs τ sig \ bufsOf refs1) (W1 m d) : sProp 𝕄)
    = held (SparseCore.T d) (ucRefs τ sig \ bufsOf refs1) (launchContents m d) := by
  refine StableHlo.held_congr _ fun b hb => Function.update_of_ne (fun e => (Finset.mem_sdiff.mp hb).2 ?_) _ _
  exact e ▸ Finset.mem_image_of_mem dr (by decide)

theorem held2_before (d : Dev nD) : (held (SparseCore.T d) (bufsOf refs2) (W4 m d) : sProp 𝕄)
    = iprop((keyLoc d ↦{fullShare} keysOf m d) ∗ (tabLoc d ↦{fullShare} tabOf m d) ∗ subLoc d ↦{fullShare} m (subLoc d)) := by
  rw [held_bufsOf, SparseCore.bigSep_insert' (by decide), SparseCore.bigSep_insert' (by decide), bigSep_singleton,
    W4_launch m d main_arg0 (by decide), W4_launch m d main_v36 (by decide)]
  rfl
theorem held2_after (d : Dev nD) : (held (SparseCore.T d) (bufsOf refs2) (W5 m d) : sProp 𝕄)
    = iprop((keyLoc d ↦{fullShare} keysOf m d) ∗ (tabLoc d ↦{fullShare} tabOf m d) ∗ subLoc d ↦{fullShare} subOf m (tabOf m) d) := by
  rw [held_bufsOf, SparseCore.bigSep_insert' (by decide), SparseCore.bigSep_insert' (by decide), bigSep_singleton,
    W5_of m d main_arg0 (by decide), W5_of m d main_v35 (by decide), W4_launch m d main_arg0 (by decide),
    show W5 m d (dr main_v36) = subOf m (tabOf m) d from Function.update_self _ _ _]
  rfl
theorem held2_rest (d : Dev nD) : (held (SparseCore.T d) (ucRefs τ sig \ bufsOf refs2) (W5 m d) : sProp 𝕄)
    = held (SparseCore.T d) (ucRefs τ sig \ bufsOf refs2) (W4 m d) := by
  refine StableHlo.held_congr _ fun b hb => Function.update_of_ne (fun e => (Finset.mem_sdiff.mp hb).2 ?_) _ _
  exact e ▸ Finset.mem_image_of_mem dr (by decide)

abbrev FIN (d : Dev nD) : sProp 𝕄 := held (SparseCore.T d) (ucRefs τ sig) (W7 m d)

/-- @main on device `d`'s TensorCore, from the launch's buffers to the last contents. -/
theorem hmain (κ : GSem nD τ sig → ℕ) (d : Dev nD) :
    iprop((K (F := F)).ctx EH (P m (tabOf m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (ucRefs τ sig) (launchContents m d) from
    Pipeline.unscopedBufs_held d (launchContents m d)]
  iintro ⟨#Hctx, Hst, ⟨Hb, Hbufs, Hts, -⟩, -⟩
  rw [wp_bind]
  ihave Hbufs' := (Entails.of_eq (StableHlo.held_sub_split (SparseCore.T d) refs1_sub (launchContents m d))) $$ Hbufs
  icases Hbufs' with ⟨Hc, Hr⟩
  ihave Hc := (Entails.of_eq (held1_before m d)) $$ Hc
  ihave Hc := (deal1 m d (m (cntLoc d))) $$ Hc
  icases Hc with ⟨Hk, Hc⟩
  iapply ((K (F := F)).wp_run (D (F := F)) 𝒱 (EH := EH) (P := P m (tabOf m)) κ d 0) $$ [Hst Hk Hc Hb Hr Hts]
  isplitr; · iexact Hctx
  isplitl [Hst]; · iexact Hst
  isplitl [Hc]
  · iapply (Entails.of_eq (starts1 m (tabOf m) d).symm); iexact Hc
  iintro ⟨Hst, Hdn⟩
  ihave Hc := (Entails.of_eq (ends1 m (tabOf m) d)) $$ Hdn
  ihave Hc := (collect1 m d (cntOf m d)) $$ [Hk Hc]
  · isplitl [Hk] <;> iassumption
  ihave Hc := (Entails.of_eq (held1_after m d).symm) $$ Hc
  ihave Hr := (Entails.of_eq (held1_rest m d).symm) $$ Hr
  ihave Hbufs := (Entails.of_eq (StableHlo.held_sub_split (SparseCore.T d) refs1_sub (W1 m d)).symm) $$ [Hc Hr]
  · isplitl [Hc] <;> iassumption
  unfold afterOne
  iapply (host_run d counts counts_sub counts_fresh (W1 m d)) $$ [Hb Hbufs]
  · isplitl [Hb] <;> iassumption
  iintro ⟨Hb, Hbufs⟩
  iapply (host_run d firsts firsts_sub firsts_fresh (W2 m d)) $$ [Hb Hbufs]
  · isplitl [Hb]; · iexact Hb
    iexact Hbufs
  iintro ⟨Hb, Hbufs⟩
  iapply (host_run d table table_sub table_fresh (W3 m d)) $$ [Hb Hbufs]
  · isplitl [Hb]; · iexact Hb
    iexact Hbufs
  iintro ⟨Hb, Hbufs⟩
  rw [wp_bind]
  ihave Hbufs' := (show held (SparseCore.T d) (ucRefs τ sig) (after table (W3 m d)) ⊢ _ from
    Entails.of_eq (StableHlo.held_sub_split (SparseCore.T d) refs2_sub (W4 m d))) $$ Hbufs
  icases Hbufs' with ⟨Hc, Hr⟩
  ihave Hc := (Entails.of_eq (held2_before m d)) $$ Hc
  ihave Hc := (deal2 m (tabOf m) d (m (subLoc d))) $$ Hc
  icases Hc with ⟨Hk, Hc⟩
  iapply ((K (F := F)).wp_run (D (F := F)) 𝒱 (EH := EH) (P := P m (tabOf m)) κ d 1) $$ [Hst Hk Hc Hb Hr Hts]
  isplitr; · iexact Hctx
  isplitl [Hst]; · iexact Hst
  isplitl [Hc]
  · iapply (Entails.of_eq (starts2 m (tabOf m) d).symm); iexact Hc
  iintro ⟨Hst, Hdn⟩
  ihave Hc := (Entails.of_eq (ends2 m (tabOf m) d)) $$ Hdn
  ihave Hc := (collect2 m (tabOf m) d (subOf m (tabOf m) d)) $$ [Hk Hc]
  · isplitl [Hk] <;> iassumption
  ihave Hc := (Entails.of_eq (held2_after m d).symm) $$ Hc
  ihave Hr := (Entails.of_eq (held2_rest m d).symm) $$ Hr
  ihave Hbufs := (Entails.of_eq (StableHlo.held_sub_split (SparseCore.T d) refs2_sub (W5 m d)).symm) $$ [Hc Hr]
  · isplitl [Hc] <;> iassumption
  unfold afterTwo
  iapply (host_run d chosen chosen_sub chosen_fresh (W5 m d)) $$ [Hb Hbufs]
  · isplitl [Hb] <;> iassumption
  iintro ⟨Hb, Hbufs⟩
  iapply (host_run d keysFound keysFound_sub keysFound_fresh (W6 m d)) $$ [Hb Hbufs]
  · isplitl [Hb]; · iexact Hb
    iexact Hbufs
  iintro ⟨Hb, Hbufs⟩
  rw [wp_pure]
  imodintro
  isplitl [Hst]; · iexact Hst
  isplitl [Hbufs]; · iexact Hbufs
  isplitl [Hb] <;> iassumption

/-! ## The final memory -/

abbrev resRefs : Finset (Ref sig .tc) := {main_arg0, main_arg1, main_v60}

theorem resRefs_sub : bufsOf resRefs ⊆ ucRefs τ sig := bufsOf_sub _ (by decide)

def fq (d : Dev nD) (s' : Phys nD τ sig (Elt F)) : Prop :=
  s'.mem.mem (d, dr main_arg0) = W7 m d (dr main_arg0) ∧ s'.mem.mem (d, dr main_arg1) = W7 m d (dr main_arg1)
    ∧ s'.mem.mem (d, dr main_v60) = W7 m d (dr main_v60)

theorem one_agree (d : Dev nD) (r : Ref sig .tc) (V : Valuation τ sig (Elt F)) (s' : Phys nD τ sig (Elt F)) :
    iprop(SI s' ∗ ((d, dr r) : Loc nD τ sig) ↦{fullShare} V (dr r)) ⊢ (⌜s'.mem.mem (d, dr r) = V (dr r)⌝ : sProp 𝕄) := by
  refine (SI_pointsTo_agree (st := s') (ℓ := (d, dr r)) (I := Finset.univ) (q := fullShare) (f := V (dr r))).trans ?_
  iintro %h
  ipureintro
  exact funext fun i => h i (Finset.mem_univ i)

theorem hfin (d : Dev nD) (s' : Phys nD τ sig (Elt F)) : iprop(FIN m d ∗ SI s') ⊢ (⌜fq m d s'⌝ : sProp 𝕄) := by
  unfold FIN
  rw [StableHlo.held_sub_split (SparseCore.T d) resRefs_sub, held_bufsOf, SparseCore.bigSep_insert' (by decide),
    SparseCore.bigSep_insert' (by decide), bigSep_singleton]
  iintro ⟨⟨⟨H0, H1, H2⟩, -⟩, HSI⟩
  ihave H := (persistent_entails_right (one_agree d main_arg0 (W7 m d) s')) $$ [HSI H0]
  · isplitl [HSI] <;> iassumption
  icases H with ⟨%h0, HSI, -⟩
  ihave H := (persistent_entails_right (one_agree d main_arg1 (W7 m d) s')) $$ [HSI H1]
  · isplitl [HSI] <;> iassumption
  icases H with ⟨%h1, HSI, -⟩
  ihave H := (one_agree d main_v60 (W7 m d) s') $$ [HSI H2]
  · isplitl [HSI] <;> iassumption
  icases H with %h2
  ipureintro
  exact ⟨h0, h1, h2⟩

/-! ## The run -/

/-- The program's end: the result computed, the arguments unchanged, every semaphore at zero. -/
def QC : PUnit × MemSt nD τ sig (Elt F) → Prop := fun r =>
  (∀ c : Dev nD, r.2.mem (c.tc.loc main_v60) = W7 m c (dr main_v60) ∧ r.2.mem (c.tc.loc main_arg0) = m (c.tc.loc main_arg0)
    ∧ r.2.mem (c.tc.loc main_arg1) = m (c.tc.loc main_arg1)) ∧ r.2.sem = fun _ => 0

/-- The program runs to its end wherever the host's table stays within the slots. -/
theorem run_main [∀ e, Nonempty (Elt F e)] (htb : ∀ d, SlotsOk (tabOf m d)) :
    θ_run (Cert.SelectIdeal.defs (F := F)) (Cert.SelectIdeal.threads (F := F)) ⟨m, fun _ => 0, ρ⟩ (QC m) :=
  SparseCore.Cfg.θ_run_sc_quiescent (K := K (F := F)) (D := D (F := F)) (𝒱 := 𝒱) (EH := EH) (P := P m (tabOf m)) (A := ∅) facts v₀
    (fun q hq => match q with | 0 => nomatch hq | 1 => nomatch hq)
    (fun q _ => match q with | 0 => tileObl1 m (tabOf m) facts | 1 => tileObl2 m (tabOf m) htb facts)
    (fun q _ => SparseCore.Cfg.VecSplit.of_plain (vecSplit m (tabOf m) q))
    m ρ main G (FIN m) (u₀ (F := F)) (sep_elim_left.trans (hu₀ m)) (hmain m ρ) (fq m) (hfin m) (QC m)
    (fun _ h hz => ⟨fun c => ⟨(h c).2.2, (h c).1.trans (W7_launch m c main_arg0 (by decide) (by decide)),
      (h c).2.1.trans (W7_launch m c main_arg1 (by decide) (by decide))⟩, hz⟩)

end Cert.Proof.Sel

end
-- ==== Proof.SelSums.lean ====
/-
  Integer sums, prefix sums and minima of the host, as sums and minima of natural numbers.

  A 32-bit word that is `BitVec.ofNat 32 n` adds as `n` adds, so a host sum of such words is the word of the sum; the
  minimum of words below 2^31 is one of them and at most each.
-/
module

public import Idealize.ShloMosaic.PureOps
public import Idealize.ShloMosaic.PureOps.Reduce
public import Idealize.ShloMosaic.Lib.ValueIdxCore
public import Mathlib.Algebra.BigOperators.Fin
public import Mathlib.Algebra.BigOperators.Intervals

@[expose] public section

namespace Cert.Proof.Sel

open Idealize.ShloMosaic
open Idealize.ShloMosaic.ValueIdx

/-! ## Sums -/

theorem addi_ofNat (a b : ℕ) : IntOp.addi (BitVec.ofNat 32 a) (BitVec.ofNat 32 b) = BitVec.ofNat 32 (a + b) :=
  (BitVec.ofNat_add a b).symm

theorem foldl_addi {ι : Type} (l : List ι) (g : ι → BitVec 32) (f : ι → ℕ) (hg : ∀ a, g a = BitVec.ofNat 32 (f a)) (n : ℕ) :
    l.foldl (fun r a => IntOp.addi r (g a)) (BitVec.ofNat 32 n) = BitVec.ofNat 32 (n + (l.map f).sum) := by
  induction l generalizing n with
  | nil => rfl
  | cons a l ih => rw [List.foldl_cons, hg, addi_ofNat, ih, List.map_cons, List.sum_cons, Nat.add_assoc]

theorem fold_addi {ι : Type} [DecidableEq ι] (s : Finset ι) (x : ι → BitVec 32) (f : ι → ℕ) (hx : ∀ i, x i = BitVec.ofNat 32 (f i)) :
    s.fold IntOp.addi 0#32 x = BitVec.ofNat 32 (∑ i ∈ s, f i) := by
  induction s using Finset.induction_on with
  | empty => rfl
  | insert a s ha ih => rw [Finset.fold_insert ha, ih, hx, addi_ofNat, Finset.sum_insert ha]

/-- A host sum from zero, over any axes. -/
theorem reduce_sum {s t u : Shape} {axes : List (Fin s.rank)} (x : s.Idx → BitVec 32) (f : s.Idx → ℕ) (hx : ∀ i, x i = BitVec.ofNat 32 (f i))
    (init : u.Idx → BitVec 32) (h : s.ReducesTo axes t) (hu : 0 < u.numel) (hi : init (Shape.Idx.first hu) = 0#32) (j : t.Idx) :
    Host.reduce IntOp.addi x init h hu j = BitVec.ofNat 32 (∑ i ∈ Finset.univ.filter (fun i => h.drop i = j), f i) := by
  classical
  rw [Host.reduce_eq_fold, hi]
  convert fold_addi _ x f hx using 2

/-- A host sum from zero, over one axis of extent `n`. -/
theorem reduce_sum_one {s t u : Shape} {a : Fin s.rank} (n : ℕ) (hn : s.size a = n) (x : s.Idx → BitVec 32) (f : ℕ → ℕ) (init : u.Idx → BitVec 32)
    (h' : s.ReducesTo [a] t) (h : s.Reduces [a] t) (hu : 0 < u.numel) (hi : init (Shape.Idx.first hu) = 0#32) (j : t.Idx)
    (hx : ∀ k : Fin n, x (h.lift j (k.cast hn.symm)) = BitVec.ofNat 32 (f k.val)) :
    Host.reduce IntOp.addi x init h' hu j = BitVec.ofNat 32 (∑ k ∈ Finset.range n, f k) := by
  subst hn
  rw [Host.reduce_eq_fold_single IntOp.addi x init h' h hu j, hi, Finset.sum_range]
  exact fold_addi Finset.univ (x ∘ h.lift j) (fun k => f k.val) hx

/-! ## Prefix sums -/

theorem sum_window (f : ℕ → ℕ) (b p : ℕ) (hp : p ≤ b) :
    (∑ w ∈ Finset.range (b + 1), if b ≤ p + w then f (p + w - b) else 0) = ∑ q ∈ Finset.range (p + 1), f q := by
  obtain ⟨d, rfl⟩ := Nat.exists_eq_add_of_le' hp
  rw [Nat.add_assoc, Finset.sum_range_add, Finset.sum_eq_zero (fun w hw => if_neg (by have := Finset.mem_range.1 hw; omega)), zero_add]
  refine Finset.sum_congr rfl fun w _ => ?_
  rw [if_pos (by omega), show p + (d + w) - (d + p) = w by omega]

theorem sum_ix2 {n : ℕ} (f : (⟨2, ![1, n]⟩ : Shape).Idx → ℕ) : (∑ i, f i) = ∑ w : Fin n, f (ix2 0 w) := by
  refine Finset.sum_bij' (fun i _ => (i 1 : Fin n)) (fun w _ => ix2 0 w) (fun _ _ => Finset.mem_univ _) (fun _ _ => Finset.mem_univ _) ?_ (fun _ _ => rfl) ?_
  · intro i _
    refine ((eq_ix2 i).trans ?_).symm
    rw [show i 0 = (0 : Fin 1) from Subsingleton.elim (α := Fin 1) _ _]
    exact rfl
  · intro i _
    congr 1
    refine (eq_ix2 i).trans ?_
    rw [show i 0 = (0 : Fin 1) from Subsingleton.elim (α := Fin 1) _ _]
    exact rfl

theorem sum_ix3 {n : ℕ} (f : (⟨3, ![1, 1, n]⟩ : Shape).Idx → ℕ) : (∑ i, f i) = ∑ w : Fin n, f (ix3 0 0 w) := by
  have e : ∀ i : (⟨3, ![1, 1, n]⟩ : Shape).Idx, i = ix3 0 0 (i 2) := fun i => by
    refine (eq_ix3 i).trans ?_
    rw [show i 0 = (0 : Fin 1) from Subsingleton.elim (α := Fin 1) _ _, show i 1 = (0 : Fin 1) from Subsingleton.elim (α := Fin 1) _ _]
    exact rfl
  refine Finset.sum_bij' (fun i _ => (i 2 : Fin n)) (fun w _ => ix3 0 0 w) (fun _ _ => Finset.mem_univ _) (fun _ _ => Finset.mem_univ _) (fun i _ => (e i).symm) (fun _ _ => rfl)
    (fun i _ => congrArg f (e i))

/-- A prefix sum along the last of two axes. -/
theorem cumsum2 {a b : ℕ} {u : Shape} (x : (⟨2, ![a, b + 1]⟩ : Shape).Idx → BitVec 32) (f : ℕ → ℕ) (r : Fin a) (hx : ∀ q : Fin (b + 1), x (ix2 r q) = BitVec.ofNat 32 (f q.val))
    (init : u.Idx → BitVec 32) (h : (⟨2, ![a, b + 1]⟩ : Shape).ReduceWindows (![1, b + 1] : Fin 2 → ℕ) ![1, 1] ![0, b] ![0, 0] ⟨2, ![a, b + 1]⟩)
    (hu : 0 < u.numel) (hi : init (Shape.Idx.first hu) = 0#32) (p : Fin (b + 1)) :
    Host.reduceWindow IntOp.addi (![1, b + 1] : Fin 2 → ℕ) ![1, 1] ![0, b] ![0, 0] x init h hu (ix2 r p) = BitVec.ofNat 32 (∑ q ∈ Finset.range (p.val + 1), f q) := by
  have hp := p.isLt
  unfold Host.reduceWindow
  rw [hi]
  refine (foldl_addi _ _ (fun n => (fun i : (⟨2, ![1, b + 1]⟩ : Shape).Idx => if b ≤ p.val + (i 1).val then f (p.val + (i 1).val - b) else 0)
    ((⟨2, ![1, b + 1]⟩ : Shape).rowMajor.symm n)) ?_ 0).trans ?_
  · intro n
    have h0 : ((⟨2, ![1, b + 1]⟩ : Shape).rowMajor.symm n 0).val = 0 := by have : ((⟨2, ![1, b + 1]⟩ : Shape).rowMajor.symm n 0).val < 1 := ((⟨2, ![1, b + 1]⟩ : Shape).rowMajor.symm n 0).isLt; omega
    have h1 : ((⟨2, ![1, b + 1]⟩ : Shape).rowMajor.symm n 1).val < b + 1 := ((⟨2, ![1, b + 1]⟩ : Shape).rowMajor.symm n 1).isLt
    dsimp only
    by_cases hc : b ≤ p.val + ((⟨2, ![1, b + 1]⟩ : Shape).rowMajor.symm n 1).val
    · rw [if_pos hc, dif_pos (show ∀ a_1 : Fin 2, _ from fun z => by
        match z with
        | ⟨0, _⟩ => show 0 ≤ r.val * 1 + ((⟨2, ![1, b + 1]⟩ : Shape).rowMajor.symm n 0).val ∧ r.val * 1 + ((⟨2, ![1, b + 1]⟩ : Shape).rowMajor.symm n 0).val - 0 < a; rw [h0]; have := r.isLt; omega
        | ⟨1, _⟩ => show b ≤ p.val * 1 + ((⟨2, ![1, b + 1]⟩ : Shape).rowMajor.symm n 1).val ∧ p.val * 1 + ((⟨2, ![1, b + 1]⟩ : Shape).rowMajor.symm n 1).val - b < b + 1; omega)]
      refine Eq.trans (congrArg x ?_) (hx ⟨p.val + ((⟨2, ![1, b + 1]⟩ : Shape).rowMajor.symm n 1).val - b, by omega⟩)
      funext z
      apply Fin.ext
      match z with
      | ⟨0, _⟩ => show r.val * 1 + ((⟨2, ![1, b + 1]⟩ : Shape).rowMajor.symm n 0).val - 0 = r.val; omega
      | ⟨1, _⟩ => show p.val * 1 + ((⟨2, ![1, b + 1]⟩ : Shape).rowMajor.symm n 1).val - b = p.val + ((⟨2, ![1, b + 1]⟩ : Shape).rowMajor.symm n 1).val - b; omega
    · rw [if_neg hc, dif_neg]
      intro hin
      have := (hin 1).1
      change b ≤ p.val * 1 + ((⟨2, ![1, b + 1]⟩ : Shape).rowMajor.symm n 1).val at this
      omega
  · rw [Nat.zero_add, ← Fin.sum_univ_def, Equiv.sum_comp (⟨2, ![1, b + 1]⟩ : Shape).rowMajor.symm
      (fun i : (⟨2, ![1, b + 1]⟩ : Shape).Idx => if b ≤ p.val + (i 1).val then f (p.val + (i 1).val - b) else 0), sum_ix2, ← sum_window f b p.val (by omega), Finset.sum_range]
    rfl

/-- A prefix sum along the last of three axes. -/
theorem cumsum3 {a c b : ℕ} {u : Shape} (x : (⟨3, ![a, c, b + 1]⟩ : Shape).Idx → BitVec 32) (f : ℕ → ℕ) (r : Fin a) (s : Fin c) (hx : ∀ q : Fin (b + 1), x (ix3 r s q) = BitVec.ofNat 32 (f q.val))
    (init : u.Idx → BitVec 32) (h : (⟨3, ![a, c, b + 1]⟩ : Shape).ReduceWindows (![1, 1, b + 1] : Fin 3 → ℕ) ![1, 1, 1] ![0, 0, b] ![0, 0, 0] ⟨3, ![a, c, b + 1]⟩)
    (hu : 0 < u.numel) (hi : init (Shape.Idx.first hu) = 0#32) (p : Fin (b + 1)) :
    Host.reduceWindow IntOp.addi (![1, 1, b + 1] : Fin 3 → ℕ) ![1, 1, 1] ![0, 0, b] ![0, 0, 0] x init h hu (ix3 r s p) = BitVec.ofNat 32 (∑ q ∈ Finset.range (p.val + 1), f q) := by
  have hp := p.isLt
  unfold Host.reduceWindow
  rw [hi]
  refine (foldl_addi _ _ (fun n => (fun i : (⟨3, ![1, 1, b + 1]⟩ : Shape).Idx => if b ≤ p.val + (i 2).val then f (p.val + (i 2).val - b) else 0)
    ((⟨3, ![1, 1, b + 1]⟩ : Shape).rowMajor.symm n)) ?_ 0).trans ?_
  · intro n
    have h0 : ((⟨3, ![1, 1, b + 1]⟩ : Shape).rowMajor.symm n 0).val = 0 := by have : ((⟨3, ![1, 1, b + 1]⟩ : Shape).rowMajor.symm n 0).val < 1 := ((⟨3, ![1, 1, b + 1]⟩ : Shape).rowMajor.symm n 0).isLt; omega
    have h0' : ((⟨3, ![1, 1, b + 1]⟩ : Shape).rowMajor.symm n 1).val = 0 := by have : ((⟨3, ![1, 1, b + 1]⟩ : Shape).rowMajor.symm n 1).val < 1 := ((⟨3, ![1, 1, b + 1]⟩ : Shape).rowMajor.symm n 1).isLt; omega
    have h1 : ((⟨3, ![1, 1, b + 1]⟩ : Shape).rowMajor.symm n 2).val < b + 1 := ((⟨3, ![1, 1, b + 1]⟩ : Shape).rowMajor.symm n 2).isLt
    dsimp only
    by_cases hc : b ≤ p.val + ((⟨3, ![1, 1, b + 1]⟩ : Shape).rowMajor.symm n 2).val
    · rw [if_pos hc, dif_pos (show ∀ a_1 : Fin 3, _ from fun z => by
        match z with
        | ⟨0, _⟩ => show 0 ≤ r.val * 1 + ((⟨3, ![1, 1, b + 1]⟩ : Shape).rowMajor.symm n 0).val ∧ r.val * 1 + ((⟨3, ![1, 1, b + 1]⟩ : Shape).rowMajor.symm n 0).val - 0 < a; rw [h0]; have := r.isLt; omega
        | ⟨1, _⟩ => show 0 ≤ s.val * 1 + ((⟨3, ![1, 1, b + 1]⟩ : Shape).rowMajor.symm n 1).val ∧ s.val * 1 + ((⟨3, ![1, 1, b + 1]⟩ : Shape).rowMajor.symm n 1).val - 0 < c; rw [h0']; have := s.isLt; omega
        | ⟨2, _⟩ => show b ≤ p.val * 1 + ((⟨3, ![1, 1, b + 1]⟩ : Shape).rowMajor.symm n 2).val ∧ p.val * 1 + ((⟨3, ![1, 1, b + 1]⟩ : Shape).rowMajor.symm n 2).val - b < b + 1; omega)]
      refine Eq.trans (congrArg x ?_) (hx ⟨p.val + ((⟨3, ![1, 1, b + 1]⟩ : Shape).rowMajor.symm n 2).val - b, by omega⟩)
      funext z
      apply Fin.ext
      match z with
      | ⟨0, _⟩ => show r.val * 1 + ((⟨3, ![1, 1, b + 1]⟩ : Shape).rowMajor.symm n 0).val - 0 = r.val; omega
      | ⟨1, _⟩ => show s.val * 1 + ((⟨3, ![1, 1, b + 1]⟩ : Shape).rowMajor.symm n 1).val - 0 = s.val; omega
      | ⟨2, _⟩ => show p.val * 1 + ((⟨3, ![1, 1, b + 1]⟩ : Shape).rowMajor.symm n 2).val - b = p.val + ((⟨3, ![1, 1, b + 1]⟩ : Shape).rowMajor.symm n 2).val - b; omega
    · rw [if_neg hc, dif_neg]
      intro hin
      have := (hin 2).1
      change b ≤ p.val * 1 + ((⟨3, ![1, 1, b + 1]⟩ : Shape).rowMajor.symm n 2).val at this
      omega
  · rw [Nat.zero_add, ← Fin.sum_univ_def, Equiv.sum_comp (⟨3, ![1, 1, b + 1]⟩ : Shape).rowMajor.symm
      (fun i : (⟨3, ![1, 1, b + 1]⟩ : Shape).Idx => if b ≤ p.val + (i 2).val then f (p.val + (i 2).val - b) else 0), sum_ix3, ← sum_window f b p.val (by omega), Finset.sum_range]
    rfl

/-! ## Minima -/

theorem minsi_ofNat (a b : ℕ) (ha : a < 2147483648) (hb : b < 2147483648) :
    IntOp.minsi (BitVec.ofNat 32 a) (BitVec.ofNat 32 b) = BitVec.ofNat 32 (min a b) := by
  unfold IntOp.minsi
  have e : (BitVec.ofNat 32 a).slt (BitVec.ofNat 32 b) = decide (a < b) := by
    rw [BitVec.slt_eq_decide]
    congr 1
    rw [BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact propext Nat.cast_lt
  rw [e]
  by_cases h : a < b
  · simp only [h, decide_true, if_true]; rw [Nat.min_eq_left (by omega)]
  · simp only [h, decide_false]; rw [Nat.min_eq_right (by omega)]; rfl

/-- The least of `f` over the naturals below `n`, at most `z`. -/
def leastOf (f : ℕ → ℕ) (z : ℕ) : ℕ → ℕ
  | 0 => z
  | n + 1 => min (leastOf f z n) (f n)

theorem leastOf_le (f : ℕ → ℕ) (z n : ℕ) : leastOf f z n ≤ z ∧ ∀ i, i < n → leastOf f z n ≤ f i := by
  induction n with
  | zero => exact ⟨le_refl _, fun i hi => absurd hi (by omega)⟩
  | succ n ih =>
    refine ⟨le_trans (Nat.min_le_left _ _) ih.1, fun i hi => ?_⟩
    rcases Nat.lt_succ_iff_lt_or_eq.1 hi with h | h
    · exact le_trans (Nat.min_le_left _ _) (ih.2 i h)
    · subst h; exact Nat.min_le_right _ _

theorem leastOf_mem (f : ℕ → ℕ) (z n : ℕ) : leastOf f z n = z ∨ ∃ i, i < n ∧ leastOf f z n = f i := by
  induction n with
  | zero => exact Or.inl rfl
  | succ n ih =>
    rcases Nat.le_total (leastOf f z n) (f n) with h | h
    · have e : leastOf f z (n + 1) = leastOf f z n := Nat.min_eq_left h
      rw [e]
      rcases ih with ih | ⟨i, hi, ih⟩
      · exact Or.inl ih
      · exact Or.inr ⟨i, by omega, ih⟩
    · exact Or.inr ⟨n, by omega, Nat.min_eq_right h⟩

theorem fold_minsi (f : ℕ → ℕ) (z : ℕ) (hz : z < 2147483648) (hf : ∀ i, f i < 2147483648) (n : ℕ) (x : Fin n → BitVec 32) (hx : ∀ i, x i = BitVec.ofNat 32 (f i.val)) :
    (Finset.univ : Finset (Fin n)).fold IntOp.minsi (BitVec.ofNat 32 z) x = BitVec.ofNat 32 (leastOf f z n) := by
  induction n with
  | zero => rfl
  | succ n ih =>
    rw [Fin.univ_castSuccEmb, Finset.fold_cons, Finset.fold_map, Std.Commutative.comm (op := IntOp.minsi),
      show (Finset.univ : Finset (Fin n)).fold IntOp.minsi (BitVec.ofNat 32 z) (x ∘ Fin.castSuccEmb) = BitVec.ofNat 32 (leastOf f z n) from
        ih (x ∘ Fin.castSuccEmb) (fun i => hx i.castSucc), hx]
    exact minsi_ofNat _ _ (lt_of_le_of_lt (leastOf_le f z n).1 hz) (hf _)

/-- A host minimum over one axis. -/
theorem reduce_min_one {s t u : Shape} {a : Fin s.rank} (x : s.Idx → BitVec 32) (f : ℕ → ℕ) (z : ℕ) (hz : z < 2147483648) (hf : ∀ i, f i < 2147483648)
    (init : u.Idx → BitVec 32) (h' : s.ReducesTo [a] t) (h : s.Reduces [a] t) (hu : 0 < u.numel) (hi : init (Shape.Idx.first hu) = BitVec.ofNat 32 z) (j : t.Idx)
    (hx : ∀ k, x (h.lift j k) = BitVec.ofNat 32 (f k.val)) :
    Host.reduce IntOp.minsi x init h' hu j = BitVec.ofNat 32 (leastOf f z (s.size a)) := by
  rw [Host.reduce_eq_fold_single IntOp.minsi x init h' h hu j, hi]
  exact fold_minsi f z hz hf _ (x ∘ h.lift j) hx

end Cert.Proof.Sel

end
-- ==== Proof.SelTab.lean ====
/-
  The slots: of a row's ranks with one bucket the first, and the table from buckets to slots. Every slot is at most 30;
  a bucket's slot is below 30 exactly when some rank has that bucket, and a rank's slot is its bucket's.
-/
module

public import proofs.«01_k».proof.Proof.SelLaunch
public import proofs.«01_k».proof.Proof.SelSums
public import Idealize.ShloMosaic.Lib.ValueIdx

@[expose] public section

noncomputable section

namespace Cert.Proof.Sel

open Cert.SelectIdeal Cert.SelectIdeal.Gen
open Idealize.ShloMosaic Idealize.ShloMosaic.ValueIdx
open Idealize.ShloMosaic.StableHlo (after)

variable {F : FTy → Type} [FloatOps F]

/-! ## Entries of host operations -/

/-- A broadcast's entry. -/
theorem bcast_at {α : Type} {s t : Shape} {dims : Fin s.rank → Fin t.rank} (h : s.BroadcastsInDim t dims) (x : s.Idx → α) (j : t.Idx) (k : s.Idx)
    (hk : ∀ a, (k a).val = if s.size a = 1 then 0 else (j (dims a)).val) : broadcastInDim t dims h x j = x k := by
  unfold broadcastInDim
  refine congrArg x (funext fun a => Fin.ext ?_)
  rw [hk a]
  by_cases h1 : s.size a = 1
  · rw [dif_pos h1, if_pos h1]
  · rw [dif_neg h1, if_neg h1]

theorem select_eq (a b x y : BitVec 32) : (if IntOp.cmpi .eq a b = 1 then x else y) = if a = b then x else y := by
  show (if BitVec.ofBool (a == b) = 1 then x else y) = _
  by_cases h : a = b
  · rw [if_pos h, if_pos (by rw [beq_iff_eq.2 h]; rfl)]
  · rw [if_neg h, if_neg (by rw [beq_eq_false_iff_ne.2 h]; decide)]

/-! ## The least rank with a bucket -/

/-- Rank `i`, if its bucket is `q`. -/
def slotFn (B : Fin 30 → BitVec 32) (q : BitVec 32) (i : ℕ) : ℕ := if h : i < 30 then (if B ⟨i, h⟩ = q then i else 30) else 30

theorem slotFn_le (B : Fin 30 → BitVec 32) (q : BitVec 32) (i : ℕ) : slotFn B q i ≤ 30 := by
  unfold slotFn
  split
  · split <;> omega
  · exact le_refl _

theorem slotFn_lt (B : Fin 30 → BitVec 32) (q : BitVec 32) (i : ℕ) : slotFn B q i < 2147483648 :=
  lt_of_le_of_lt (slotFn_le B q i) (by decide)

/-- The first of a row's ranks whose bucket is `q`; 30 if there is none. -/
def slotOf (B : Fin 30 → BitVec 32) (q : BitVec 32) : ℕ := leastOf (slotFn B q) 2147483647 30

theorem slotOf_le_fn (B : Fin 30 → BitVec 32) (q : BitVec 32) (i : ℕ) (hi : i < 30) : slotOf B q ≤ slotFn B q i :=
  (leastOf_le (slotFn B q) 2147483647 30).2 i hi

theorem slotOf_mem (B : Fin 30 → BitVec 32) (q : BitVec 32) : slotOf B q = 2147483647 ∨ ∃ i, i < 30 ∧ slotOf B q = slotFn B q i :=
  leastOf_mem (slotFn B q) 2147483647 30

theorem slotOf_le (B : Fin 30 → BitVec 32) (q : BitVec 32) : slotOf B q ≤ 30 :=
  le_trans (slotOf_le_fn B q 0 (by decide)) (slotFn_le B q 0)

theorem slotOf_self (B : Fin 30 → BitVec 32) (j : Fin 30) : slotOf B (B j) < 30 := by
  refine lt_of_le_of_lt (slotOf_le_fn B (B j) j.val j.isLt) ?_
  unfold slotFn
  rw [dif_pos j.isLt, if_pos rfl]
  exact j.isLt

theorem slotOf_spec (B : Fin 30 → BitVec 32) (q : BitVec 32) (h : slotOf B q < 30) : B ⟨slotOf B q, h⟩ = q := by
  rcases slotOf_mem B q with e | ⟨i, hi, e⟩
  · rw [e] at h; exact absurd h (by decide)
  · have e' := e
    unfold slotFn at e'
    rw [dif_pos hi] at e'
    by_cases hb : B ⟨i, hi⟩ = q
    · rw [if_pos hb] at e'
      refine Eq.trans (congrArg B (Fin.ext ?_)) hb
      exact e'
    · rw [if_neg hb] at e'; omega

theorem at_eq (B : Fin 30 → BitVec 32) (a b : ℕ) (ha : a < 30) (hb : b < 30) (h : a = b) : B ⟨a, ha⟩ = B ⟨b, hb⟩ := by
  subst h; rfl

/-- A bucket has rank `j`'s slot exactly when it is rank `j`'s. -/
theorem slotOf_eq (B : Fin 30 → BitVec 32) (j : Fin 30) (q : BitVec 32) : slotOf B q = slotOf B (B j) ↔ q = B j := by
  constructor
  · intro h
    have hj := slotOf_self B j
    have hq : slotOf B q < 30 := by rw [h]; exact hj
    exact (slotOf_spec B q hq).symm.trans ((at_eq B _ _ hq hj h).trans (slotOf_spec B (B j) hj))
  · intro h
    exact congrArg (slotOf B) h

/-! ## The two host lists -/

/-- Each rank's slot. -/
def firstOf (I : IVec S30 32) (B : IVec S10x30 32) : IVec S10x30 32 :=
  Host.reduce IntOp.minsi
    (select (cmpi .eq (broadcastInDim S10x30x30 ![0, 1, 2] bcast_S10x1x30_S10x30x30_0_1_2 (broadcastInDim S10x1x30 ![0, 2] bcast_S10x30_S10x1x30_0_2 B))
        (broadcastInDim S10x30x30 ![0, 1, 2] bcast_S10x30x1_S10x30x30_0_1_2 (broadcastInDim S10x30x1 ![0, 1] bcast_S10x30_S10x30x1_0_1 B)))
      (broadcastInDim S10x30x30 ![0, 1, 2] bcast_S1x1x30_S10x30x30_0_1_2 (broadcastInDim S1x1x30 ![2] bcast_S30_S1x1x30_2 I))
      (broadcastInDim S10x30x30 ![] bcast_S_S10x30x30 (constantI S_ 32 30#32)))
    (constantI S_ 32 2147483647#32) reducesTo_S10x30x30_S10x30_d2 h_S_

/-- Each bucket's slot. -/
def tableOf (I : IVec S30 32) (B : IVec S10x30 32) : IVec S10x4096 32 :=
  Host.reduce IntOp.minsi
    (select (cmpi .eq (broadcastInDim S10x30x4096 ![0, 1, 2] bcast_S10x30x1_S10x30x4096_0_1_2 (broadcastInDim S10x30x1 ![0, 1] bcast_S10x30_S10x30x1_0_1 B))
        (broadcastInDim S10x30x4096 ![0, 1, 2] bcast_S1x1x4096_S10x30x4096_0_1_2 (broadcastInDim S1x1x4096 ![2] bcast_S4096_S1x1x4096_2 (iotaInDim S4096 32 0))))
      (broadcastInDim S10x30x4096 ![0, 1, 2] bcast_S1x30x1_S10x30x4096_0_1_2 (broadcastInDim S1x30x1 ![1] bcast_S30_S1x30x1_1 I))
      (broadcastInDim S10x30x4096 ![] bcast_S_S10x30x4096 (constantI S_ 32 30#32)))
    (constantI S_ 32 2147483647#32) reducesTo_S10x30x4096_S10x4096_d1 h_S_

theorem firstOf_at (B : IVec S10x30 32) (r : Fin 10) (j : Fin 30) :
    firstOf (iotaInDim S30 32 0) B (ix2 r j) = BitVec.ofNat 32 (slotOf (fun i => B (ix2 r i)) (B (ix2 r j))) := by
  have h : S10x30x30.Reduces [2] S10x30 := by decide
  have hl : ∀ k : Fin 30, h.lift (ix2 r j) k = ix3 r j k := fun k => funext fun a => Fin.ext (by
    match a with
    | ⟨0, _⟩ => rfl
    | ⟨1, _⟩ => rfl
    | ⟨2, _⟩ => rfl)
  refine reduce_min_one _ _ 2147483647 (by decide) (slotFn_lt (fun i => B (ix2 r i)) (B (ix2 r j))) _ _ h _ rfl _ fun (k : Fin 30) => ?_
  rw [hl k]
  have e1 : broadcastInDim S10x30x30 ![0, 1, 2] bcast_S10x1x30_S10x30x30_0_1_2 (broadcastInDim S10x1x30 ![0, 2] bcast_S10x30_S10x1x30_0_2 B) (ix3 r j k) = B (ix2 r k) :=
    (bcast_at _ _ _ (ix3 (n0 := 10) (n1 := 1) (n2 := 30) r 0 k) (fun a => by
      match a with
      | ⟨0, _⟩ => rfl
      | ⟨1, _⟩ => rfl
      | ⟨2, _⟩ => rfl)).trans (bcast_at _ _ _ _ (fun a => by
      match a with
      | ⟨0, _⟩ => rfl
      | ⟨1, _⟩ => rfl))
  have e2 : broadcastInDim S10x30x30 ![0, 1, 2] bcast_S10x30x1_S10x30x30_0_1_2 (broadcastInDim S10x30x1 ![0, 1] bcast_S10x30_S10x30x1_0_1 B) (ix3 r j k) = B (ix2 r j) :=
    (bcast_at _ _ _ (ix3 (n0 := 10) (n1 := 30) (n2 := 1) r j 0) (fun a => by
      match a with
      | ⟨0, _⟩ => rfl
      | ⟨1, _⟩ => rfl
      | ⟨2, _⟩ => rfl)).trans (bcast_at _ _ _ _ (fun a => by
      match a with
      | ⟨0, _⟩ => rfl
      | ⟨1, _⟩ => rfl))
  have e3 : broadcastInDim S10x30x30 ![0, 1, 2] bcast_S1x1x30_S10x30x30_0_1_2 (broadcastInDim S1x1x30 ![2] bcast_S30_S1x1x30_2 (iotaInDim S30 32 0)) (ix3 r j k) = BitVec.ofNat 32 k.val :=
    (bcast_at _ _ _ (ix3 (n0 := 1) (n1 := 1) (n2 := 30) 0 0 k) (fun a => by
      match a with
      | ⟨0, _⟩ => rfl
      | ⟨1, _⟩ => rfl
      | ⟨2, _⟩ => rfl)).trans (bcast_at _ _ _ (ix1 k) (fun a => by
      match a with
      | ⟨0, _⟩ => rfl))
  refine Eq.trans (select_eq _ _ _ _) ?_
  rw [e1, e2, e3]
  unfold slotFn
  rw [dif_pos k.isLt]
  by_cases hb : B (ix2 r k) = B (ix2 r j)
  · rw [if_pos hb, if_pos hb]
  · rw [if_neg hb, if_neg hb]; rfl

theorem tableOf_at (B : IVec S10x30 32) (r : Fin 10) (p : Fin 4096) :
    tableOf (iotaInDim S30 32 0) B (ix2 r p) = BitVec.ofNat 32 (slotOf (fun i => B (ix2 r i)) (BitVec.ofNat 32 p.val)) := by
  have h : S10x30x4096.Reduces [1] S10x4096 := by decide
  have hl : ∀ k : Fin 30, h.lift (ix2 r p) k = ix3 r k p := fun k => funext fun a => Fin.ext (by
    match a with
    | ⟨0, _⟩ => rfl
    | ⟨1, _⟩ => rfl
    | ⟨2, _⟩ => rfl)
  refine reduce_min_one _ _ 2147483647 (by decide) (slotFn_lt (fun i => B (ix2 r i)) (BitVec.ofNat 32 p.val)) _ _ h _ rfl _ fun (k : Fin 30) => ?_
  rw [hl k]
  have e1 : broadcastInDim S10x30x4096 ![0, 1, 2] bcast_S10x30x1_S10x30x4096_0_1_2 (broadcastInDim S10x30x1 ![0, 1] bcast_S10x30_S10x30x1_0_1 B) (ix3 r k p) = B (ix2 r k) :=
    (bcast_at _ _ _ (ix3 (n0 := 10) (n1 := 30) (n2 := 1) r k 0) (fun a => by
      match a with
      | ⟨0, _⟩ => rfl
      | ⟨1, _⟩ => rfl
      | ⟨2, _⟩ => rfl)).trans (bcast_at _ _ _ _ (fun a => by
      match a with
      | ⟨0, _⟩ => rfl
      | ⟨1, _⟩ => rfl))
  have e2 : broadcastInDim S10x30x4096 ![0, 1, 2] bcast_S1x1x4096_S10x30x4096_0_1_2 (broadcastInDim S1x1x4096 ![2] bcast_S4096_S1x1x4096_2 (iotaInDim S4096 32 0)) (ix3 r k p) = BitVec.ofNat 32 p.val :=
    (bcast_at _ _ _ (ix3 (n0 := 1) (n1 := 1) (n2 := 4096) 0 0 p) (fun a => by
      match a with
      | ⟨0, _⟩ => rfl
      | ⟨1, _⟩ => rfl
      | ⟨2, _⟩ => rfl)).trans (bcast_at _ _ _ (ix1 p) (fun a => by
      match a with
      | ⟨0, _⟩ => rfl))
  have e3 : broadcastInDim S10x30x4096 ![0, 1, 2] bcast_S1x30x1_S10x30x4096_0_1_2 (broadcastInDim S1x30x1 ![1] bcast_S30_S1x30x1_1 (iotaInDim S30 32 0)) (ix3 r k p) = BitVec.ofNat 32 k.val :=
    (bcast_at _ _ _ (ix3 (n0 := 1) (n1 := 30) (n2 := 1) 0 k 0) (fun a => by
      match a with
      | ⟨0, _⟩ => rfl
      | ⟨1, _⟩ => rfl
      | ⟨2, _⟩ => rfl)).trans (bcast_at _ _ _ (ix1 k) (fun a => by
      match a with
      | ⟨0, _⟩ => rfl))
  refine Eq.trans (select_eq _ _ _ _) ?_
  rw [e1, e2, e3]
  unfold slotFn
  rw [dif_pos k.isLt]
  by_cases hb : B (ix2 r k) = BitVec.ofNat 32 p.val
  · rw [if_pos hb, if_pos hb]
  · rw [if_neg hb, if_neg hb]; rfl

variable (m : (ℓ : Loc nD τ sig) → Buf (Elt F) ℓ)

theorem W3_iota (d : Dev nD) : W3 m d (dr main_v18) = (iotaInDim S30 32 0 : IVec S30 32) := by
  unfold W3
  simp only [firsts, StableHlo.TRef.unary, StableHlo.TRef.ternary, StableHlo.TRef.toBuf, StableHlo.TRef.ofBuf, cast_eq]
  after_results_simp

theorem W3_first (d : Dev nD) : W3 m d (dr main_v26) = firstOf (iotaInDim S30 32 0) (W2 m d (dr main_v11)) := by
  unfold W3
  simp only [firsts, StableHlo.TRef.unary, StableHlo.TRef.ternary, StableHlo.TRef.toBuf, StableHlo.TRef.ofBuf, cast_eq]
  after_results_simp
  rfl

theorem tabOf_eq (d : Dev nD) : tabOf m d = tableOf (iotaInDim S30 32 0) (W2 m d (dr main_v11)) := by
  have e : W4 m d (dr main_v35) = tableOf (W3 m d (dr main_v18)) (W3 m d (dr main_v11)) := by
    unfold W4
    simp only [table, StableHlo.TRef.unary, StableHlo.TRef.ternary, StableHlo.TRef.toBuf, StableHlo.TRef.ofBuf, cast_eq]
    after_results_simp
    rfl
  rw [W3_iota, W3_of m d main_v11 (by decide)] at e
  exact e

/-- The table's slots are at most 30, whatever the keys and the ranks. -/
theorem tabOf_ok (d : Dev nD) : SlotsOk (tabOf m d) := by
  intro i
  obtain ⟨r, p, rfl⟩ : ∃ (r : Fin 10) (p : Fin 4096), i = ix2 r p := ⟨i 0, i 1, eq_ix2 i⟩
  rw [tabOf_eq, tableOf_at, BitVec.toNat_ofNat]
  have := slotOf_le (fun k => (W2 m d (dr main_v11) : IVec S10x30 32) (ix2 r k)) (BitVec.ofNat 32 p.val)
  omega

end Cert.Proof.Sel

end
-- ==== Proof.SelPick.lean ====
/-
  The selection by counts, on natural numbers: the bucket that holds a rank, and the place of a rank in a sorted list.

  Where `h p` values fall in bucket `p`, the number of buckets whose running count is at most `k` is the bucket that
  holds rank `k`; the values before it are the running count there.
-/
module

public import Mathlib.Algebra.BigOperators.Fin
public import Mathlib.Algebra.BigOperators.Intervals
public import Mathlib.Algebra.Order.BigOperators.Group.Finset

@[expose] public section

namespace Cert.Proof.Sel

/-- Values in the buckets before `p`. -/
def before (h : ℕ → ℕ) (p : ℕ) : ℕ := ∑ q ∈ Finset.range p, h q

/-- The bucket that holds rank `k`. -/
def pick (h : ℕ → ℕ) (n k : ℕ) : ℕ := ((Finset.range n).filter fun p => before h (p + 1) ≤ k).card

theorem before_mono (h : ℕ → ℕ) {p q : ℕ} (hpq : p ≤ q) : before h p ≤ before h q :=
  Finset.sum_le_sum_of_subset (Finset.range_mono hpq)

theorem before_succ (h : ℕ → ℕ) (p : ℕ) : before h (p + 1) = before h p + h p := Finset.sum_range_succ h p

/-- The buckets whose running count is at most `k` are the first `pick`. -/
theorem pick_filter (h : ℕ → ℕ) (n k : ℕ) : ((Finset.range n).filter fun p => before h (p + 1) ≤ k) = Finset.range (pick h n k) := by
  have hd : ∀ p q, p ≤ q → q ∈ ((Finset.range n).filter fun p => before h (p + 1) ≤ k) → p ∈ ((Finset.range n).filter fun p => before h (p + 1) ≤ k) := by
    intro p q hpq hq
    rw [Finset.mem_filter, Finset.mem_range] at hq ⊢
    exact ⟨lt_of_le_of_lt hpq hq.1, le_trans (before_mono h (by omega)) hq.2⟩
  unfold pick
  generalize ((Finset.range n).filter fun p => before h (p + 1) ≤ k) = S at hd ⊢
  have sub : S ⊆ Finset.range S.card := by
    intro q hq
    rw [Finset.mem_range]
    have : Finset.range (q + 1) ⊆ S := fun p hp => hd p q (by have := Finset.mem_range.1 hp; omega) hq
    have := Finset.card_le_card this
    rw [Finset.card_range] at this
    omega
  exact Finset.eq_of_subset_of_card_le sub (by rw [Finset.card_range])

theorem pick_iff (h : ℕ → ℕ) (n k p : ℕ) (hp : p < n) : before h (p + 1) ≤ k ↔ p < pick h n k := by
  have := pick_filter h n k
  rw [Finset.ext_iff] at this
  have := this p
  rw [Finset.mem_filter, Finset.mem_range, Finset.mem_range] at this
  rw [← this]
  exact ⟨fun h => ⟨hp, h⟩, fun h => h.2⟩

theorem pick_lt (h : ℕ → ℕ) (n k : ℕ) (hk : k < before h n) : pick h n k < n := by
  have hle : pick h n k ≤ n := by
    unfold pick
    exact le_trans (Finset.card_filter_le _ _) (by rw [Finset.card_range])
  rcases Nat.lt_or_eq_of_le hle with h1 | h1
  · exact h1
  · cases n with
    | zero => exact absurd hk (by simp [before])
    | succ n =>
      have := (pick_iff h (n + 1) k n (by omega)).2 (by omega)
      omega

theorem pick_ends (h : ℕ → ℕ) (n k : ℕ) (hk : k < before h n) :
    before h (pick h n k) ≤ k ∧ k < before h (pick h n k + 1) := by
  have hl := pick_lt h n k hk
  constructor
  · generalize e : pick h n k = b at hl ⊢
    cases b with
    | zero => simp [before]
    | succ b => exact (pick_iff h n k b (by omega)).2 (by omega)
  · by_contra hc
    exact absurd ((pick_iff h n k _ hl).1 (by omega)) (by omega)

/-- The values in the buckets whose running count is at most `k`. -/
theorem pick_sum (h : ℕ → ℕ) (n k : ℕ) :
    (∑ p ∈ Finset.range n, (if before h (p + 1) ≤ k then 1 else 0) * h p) = before h (pick h n k) := by
  unfold before
  rw [← pick_filter h n k, Finset.sum_filter]
  refine Finset.sum_congr rfl fun p _ => ?_
  unfold before
  split
  · rw [one_mul]
  · rw [zero_mul]

theorem pick_count (h : ℕ → ℕ) (n k : ℕ) :
    (∑ p ∈ Finset.range n, (if before h (p + 1) ≤ k then 1 else 0)) = pick h n k := by
  rw [← Finset.sum_filter, Finset.sum_const, smul_eq_mul, mul_one]; rfl

/-! ## Values in buckets -/

/-- How many of the `N` values `x` have `g x = p`. -/
def countAt (N : ℕ) (g : ℕ → ℕ) (p : ℕ) : ℕ := ∑ x ∈ Finset.range N, if g x = p then 1 else 0

theorem before_countAt (N : ℕ) (g : ℕ → ℕ) (p : ℕ) : before (countAt N g) p = ((Finset.range N).filter fun x => g x < p).card := by
  unfold before countAt
  rw [Finset.sum_comm, Finset.card_filter]
  refine Finset.sum_congr rfl fun x _ => ?_
  rw [Finset.sum_ite_eq]
  simp only [Finset.mem_range]

/-- The values of one bucket, by a second number. -/
def countAt2 (N : ℕ) (g s : ℕ → ℕ) (b u : ℕ) : ℕ := ∑ x ∈ Finset.range N, if g x = b ∧ s x = u then 1 else 0

theorem before_countAt2 (N : ℕ) (g s : ℕ → ℕ) (b u : ℕ) : before (countAt2 N g s b) u = ((Finset.range N).filter fun x => g x = b ∧ s x < u).card := by
  unfold before countAt2
  rw [Finset.sum_comm, Finset.card_filter]
  refine Finset.sum_congr rfl fun x _ => ?_
  by_cases hb : g x = b
  · simp only [hb, true_and]
    rw [Finset.sum_ite_eq]
    simp only [Finset.mem_range]
  · simp only [hb, false_and, if_false, Finset.sum_const_zero]

/-- A sorted rearrangement's entry `k`, between two counts. -/
theorem sorted_between (N : ℕ) (v w : ℕ → ℕ) (σ : ℕ → ℕ) (hσ : ∀ i, i < N → σ i < N) (hinj : ∀ i j, i < N → j < N → σ i = σ j → i = j)
    (hw : ∀ i, i < N → w i = v (σ i)) (hm : ∀ i j, i ≤ j → j < N → w i ≤ w j) (k t : ℕ) (hk : k < N) :
    (((Finset.range N).filter fun x => v x < t).card ≤ k → t ≤ w k) ∧ (k < ((Finset.range N).filter fun x => v x < t).card → w k < t) := by
  have himg : (Finset.range N).image σ = Finset.range N := by
    refine Finset.eq_of_subset_of_card_le ?_ ?_
    · intro y hy
      obtain ⟨x, hx, rfl⟩ := Finset.mem_image.1 hy
      exact Finset.mem_range.2 (hσ x (Finset.mem_range.1 hx))
    · rw [Finset.card_image_of_injOn (fun x hx y hy h => hinj x y (Finset.mem_range.1 hx) (Finset.mem_range.1 hy) h)]
  have hcard : ((Finset.range N).filter fun x => v x < t).card = ((Finset.range N).filter fun i => w i < t).card := by
    rw [← himg, Finset.filter_image, Finset.card_image_of_injOn, himg]
    · congr 1
      refine Finset.filter_congr fun i hi => ?_
      rw [hw i (Finset.mem_range.1 hi)]
    · intro x hx y hy h
      exact hinj x y (Finset.mem_range.1 (Finset.mem_filter.1 hx).1) (Finset.mem_range.1 (Finset.mem_filter.1 hy).1) h
  rw [hcard]
  constructor
  · intro hc
    by_contra hlt
    have : Finset.range (k + 1) ⊆ (Finset.range N).filter fun i => w i < t := fun i hi => by
      have hi := Finset.mem_range.1 hi
      exact Finset.mem_filter.2 ⟨Finset.mem_range.2 (by omega), lt_of_le_of_lt (hm i k (by omega) hk) (by omega)⟩
    have := Finset.card_le_card this
    rw [Finset.card_range] at this
    omega
  · intro hc
    by_contra hge
    have : ((Finset.range N).filter fun i => w i < t) ⊆ Finset.range k := fun i hi => by
      have hi' := (Finset.mem_filter.1 hi).2
      have hiN := Finset.mem_range.1 (Finset.mem_filter.1 hi).1
      rw [Finset.mem_range]
      by_contra hki
      have := hm k i (by omega) hiN
      omega
    have := Finset.card_le_card this
    rw [Finset.card_range] at this
    omega

/-- Rank `k` found by two counts — the bucket of `v / (m s)`, then the part of `v / s` within it — is the sorted entry's
    multiple of `s`. -/
theorem two_picks (N n m s : ℕ) (hm : 0 < m) (hs : 0 < s) (v w : ℕ → ℕ) (σ : ℕ → ℕ) (hσ : ∀ i, i < N → σ i < N)
    (hinj : ∀ i j, i < N → j < N → σ i = σ j → i = j)
    (hw : ∀ i, i < N → w i = v (σ i)) (hmono : ∀ i j, i ≤ j → j < N → w i ≤ w j) (hv : ∀ x, x < N → v x / (s * m) < n) (k : ℕ) (hk : k < N) :
    let b := pick (countAt N fun x => v x / (s * m)) n k
    let l := k - before (countAt N fun x => v x / (s * m)) b
    let u := pick (countAt2 N (fun x => v x / (s * m)) (fun x => v x / s % m) b) m l
    b < n ∧ u < m ∧ before (countAt N fun x => v x / (s * m)) b ≤ k ∧ l < N ∧ b * (s * m) + u * s = w k / s * s := by
  intro b l u
  have htot : k < before (countAt N fun x => v x / (s * m)) n := by
    rw [before_countAt, Finset.filter_true_of_mem (fun x hx => hv x (Finset.mem_range.1 hx)), Finset.card_range]
    exact hk
  have hb := pick_lt _ n k htot
  obtain ⟨hb1, hb2⟩ := pick_ends _ n k htot
  change b < n at hb
  change before _ b ≤ k at hb1
  change k < before _ (b + 1) at hb2
  have hl : l < before (countAt2 N (fun x => v x / (s * m)) (fun x => v x / s % m) b) m := by
    have e : before (countAt2 N (fun x => v x / (s * m)) (fun x => v x / s % m) b) m = countAt N (fun x => v x / (s * m)) b := by
      rw [before_countAt2, Finset.card_filter]
      unfold countAt
      refine Finset.sum_congr rfl fun x _ => ?_
      have : v x / s % m < m := Nat.mod_lt _ hm
      simp only [this, and_true]
    rw [e]
    rw [before_succ] at hb2
    show k - _ < _
    omega
  have hu := pick_lt _ m l hl
  obtain ⟨hu1, hu2⟩ := pick_ends _ m l hl
  change u < m at hu
  change before _ u ≤ l at hu1
  change l < before _ (u + 1) at hu2
  have hsplit : ∀ t, t ≤ m → ((Finset.range N).filter fun x => v x < b * (s * m) + t * s).card
      = before (countAt N fun x => v x / (s * m)) b + before (countAt2 N (fun x => v x / (s * m)) (fun x => v x / s % m) b) t := by
    intro t ht
    rw [before_countAt, before_countAt2, ← Finset.card_union_of_disjoint]
    · rw [← Finset.filter_or]
      congr 1
      refine Finset.filter_congr fun x _ => ?_
      have e1 : v x / (s * m) = v x / s / m := (Nat.div_div_eq_div_mul _ _ _).symm
      have e2 := Nat.div_add_mod (v x / s) m
      have e3 : (v x < b * (s * m) + t * s) ↔ v x / s < b * m + t := by
        rw [Nat.div_lt_iff_lt_mul hs, Nat.add_mul, Nat.mul_assoc, Nat.mul_comm m s]
      have hr := Nat.mod_lt (v x / s) hm
      rw [e3, e1]
      generalize v x / s / m = q at *
      generalize v x / s % m = r at *
      rw [← e2]
      constructor
      · intro h
        rcases Nat.lt_trichotomy q b with hq | hq | hq
        · exact Or.inl hq
        · subst hq
          refine Or.inr ⟨rfl, ?_⟩
          rw [Nat.mul_comm m b] at h
          omega
        · exfalso
          have := Nat.mul_le_mul_left m (show b + 1 ≤ q from hq)
          rw [Nat.mul_add, Nat.mul_one, Nat.mul_comm m b] at this
          omega
      · rintro (h | ⟨h, h'⟩)
        · have := Nat.mul_le_mul_left m (show q + 1 ≤ b from h)
          rw [Nat.mul_add, Nat.mul_one, Nat.mul_comm m b] at this
          omega
        · subst h
          rw [Nat.mul_comm m b]
          omega
    · rw [Finset.disjoint_left]
      intro x hx hx'
      have h1 := (Finset.mem_filter.1 hx).2
      have h2 := (Finset.mem_filter.1 hx').2.1
      omega
  have hlo := (sorted_between N v w σ hσ hinj hw hmono k (b * (s * m) + u * s) hk).1 (by rw [hsplit u (by omega)]; show _ ≤ k; have : l = k - before (countAt N fun x => v x / (s * m)) b := rfl; omega)
  have hhi := (sorted_between N v w σ hσ hinj hw hmono k (b * (s * m) + (u + 1) * s) hk).2 (by rw [hsplit (u + 1) (by omega)]; show k < _; have : l = k - before (countAt N fun x => v x / (s * m)) b := rfl; omega)
  refine ⟨hb, hu, hb1, by show k - _ < N; omega, ?_⟩
  have e : b * (s * m) + u * s = (b * m + u) * s := by rw [Nat.add_mul, Nat.mul_assoc, Nat.mul_comm m s]
  have e' : b * (s * m) + (u + 1) * s = (b * m + u + 1) * s := by rw [Nat.add_mul u 1, Nat.one_mul, ← Nat.add_assoc, e, Nat.add_mul _ 1, Nat.one_mul]
  rw [e] at hlo ⊢
  rw [e'] at hhi
  have : w k / s = b * m + u := by
    rw [Nat.div_eq_of_lt_le hlo hhi]
  rw [this]

end Cert.Proof.Sel

end
-- ==== Proof.SelRead.lean ====
/-
  The picks of the host operations: of a row of counts, the place that holds a rank and the rank within it.

  The host compares each running count with the rank, counts the places whose running count is at most the rank, and
  takes the counts of those places from the rank (`le1_at`, `pick1_at`, `rest1_at` over the 4096 buckets, `le2_at` and
  `pick2_at` over the 2048 parts of a bucket).
-/
module

public import proofs.«01_k».proof.Proof.SelTab
public import proofs.«01_k».proof.Proof.SelPick
public import Idealize.ShloMosaic.Lib.Pipeline.Value

@[expose] public section

noncomputable section

namespace Cert.Proof.Sel

open Cert.SelectIdeal Cert.SelectIdeal.Gen
open Idealize.ShloMosaic Idealize.ShloMosaic.ValueIdx
open Idealize.ShloMosaic.StableHlo (after)

variable {F : FTy → Type} [FloatOps F]

/-! ## Words of naturals -/

theorem toInt_ofNat (a : ℕ) (ha : a < 2147483648) : (BitVec.ofNat 32 a).toInt = (a : ℤ) := by
  rw [BitVec.toInt_eq_toNat_of_lt (by rw [BitVec.toNat_ofNat]; omega), BitVec.toNat_ofNat, Nat.mod_eq_of_lt (by omega)]

theorem sle_ofNat (a b : ℕ) (ha : a < 2147483648) (hb : b < 2147483648) :
    IntOp.cmpi .sle (BitVec.ofNat 32 a) (BitVec.ofNat 32 b) = BitVec.ofBool (decide (a ≤ b)) := by
  show BitVec.ofBool ((BitVec.ofNat 32 a).sle (BitVec.ofNat 32 b)) = _
  rw [BitVec.sle_eq_decide, toInt_ofNat a ha, toInt_ofNat b hb]
  congr 2
  exact propext Nat.cast_le

theorem one_ofNat (P : Prop) [Decidable P] : (BitVec.ofBool (decide P)).setWidth 32 = BitVec.ofNat 32 (if P then 1 else 0) := by
  by_cases h : P
  · rw [if_pos h, decide_eq_true h]; rfl
  · rw [if_neg h, decide_eq_false h]; rfl

theorem sub_ofNat (a b : ℕ) (ha : a < 2147483648) (hb : b ≤ a) : BitVec.ofNat 32 a - BitVec.ofNat 32 b = BitVec.ofNat 32 (a - b) := by
  apply BitVec.eq_of_toNat_eq
  rw [BitVec.toNat_sub, BitVec.toNat_ofNat, BitVec.toNat_ofNat, BitVec.toNat_ofNat]
  omega

/-! ## The buckets -/

/-- The buckets whose running count is at most the rank. -/
def le1 (H : IVec S10x4096 32) (K : IVec S30 32) : IVec S10x30x4096 1 :=
  cmpi .sle
    (broadcastInDim S10x30x4096 ![0, 1, 2] bcast_S10x1x4096_S10x30x4096_0_1_2 (broadcastInDim S10x1x4096 ![0, 2] bcast_S10x4096_S10x1x4096_0_2
      (Host.reduceWindow IntOp.addi ![1, 4096] ![1, 1] ![0, 4095] ![0, 0] H (broadcastInDim S_ ![] bcast_S_S_ (constantI S_ 32 0#32)) reduceWindows_S10x4096_S10x4096_w1s1p0_0_w4096s1p4095_0 h_S_)))
    (broadcastInDim S10x30x4096 ![0, 1, 2] bcast_S10x30x1_S10x30x4096_0_1_2 (broadcastInDim S10x30x1 ![0, 1] bcast_S10x30_S10x30x1_0_1 (broadcastInDim S10x30 ![1] bcast_S30_S10x30_1 K)))

/-- Each rank's bucket. -/
def pick1 (H : IVec S10x4096 32) (K : IVec S30 32) : IVec S10x30 32 :=
  Host.reduce IntOp.addi (extui 32 (le1 H K) natLt_1_32) (constantI S_ 32 0#32) reducesTo_S10x30x4096_S10x30_d2 h_S_

/-- Each rank within its bucket. -/
def rest1 (H : IVec S10x4096 32) (K : IVec S30 32) : IVec S10x30 32 :=
  subi (broadcastInDim S10x30 ![1] bcast_S30_S10x30_1 K)
    (Host.reduce IntOp.addi (muli (extui 32 (le1 H K) natLt_1_32)
      (broadcastInDim S10x30x4096 ![0, 1, 2] bcast_S10x1x4096_S10x30x4096_0_1_2 (broadcastInDim S10x1x4096 ![0, 2] bcast_S10x4096_S10x1x4096_0_2 H)))
      (constantI S_ 32 0#32) reducesTo_S10x30x4096_S10x30_d2 h_S_)

section Buckets

variable (H : IVec S10x4096 32) (K : IVec S30 32) (h : ℕ → ℕ) (k : ℕ) (r : Fin 10) (j : Fin 30)

/-- A row of counts, spread over the ranks. -/
theorem spread1 (X : IVec S10x4096 32) (p : Fin 4096) :
    broadcastInDim S10x30x4096 ![0, 1, 2] bcast_S10x1x4096_S10x30x4096_0_1_2 (broadcastInDim S10x1x4096 ![0, 2] bcast_S10x4096_S10x1x4096_0_2 X) (ix3 r j p) = X (ix2 r p) :=
  (bcast_at _ _ _ (ix3 (n0 := 10) (n1 := 1) (n2 := 4096) r 0 p) (fun a => by
    match a with
    | ⟨0, _⟩ => rfl
    | ⟨1, _⟩ => rfl
    | ⟨2, _⟩ => rfl)).trans (bcast_at _ _ _ _ (fun a => by
    match a with
    | ⟨0, _⟩ => rfl
    | ⟨1, _⟩ => rfl))

theorem rank_at : broadcastInDim S10x30 ![1] bcast_S30_S10x30_1 K (ix2 r j) = K (ix1 j) :=
  bcast_at _ _ _ (ix1 j) (fun a => by
    match a with
    | ⟨0, _⟩ => rfl)

theorem le1_at (hH : ∀ p : Fin 4096, H (ix2 r p) = BitVec.ofNat 32 (h p.val)) (hK : K (ix1 j) = BitVec.ofNat 32 k)
    (hk : k < before h 4096) (ht : before h 4096 < 2147483648) (p : Fin 4096) :
    le1 H K (ix3 r j p) = BitVec.ofBool (decide (before h (p.val + 1) ≤ k)) := by
  have e1 := spread1 r j (Host.reduceWindow IntOp.addi ![1, 4096] ![1, 1] ![0, 4095] ![0, 0] H (broadcastInDim S_ ![] bcast_S_S_ (constantI S_ 32 0#32)) reduceWindows_S10x4096_S10x4096_w1s1p0_0_w4096s1p4095_0 h_S_) p
  have e2 : broadcastInDim S10x30x4096 ![0, 1, 2] bcast_S10x30x1_S10x30x4096_0_1_2 (broadcastInDim S10x30x1 ![0, 1] bcast_S10x30_S10x30x1_0_1 (broadcastInDim S10x30 ![1] bcast_S30_S10x30_1 K)) (ix3 r j p) = K (ix1 j) :=
    (bcast_at _ _ _ (ix3 (n0 := 10) (n1 := 30) (n2 := 1) r j 0) (fun a => by
      match a with
      | ⟨0, _⟩ => rfl
      | ⟨1, _⟩ => rfl
      | ⟨2, _⟩ => rfl)).trans ((bcast_at _ _ _ (ix2 r j) (fun a => by
      match a with
      | ⟨0, _⟩ => rfl
      | ⟨1, _⟩ => rfl)).trans (rank_at K r j))
  have e3 := cumsum2 (b := 4095) H h r hH (broadcastInDim S_ ![] bcast_S_S_ (constantI S_ 32 0#32)) reduceWindows_S10x4096_S10x4096_w1s1p0_0_w4096s1p4095_0 h_S_ rfl p
  have hp := p.isLt
  have hb : before h (p.val + 1) ≤ before h 4096 := before_mono h (by omega)
  show IntOp.cmpi .sle _ _ = _
  rw [e1, e2, hK]
  refine Eq.trans (congrArg (fun z => IntOp.cmpi .sle z (BitVec.ofNat 32 k)) e3) ?_
  exact sle_ofNat _ _ (lt_of_le_of_lt hb ht) (lt_trans hk ht)

theorem pick1_at (hH : ∀ p : Fin 4096, H (ix2 r p) = BitVec.ofNat 32 (h p.val)) (hK : K (ix1 j) = BitVec.ofNat 32 k)
    (hk : k < before h 4096) (ht : before h 4096 < 2147483648) : pick1 H K (ix2 r j) = BitVec.ofNat 32 (pick h 4096 k) := by
  have hr : S10x30x4096.Reduces [2] S10x30 := by decide
  have hl : ∀ p : Fin 4096, hr.lift (ix2 r j) p = ix3 r j p := fun p => funext fun a => Fin.ext (by
    match a with
    | ⟨0, _⟩ => rfl
    | ⟨1, _⟩ => rfl
    | ⟨2, _⟩ => rfl)
  rw [← pick_count h 4096 k]
  refine reduce_sum_one 4096 rfl _ (fun p => if before h (p + 1) ≤ k then 1 else 0) _ _ hr _ rfl _ fun p => ?_
  rw [show hr.lift (ix2 r j) (p.cast _) = _ from hl p]
  show (le1 H K (ix3 r j p)).setWidth 32 = _
  rw [le1_at H K h k r j hH hK hk ht p, one_ofNat]

theorem rest1_at (hH : ∀ p : Fin 4096, H (ix2 r p) = BitVec.ofNat 32 (h p.val)) (hK : K (ix1 j) = BitVec.ofNat 32 k)
    (hk : k < before h 4096) (ht : before h 4096 < 2147483648) : rest1 H K (ix2 r j) = BitVec.ofNat 32 (k - before h (pick h 4096 k)) := by
  have hr : S10x30x4096.Reduces [2] S10x30 := by decide
  have hl : ∀ p : Fin 4096, hr.lift (ix2 r j) p = ix3 r j p := fun p => funext fun a => Fin.ext (by
    match a with
    | ⟨0, _⟩ => rfl
    | ⟨1, _⟩ => rfl
    | ⟨2, _⟩ => rfl)
  have es : Host.reduce IntOp.addi (muli (extui 32 (le1 H K) natLt_1_32)
      (broadcastInDim S10x30x4096 ![0, 1, 2] bcast_S10x1x4096_S10x30x4096_0_1_2 (broadcastInDim S10x1x4096 ![0, 2] bcast_S10x4096_S10x1x4096_0_2 H)))
      (constantI S_ 32 0#32) reducesTo_S10x30x4096_S10x30_d2 h_S_ (ix2 r j) = BitVec.ofNat 32 (before h (pick h 4096 k)) := by
    rw [← pick_sum h 4096 k]
    refine reduce_sum_one 4096 rfl _ (fun p => (if before h (p + 1) ≤ k then 1 else 0) * h p) _ _ hr _ rfl _ fun p => ?_
    rw [show hr.lift (ix2 r j) (p.cast _) = _ from hl p]
    show (le1 H K (ix3 r j p)).setWidth 32 * broadcastInDim S10x30x4096 ![0, 1, 2] bcast_S10x1x4096_S10x30x4096_0_1_2 (broadcastInDim S10x1x4096 ![0, 2] bcast_S10x4096_S10x1x4096_0_2 H) (ix3 r j p) = _
    rw [le1_at H K h k r j hH hK hk ht p, one_ofNat, spread1, hH, BitVec.ofNat_mul]
  show broadcastInDim S10x30 ![1] bcast_S30_S10x30_1 K (ix2 r j) - _ = _
  rw [rank_at, hK]
  refine Eq.trans (congrArg (fun z => BitVec.ofNat 32 k - z) es) ?_
  exact sub_ofNat _ _ (lt_trans hk ht) (pick_ends h 4096 k hk).1

end Buckets

/-! ## The parts of a bucket -/

/-- The parts whose running count is at most the rank within the bucket. -/
def le2 (C : IVec S10x30x2048 32) (R : IVec S10x30 32) : IVec S10x30x1x2048 1 :=
  cmpi .sle
    (broadcastInDim S10x30x1x2048 ![0, 1, 3] bcast_S10x30x2048_S10x30x1x2048_0_1_3
      (Host.reduceWindow IntOp.addi ![1, 1, 2048] ![1, 1, 1] ![0, 0, 2047] ![0, 0, 0] C (broadcastInDim S_ ![] bcast_S_S_ (constantI S_ 32 0#32)) reduceWindows_S10x30x2048_S10x30x2048_w1s1p0_0_w1s1p0_0_w2048s1p2047_0 h_S_))
    (broadcastInDim S10x30x1x2048 ![0, 1, 2, 3] bcast_S10x30x1x1_S10x30x1x2048_0_1_2_3 (broadcastInDim S10x30x1x1 ![0, 1, 2] bcast_S10x30x1_S10x30x1x1_0_1_2 (broadcastInDim S10x30x1 ![0, 1] bcast_S10x30_S10x30x1_0_1 R)))

/-- Each rank's part of its bucket. -/
def pick2 (C : IVec S10x30x2048 32) (R : IVec S10x30 32) : IVec S10x30 32 :=
  shapeCast S10x30 (Host.reduce IntOp.addi (extui 32 (le2 C R) natLt_1_32) (constantI S_ 32 0#32) reducesTo_S10x30x1x2048_S10x30x1_d3 h_S_) shapeCasts_S10x30x1_S10x30

/-- The key that a bucket and a part of it make. -/
def keyOf (B U : IVec S10x30 32) : IVec S10x30 32 :=
  addi (muli B (broadcastInDim S10x30 ![] bcast_S_S10x30 (constantI S_ 32 262144#32))) (muli U (broadcastInDim S10x30 ![] bcast_S_S10x30 (constantI S_ 32 128#32)))

section Parts

variable (C : IVec S10x30x2048 32) (R : IVec S10x30 32) (h : ℕ → ℕ) (l : ℕ) (r : Fin 10) (j : Fin 30)

theorem le2_at (hC : ∀ u : Fin 2048, C (ix3 r j u) = BitVec.ofNat 32 (h u.val)) (hR : R (ix2 r j) = BitVec.ofNat 32 l) (hl : l < 2147483648)
    (ht : before h 2048 < 2147483648) (u : Fin 2048) :
    le2 C R (ix4 r j 0 u) = BitVec.ofBool (decide (before h (u.val + 1) ≤ l)) := by
  have e1 : broadcastInDim S10x30x1x2048 ![0, 1, 3] bcast_S10x30x2048_S10x30x1x2048_0_1_3
      (Host.reduceWindow IntOp.addi ![1, 1, 2048] ![1, 1, 1] ![0, 0, 2047] ![0, 0, 0] C (broadcastInDim S_ ![] bcast_S_S_ (constantI S_ 32 0#32)) reduceWindows_S10x30x2048_S10x30x2048_w1s1p0_0_w1s1p0_0_w2048s1p2047_0 h_S_) (ix4 r j 0 u)
      = Host.reduceWindow IntOp.addi ![1, 1, 2048] ![1, 1, 1] ![0, 0, 2047] ![0, 0, 0] C (broadcastInDim S_ ![] bcast_S_S_ (constantI S_ 32 0#32)) reduceWindows_S10x30x2048_S10x30x2048_w1s1p0_0_w1s1p0_0_w2048s1p2047_0 h_S_ (ix3 r j u) :=
    bcast_at _ _ _ (ix3 r j u) (fun a => by
      match a with
      | ⟨0, _⟩ => rfl
      | ⟨1, _⟩ => rfl
      | ⟨2, _⟩ => rfl)
  have e2 : broadcastInDim S10x30x1x2048 ![0, 1, 2, 3] bcast_S10x30x1x1_S10x30x1x2048_0_1_2_3 (broadcastInDim S10x30x1x1 ![0, 1, 2] bcast_S10x30x1_S10x30x1x1_0_1_2 (broadcastInDim S10x30x1 ![0, 1] bcast_S10x30_S10x30x1_0_1 R)) (ix4 r j 0 u) = R (ix2 r j) :=
    (bcast_at _ _ _ (ix4 (n0 := 10) (n1 := 30) (n2 := 1) (n3 := 1) r j 0 0) (fun a => by
      match a with
      | ⟨0, _⟩ => rfl
      | ⟨1, _⟩ => rfl
      | ⟨2, _⟩ => rfl
      | ⟨3, _⟩ => rfl)).trans ((bcast_at _ _ _ (ix3 (n0 := 10) (n1 := 30) (n2 := 1) r j 0) (fun a => by
      match a with
      | ⟨0, _⟩ => rfl
      | ⟨1, _⟩ => rfl
      | ⟨2, _⟩ => rfl)).trans (bcast_at _ _ _ (ix2 r j) (fun a => by
      match a with
      | ⟨0, _⟩ => rfl
      | ⟨1, _⟩ => rfl)))
  have e3 := cumsum3 (b := 2047) C h r j hC (broadcastInDim S_ ![] bcast_S_S_ (constantI S_ 32 0#32)) reduceWindows_S10x30x2048_S10x30x2048_w1s1p0_0_w1s1p0_0_w2048s1p2047_0 h_S_ rfl u
  have hu := u.isLt
  have hb : before h (u.val + 1) ≤ before h 2048 := before_mono h (by omega)
  show IntOp.cmpi .sle _ _ = _
  rw [e1, e2, hR]
  refine Eq.trans (congrArg (fun z => IntOp.cmpi .sle z (BitVec.ofNat 32 l)) e3) ?_
  exact sle_ofNat _ _ (lt_of_le_of_lt hb ht) hl

theorem pick2_at (hC : ∀ u : Fin 2048, C (ix3 r j u) = BitVec.ofNat 32 (h u.val)) (hR : R (ix2 r j) = BitVec.ofNat 32 l) (hl : l < 2147483648)
    (ht : before h 2048 < 2147483648) : pick2 C R (ix2 r j) = BitVec.ofNat 32 (pick h 2048 l) := by
  have hr : S10x30x1x2048.Reduces [3] S10x30x1 := by decide
  have hll : ∀ u : Fin 2048, hr.lift (ix3 r j 0) u = ix4 r j 0 u := fun u => funext fun a => Fin.ext (by
    match a with
    | ⟨0, _⟩ => rfl
    | ⟨1, _⟩ => rfl
    | ⟨2, _⟩ => rfl
    | ⟨3, _⟩ => rfl)
  unfold pick2
  refine (shapeCast_apply _ _ _ (ix3 (n0 := 10) (n1 := 30) (n2 := 1) r j 0) ?_).trans ?_
  · rw [Shape.rowMajor_val_three, Shape.rowMajor_val_two]
    show (r.val * 30 + j.val) * 1 + 0 = r.val * 30 + j.val
    omega
  rw [← pick_count h 2048 l]
  refine reduce_sum_one 2048 rfl _ (fun u => if before h (u + 1) ≤ l then 1 else 0) _ _ hr _ rfl _ fun u => ?_
  rw [show hr.lift (ix3 r j 0) (u.cast _) = _ from hll u]
  show (le2 C R (ix4 r j 0 u)).setWidth 32 = _
  rw [le2_at C R h l r j hC hR hl ht u, one_ofNat]

end Parts

theorem keyOf_at (B U : IVec S10x30 32) (b u : ℕ) (i : S10x30.Idx) (hB : B i = BitVec.ofNat 32 b) (hU : U i = BitVec.ofNat 32 u) :
    keyOf B U i = BitVec.ofNat 32 (b * 262144 + u * 128) := by
  show B i * 262144#32 + U i * 128#32 = _
  rw [hB, hU, BitVec.ofNat_add, BitVec.ofNat_mul, BitVec.ofNat_mul]

/-! ## The host lists -/

/-- The first call's counters, summed over a row's three tasks and the sixteen lanes. -/
def sum1 (C : IVec S30x65536 32) : IVec S10x4096 32 :=
  Host.reduce IntOp.addi (shapeCast S10x3x4096x16 C shapeCasts_S30x65536_S10x3x4096x16) (constantI S_ 32 0#32) reducesTo_S10x3x4096x16_S10x4096_d1_3 h_S_

/-- The second call's counters, summed over a row's three tasks. -/
def sum2 (C : IVec S30x61440 32) : IVec S10x30x2048 32 :=
  Host.reduce IntOp.addi (shapeCast S10x3x30x2048 C shapeCasts_S30x61440_S10x3x30x2048) (constantI S_ 32 0#32) reducesTo_S10x3x30x2048_S10x30x2048_d1 h_S_

variable (m : (ℓ : Loc nD τ sig) → Buf (Elt F) ℓ)

theorem W2_pick (d : Dev nD) : W2 m d (dr main_v11) = pick1 (sum1 (W1 m d (dr main_v0))) (W1 m d (dr main_arg1)) := by
  unfold W2
  simp only [counts, StableHlo.TRef.unary, StableHlo.TRef.binary, StableHlo.TRef.nullary, StableHlo.TRef.toBuf, StableHlo.TRef.ofBuf, cast_eq]
  after_results_simp
  rfl

theorem W2_rest (d : Dev nD) : W2 m d (dr main_v17) = rest1 (sum1 (W1 m d (dr main_v0))) (W1 m d (dr main_arg1)) := by
  unfold W2
  simp only [counts, StableHlo.TRef.unary, StableHlo.TRef.binary, StableHlo.TRef.nullary, StableHlo.TRef.toBuf, StableHlo.TRef.ofBuf, cast_eq]
  after_results_simp
  rfl

theorem W7_keys (d : Dev nD) : W7 m d (dr main_v60) = keyOf (W6 m d (dr main_v11)) (pick2 (W6 m d (dr main_v40)) (W6 m d (dr main_v17))) := by
  unfold W7
  simp only [keysFound, StableHlo.TRef.unary, StableHlo.TRef.binary, StableHlo.TRef.nullary, StableHlo.TRef.toBuf, StableHlo.TRef.ofBuf, cast_eq]
  after_results_simp
  rfl

end Cert.Proof.Sel

end
-- ==== Proof.SelCount.lean ====
/-
  The counters of the two calls as numbers of keys.

  A masked scatter-add of ones adds, at a position, the number of masked lanes whose position it is. So the first call's
  counter of a bucket and a lane is the number of the task's keys on that lane in the bucket, and the second call's
  counter of a slot and a part the number of the task's keys with that slot and that part. Summed over a row's three
  tasks (and the lanes) they count the keys of the whole row.
-/
module

public import proofs.«01_k».proof.Proof.SelRead

@[expose] public section

noncomputable section

namespace Cert.Proof.Sel

open Cert.SelectIdeal Cert.SelectIdeal.Gen
open Idealize.ShloMosaic Idealize.ShloMosaic.ValueIdx

variable {F : FTy → Type} [FloatOps F]

/-! ## One scatter-add of ones -/

/-- Steps that each add a number at `q`, folded: the numbers' sum. -/
theorem foldl_count {ι J : Type} (q : J) (step : (J → BitVec 32) → ι → J → BitVec 32) (w : ι → ℕ)
    (hstep : ∀ g k, step g k q = g q + BitVec.ofNat 32 (w k)) (L : List ι) : ∀ g, L.foldl step g q = g q + BitVec.ofNat 32 (L.map w).sum := by
  induction L with
  | nil => intro g; exact (BitVec.add_zero _).symm
  | cons k L ih => intro g; rw [List.foldl_cons, ih, List.map_cons, List.sum_cons, hstep, BitVec.add_assoc, ← BitVec.ofNat_add]

/-- A masked scatter-add of ones, read at a position. -/
theorem storeIdx_count {n : ℕ} (f : Vec F ⟨1, ![n]⟩ .i32) (idx : IVec S16 32) (v : Vec F S16 .i32) (hv : ∀ x, (v x : BitVec 32) = 1#32) (mask : IVec S16 1) (h)
    (q : (⟨1, ![n]⟩ : Shape).Idx) :
    (storeIdx (F := F) (e := .i32) f ![idx] v mask true h q : BitVec 32)
      = (f q : BitVec 32) + BitVec.ofNat 32 (∑ k : Fin 16, if mask (ix1 k) = 1#1 ∧ (idx (ix1 k)).toNat = (q 0).val then 1 else 0) := by
  rw [Fin.sum_univ_def]
  unfold storeIdx
  refine foldl_count (ι := Fin 16) q _ (fun k => if mask (ix1 k) = 1#1 ∧ (idx (ix1 k)).toNat = (q 0).val then 1 else 0) ?_ (List.finRange 16) f
  intro g k
  have hk : (Shape.ofLane (d := ![16]) k : S16.Idx) = ix1 k := by
    funext a; rw [Fin.eq_zero a]; rfl
  dsimp only
  rw [hk]
  by_cases hmask : mask (ix1 k) = 1#1
  · rw [if_pos (show mask (ix1 k) = 1 from hmask)]
    by_cases hq : (idx (ix1 k)).toNat = (q 0).val
    · have hqi : q = idxAt ![idx] h (ix1 k) := by
        funext a
        apply Fin.ext
        rw [Fin.eq_zero a]; exact hq.symm
      have hall : ∀ a, (q a).val = ((idxAt ![idx] h (ix1 k)) a).val := fun a => by rw [← hqi]
      rw [if_pos hall, if_pos (rfl : true = true), ← hqi, if_pos (⟨hmask, hq⟩ : mask (ix1 k) = 1#1 ∧ (idx (ix1 k)).toNat = (q 0).val)]
      exact congrArg (fun z => (g q : BitVec 32) + z) (hv (ix1 k))
    · rw [if_neg (fun hc => hq (hc 0).symm), if_neg (fun hc => hq hc.2)]
      exact (BitVec.add_zero _).symm
  · rw [if_neg (show ¬ mask (ix1 k) = 1 from hmask), if_neg (fun hc => hmask hc.1)]
    exact (BitVec.add_zero _).symm

/-! ## A chunk, a task -/

theorem foldTrips_count {J : Type} (step : Vec F S16 .i32 → (J → BitVec 32) → J → BitVec 32) (b : Vec F S8192 .i32) (q : J) (f : ℕ → ℕ)
    (hstep : ∀ (t : Fin 512) A, step (fun x => b (chunkIdx t x)) A q = A q + BitVec.ofNat 32 (f t.val)) (A : J → BitVec 32) (n : ℕ) (hn : n ≤ 512) :
    foldTrips step b A n q = A q + BitVec.ofNat 32 (∑ t ∈ Finset.range n, f t) := by
  induction n with
  | zero => exact (BitVec.add_zero _).symm
  | succ n ih =>
    have h : n < 512 := by omega
    unfold foldTrips
    rw [dif_pos h, hstep ⟨n, h⟩, ih (by omega), Finset.sum_range_succ, BitVec.ofNat_add, BitVec.add_assoc]

theorem foldChunks_count {J : Type} (step : Vec F S16 .i32 → (J → BitVec 32) → J → BitVec 32) (b : ℕ → Vec F S8192 .i32) (q : J) (f : ℕ → ℕ → ℕ)
    (hstep : ∀ n (t : Fin 512) A, step (fun x => b n (chunkIdx t x)) A q = A q + BitVec.ofNat 32 (f n t.val)) (A : J → BitVec 32) (n : ℕ) :
    foldChunks step b A n q = A q + BitVec.ofNat 32 (∑ c ∈ Finset.range n, ∑ t ∈ Finset.range 512, f c t) := by
  induction n with
  | zero => exact (BitVec.add_zero _).symm
  | succ n ih =>
    unfold foldChunks
    rw [foldTrips_count step (b n) q (f n) (hstep n) _ 512 (le_refl _), ih, Finset.sum_range_succ (fun c => ∑ t ∈ Finset.range 512, f c t) n, BitVec.ofNat_add, BitVec.add_assoc]

/-! ## The two steps -/

/-- Key `x` of row `r`. -/
def keyAt (Ks : Vec F S10x1007616 .i32) (r x : ℕ) : BitVec 32 := Ks (keyIdx r x)

theorem chunk_word (Ks : Vec F S10x1007616 .i32) (w n : ℕ) (t : Fin 512) (l : Fin 16) :
    keyChunk Ks w n (chunkIdx t (ix1 l)) = keyAt Ks (w / 3) (colOf w n + (16 * t.val + l.val)) := rfl

theorem k0_one (x : S16.Idx) : k0_pay1 x = 1#32 := rfl
theorem k1_one (x : S16.Idx) : k1_pay5 x = 1#32 := rfl

theorem at1_val (p : ℕ) (hp : p < 65536) : ((at1 p) 0).val = p := by
  unfold at1
  exact Nat.mod_eq_of_lt hp

theorem at2_val (p : ℕ) (hp : p < 61440) : ((at2 p) 0).val = p := by
  unfold at2
  exact Nat.mod_eq_of_lt hp

theorem lane_val (l : Fin 16) : ((ix1 l : S16.Idx) 0).val = l.val := rfl

/-- The lanes whose position is that of bucket `p`, lane `l`: lane `l` alone, when its key is in the bucket. -/
theorem lanes1 (c : Vec F S16 .i32) (p : ℕ) (l : Fin 16) (q : ℕ) (hq : q = 16 * p + l.val) :
    (∑ k : Fin 16, if (1#1 : BitVec 1) = 1#1 ∧ (k0_pay3 (F := F) c (ix1 k)).toNat = q then 1 else 0) = if bucket (c (ix1 l)) = p then 1 else 0 := by
  have hl := l.isLt
  rw [Finset.sum_eq_single l]
  · refine if_congr ⟨fun h => ?_, fun h => ⟨rfl, ?_⟩⟩ rfl rfl
    · have h := h.2
      rw [pay3_toNat, lane_val] at h; omega
    · rw [pay3_toNat, lane_val, h, hq]
  · intro k _ hk
    refine if_neg fun h => hk (Fin.ext ?_)
    have h := h.2
    have hk := k.isLt
    rw [pay3_toNat, lane_val] at h
    omega
  · exact fun h => absurd (Finset.mem_univ _) h

theorem hist1_count (c : Vec F S16 .i32) (A : Vec F S65536 .i32) (p : ℕ) (l : Fin 16) (hp : p < 4096) :
    (hist1Trip c A (at1 (16 * p + l.val)) : BitVec 32) = (A (at1 (16 * p + l.val)) : BitVec 32) + BitVec.ofNat 32 (if bucket (c (ix1 l)) = p then 1 else 0) := by
  have hl := l.isLt
  unfold hist1Trip
  refine (storeIdx_count A (k0_pay3 (F := F) c) k0_pay1 k0_one _ _ _).trans ?_
  exact congrArg (fun z => (A (at1 (16 * p + l.val)) : BitVec 32) + BitVec.ofNat 32 z) (lanes1 c p l _ (at1_val _ (by omega)))

/-- A masked lane's position is that of slot `s`, part `u` when its key has them. -/
theorem lane2 (c g : Vec F S16 .i32) (x : S16.Idx) (h30 : (g x : BitVec 32).toNat ≤ 30) (s u : ℕ) (hs : s < 30) (hu : u < 2048) (q : ℕ) (hq : q = 2048 * s + u) :
    (k1_pay3 (F := F) g x = 1#1 ∧ (k1_pay4 (F := F) c g x).toNat = q) ↔ ((g x : BitVec 32).toNat = s ∧ sub (c x) = u) := by
  have hm : k1_pay3 (F := F) g x = BitVec.ofBool (decide ((g x : BitVec 32).toNat < 30)) := mask_eq _ h30
  have hl := sub_lt (c x)
  rw [hm, pay4_toNat c g x h30]
  by_cases h : (g x : BitVec 32).toNat < 30
  · rw [if_pos h, decide_eq_true h]
    exact ⟨fun hc => by have := hc.2; omega, fun hc => ⟨rfl, by rw [hc.1, hc.2, hq]⟩⟩
  · rw [decide_eq_false h]
    exact ⟨fun hc => absurd hc.1 (by decide), fun hc => absurd (hc.1 ▸ hs) h⟩

theorem hist2_count (T : Vec F S4096 .i32) (hT : SlotsOk T) (c : Vec F S16 .i32) (A : Vec F S61440 .i32) (s u : ℕ) (hs : s < 30) (hu : u < 2048) :
    (hist2Trip T c A (at2 (2048 * s + u)) : BitVec 32)
      = (A (at2 (2048 * s + u)) : BitVec 32) + BitVec.ofNat 32 (∑ l : Fin 16, if (slots T c (ix1 l) : BitVec 32).toNat = s ∧ sub (c (ix1 l)) = u then 1 else 0) := by
  unfold hist2Trip
  rw [dif_pos (slots_ok T hT c)]
  refine (storeIdx_count A (k1_pay4 (F := F) c (slots T c)) k1_pay5 k1_one _ _ _).trans ?_
  refine congrArg (fun z => (A (at2 (2048 * s + u)) : BitVec 32) + BitVec.ofNat 32 z) ?_
  exact Finset.sum_congr rfl fun l _ => if_congr (lane2 c (slots T c) (ix1 l) (hT _) s u hs hu _ (at2_val _ (by omega))) rfl rfl

/-- A class's row of the table, at a key's bucket. -/
theorem slots_at (Tb : Vec F S10x4096 .i32) (r : Fin 10) (c : Vec F S16 .i32) (x : S16.Idx) :
    slots (tabRow Tb r.val) c x = Tb (ix2 r ⟨bucket (c x), bucket_lt _⟩) := by
  have hr := r.isLt
  show Tb _ = _
  congr 1
  funext a
  apply Fin.ext
  match a with
  | ⟨0, _⟩ => exact Nat.mod_eq_of_lt hr
  | ⟨1, _⟩ => exact pay2_toNat (F := F) c x

/-! ## A task's counters -/

theorem row1_at (Ks : Vec F S10x1007616 .i32) (w p : ℕ) (l : Fin 16) (hp : p < 4096) :
    (row1 Ks w (at1 (16 * p + l.val)) : BitVec 32)
      = BitVec.ofNat 32 (∑ n ∈ Finset.range 41, ∑ t ∈ Finset.range 512, if bucket (keyAt Ks (w / 3) (colOf w n + (16 * t + l.val))) = p then 1 else 0) := by
  unfold row1
  refine (foldChunks_count hist1Trip (keyChunk Ks w) _ (fun n t => if bucket (keyAt Ks (w / 3) (colOf w n + (16 * t + l.val))) = p then 1 else 0) ?_ zero1 41).trans ?_
  · intro n t A
    refine (hist1_count _ A p l hp).trans ?_
    rw [chunk_word]
  · exact BitVec.zero_add _

theorem row2_at (Ks : Vec F S10x1007616 .i32) (Tb : Vec F S10x4096 .i32) (hT : SlotsOk Tb) (r : Fin 10) (w s u : ℕ) (hw : w / 3 = r.val) (hs : s < 30) (hu : u < 2048) :
    (row2 Ks Tb w (at2 (2048 * s + u)) : BitVec 32)
      = BitVec.ofNat 32 (∑ n ∈ Finset.range 41, ∑ t ∈ Finset.range 512, ∑ l ∈ Finset.range 16,
          if (Tb (ix2 r ⟨bucket (keyAt Ks r.val (colOf w n + (16 * t + l))), bucket_lt _⟩) : BitVec 32).toNat = s ∧ sub (keyAt Ks r.val (colOf w n + (16 * t + l))) = u then 1 else 0) := by
  unfold row2
  rw [hw]
  refine (foldChunks_count (hist2Trip (tabRow Tb r.val)) (keyChunk Ks w) _ (fun n t => ∑ l ∈ Finset.range 16,
          if (Tb (ix2 r ⟨bucket (keyAt Ks r.val (colOf w n + (16 * t + l))), bucket_lt _⟩) : BitVec 32).toNat = s ∧ sub (keyAt Ks r.val (colOf w n + (16 * t + l))) = u then 1 else 0) ?_ zero2 41).trans ?_
  · intro n t A
    refine (hist2_count (tabRow Tb r.val) (fun i => hT _) _ A s u hs hu).trans ?_
    refine congrArg (fun z => (A (at2 (2048 * s + u)) : BitVec 32) + BitVec.ofNat 32 z) (Eq.trans ?_ (Finset.sum_range _).symm)
    refine Finset.sum_congr rfl fun l _ => ?_
    rw [slots_at, chunk_word, hw]
  · exact BitVec.zero_add _

/-! ## A row's keys, chunk by chunk -/

/-- A sum over `a · b` numbers, `b` at a time. -/
theorem sum_blocks (f : ℕ → ℕ) (a b : ℕ) : (∑ i ∈ Finset.range a, ∑ j ∈ Finset.range b, f (b * i + j)) = ∑ x ∈ Finset.range (b * a), f x := by
  induction a with
  | zero => rfl
  | succ a ih => rw [Finset.sum_range_succ, ih, Nat.mul_succ, Finset.sum_range_add]

/-- The keys of a row: three tasks of 41 chunks of 512 vectors of 16. -/
theorem sum_row (f : ℕ → ℕ) :
    (∑ c ∈ Finset.range 3, ∑ n ∈ Finset.range 41, ∑ t ∈ Finset.range 512, ∑ l ∈ Finset.range 16, f (335872 * c + 8192 * n + (16 * t + l)))
      = ∑ x ∈ Finset.range 1007616, f x := by
  have e : ∀ c n, (∑ t ∈ Finset.range 512, ∑ l ∈ Finset.range 16, f (335872 * c + 8192 * n + (16 * t + l))) = ∑ y ∈ Finset.range 8192, f (335872 * c + (8192 * n + y)) := fun c n => by
    rw [← show 16 * 512 = 8192 from rfl, ← sum_blocks (fun y => f (335872 * c + (16 * 512 * n + y))) 512 16]
    simp only [Nat.add_assoc]
  have e' : ∀ c, (∑ n ∈ Finset.range 41, ∑ y ∈ Finset.range 8192, f (335872 * c + (8192 * n + y))) = ∑ z ∈ Finset.range 335872, f (335872 * c + z) := fun c =>
    (sum_blocks (fun z => f (335872 * c + z)) 41 8192)
  simp only [e, e']
  exact sum_blocks f 3 335872

theorem colOf_row (r : Fin 10) (c : Fin 3) (n : ℕ) : (3 * r.val + c.val) / 3 = r.val ∧ colOf (3 * r.val + c.val) n = 335872 * c.val + 8192 * n := by
  have := c.isLt
  unfold colOf
  omega

/-! ## The summed counters -/

section Sums

variable (Ks : Vec F S10x1007616 .i32)

/-- The numbers of a row's keys by bucket and by part. -/
def bucketOf (r x : ℕ) : ℕ := bucket (keyAt Ks r x)
def partOf (r x : ℕ) : ℕ := sub (keyAt Ks r x)

theorem sum1_at (r : Fin 10) (p : Fin 4096) : sum1 (all1 Ks) (ix2 r p) = BitVec.ofNat 32 (countAt 1007616 (bucketOf Ks r.val) p.val) := by
  have hd : ∀ i, reducesTo_S10x3x4096x16_S10x4096_d1_3.drop i = ix2 (n0 := 10) (n1 := 4096) (i 0) (i 2) := fun i => funext fun a => Fin.ext (by
    match a with
    | ⟨0, _⟩ => rfl
    | ⟨1, _⟩ => rfl)
  unfold sum1
  refine (reduce_sum _ (fun i : S10x3x4096x16.Idx => ∑ n ∈ Finset.range 41, ∑ t ∈ Finset.range 512,
    if bucketOf Ks (i 0).val (335872 * (i 1).val + 8192 * n + (16 * t + (i 3).val)) = (i 2).val then 1 else 0) ?_ _ _ _ rfl _).trans ?_
  · intro i
    obtain ⟨r, c, p, l, rfl⟩ : ∃ (r : Fin 10) (c : Fin 3) (p : Fin 4096) (l : Fin 16), i = ix4 r c p l := ⟨i 0, i 1, i 2, i 3, eq_ix4 i⟩
    have hr := r.isLt
    have hc := c.isLt
    have hp := p.isLt
    have hl := l.isLt
    refine (shapeCast_apply _ _ _ (ix2 (n0 := 30) (n1 := 65536) ⟨3 * r.val + c.val, by omega⟩ ⟨16 * p.val + l.val, by omega⟩) ?_).trans ?_
    · rw [Shape.rowMajor_val_two, Shape.rowMajor_val_four]
      show (3 * r.val + c.val) * 65536 + (16 * p.val + l.val) = ((r.val * 3 + c.val) * 4096 + p.val) * 16 + l.val
      omega
    · refine (row1_at Ks (3 * r.val + c.val) p.val l hp).trans ?_
      simp only [(colOf_row r c 0).1, (colOf_row r c _).2]
      rfl
  · refine congrArg (BitVec.ofNat 32) ?_
    unfold countAt
    rw [← sum_row]
    refine Eq.trans ?_ (Finset.sum_range _).symm
    trans ∑ c : Fin 3, ∑ l : Fin 16, ∑ n ∈ Finset.range 41, ∑ t ∈ Finset.range 512, if bucketOf Ks r.val (335872 * c.val + 8192 * n + (16 * t + l.val)) = p.val then 1 else 0
    · rw [← Fintype.sum_prod_type']
      refine Finset.sum_bij' (fun i _ => ((i 1, i 3) : Fin 3 × Fin 16)) (fun q _ => ix4 r q.1 p q.2) ?_ ?_ ?_ ?_ ?_
      · exact fun _ _ => Finset.mem_univ _
      · intro q _
        rw [Finset.mem_filter]
        exact ⟨Finset.mem_univ _, hd _⟩
      · intro i hi
        rw [Finset.mem_filter, hd] at hi
        have h0 : i 0 = r := congrFun hi.2 0
        have h1 : i 2 = p := congrFun hi.2 1
        rw [← h0, ← h1]
        exact (eq_ix4 i).symm
      · exact fun q _ => rfl
      · intro i hi
        rw [Finset.mem_filter, hd] at hi
        have h0 : i 0 = r := congrFun hi.2 0
        have h1 : i 2 = p := congrFun hi.2 1
        rw [← h0, ← h1]
    · refine Finset.sum_congr rfl fun c _ => ?_
      rw [Finset.sum_comm]
      refine Finset.sum_congr rfl fun n _ => ?_
      rw [Finset.sum_comm]
      refine Finset.sum_congr rfl fun t _ => ?_
      rw [Finset.sum_range]

theorem sum2_at (Tb : Vec F S10x4096 .i32) (hT : SlotsOk Tb) (r : Fin 10) (s : Fin 30) (u : Fin 2048) :
    sum2 (all2 Ks Tb) (ix3 r s u) = BitVec.ofNat 32 (∑ x ∈ Finset.range 1007616,
      if (Tb (ix2 r ⟨bucketOf Ks r.val x, bucket_lt _⟩) : BitVec 32).toNat = s.val ∧ partOf Ks r.val x = u.val then 1 else 0) := by
  have hh : S10x3x30x2048.Reduces [1] S10x30x2048 := by decide
  have hs := s.isLt
  have hu := u.isLt
  have hr := r.isLt
  have hl : ∀ c : Fin 3, hh.lift (ix3 r s u) c = ix4 r c s u := fun c => funext fun a => Fin.ext (by
    match a with
    | ⟨0, _⟩ => rfl
    | ⟨1, _⟩ => rfl
    | ⟨2, _⟩ => rfl
    | ⟨3, _⟩ => rfl)
  unfold sum2
  rw [← sum_row]
  refine reduce_sum_one 3 rfl _ (fun c => ∑ n ∈ Finset.range 41, ∑ t ∈ Finset.range 512, ∑ l ∈ Finset.range 16,
    if (Tb (ix2 r ⟨bucketOf Ks r.val (335872 * c + 8192 * n + (16 * t + l)), bucket_lt _⟩) : BitVec 32).toNat = s.val ∧ partOf Ks r.val (335872 * c + 8192 * n + (16 * t + l)) = u.val then 1 else 0)
    _ _ hh _ rfl _ fun c => ?_
  have hc := c.isLt
  rw [show hh.lift (ix3 r s u) (c.cast _) = _ from hl c]
  refine (shapeCast_apply _ _ _ (ix2 (n0 := 30) (n1 := 61440) ⟨3 * r.val + c.val, by omega⟩ ⟨2048 * s.val + u.val, by omega⟩) ?_).trans ?_
  · rw [Shape.rowMajor_val_two, Shape.rowMajor_val_four]
    show (3 * r.val + c.val) * 61440 + (2048 * s.val + u.val) = ((r.val * 3 + c.val) * 30 + s.val) * 2048 + u.val
    omega
  · refine (row2_at Ks Tb hT r (3 * r.val + c.val) s.val u.val (colOf_row r c 0).1 hs hu).trans ?_
    simp only [(colOf_row r c _).2]
    rfl

end Sums

end Cert.Proof.Sel

end
-- ==== Proof.SelTake.lean ====
/-
  The second count read at each rank's slot: the host takes, for each rank, the counted row of the rank's slot, and that
  row counts the keys of the rank's bucket by their part.
-/
module

public import proofs.«01_k».proof.Proof.SelRead
public import proofs.«01_k».proof.Proof.SelCount
public import Idealize.ShloMosaic.Lib.ReduceAll

@[expose] public section

noncomputable section

namespace Cert.Proof.Sel

open Cert.SelectIdeal Cert.SelectIdeal.Gen
open Idealize.ShloMosaic Idealize.ShloMosaic.ValueIdx
open Idealize.ShloMosaic.StableHlo (after)

variable {F : FTy → Type} [FloatOps F]

/-! ## The rows taken -/

/-- The slots, with a negative one counted from the end. -/
def wrapped (I : IVec S10x30 32) : IVec S10x30x1 32 :=
  select (cmpi .slt (broadcastInDim S10x30x1 ![0, 1] bcast_S10x30_S10x30x1_0_1 I) (broadcastInDim S10x30x1 ![] bcast_S_S10x30x1 (constantI S_ 32 0#32)))
    (addi (broadcastInDim S10x30x1 ![0, 1] bcast_S10x30_S10x30x1_0_1 I) (broadcastInDim S10x30x1 ![] bcast_S_S10x30x1 (constantI S_ 32 30#32)))
    (broadcastInDim S10x30x1 ![0, 1] bcast_S10x30_S10x30x1_0_1 I)

/-- Which slots are in range. -/
def inside (I : IVec S10x30 32) : IVec S10x30 1 :=
  Host.reduce IntOp.andi
    (andi (cmpi .sge (wrapped I) (broadcastInDim S10x30x1 ![] bcast_S_S10x30x1 (constantI S_ 32 0#32)))
      (cmpi .sle (wrapped I) (broadcastInDim S10x30x1 ![0, 1, 2] bcast_S1x1x1_S10x30x1_0_1_2 (broadcastInDim S1x1x1 ![2] bcast_S1_S1x1x1_2 (constantI S1 32 29#32)))))
    (constantI S_ 1 1#1) reducesTo_S10x30x1_S10x30_d2 h_S_

/-- The rows of `S` at the slots `I`. -/
def takeOf (S : IVec S10x30x2048 32) (I : IVec S10x30 32) : IVec S10x30x2048 32 :=
  select (broadcastInDim S10x30x2048 ![0, 1] bcast_S10x30_S10x30x2048_0_1 (inside I))
    (Host.gather gather_S10x30x2048_S10x30x1_S10x30x2048_2_1_0_0_1_2_112048 S (wrapped I))
    (broadcastInDim S10x30x2048 ![] bcast_S_S10x30x2048 (constantI S_ 32 2147483648#32))

theorem wrapped_at (I : IVec S10x30 32) (s : ℕ) (hs : s < 30) (r : Fin 10) (j : Fin 30) (z : Fin 1) (hI : I (ix2 r j) = BitVec.ofNat 32 s) :
    wrapped I (ix3 r j z) = BitVec.ofNat 32 s := by
  have e : broadcastInDim S10x30x1 ![0, 1] bcast_S10x30_S10x30x1_0_1 I (ix3 r j z) = BitVec.ofNat 32 s :=
    (bcast_at _ _ _ (ix2 (n0 := 10) (n1 := 30) r j) (fun a => by
      match a with
      | ⟨0, _⟩ => rfl
      | ⟨1, _⟩ => rfl)).trans hI
  show (if IntOp.cmpi .slt (broadcastInDim S10x30x1 ![0, 1] bcast_S10x30_S10x30x1_0_1 I (ix3 r j z)) 0#32 = 1 then
    broadcastInDim S10x30x1 ![0, 1] bcast_S10x30_S10x30x1_0_1 I (ix3 r j z) + 30#32 else broadcastInDim S10x30x1 ![0, 1] bcast_S10x30_S10x30x1_0_1 I (ix3 r j z)) = _
  rw [e]
  have : ¬ IntOp.cmpi .slt (BitVec.ofNat 32 s) 0#32 = 1 := by
    show ¬ BitVec.ofBool ((BitVec.ofNat 32 s).slt 0#32) = 1
    rw [BitVec.slt_eq_decide, toInt_ofNat s (by omega), decide_eq_false (by show ¬ (s : ℤ) < 0; omega)]
    decide
  rw [if_neg this]

/-- All slots are in range when each is below 30. -/
theorem inside_at (I : IVec S10x30 32) (s : Fin 10 → Fin 30 → ℕ) (hs : ∀ r j, s r j < 30) (hI : ∀ r j, I (ix2 r j) = BitVec.ofNat 32 (s r j)) (i : S10x30.Idx) :
    inside I i = 1#1 := by
  unfold inside
  refine Host.reduce_andi_one _ _ _ _ _ rfl fun k => ?_
  obtain ⟨r, j, z, rfl⟩ : ∃ (r : Fin 10) (j : Fin 30) (z : Fin 1), k = ix3 r j z := ⟨k 0, k 1, k 2, eq_ix3 k⟩
  have hlt := hs r j
  show IntOp.andi (IntOp.cmpi .sge (wrapped I (ix3 r j z)) 0#32) (IntOp.cmpi .sle (wrapped I (ix3 r j z)) 29#32) = 1#1
  rw [wrapped_at I (s r j) hlt r j z (hI r j)]
  refine IntOp.andi_eq_one.2 ⟨?_, ?_⟩
  · show IntOp.cmpi .sle (BitVec.ofNat 32 0) (BitVec.ofNat 32 (s r j)) = 1#1
    rw [sle_ofNat _ _ (by decide) (by omega), decide_eq_true (Nat.zero_le _)]
    rfl
  · rw [show (29#32 : BitVec 32) = BitVec.ofNat 32 29 from rfl, sle_ofNat _ _ (by omega) (by decide), decide_eq_true (by omega)]
    rfl

/-- The gathered entry. -/
theorem gather_at (S : IVec S10x30x2048 32) (X : IVec S10x30x1 32) (s : ℕ) (hs : s < 30) (r : Fin 10) (j : Fin 30) (u : Fin 2048) (hX : X (ix3 r j 0) = BitVec.ofNat 32 s) :
    Host.gather gather_S10x30x2048_S10x30x1_S10x30x2048_2_1_0_0_1_2_112048 S X (ix3 r j u) = S (ix3 r ⟨s, hs⟩ u) := by
  have hi : ∀ c, gather_S10x30x2048_S10x30x1_S10x30x2048_2_1_0_0_1_2_112048.siIdx (ix3 r j u) c = ix3 r j 0 := fun c => funext fun b => Fin.ext (by
    match b with
    | ⟨0, _⟩ => rfl
    | ⟨1, _⟩ => rfl
    | ⟨2, _⟩ => exact Nat.lt_one_iff.1 c.isLt)
  unfold Host.gather
  refine congrArg S (funext fun a => Fin.ext ?_)
  match a with
  | ⟨0, _⟩ => exact Nat.zero_add _
  | ⟨1, _⟩ =>
    show min (X (gather_S10x30x2048_S10x30x1_S10x30x2048_2_1_0_0_1_2_112048.siIdx (ix3 r j u) _)).toInt.toNat (30 - 1) + 0 + 0 = s
    rw [hi, hX, toInt_ofNat s (by omega), Int.toNat_natCast]
    omega
  | ⟨2, _⟩ => exact Nat.zero_add _

theorem takeOf_at (S : IVec S10x30x2048 32) (I : IVec S10x30 32) (s : Fin 10 → Fin 30 → ℕ) (hs : ∀ r j, s r j < 30) (hI : ∀ r j, I (ix2 r j) = BitVec.ofNat 32 (s r j))
    (r : Fin 10) (j : Fin 30) (u : Fin 2048) : takeOf S I (ix3 r j u) = S (ix3 r ⟨s r j, hs r j⟩ u) := by
  show (if broadcastInDim S10x30x2048 ![0, 1] bcast_S10x30_S10x30x2048_0_1 (inside I) (ix3 r j u) = 1 then
    Host.gather gather_S10x30x2048_S10x30x1_S10x30x2048_2_1_0_0_1_2_112048 S (wrapped I) (ix3 r j u) else _) = _
  have e : broadcastInDim S10x30x2048 ![0, 1] bcast_S10x30_S10x30x2048_0_1 (inside I) (ix3 r j u) = 1#1 :=
    (bcast_at _ _ _ (ix2 (n0 := 10) (n1 := 30) r j) (fun a => by
      match a with
      | ⟨0, _⟩ => rfl
      | ⟨1, _⟩ => rfl)).trans (inside_at I s hs hI _)
  refine (if_pos e).trans ?_
  exact gather_at S _ (s r j) (hs r j) r j u (wrapped_at I (s r j) (hs r j) r j 0 (hI r j))

/-! ## The keys counted in them -/

section Counts

variable (m : (ℓ : Loc nD τ sig) → Buf (Elt F) ℓ)

theorem W6_chosen (d : Dev nD) : W6 m d (dr main_v40) = takeOf (sum2 (W5 m d (dr main_v36))) (W5 m d (dr main_v26)) := by
  unfold W6
  simp only [chosen, StableHlo.TRef.unary, StableHlo.TRef.binary, StableHlo.TRef.nullary, StableHlo.TRef.ternary, StableHlo.TRef.toBuf, StableHlo.TRef.ofBuf, cast_eq]
  after_results_simp
  rfl

/-- Where the buckets the ranks lie in are `b`, the rows taken count the keys of those buckets by their part. -/
theorem chosen_at (d : Dev nD) (b : Fin 10 → Fin 30 → ℕ) (hb : ∀ r j, b r j < 4096)
    (hB : ∀ r j, (W2 m d (dr main_v11) : IVec S10x30 32) (ix2 r j) = BitVec.ofNat 32 (b r j)) (r : Fin 10) (j : Fin 30) (u : Fin 2048) :
    (W6 m d (dr main_v40) : IVec S10x30x2048 32) (ix3 r j u)
      = BitVec.ofNat 32 (countAt2 1007616 (bucketOf (keysOf m d) r.val) (partOf (keysOf m d) r.val) (b r j) u.val) := by
  set B : IVec S10x30 32 := W2 m d (dr main_v11) with hBdef
  have hI : ∀ r j, (W5 m d (dr main_v26) : IVec S10x30 32) (ix2 r j) = BitVec.ofNat 32 (slotOf (fun i => B (ix2 r i)) (B (ix2 r j))) := fun r j => by
    have e : W5 m d (dr main_v26) = firstOf (iotaInDim S30 32 0) B :=
      (W5_of m d main_v26 (by decide)).trans ((W4_of m d main_v26 (by decide)).trans (W3_first m d))
    exact (congrFun e (ix2 r j)).trans (firstOf_at B r j)
  have h36 : W5 m d (dr main_v36) = all2 (keysOf m d) (tabOf m d) := Function.update_self _ _ _
  rw [W6_chosen, takeOf_at _ _ (fun r j => slotOf (fun i => B (ix2 r i)) (B (ix2 r j))) (fun r j => slotOf_self _ j) hI, h36, sum2_at _ _ (tabOf_ok m d)]
  refine congrArg (BitVec.ofNat 32) (Finset.sum_congr rfl fun x _ => ?_)
  have hq := bucket_lt (keyAt (keysOf m d) r.val x)
  have ht : (tabOf m d (ix2 r ⟨bucketOf (keysOf m d) r.val x, bucket_lt _⟩) : BitVec 32).toNat
      = slotOf (fun i => B (ix2 r i)) (BitVec.ofNat 32 (bucketOf (keysOf m d) r.val x)) := by
    rw [tabOf_eq, tableOf_at, BitVec.toNat_ofNat]
    have := slotOf_le (fun i => B (ix2 r i)) (BitVec.ofNat 32 (bucketOf (keysOf m d) r.val x))
    exact Nat.mod_eq_of_lt (lt_of_le_of_lt this (by decide))
  have hiff : (BitVec.ofNat 32 (bucketOf (keysOf m d) r.val x) = B (ix2 r j)) ↔ bucketOf (keysOf m d) r.val x = b r j := by
    rw [hB r j]
    constructor
    · intro h
      have := congrArg BitVec.toNat h
      rw [BitVec.toNat_ofNat, BitVec.toNat_ofNat] at this
      have hq' : bucketOf (keysOf m d) r.val x < 4096 := hq
      have := hb r j
      omega
    · intro h; rw [h]
  refine if_congr (and_congr_left fun _ => ?_) rfl rfl
  rw [ht]
  exact (slotOf_eq (fun i => B (ix2 r i)) j _).trans hiff

end Counts

end Cert.Proof.Sel

end
-- ==== Proof.SelSort.lean ====
/-
  The reference program's result: the entry of rank `k` of a row sorted in signed order, its low seven bits cleared.
-/
module

public import proofs.«01_k».proof.Proof.Gen.SelectReferenceIdeal
public import Idealize.ShloMosaic.Lib.SortFacts
public import Idealize.ShloMosaic.Lib.ValueIdx

@[expose] public section

noncomputable section

namespace Cert.Proof.SelRef

open Cert.SelectReferenceIdeal Cert.SelectReferenceIdeal.Gen
open Idealize.ShloMosaic Idealize.ShloMosaic.ValueIdx

variable (Ks : IVec S10x1007616 32) (Rk : IVec S30 32)

/-- The reference program's composed term. -/
def result : IVec S10x30 32 :=
  Host.shli (Host.shrsi (Host.gather gather_S10x1007616_S30x1_S10x30_0_1_n_n_1_1_101 (Host.sort S10x1007616 1 comparator_i32_d1 Ks)
      (broadcastInDim S30x1 ![0] bcast_S30_S30x1_0 Rk)) (broadcastInDim S10x30 ![] bcast_S_S10x30 (constantI S_ 32 7#32)))
    (broadcastInDim S10x30 ![] bcast_S_S10x30 (constantI S_ 32 7#32))

/-- Where the sorted row's entry comes from. -/
def source (r : Fin 10) (x : Fin 1007616) : Fin 1007616 :=
  sortedFrom (fun a b : Fin 1007616 => IntOp.cmpi .slt (Ks (ix2 r a)) (Ks (ix2 r b)) == 1#1) x

theorem along_at (r : Fin 10) (x k : Fin 1007616) : (ix2 r x : S10x1007616.Idx).along 1 k = ix2 r k := funext fun a => by
  match a with
  | ⟨0, _⟩ => exact Function.update_of_ne (Fin.ne_of_val_ne (show (0 : ℕ) ≠ 1 from Nat.zero_ne_one)) _ _
  | ⟨1, _⟩ => exact Function.update_self _ _ _

theorem sort_at (r : Fin 10) (x : Fin 1007616) : Host.sort S10x1007616 1 comparator_i32_d1 Ks (ix2 r x) = Ks (ix2 r (source Ks r x)) := by
  unfold Host.sort
  rw [dif_pos (show 1 < S10x1007616.rank from Nat.one_lt_two)]
  refine congrArg Ks ((along_at r x _).trans (congrArg (ix2 r) ?_))
  refine congrArg (fun f => sortedFrom f x) (funext fun a => funext fun b => ?_)
  exact congrArg₂ (fun p q => IntOp.cmpi .slt (Ks p) (Ks q) == 1#1) (along_at r x a) (along_at r x b)

theorem source_injective (r : Fin 10) : Function.Injective (source Ks r) := sortedFrom_injective _

theorem slt_iff (a b : BitVec 32) (ha : a.toNat < 2147483648) (hb : b.toNat < 2147483648) : (IntOp.cmpi .slt a b == 1#1) = decide (a.toNat < b.toNat) := by
  show (BitVec.ofBool (a.slt b) == 1#1) = _
  rw [BitVec.slt_eq_decide, BitVec.toInt_eq_toNat_of_lt (by omega), BitVec.toInt_eq_toNat_of_lt (by omega)]
  by_cases h : a.toNat < b.toNat
  · rw [decide_eq_true h, decide_eq_true (by exact_mod_cast h)]; rfl
  · rw [decide_eq_false h, decide_eq_false (by exact_mod_cast h)]; rfl

theorem source_sorted (r : Fin 10) (hK : ∀ x, (Ks (ix2 r x)).toNat < 2147483648) (i j : Fin 1007616) (hij : i ≤ j) :
    (Ks (ix2 r (source Ks r i))).toNat ≤ (Ks (ix2 r (source Ks r j))).toNat := by
  rcases hij.lt_or_eq with h | h
  · have := sortedFrom_noInversion (fun a b : Fin 1007616 => IntOp.cmpi .slt (Ks (ix2 r a)) (Ks (ix2 r b)) == 1#1)
      (fun a b : Fin 1007616 => IntOp.cmpi .slt (Ks (ix2 r a)) (Ks (ix2 r b)) == 1#1) ?_ (fun _ _ h => h) ?_ i j h
    · change (IntOp.cmpi .slt (Ks (ix2 r (source Ks r j))) (Ks (ix2 r (source Ks r i))) == 1#1) = false at this
      rw [slt_iff _ _ (hK _) (hK _)] at this
      exact Nat.le_of_not_lt (of_decide_eq_false this)
    · intro a b hab
      rw [slt_iff _ _ (hK _) (hK _)] at hab ⊢
      have := of_decide_eq_true hab
      exact decide_eq_false (by omega)
    · intro a b c hab hbc
      rw [slt_iff _ _ (hK _) (hK _)] at hab hbc ⊢
      have h1 := of_decide_eq_false hab
      have h2 := of_decide_eq_false hbc
      exact decide_eq_false (by omega)
  · rw [h]

theorem gather_at (X : IVec S10x1007616 32) (Y : IVec S30x1 32) (k : ℕ) (hk : k < 1007616) (r : Fin 10) (j : Fin 30) (hY : Y (ix2 j 0) = BitVec.ofNat 32 k) :
    Host.gather gather_S10x1007616_S30x1_S10x30_0_1_n_n_1_1_101 X Y (ix2 r j) = X (ix2 r ⟨k, hk⟩) := by
  have hi : ∀ c, gather_S10x1007616_S30x1_S10x30_0_1_n_n_1_1_101.siIdx (ix2 r j) c = ix2 j 0 := fun c => funext fun b => Fin.ext (by
    match b with
    | ⟨0, _⟩ => rfl
    | ⟨1, _⟩ => exact Nat.lt_one_iff.1 c.isLt)
  have ht : (BitVec.ofNat 32 k).toInt = (k : ℤ) := by
    rw [BitVec.toInt_eq_toNat_of_lt (by rw [BitVec.toNat_ofNat]; omega), BitVec.toNat_ofNat, Nat.mod_eq_of_lt (by omega)]
  unfold Host.gather
  refine congrArg X (funext fun a => Fin.ext ?_)
  match a with
  | ⟨0, _⟩ => exact Nat.zero_add _
  | ⟨1, _⟩ =>
    show min (Y (gather_S10x1007616_S30x1_S10x30_0_1_n_n_1_1_101.siIdx (ix2 r j) _)).toInt.toNat (1007616 - 1) + 0 + 0 = k
    rw [hi, hY, ht, Int.toNat_natCast]
    omega

/-- Clearing the low seven bits of a nonnegative word. -/
theorem cleared (x : BitVec 32) (hx : x.toNat < 1073741824) : IntOp.shli .host (IntOp.shrsi .host x 7#32) 7#32 = BitVec.ofNat 32 (x.toNat / 128 * 128) := by
  unfold IntOp.shli IntOp.shrsi
  rw [if_pos (by decide), if_pos (by decide)]
  have hm : x.msb = false := BitVec.msb_eq_false_iff_two_mul_lt.2 (by omega)
  apply BitVec.eq_of_toNat_eq
  rw [show x.sshiftRight' 7#32 = x.sshiftRight 7 from rfl, BitVec.sshiftRight_eq_of_msb_false hm, BitVec.shiftLeft_eq', BitVec.toNat_shiftLeft, BitVec.toNat_ushiftRight, BitVec.toNat_ofNat, BitVec.toNat_ofNat,
    show 7 % 2 ^ 32 = 7 from rfl, Nat.shiftLeft_eq, Nat.shiftRight_eq_div_pow]

theorem result_at (r : Fin 10) (j : Fin 30) (k : ℕ) (hk : k < 1007616) (hR : Rk (ix1 j) = BitVec.ofNat 32 k) (hK : ∀ x, (Ks (ix2 r x)).toNat < 1073741824) :
    result Ks Rk (ix2 r j) = BitVec.ofNat 32 ((Ks (ix2 r (source Ks r ⟨k, hk⟩))).toNat / 128 * 128) := by
  show IntOp.shli .host (IntOp.shrsi .host (Host.gather gather_S10x1007616_S30x1_S10x30_0_1_n_n_1_1_101 (Host.sort S10x1007616 1 comparator_i32_d1 Ks)
      (broadcastInDim S30x1 ![0] bcast_S30_S30x1_0 Rk) (ix2 r j)) 7#32) 7#32 = _
  have hY : broadcastInDim S30x1 ![0] bcast_S30_S30x1_0 Rk (ix2 j 0) = BitVec.ofNat 32 k := by
    refine Eq.trans ?_ hR
    unfold broadcastInDim
    refine congrArg Rk (funext fun a => Fin.ext ?_)
    match a with
    | ⟨0, _⟩ => rfl
  rw [gather_at _ _ k hk r j hY, sort_at, cleared _ (hK _)]

end Cert.Proof.SelRef

end
-- ==== Proof.SelAgree.lean ====
/-
  The two programs' results are equal: the key the two counts find is the sorted row's entry with its low seven bits
  cleared, where the keys lie below 2^30 and the ranks within a row.
-/
module

public import proofs.«01_k».proof.Proof.SelTake
public import proofs.«01_k».proof.Proof.SelSort
public import proofs.«01_k».proof.Proof.Gen.Pre_keys_ok

@[expose] public section

noncomputable section

namespace Cert.Proof.Sel

open Cert.SelectIdeal Cert.SelectIdeal.Gen
open Idealize.ShloMosaic Idealize.ShloMosaic.ValueIdx
open Idealize.ShloMosaic.StableHlo (after)

variable {F : FTy → Type} [FloatOps F]

/-! ## The precondition -/

theorem nonneg_lt (a : BitVec 32) (n : ℕ) (hn : n < 2147483648) (h0 : IntOp.cmpi .sge a 0#32 = 1#1) (h1 : IntOp.cmpi .slt a (BitVec.ofNat 32 n) = 1#1) : a.toNat < n := by
  change BitVec.ofBool ((0#32).sle a) = 1#1 at h0
  change BitVec.ofBool (a.slt (BitVec.ofNat 32 n)) = 1#1 at h1
  rw [BitVec.sle_eq_decide] at h0
  rw [BitVec.slt_eq_decide, toInt_ofNat n hn] at h1
  have e0 : (0 : ℤ) ≤ a.toInt := by
    by_contra h
    rw [decide_eq_false (show ¬ (0#32 : BitVec 32).toInt ≤ a.toInt from h)] at h0
    exact absurd h0 (by decide)
  have e1 : a.toInt < (n : ℤ) := by
    by_contra h
    rw [decide_eq_false h] at h1
    exact absurd h1 (by decide)
  rw [BitVec.toInt_eq_toNat_cond] at e0 e1
  split at e0 <;> omega

/-- The keys lie below 2^30 and the ranks within a row. -/
theorem keys_of_pre (Ks : IVec S10x1007616 32) (Rk : IVec S30 32)
    (h : letI := Cert.Pre_keys_ok.Gen.facts; Cert.Pre_keys_ok.fn (F := F) Ks Rk = fun _ => 1#1) :
    (∀ i, (Ks i).toNat < 1073741824) ∧ ∀ j, (Rk j).toNat < 1007616 := by
  letI := Cert.Pre_keys_ok.Gen.facts
  haveI : Subsingleton Cert.Pre_keys_ok.S_.Idx := ⟨fun a b => funext fun i => i.elim0⟩
  have h0 := congrFun h (Shape.Idx.first (by decide : 0 < Cert.Pre_keys_ok.S_.numel))
  unfold Cert.Pre_keys_ok.fn at h0
  obtain ⟨h1, hd⟩ := IntOp.andi_eq_one.1 h0
  obtain ⟨h2, hc⟩ := IntOp.andi_eq_one.1 h1
  obtain ⟨ha, hb⟩ := IntOp.andi_eq_one.1 h2
  exact ⟨fun i => nonneg_lt _ 1073741824 (by decide) (Host.reduce_andi_all _ _ _ _ _ ha i) (Host.reduce_andi_all _ _ _ _ _ hb i),
    fun j => nonneg_lt _ 1007616 (by decide) (Host.reduce_andi_all _ _ _ _ _ hc j) (Host.reduce_andi_all _ _ _ _ _ hd j)⟩

/-! ## One rank of one row -/

section Rank

variable (F) (Ks : IVec S10x1007616 32) (hK : ∀ i, (Ks i).toNat < 1073741824)

/-- A row's values, as they lie and sorted. -/
def rowVal (r : Fin 10) (x : ℕ) : ℕ := (keyAt (F := F) Ks r.val x).toNat
def sortVal (r : Fin 10) (x : ℕ) : ℕ := if h : x < 1007616 then (Ks (ix2 r (SelRef.source Ks r ⟨x, h⟩))).toNat else 0
def sortPos (r : Fin 10) (x : ℕ) : ℕ := if h : x < 1007616 then (SelRef.source Ks r ⟨x, h⟩).val else 0

theorem keyAt_at (r : Fin 10) (x : Fin 1007616) : keyAt (F := F) Ks r.val x.val = Ks (ix2 r x) := by
  unfold keyAt
  refine congrArg Ks (funext fun a => Fin.ext ?_)
  match a with
  | ⟨0, _⟩ => exact Nat.mod_eq_of_lt r.isLt
  | ⟨1, _⟩ => exact Nat.mod_eq_of_lt x.isLt

include hK in
theorem rowVal_lt (r : Fin 10) (x : ℕ) : rowVal F Ks r x < 1073741824 := hK _

include hK in
theorem bucketOf_eq (r : Fin 10) : bucketOf (F := F) Ks r.val = fun x => rowVal F Ks r x / (128 * 2048) := funext fun x => by
  have := rowVal_lt F Ks hK r x
  show min (rowVal F Ks r x / 262144) 4095 = _
  omega

theorem partOf_eq (r : Fin 10) : partOf (F := F) Ks r.val = fun x => rowVal F Ks r x / 128 % 2048 := rfl

/-- The bucket, the rank within it and the part the counts pick. -/
def bOf (r : Fin 10) (k : ℕ) : ℕ := pick (countAt 1007616 (bucketOf (F := F) Ks r.val)) 4096 k
def lOf (r : Fin 10) (k : ℕ) : ℕ := k - before (countAt 1007616 (bucketOf (F := F) Ks r.val)) (bOf F Ks r k)
def uOf (r : Fin 10) (k : ℕ) : ℕ := pick (countAt2 1007616 (bucketOf (F := F) Ks r.val) (partOf (F := F) Ks r.val) (bOf F Ks r k)) 2048 (lOf F Ks r k)

include hK in
theorem picks (r : Fin 10) (k : ℕ) (hk : k < 1007616) :
    bOf F Ks r k < 4096 ∧ uOf F Ks r k < 2048 ∧ before (countAt 1007616 (bucketOf (F := F) Ks r.val)) (bOf F Ks r k) ≤ k ∧ lOf F Ks r k < 1007616
      ∧ bOf F Ks r k * (128 * 2048) + uOf F Ks r k * 128 = sortVal Ks r k / 128 * 128 := by
  unfold uOf lOf bOf
  rw [bucketOf_eq F Ks hK, partOf_eq]
  refine two_picks 1007616 4096 2048 128 (by omega) (by omega) (rowVal F Ks r) (sortVal Ks r) (sortPos Ks r) ?_ ?_ ?_ ?_ ?_ k hk
  · intro i hi
    unfold sortPos
    rw [dif_pos hi]
    exact (SelRef.source Ks r ⟨i, hi⟩).isLt
  · intro i j hi hj h
    unfold sortPos at h
    rw [dif_pos hi, dif_pos hj] at h
    exact congrArg Fin.val (SelRef.source_injective Ks r (Fin.ext h))
  · intro i hi
    unfold sortVal sortPos rowVal
    rw [dif_pos hi, dif_pos hi, keyAt_at]
  · intro i j hij hj
    unfold sortVal
    rw [dif_pos hj, dif_pos (lt_of_le_of_lt hij hj)]
    exact SelRef.source_sorted Ks r (fun x => lt_trans (hK _) (by omega)) _ _ hij
  · intro x _
    have := rowVal_lt F Ks hK r x
    omega

theorem before_all (r : Fin 10) : before (countAt 1007616 (bucketOf (F := F) Ks r.val)) 4096 = 1007616 := by
  have h : ∀ x, bucketOf (F := F) Ks r.val x < 4096 := fun x => bucket_lt _
  rw [before_countAt, Finset.filter_true_of_mem (fun x _ => h x), Finset.card_range]

theorem before_part (r : Fin 10) (b : ℕ) : before (countAt2 1007616 (bucketOf (F := F) Ks r.val) (partOf (F := F) Ks r.val) b) 2048 ≤ 1007616 := by
  rw [before_countAt2]
  exact le_trans (Finset.card_filter_le _ _) (le_of_eq (Finset.card_range _))

end Rank

/-! ## The kernel's program -/

section Found

variable (m : (ℓ : Loc nD τ sig) → Buf (Elt F) ℓ) (d : Dev nD)

/-- What the program finds for rank `j` of row `r`. -/
theorem found (k : Fin 30 → ℕ) (hK : ∀ i, (keysOf m d i : BitVec 32).toNat < 1073741824) (hk : ∀ j, k j < 1007616)
    (hR : ∀ j, (m (d, dr main_arg1) : IVec S30 32) (ix1 j) = BitVec.ofNat 32 (k j)) (r : Fin 10) (j : Fin 30) :
    (W7 m d (dr main_v60) : IVec S10x30 32) (ix2 r j) = BitVec.ofNat 32 (sortVal (keysOf m d) r (k j) / 128 * 128) := by
  have hP := fun (r : Fin 10) (j : Fin 30) => picks F (keysOf m d) hK r (k j) (hk j)
  have h0 : W1 m d (dr main_v0) = all1 (keysOf m d) := Function.update_self _ _ _
  have h1 : W1 m d (dr main_arg1) = m (d, dr main_arg1) := W1_of m d main_arg1 (by decide)
  have hB : ∀ r j, (W2 m d (dr main_v11) : IVec S10x30 32) (ix2 r j) = BitVec.ofNat 32 (bOf F (keysOf m d) r (k j)) := fun r j => by
    rw [W2_pick, h0, h1]
    exact pick1_at _ _ (countAt 1007616 (bucketOf (keysOf m d) r.val)) (k j) r j (fun p => sum1_at (keysOf m d) r p) (hR j)
      (by rw [before_all]; exact hk j) (by rw [before_all]; omega)
  have hL : (W2 m d (dr main_v17) : IVec S10x30 32) (ix2 r j) = BitVec.ofNat 32 (lOf F (keysOf m d) r (k j)) := by
    rw [W2_rest, h0, h1]
    exact rest1_at _ _ (countAt 1007616 (bucketOf (keysOf m d) r.val)) (k j) r j (fun p => sum1_at (keysOf m d) r p) (hR j)
      (by rw [before_all]; exact hk j) (by rw [before_all]; omega)
  have h11 : W6 m d (dr main_v11) = W2 m d (dr main_v11) :=
    (W6_of m d main_v11 (by decide)).trans ((W5_of m d main_v11 (by decide)).trans ((W4_of m d main_v11 (by decide)).trans (W3_of m d main_v11 (by decide))))
  have h17 : W6 m d (dr main_v17) = W2 m d (dr main_v17) :=
    (W6_of m d main_v17 (by decide)).trans ((W5_of m d main_v17 (by decide)).trans ((W4_of m d main_v17 (by decide)).trans (W3_of m d main_v17 (by decide))))
  have hC := chosen_at m d (fun r j => bOf F (keysOf m d) r (k j)) (fun r j => (hP r j).1) hB r j
  rw [W7_keys, h11, h17, ← (hP r j).2.2.2.2]
  refine keyOf_at _ _ (bOf F (keysOf m d) r (k j)) (uOf F (keysOf m d) r (k j)) _ (hB r j) ?_
  exact pick2_at _ _ _ _ r j hC hL (lt_trans (hP r j).2.2.2.1 (by omega)) (lt_of_le_of_lt (before_part F (keysOf m d) r _) (by omega))

/-- The results agree. -/
theorem found_eq (hK : ∀ i, (keysOf m d i : BitVec 32).toNat < 1073741824) (hk : ∀ j, ((m (d, dr main_arg1) : IVec S30 32) j).toNat < 1007616) :
    SelRef.result (keysOf m d) (m (d, dr main_arg1)) = W7 m d (dr main_v60) := by
  refine funext fun i => ?_
  obtain ⟨r, j, rfl⟩ : ∃ (r : Fin 10) (j : Fin 30), i = ix2 r j := ⟨i 0, i 1, eq_ix2 i⟩
  have hR : ∀ j, (m (d, dr main_arg1) : IVec S30 32) (ix1 j) = BitVec.ofNat 32 ((m (d, dr main_arg1) : IVec S30 32) (ix1 j)).toNat :=
    fun j => BitVec.eq_of_toNat_eq (by rw [BitVec.toNat_ofNat, Nat.mod_eq_of_lt (BitVec.isLt _)])
  refine (SelRef.result_at _ _ r j _ (hk (ix1 j)) (hR j) fun x => hK _).trans ?_
  refine Eq.trans ?_ (found m d (fun j => ((m (d, dr main_arg1) : IVec S30 32) (ix1 j)).toNat) hK (fun j => hk (ix1 j)) hR r j).symm
  unfold sortVal
  rw [dif_pos (hk (ix1 j))]

end Found

end Cert.Proof.Sel

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_edges_ok
public import proofs.«01_k».proof.Proof.Gen.Select
public import proofs.«01_k».proof.Proof.Gen.Select.Skeleton
public import proofs.«01_k».proof.Proof.Gen.SelectIdeal
public import proofs.«01_k».proof.Proof.Gen.SelectIdeal.Skeleton
public import proofs.«01_k».proof.Proof.Gen.SelectReferenceIdeal
public import proofs.«01_k».proof.Proof.Gen.SelectReferenceIdeal.Run
public import proofs.«01_k».proof.Proof.Gen.SelectReference
public import proofs.«01_k».proof.Proof.Gen.SelectReference.Run
public import proofs.«01_k».proof.Proof.Gen.Pre_keys_ok
public import proofs.«01_k».proof.Proof.Launch
public import proofs.«01_k».proof.Proof.Agree
public import proofs.«01_k».proof.Proof.SelAgree
public import Idealize.ShloMosaic.Adequacy
public import Idealize.ShloMosaic.Init

@[expose] public section

noncomputable section

namespace Cert.Proof

open Idealize.ShloMosaic Idealize.SL.Sem
open Cert.Proof.Bins (dr W5)

/-- What the kernel leaves in its result is what the reference leaves. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : letI := Cert.Pre_edges_ok.Gen.facts; Cert.Pre_KernelIdeal_edges_ok m)
    (hm : ∀ c : Dev Cert.KernelIdeal.nD, m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)) (c : Dev Cert.KernelIdeal.nD) :
    Cert.ReferenceIdeal.Value.res_out0 m' c = W5 m c (dr Cert.KernelIdeal.main_v47) := by
  obtain ⟨h0, h1, h2⟩ := hm c
  have hp := fun r => Bins.edges_of_pre _ _ _ (hpre c) r
  rw [Bins.result_eq]
  refine (Cert.ReferenceIdeal.Read.val_main_v64_eq m' c).trans ?_
  have e0 : m' ((c.tc : Thread Cert.ReferenceIdeal.nD Cert.ReferenceIdeal.τ).loc Cert.ReferenceIdeal.main_arg0) = m (c, dr Cert.KernelIdeal.main_arg0) := h0
  have e1 : m' ((c.tc : Thread Cert.ReferenceIdeal.nD Cert.ReferenceIdeal.τ).loc Cert.ReferenceIdeal.main_arg1) = m (c, dr Cert.KernelIdeal.main_arg1) := h1
  have e2 : m' ((c.tc : Thread Cert.ReferenceIdeal.nD Cert.ReferenceIdeal.τ).loc Cert.ReferenceIdeal.main_arg2) = m (c, dr Cert.KernelIdeal.main_arg2) := h2
  rw [e0, e1, e2]
  exact funext fun i => Bins.results_agree _ _ _ _ _ (Bins.scores_at m c) (Bins.labels_at m c) (fun r => (hp r).1) (fun r => (hp r).2) i

/-- The reference's run leaves its arguments, and it has no semaphore. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD, r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)) ∧ r.2.sem = fun _ => 0) :=
  (θ_run Cert.ReferenceIdeal.defs _ _).mono (fun r h => ⟨fun c => (h c).2, sem_eq_zero_of_no_sems (by decide) r.2⟩)
    (Cert.ReferenceIdeal.Value.run m ρ)

/-- The kernel's run leaves its arguments and its semaphores at zero, over any float values. -/
theorem kernel_frame {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)) ∧ r.2.sem = fun _ => 0) :=
  (θ_run Cert.KernelIdeal.defs _ _).mono (fun _ h => ⟨fun c => (h.1 c).2, h.2⟩) (Bins.run_main m ρ)

set_option maxHeartbeats 4000000 in
/-- The two prints of the kernel hold the same bodies, -/
theorem bodies_eq : Cert.Kernel.defs₀ (F := Bits) = Cert.KernelIdeal.defs₀ (F := Bits) := by
  funext p l a
  rcases p with _ | ⟨c⟩ | ⟨c, s⟩
  · match l, a with
    | 0, (t, s) => rfl
    | 1, a => rfl
  · match l, a with
    | 0, a => rfl
    | 1, a => rfl
  · match l, a with
    | 0, a => rfl
    | 1, a => rfl

set_option maxHeartbeats 4000000 in
/-- hence the same table, -/
theorem table_eq : Cert.Kernel.defs (F := Bits) = Cert.KernelIdeal.defs (F := Bits) :=
  congrArg (fun x => Cert.KernelIdeal.sc.defs (Pipeline.defs Cert.KernelIdeal.pcfgs x)) bodies_eq

set_option maxHeartbeats 4000000 in
/-- and what holds of a run of the one holds of the other's. -/
theorem run_print (m : (ℓ : Loc Cert.KernelIdeal.nD Cert.KernelIdeal.τ Cert.KernelIdeal.sig) → Buf (Elt Bits) ℓ) (ρ : Dev Cert.KernelIdeal.nD → PrngReg) (Q)
    (h : θ_run (Cert.KernelIdeal.defs (F := Bits)) (Cert.KernelIdeal.threads (F := Bits)) ⟨m, fun _ => 0, ρ⟩ Q) :
    θ_run (Cert.Kernel.defs (F := Bits)) (Cert.Kernel.threads (F := Bits)) ⟨m, fun _ => 0, ρ⟩ Q := by
  rw [table_eq]; exact h

/-! ## The selection -/

/-- What the selection leaves in its result is what its reference leaves, over any float values. -/
theorem select_values_agree {F : FTy → Type} [FloatOps F] (m : (ℓ : Loc Cert.SelectIdeal.nD Cert.SelectIdeal.τ Cert.SelectIdeal.sig) → Buf (Elt F) ℓ)
    (c : Dev Cert.SelectIdeal.nD) (Ks : IVec Cert.SelectIdeal.S10x1007616 32) (Rk : IVec Cert.SelectIdeal.S30 32)
    (hK : Ks = m (c.tc.loc Cert.SelectIdeal.main_arg0)) (hR : Rk = m (c.tc.loc Cert.SelectIdeal.main_arg1))
    (hpre : letI := Cert.Pre_keys_ok.Gen.facts
      Cert.Pre_keys_ok.fn (F := F) (m (c.tc.loc Cert.SelectIdeal.main_arg0)) (m (c.tc.loc Cert.SelectIdeal.main_arg1)) = fun _ => 1#1) :
    SelRef.result Ks Rk = Sel.W7 m c (Sel.dr Cert.SelectIdeal.main_v60) := by
  have hp := Sel.keys_of_pre _ _ hpre
  rw [hK, hR]
  exact Sel.found_eq m c hp.1 hp.2

/-- The selection's reference leaves its arguments, and it has no semaphore. -/
theorem select_reference_frame (m : (ℓ : Loc Cert.SelectReferenceIdeal.nD Cert.SelectReferenceIdeal.τ Cert.SelectReferenceIdeal.sig) → Buf (Elt Ideal) ℓ) (ρ : Dev Cert.SelectReferenceIdeal.nD → PrngReg) :
    θ_run (Cert.SelectReferenceIdeal.defs (F := Ideal)) (onTc (τ := Cert.SelectReferenceIdeal.τ) (Cert.SelectReferenceIdeal.main (F := Ideal))) ⟨m, fun _ => 0, ρ⟩ (fun r =>
      (∀ c : Dev Cert.SelectReferenceIdeal.nD, r.2.mem (c.tc.loc Cert.SelectReferenceIdeal.main_arg0) = m (c.tc.loc Cert.SelectReferenceIdeal.main_arg0)
        ∧ r.2.mem (c.tc.loc Cert.SelectReferenceIdeal.main_arg1) = m (c.tc.loc Cert.SelectReferenceIdeal.main_arg1)) ∧ r.2.sem = fun _ => 0) :=
  (θ_run Cert.SelectReferenceIdeal.defs _ _).mono (fun r h => ⟨fun c => (h c).2, sem_eq_zero_of_no_sems (by decide) r.2⟩)
    (Cert.SelectReferenceIdeal.Value.run m ρ)

/-- The same of the reference's other print. -/
theorem select_reference_bits_frame (m : (ℓ : Loc Cert.SelectReference.nD Cert.SelectReference.τ Cert.SelectReference.sig) → Buf (Elt Bits) ℓ) (ρ : Dev Cert.SelectReference.nD → PrngReg) :
    θ_run (Cert.SelectReference.defs (F := Bits)) (onTc (τ := Cert.SelectReference.τ) (Cert.SelectReference.main (F := Bits))) ⟨m, fun _ => 0, ρ⟩ (fun r =>
      (∀ c : Dev Cert.SelectReference.nD, r.2.mem (c.tc.loc Cert.SelectReference.main_arg0) = m (c.tc.loc Cert.SelectReference.main_arg0)
        ∧ r.2.mem (c.tc.loc Cert.SelectReference.main_arg1) = m (c.tc.loc Cert.SelectReference.main_arg1)) ∧ r.2.sem = fun _ => 0) :=
  (θ_run Cert.SelectReference.defs _ _).mono (fun r h => ⟨fun c => (h c).2, sem_eq_zero_of_no_sems (by decide) r.2⟩)
    (Cert.SelectReference.Value.run m ρ)

/-- The selection's run leaves its arguments and its semaphores at zero, over any float values. -/
theorem select_frame {F : FTy → Type} [FloatOps F] [∀ e, Nonempty (Elt F e)]
    (m : (ℓ : Loc Cert.SelectIdeal.nD Cert.SelectIdeal.τ Cert.SelectIdeal.sig) → Buf (Elt F) ℓ) (ρ : Dev Cert.SelectIdeal.nD → PrngReg) :
    θ_run (Cert.SelectIdeal.defs (F := F)) (Cert.SelectIdeal.threads (F := F)) ⟨m, fun _ => 0, ρ⟩ (fun r =>
      (∀ c : Dev Cert.SelectIdeal.nD, r.2.mem (c.tc.loc Cert.SelectIdeal.main_arg0) = m (c.tc.loc Cert.SelectIdeal.main_arg0)
        ∧ r.2.mem (c.tc.loc Cert.SelectIdeal.main_arg1) = m (c.tc.loc Cert.SelectIdeal.main_arg1)) ∧ r.2.sem = fun _ => 0) :=
  (θ_run Cert.SelectIdeal.defs _ _).mono (fun _ h => ⟨fun c => (h.1 c).2, h.2⟩) (Sel.run_main m ρ (Sel.tabOf_ok m))

set_option maxHeartbeats 4000000 in
/-- The two prints of the selection hold the same bodies, -/
theorem select_bodies_eq : Cert.Select.defs₀ (F := Bits) = Cert.SelectIdeal.defs₀ (F := Bits) := by
  funext p l a
  rcases p with _ | ⟨c⟩ | ⟨c, s⟩
  · match l, a with
    | 0, a => rfl
    | 1, a => rfl
  · match l, a with
    | 0, a => rfl
    | 1, a => rfl
  · match l, a with
    | 0, a => rfl
    | 1, a => rfl

set_option maxHeartbeats 4000000 in
/-- hence the same table, -/
theorem select_table_eq : Cert.Select.defs (F := Bits) = Cert.SelectIdeal.defs (F := Bits) :=
  congrArg (fun x => Cert.SelectIdeal.sc.defs (Pipeline.defs Cert.SelectIdeal.pcfgs x)) select_bodies_eq

set_option maxHeartbeats 4000000 in
/-- and what holds of a run of the one holds of the other's. -/
theorem select_run_print (m : (ℓ : Loc Cert.SelectIdeal.nD Cert.SelectIdeal.τ Cert.SelectIdeal.sig) → Buf (Elt Bits) ℓ) (ρ : Dev Cert.SelectIdeal.nD → PrngReg) (Q)
    (h : θ_run (Cert.SelectIdeal.defs (F := Bits)) (Cert.SelectIdeal.threads (F := Bits)) ⟨m, fun _ => 0, ρ⟩ Q) :
    θ_run (Cert.Select.defs (F := Bits)) (Cert.Select.threads (F := Bits)) ⟨m, fun _ => 0, ρ⟩ Q := by
  rw [select_table_eq]; exact h

theorem claim : Cert.Claim := ⟨Cert.Kernel.Gen.facts, Cert.KernelIdeal.Gen.facts, Cert.ReferenceIdeal.Gen.facts,
  Cert.Select.Gen.facts, Cert.SelectIdeal.Gen.facts, Cert.SelectReferenceIdeal.Gen.facts, Cert.SelectReference.Gen.facts, Cert.Pre_edges_ok.Gen.facts, Cert.Pre_keys_ok.Gen.facts,
  fun m ρ _ => run_print m ρ _ (kernel_frame m ρ),
  fun m ρ _ => kernel_frame (F := Ideal) m ρ,
  fun m ρ _ => kernel_frame (F := Ideal) m ρ,
  fun m ρ _ => reference_frame m ρ,
  fun m ρ _ => reference_frame m ρ,
  fun m ρ _ => select_run_print m ρ _ (select_frame m ρ),
  fun m ρ _ => select_run_print m ρ _ (select_frame m ρ),
  fun m ρ _ => select_frame (F := Ideal) m ρ,
  fun m ρ _ => select_frame (F := Ideal) m ρ,
  fun m ρ _ => select_reference_frame m ρ,
  fun m ρ _ => select_reference_frame m ρ,
  fun m ρ _ => select_reference_bits_frame m ρ,
  trivial,
  fun m ρ m' ρ' hpre hm => ⟨fun c => W5 m c (dr Cert.KernelIdeal.main_v47),
    (θ_run Cert.KernelIdeal.defs _ _).mono (fun _ h => h.1) (Bins.run_main (F := Ideal) m ρ),
    (θ_run Cert.ReferenceIdeal.defs _ _).mono (fun _ h c => ⟨(h c).1.trans (values_agree m m' hpre hm c), (h c).2⟩)
      (Cert.ReferenceIdeal.Value.run m' ρ')⟩,
  trivial,
  fun m ρ m' ρ' hpre hm => ⟨fun c => Sel.W7 m c (Sel.dr Cert.SelectIdeal.main_v60),
    (θ_run Cert.SelectIdeal.defs _ _).mono (fun _ h => h.1) (Sel.run_main (F := Ideal) m ρ (Sel.tabOf_ok m)),
    (θ_run Cert.SelectReferenceIdeal.defs _ _).mono (fun _ h c => ⟨(h c).1.trans (select_values_agree m c _ _ (hm c).1 (hm c).2 (hpre c)), (h c).2⟩)
      (Cert.SelectReferenceIdeal.Value.run m' ρ')⟩,
  fun m ρ m' ρ' hpre hm => ⟨fun c => Sel.W7 (F := Bits) m c (Sel.dr Cert.SelectIdeal.main_v60),
    select_run_print m ρ _ ((θ_run Cert.SelectIdeal.defs _ _).mono (fun _ h => h.1) (Sel.run_main (F := Bits) m ρ (Sel.tabOf_ok m))),
    (θ_run Cert.SelectReference.defs _ _).mono (fun _ h c => ⟨(h c).1.trans (select_values_agree (F := Bits) m c _ _ (hm c).1 (hm c).2 (hpre c)), (h c).2⟩)
      (Cert.SelectReference.Value.run m' ρ')⟩⟩

end Cert.Proof

end
